-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite [hPre_finite : Cert.Pre_finite.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4)) (m ((c.tc : Thread Cert.Kernel9Ideal.nD Cert.Kernel9Ideal.τ).loc Cert.Kernel9Ideal.main_arg5)) (m ((c.tc : Thread Cert.Kernel9Ideal.nD Cert.Kernel9Ideal.τ).loc Cert.Kernel9Ideal.main_arg6))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite [hPre_finite : Cert.Pre_finite.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4)) (m ((c.tc : Thread Cert.Reference9Ideal.nD Cert.Reference9Ideal.τ).loc Cert.Reference9Ideal.main_arg5)) (m ((c.tc : Thread Cert.Reference9Ideal.nD Cert.Reference9Ideal.τ).loc Cert.Reference9Ideal.main_arg6))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_below_infinity [hPre_below_infinity : Cert.Pre_below_infinity.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_below_infinity.fn (F := Ideal) (m ((c.tc : Thread Cert.Kernel10Ideal.nD Cert.Kernel10Ideal.τ).loc Cert.Kernel10Ideal.main_arg0))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_below_infinity [hPre_below_infinity : Cert.Pre_below_infinity.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_below_infinity.fn (F := Ideal) (m ((c.tc : Thread Cert.Reference10Ideal.nD Cert.Reference10Ideal.τ).loc Cert.Reference10Ideal.main_arg0))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite_scores [hPre_finite_scores : Cert.Pre_finite_scores.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite_scores.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite_scores [hPre_finite_scores : Cert.Pre_finite_scores.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite_scores.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_cached_below_infinity [hPre_cached_below_infinity : Cert.Pre_cached_below_infinity.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_cached_below_infinity.fn (F := Ideal) (m ((c.tc : Thread Cert.Kernel12Ideal.nD Cert.Kernel12Ideal.τ).loc Cert.Kernel12Ideal.main_arg0))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_cached_below_infinity [hPre_cached_below_infinity : Cert.Pre_cached_below_infinity.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_cached_below_infinity.fn (F := Ideal) (m ((c.tc : Thread Cert.Reference12Ideal.nD Cert.Reference12Ideal.τ).loc Cert.Reference12Ideal.main_arg0))) = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_new_below_infinity [hPre_new_below_infinity : Cert.Pre_new_below_infinity.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_new_below_infinity.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_new_below_infinity [hPre_new_below_infinity : Cert.Pre_new_below_infinity.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_new_below_infinity.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Kernel9Ideal_pre_finite [hKernel9Ideal : Cert.Kernel9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Reference9Ideal_pre_finite [hReference9Ideal : Cert.Reference9Ideal.Facts] [hPre_finite : Cert.Pre_finite.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Kernel10Ideal_pre_below_infinity [hKernel10Ideal : Cert.Kernel10Ideal.Facts] [hPre_below_infinity : Cert.Pre_below_infinity.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_below_infinity m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Reference10Ideal_pre_below_infinity [hReference10Ideal : Cert.Reference10Ideal.Facts] [hPre_below_infinity : Cert.Pre_below_infinity.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_below_infinity m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite_scores [hKernel11Ideal : Cert.Kernel11Ideal.Facts] [hPre_finite_scores : Cert.Pre_finite_scores.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite_scores m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite_scores [hReference11Ideal : Cert.Reference11Ideal.Facts] [hPre_finite_scores : Cert.Pre_finite_scores.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite_scores m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Kernel12Ideal_pre_cached_below_infinity [hKernel12Ideal : Cert.Kernel12Ideal.Facts] [hPre_cached_below_infinity : Cert.Pre_cached_below_infinity.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_cached_below_infinity m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Reference12Ideal_pre_cached_below_infinity [hReference12Ideal : Cert.Reference12Ideal.Facts] [hPre_cached_below_infinity : Cert.Pre_cached_below_infinity.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_cached_below_infinity m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Kernel13Ideal_pre_new_below_infinity [hKernel13Ideal : Cert.Kernel13Ideal.Facts] [hPre_new_below_infinity : Cert.Pre_new_below_infinity.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_new_below_infinity m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Reference13Ideal_pre_new_below_infinity [hReference13Ideal : Cert.Reference13Ideal.Facts] [hPre_new_below_infinity : Cert.Pre_new_below_infinity.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_new_below_infinity m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  IdealRules.named_const.Statement Cert.Kernel2Ideal.κ "q_scale" .f32 0x3E0293EE#32 (((Real.sqrt 128)⁻¹ * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v20)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v20) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v11)) (v2 : (c : Dev Cert.Kernel4Ideal.nD) → Buf (Elt Ideal) ((c.tc : Thread Cert.Kernel4Ideal.nD Cert.Kernel4Ideal.τ).loc Cert.Kernel4Ideal.main_v10_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v11) = v1 c
          ∧ r.2.mem ((c.tc : Thread Cert.Kernel4Ideal.nD Cert.Kernel4Ideal.τ).loc Cert.Kernel4Ideal.main_v10_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_v25) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10_0)) (v1 : (c : Dev Cert.Kernel6Ideal.nD) → Buf (Elt Ideal) ((c.tc : Thread Cert.Kernel6Ideal.nD Cert.Kernel6Ideal.τ).loc Cert.Kernel6Ideal.main_v11)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_v11) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_v21) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)) →
    ∃ (v0 : (c : Dev Cert.Kernel8Ideal.nD) → Buf (Elt Ideal) ((c.tc : Thread Cert.Kernel8Ideal.nD Cert.Kernel8Ideal.τ).loc Cert.Kernel8Ideal.main_v20)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v20) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v67) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10))

def preserves_Kernel9_Kernel9Ideal : Prop :=
  IdealRules.named_const.Statement Cert.Kernel9Ideal.κ "log2e" .f32 0x3FB8AA3B#32 (((Real.log 2)⁻¹ : ℝ) : EReal)
  ∧ IdealRules.named_const.Statement Cert.Kernel9Ideal.κ "mask" .f32 0xF149F2CA#32 ⊥

def algebraic_Kernel9Ideal_Reference9Ideal_pre_finite [hKernel9Ideal : Cert.Kernel9Ideal.Facts] [hReference9Ideal : Cert.Reference9Ideal.Facts] [hPre_finite : Cert.Pre_finite.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v42) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal_pre_below_infinity [hKernel10Ideal : Cert.Kernel10Ideal.Facts] [hReference10Ideal : Cert.Reference10Ideal.Facts] [hPre_below_infinity : Cert.Pre_below_infinity.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_below_infinity m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)) →
    ∃ (v0 : (c : Dev Cert.Kernel10Ideal.nD) → Buf (Elt Ideal) ((c.tc : Thread Cert.Kernel10Ideal.nD Cert.Kernel10Ideal.τ).loc Cert.Kernel10Ideal.main_v10)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0))

def preserves_Kernel11_Kernel11Ideal : Prop :=
  IdealRules.named_const.Statement Cert.Kernel11Ideal.κ "log2e" .f32 0x3FB8AA3B#32 (((Real.log 2)⁻¹ : ℝ) : EReal)

def algebraic_Kernel11Ideal_Reference11Ideal_pre_finite_scores [hKernel11Ideal : Cert.Kernel11Ideal.Facts] [hReference11Ideal : Cert.Reference11Ideal.Facts] [hPre_finite_scores : Cert.Pre_finite_scores.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite_scores m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v18)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v18) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v32) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal_pre_cached_below_infinity [hKernel12Ideal : Cert.Kernel12Ideal.Facts] [hReference12Ideal : Cert.Reference12Ideal.Facts] [hPre_cached_below_infinity : Cert.Pre_cached_below_infinity.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_cached_below_infinity m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v10)) (v1 : (c : Dev Cert.Kernel12Ideal.nD) → Buf (Elt Ideal) ((c.tc : Thread Cert.Kernel12Ideal.nD Cert.Kernel12Ideal.τ).loc Cert.Kernel12Ideal.main_v9_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v10) = v0 c
          ∧ r.2.mem ((c.tc : Thread Cert.Kernel12Ideal.nD Cert.Kernel12Ideal.τ).loc Cert.Kernel12Ideal.main_v9_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v3) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal_pre_new_below_infinity [hKernel13Ideal : Cert.Kernel13Ideal.Facts] [hReference13Ideal : Cert.Reference13Ideal.Facts] [hPre_new_below_infinity : Cert.Pre_new_below_infinity.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_new_below_infinity m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v9)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v9) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_below_infinity : Cert.Pre_below_infinity.Facts) (hPre_finite_scores : Cert.Pre_finite_scores.Facts) (hPre_cached_below_infinity : Cert.Pre_cached_below_infinity.Facts) (hPre_new_below_infinity : Cert.Pre_new_below_infinity.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite (hKernel9Ideal := hKernel9Ideal) (hPre_finite := hPre_finite)
    ∧ quiescent_Reference9Ideal (hReference9Ideal := hReference9Ideal)
    ∧ quiescent_Reference9Ideal_pre_finite (hReference9Ideal := hReference9Ideal) (hPre_finite := hPre_finite)
    ∧ quiescent_Kernel10 (hKernel10 := hKernel10)
    ∧ quiescent_Kernel10Ideal (hKernel10Ideal := hKernel10Ideal)
    ∧ quiescent_Kernel10Ideal_pre_below_infinity (hKernel10Ideal := hKernel10Ideal) (hPre_below_infinity := hPre_below_infinity)
    ∧ quiescent_Reference10Ideal (hReference10Ideal := hReference10Ideal)
    ∧ quiescent_Reference10Ideal_pre_below_infinity (hReference10Ideal := hReference10Ideal) (hPre_below_infinity := hPre_below_infinity)
    ∧ quiescent_Kernel11 (hKernel11 := hKernel11)
    ∧ quiescent_Kernel11Ideal (hKernel11Ideal := hKernel11Ideal)
    ∧ quiescent_Kernel11Ideal_pre_finite_scores (hKernel11Ideal := hKernel11Ideal) (hPre_finite_scores := hPre_finite_scores)
    ∧ quiescent_Reference11Ideal (hReference11Ideal := hReference11Ideal)
    ∧ quiescent_Reference11Ideal_pre_finite_scores (hReference11Ideal := hReference11Ideal) (hPre_finite_scores := hPre_finite_scores)
    ∧ quiescent_Kernel12 (hKernel12 := hKernel12)
    ∧ quiescent_Kernel12Ideal (hKernel12Ideal := hKernel12Ideal)
    ∧ quiescent_Kernel12Ideal_pre_cached_below_infinity (hKernel12Ideal := hKernel12Ideal) (hPre_cached_below_infinity := hPre_cached_below_infinity)
    ∧ quiescent_Reference12Ideal (hReference12Ideal := hReference12Ideal)
    ∧ quiescent_Reference12Ideal_pre_cached_below_infinity (hReference12Ideal := hReference12Ideal) (hPre_cached_below_infinity := hPre_cached_below_infinity)
    ∧ quiescent_Kernel13 (hKernel13 := hKernel13)
    ∧ quiescent_Kernel13Ideal (hKernel13Ideal := hKernel13Ideal)
    ∧ quiescent_Kernel13Ideal_pre_new_below_infinity (hKernel13Ideal := hKernel13Ideal) (hPre_new_below_infinity := hPre_new_below_infinity)
    ∧ quiescent_Reference13Ideal (hReference13Ideal := hReference13Ideal)
    ∧ quiescent_Reference13Ideal_pre_new_below_infinity (hReference13Ideal := hReference13Ideal) (hPre_new_below_infinity := hPre_new_below_infinity)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite (hKernel9Ideal := hKernel9Ideal) (hReference9Ideal := hReference9Ideal) (hPre_finite := hPre_finite)
    ∧ preserves_Kernel10_Kernel10Ideal
    ∧ algebraic_Kernel10Ideal_Reference10Ideal_pre_below_infinity (hKernel10Ideal := hKernel10Ideal) (hReference10Ideal := hReference10Ideal) (hPre_below_infinity := hPre_below_infinity)
    ∧ preserves_Kernel11_Kernel11Ideal
    ∧ algebraic_Kernel11Ideal_Reference11Ideal_pre_finite_scores (hKernel11Ideal := hKernel11Ideal) (hReference11Ideal := hReference11Ideal) (hPre_finite_scores := hPre_finite_scores)
    ∧ preserves_Kernel12_Kernel12Ideal
    ∧ algebraic_Kernel12Ideal_Reference12Ideal_pre_cached_below_infinity (hKernel12Ideal := hKernel12Ideal) (hReference12Ideal := hReference12Ideal) (hPre_cached_below_infinity := hPre_cached_below_infinity)
    ∧ preserves_Kernel13_Kernel13Ideal
    ∧ algebraic_Kernel13Ideal_Reference13Ideal_pre_new_below_infinity (hKernel13Ideal := hKernel13Ideal) (hReference13Ideal := hReference13Ideal) (hPre_new_below_infinity := hPre_new_below_infinity)
-- ==== Pre_below_infinity.lean ====
abbrev S16384x128 : Shape := ⟨2, ![16384, 128]⟩
abbrev S16384x16 : Shape := ⟨2, ![16384, 16]⟩
abbrev S_ : Shape := ⟨0, ![]⟩

class Facts : Prop where
  slices_S16384x128_S16384x16_0_0 : S16384x128.Slices ![0, 0] S16384x16
  bcast_S_S16384x16 : S_.BroadcastsInDim S16384x16 (![] : Fin 0 → Fin S16384x16.rank)
  reducesTo_S16384x16_S_d0_1 : S16384x16.ReducesTo [0, 1] S_
  h_S_ : 0 < S_.numel

variable [Facts]

def fn {F : FTy → Type} [FloatOps F] (main_arg0 : FVec F S16384x128 .f32) : IVec S_ 1 :=
  let main_v0 : FVec F S16384x16 .f32 := (extractStridedSlice S16384x16 ![0, 0] · slices_S16384x128_S16384x16_0_0) main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  main_v3
-- ==== Pre_cached_below_infinity.lean ====
abbrev S16x1024x16 : Shape := ⟨3, ![16, 1024, 16]⟩
abbrev S_ : Shape := ⟨0, ![]⟩

class Facts : Prop where
  bcast_S_S16x1024x16 : S_.BroadcastsInDim S16x1024x16 (![] : Fin 0 → Fin S16x1024x16.rank)
  reducesTo_S16x1024x16_S_d0_1_2 : S16x1024x16.ReducesTo [0, 1, 2] S_
  h_S_ : 0 < S_.numel

variable [Facts]

def fn {F : FTy → Type} [FloatOps F] (main_arg0 : FVec F S16x1024x16 .f32) : IVec S_ 1 :=
  let main_cst : FVec F S_ .f32 := constant S_ .f32 0x7F800000#32
  let main_v0 : FVec F S16x1024x16 .f32 := broadcastInDim S16x1024x16 ![] bcast_S_S16x1024x16 main_cst
  let main_v1 : IVec S16x1024x16 1 := cmpf .olt main_arg0 main_v0
  let main_c : IVec S_ 1 := constantI S_ 1 1#1
  let main_v2 : IVec S_ 1 := (fun x v => Host.reduce IntOp.andi x v reducesTo_S16x1024x16_S_d0_1_2 h_S_) main_v1 main_c
  main_v2
-- ==== Pre_finite.lean ====
abbrev S512x2048 : Shape := ⟨2, ![512, 2048]⟩
abbrev S16x1024x16x128 : Shape := ⟨4, ![16, 1024, 16, 128]⟩
abbrev S16x16x1024 : Shape := ⟨3, ![16, 16, 1024]⟩
abbrev S16x16x32 : Shape := ⟨3, ![16, 16, 32]⟩
abbrev S_ : Shape := ⟨0, ![]⟩

class Facts : Prop where
  bitsLt_bf16_f32 : FTy.bits .bf16 < FTy.bits .f32
  bcast_S_S512x2048 : S_.BroadcastsInDim S512x2048 (![] : Fin 0 → Fin S512x2048.rank)
  reducesTo_S512x2048_S_d0_1 : S512x2048.ReducesTo [0, 1] S_
  h_S_ : 0 < S_.numel
  bcast_S_S16x1024x16x128 : S_.BroadcastsInDim S16x1024x16x128 (![] : Fin 0 → Fin S16x1024x16x128.rank)
  reducesTo_S16x1024x16x128_S_d0_1_2_3 : S16x1024x16x128.ReducesTo [0, 1, 2, 3] S_
  bcast_S_S16x16x1024 : S_.BroadcastsInDim S16x16x1024 (![] : Fin 0 → Fin S16x16x1024.rank)
  reducesTo_S16x16x1024_S_d0_1_2 : S16x16x1024.ReducesTo [0, 1, 2] S_
  bcast_S_S16x16x32 : S_.BroadcastsInDim S16x16x32 (![] : Fin 0 → Fin S16x16x32.rank)
  reducesTo_S16x16x32_S_d0_1_2 : S16x16x32.ReducesTo [0, 1, 2] S_

variable [Facts]

def fn_part1 {F : FTy → Type} [FloatOps F] (main_arg6 : FVec F S16x16x32 .f32) (main_v4 : IVec S_ 1) (main_v8 : IVec S_ 1) (main_v13 : IVec S_ 1) (main_v16 : IVec S16x16x1024 1) : IVec S_ 1 :=
  let main_c_5 : IVec S_ 1 := constantI S_ 1 1#1
  let main_v17 : IVec S_ 1 := (fun x v => Host.reduce IntOp.andi x v reducesTo_S16x16x1024_S_d0_1_2 h_S_) main_v16 main_c_5
  let main_v18 : FVec F S16x16x32 .f32 := Host.absf main_arg6
  let main_cst_6 : FVec F S_ .f32 := constant S_ .f32 0x7F800000#32
  let main_v19 : FVec F S16x16x32 .f32 := broadcastInDim S16x16x32 ![] bcast_S_S16x16x32 main_cst_6
  let main_v20 : IVec S16x16x32 1 := cmpf .olt main_v18 main_v19
  let main_c_7 : IVec S_ 1 := constantI S_ 1 1#1
  let main_v21 : IVec S_ 1 := (fun x v => Host.reduce IntOp.andi x v reducesTo_S16x16x32_S_d0_1_2 h_S_) main_v20 main_c_7
  let main_v22 : IVec S_ 1 := andi main_v4 main_v8
  let main_v23 : IVec S_ 1 := andi main_v22 main_v13
  let main_v24 : IVec S_ 1 := andi main_v23 main_v17
  let main_v25 : IVec S_ 1 := andi main_v24 main_v21
  main_v25

def fn {F : FTy → Type} [FloatOps F] (main_arg0 : FVec F S512x2048 .bf16) (main_arg1 : FVec F S16x1024x16x128 .f32) (main_arg2 : FVec F S16x1024x16x128 .f32) (main_arg3 : FVec F S512x2048 .bf16) (main_arg4 : FVec F S512x2048 .bf16) (main_arg5 : FVec F S16x16x1024 .f32) (main_arg6 : FVec F S16x16x32 .f32) : IVec S_ 1 :=
  let main_v0 : FVec F S512x2048 .f32 := (extf .f32 · bitsLt_bf16_f32) main_arg0
  let main_v1 : FVec F S512x2048 .f32 := Host.absf main_v0
  let main_cst : FVec F S_ .f32 := constant S_ .f32 0x7F800000#32
  let main_v2 : FVec F S512x2048 .f32 := broadcastInDim S512x2048 ![] bcast_S_S512x2048 main_cst
  let main_v3 : IVec S512x2048 1 := cmpf .olt main_v1 main_v2
  let main_c : IVec S_ 1 := constantI S_ 1 1#1
  let main_v4 : IVec S_ 1 := (fun x v => Host.reduce IntOp.andi x v reducesTo_S512x2048_S_d0_1 h_S_) main_v3 main_c
  let main_v5 : FVec F S16x1024x16x128 .f32 := Host.absf main_arg1
  let main_cst_0 : FVec F S_ .f32 := constant S_ .f32 0x7F800000#32
  let main_v6 : FVec F S16x1024x16x128 .f32 := broadcastInDim S16x1024x16x128 ![] bcast_S_S16x1024x16x128 main_cst_0
  let main_v7 : IVec S16x1024x16x128 1 := cmpf .olt main_v5 main_v6
  let main_c_1 : IVec S_ 1 := constantI S_ 1 1#1
  let main_v8 : IVec S_ 1 := (fun x v => Host.reduce IntOp.andi x v reducesTo_S16x1024x16x128_S_d0_1_2_3 h_S_) main_v7 main_c_1
  let main_v9 : FVec F S512x2048 .f32 := (extf .f32 · bitsLt_bf16_f32) main_arg3
  let main_v10 : FVec F S512x2048 .f32 := Host.absf main_v9
  let main_cst_2 : FVec F S_ .f32 := constant S_ .f32 0x7F800000#32
  let main_v11 : FVec F S512x2048 .f32 := broadcastInDim S512x2048 ![] bcast_S_S512x2048 main_cst_2
  let main_v12 : IVec S512x2048 1 := cmpf .olt main_v10 main_v11
  let main_c_3 : IVec S_ 1 := constantI S_ 1 1#1
  let main_v13 : IVec S_ 1 := (fun x v => Host.reduce IntOp.andi x v reducesTo_S512x2048_S_d0_1 h_S_) main_v12 main_c_3
  let main_v14 : FVec F S16x16x1024 .f32 := Host.absf main_arg5
  let main_cst_4 : FVec F S_ .f32 := constant S_ .f32 0x7F800000#32
  let main_v15 : FVec F S16x16x1024 .f32 := broadcastInDim S16x16x1024 ![] bcast_S_S16x16x1024 main_cst_4
  let main_v16 : IVec S16x16x1024 1 := cmpf .olt main_v14 main_v15
  fn_part1 (F := F) main_arg6 main_v4 main_v8 main_v13 main_v16
-- ==== Pre_finite_scores.lean ====
abbrev S512x2048 : Shape := ⟨2, ![512, 2048]⟩
abbrev S16x1024x16x128 : Shape := ⟨4, ![16, 1024, 16, 128]⟩
abbrev S_ : Shape := ⟨0, ![]⟩

class Facts : Prop where
  bitsLt_bf16_f32 : FTy.bits .bf16 < FTy.bits .f32
  bcast_S_S512x2048 : S_.BroadcastsInDim S512x2048 (![] : Fin 0 → Fin S512x2048.rank)
  reducesTo_S512x2048_S_d0_1 : S512x2048.ReducesTo [0, 1] S_
  h_S_ : 0 < S_.numel
  bcast_S_S16x1024x16x128 : S_.BroadcastsInDim S16x1024x16x128 (![] : Fin 0 → Fin S16x1024x16x128.rank)
  reducesTo_S16x1024x16x128_S_d0_1_2_3 : S16x1024x16x128.ReducesTo [0, 1, 2, 3] S_

variable [Facts]

def fn {F : FTy → Type} [FloatOps F] (main_arg0 : FVec F S512x2048 .bf16) (main_arg1 : FVec F S16x1024x16x128 .f32) (main_arg2 : FVec F S16x1024x16x128 .f32) (main_arg3 : FVec F S512x2048 .bf16) (main_arg4 : FVec F S512x2048 .bf16) : IVec S_ 1 :=
  let main_v0 : FVec F S512x2048 .f32 := (extf .f32 · bitsLt_bf16_f32) main_arg0
  let main_v1 : FVec F S512x2048 .f32 := Host.absf main_v0
  let main_cst : FVec F S_ .f32 := constant S_ .f32 0x7F800000#32
  let main_v2 : FVec F S512x2048 .f32 := broadcastInDim S512x2048 ![] bcast_S_S512x2048 main_cst
  let main_v3 : IVec S512x2048 1 := cmpf .olt main_v1 main_v2
  let main_c : IVec S_ 1 := constantI S_ 1 1#1
  let main_v4 : IVec S_ 1 := (fun x v => Host.reduce IntOp.andi x v reducesTo_S512x2048_S_d0_1 h_S_) main_v3 main_c
  let main_v5 : FVec F S16x1024x16x128 .f32 := Host.absf main_arg1
  let main_cst_0 : FVec F S_ .f32 := constant S_ .f32 0x7F800000#32
  let main_v6 : FVec F S16x1024x16x128 .f32 := broadcastInDim S16x1024x16x128 ![] bcast_S_S16x1024x16x128 main_cst_0
  let main_v7 : IVec S16x1024x16x128 1 := cmpf .olt main_v5 main_v6
  let main_c_1 : IVec S_ 1 := constantI S_ 1 1#1
  let main_v8 : IVec S_ 1 := (fun x v => Host.reduce IntOp.andi x v reducesTo_S16x1024x16x128_S_d0_1_2_3 h_S_) main_v7 main_c_1
  let main_v9 : FVec F S512x2048 .f32 := (extf .f32 · bitsLt_bf16_f32) main_arg3
  let main_v10 : FVec F S512x2048 .f32 := Host.absf main_v9
  let main_cst_2 : FVec F S_ .f32 := constant S_ .f32 0x7F800000#32
  let main_v11 : FVec F S512x2048 .f32 := broadcastInDim S512x2048 ![] bcast_S_S512x2048 main_cst_2
  let main_v12 : IVec S512x2048 1 := cmpf .olt main_v10 main_v11
  let main_c_3 : IVec S_ 1 := constantI S_ 1 1#1
  let main_v13 : IVec S_ 1 := (fun x v => Host.reduce IntOp.andi x v reducesTo_S512x2048_S_d0_1 h_S_) main_v12 main_c_3
  let main_v14 : IVec S_ 1 := andi main_v4 main_v8
  let main_v15 : IVec S_ 1 := andi main_v14 main_v13
  main_v15
-- ==== Pre_new_below_infinity.lean ====
abbrev S512x128 : Shape := ⟨2, ![512, 128]⟩
abbrev S16x1x128 : Shape := ⟨3, ![16, 1, 128]⟩
abbrev S512x16 : Shape := ⟨2, ![512, 16]⟩
abbrev S_ : Shape := ⟨0, ![]⟩

class Facts : Prop where
  slices_S512x128_S512x16_0_0 : S512x128.Slices ![0, 0] S512x16
  bcast_S_S512x16 : S_.BroadcastsInDim S512x16 (![] : Fin 0 → Fin S512x16.rank)
  reducesTo_S512x16_S_d0_1 : S512x16.ReducesTo [0, 1] S_
  h_S_ : 0 < S_.numel

variable [Facts]

def fn {F : FTy → Type} [FloatOps F] (main_arg0 : FVec F S512x128 .f32) (main_arg1 : FVec F S16x1x128 .f32) : IVec S_ 1 :=
  let main_v0 : FVec F S512x16 .f32 := (extractStridedSlice S512x16 ![0, 0] · slices_S512x128_S512x16_0_0) main_arg0
  let main_cst : FVec F S_ .f32 := constant S_ .f32 0x7F800000#32
  let main_v1 : FVec F S512x16 .f32 := broadcastInDim S512x16 ![] bcast_S_S512x16 main_cst
  let main_v2 : IVec S512x16 1 := cmpf .olt main_v0 main_v1
  let main_c : IVec S_ 1 := constantI S_ 1 1#1
  let main_v3 : IVec S_ 1 := (fun x v => Host.reduce IntOp.andi x v reducesTo_S512x16_S_d0_1 h_S_) main_v2 main_c
  main_v3
-- ==== Kernel.lean ====
abbrev S16384x4096 : Shape := ⟨2, ![16384, 4096]⟩
abbrev S1x4096x12304 : Shape := ⟨3, ![1, 4096, 12304]⟩
abbrev S4096x12304 : Shape := ⟨2, ![4096, 12304]⟩
abbrev S12304x4096 : Shape := ⟨2, ![12304, 4096]⟩
abbrev S2048x4096 : Shape := ⟨2, ![2048, 4096]⟩
abbrev S16384x2048 : Shape := ⟨2, ![16384, 2048]⟩
abbrev S1024x4096 : Shape := ⟨2, ![1024, 4096]⟩
abbrev S64x4096 : Shape := ⟨2, ![64, 4096]⟩
abbrev S1024x1024 : Shape := ⟨2, ![1024, 1024]⟩

abbrev nBuf : Space → Nat
  | .hbm => 10
  | .vmem => 18
  | .smem => 0
  | _ => 0

abbrev bufTy : (tb : Table) → Fin (tcTables nBuf tb) → BufTy
  | .hbm, ⟨0, _⟩ => ⟨S16384x4096, .bf16⟩
  | .hbm, ⟨1, _⟩ => ⟨S1x4096x12304, .f32⟩
  | .hbm, ⟨2, _⟩ => ⟨S4096x12304, .f32⟩
  | .hbm, ⟨3, _⟩ => ⟨S12304x4096, .f32⟩
  | .hbm, ⟨4, _⟩ => ⟨S2048x4096, .f32⟩
  | .hbm, ⟨5, _⟩ => ⟨S2048x4096, .bf16⟩
  | .hbm, ⟨6, _⟩ => ⟨S16384x2048, .bf16⟩
  | .hbm, ⟨7, _⟩ => ⟨S2048x4096, .bf16⟩
  | .hbm, ⟨8, _⟩ => ⟨S2048x4096, .bf16⟩
  | .hbm, ⟨9, _⟩ => ⟨S2048x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S1024x1024, .bf16⟩
  | .local _ .vmem, ⟨11, _⟩ => ⟨S1024x1024, .bf16⟩
  | .local _ .vmem, ⟨12, _⟩ => ⟨S64x4096, .bf16⟩
  | .local _ .vmem, ⟨13, _⟩ => ⟨S64x4096, .bf16⟩
  | .local _ .vmem, ⟨14, _⟩ => ⟨S64x4096, .bf16⟩
  | .local _ .vmem, ⟨15, _⟩ => ⟨S64x4096, .bf16⟩
  | .local _ .vmem, ⟨16, _⟩ => ⟨S64x4096, .bf16⟩
  | .local _ .vmem, ⟨17, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c8_i32 : BitVec 32 := 8#32
  let v3 : BitVec 32 := Scalar.muli v2 c8_i32
  let c256_i32 : BitVec 32 := 256#32
  let v4 : BitVec 32 := Scalar.addi c256_i32 v3
  let c8_i32_0 : BitVec 32 := 8#32
  let v5 : BitVec 32 := Scalar.muli c8_i32_0 v4
  let c0_i32 : BitVec 32 := 0#32
  let c0_i32_1 : BitVec 32 := 0#32
  ![v5.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c8_i32 : BitVec 32 := 8#32
  let v3 : BitVec 32 := Scalar.muli v2 c8_i32
  let c512_i32 : BitVec 32 := 512#32
  let v4 : BitVec 32 := Scalar.addi c512_i32 v3
  let c8_i32_0 : BitVec 32 := 8#32
  let v5 : BitVec 32 := Scalar.muli c8_i32_0 v4
  let c0_i32 : BitVec 32 := 0#32
  let c0_i32_1 : BitVec 32 := 0#32
  ![v5.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c8_i32 : BitVec 32 := 8#32
  let v3 : BitVec 32 := Scalar.muli v2 c8_i32
  let c770_i32 : BitVec 32 := 770#32
  let v4 : BitVec 32 := Scalar.addi c770_i32 v3
  let c8_i32_0 : BitVec 32 := 8#32
  let v5 : BitVec 32 := Scalar.muli c8_i32_0 v4
  let c0_i32 : BitVec 32 := 0#32
  let c0_i32_1 : BitVec 32 := 0#32
  ![v5.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S16384x4096 : Shape := ⟨2, ![16384, 4096]⟩
abbrev S1x4096x12304 : Shape := ⟨3, ![1, 4096, 12304]⟩
abbrev S4096x12304 : Shape := ⟨2, ![4096, 12304]⟩
abbrev S4096x2048 : Shape := ⟨2, ![4096, 2048]⟩
abbrev S16384x2048 : Shape := ⟨2, ![16384, 2048]⟩
abbrev S_ : Shape := ⟨0, ![]⟩
abbrev S2048x4096 : Shape := ⟨2, ![2048, 4096]⟩

abbrev nBuf : Space → Nat
  | .hbm => 26
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12304, .f32⟩
  | .hbm, ⟨2, _⟩ => ⟨S4096x12304, .f32⟩
  | .hbm, ⟨3, _⟩ => ⟨S16384x4096, .f32⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S16384x2048, .f32⟩
  | .hbm, ⟨8, _⟩ => ⟨S_, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .bf16⟩
  | .hbm, ⟨17, _⟩ => ⟨S4096x2048, .f32⟩
  | .hbm, ⟨18, _⟩ => ⟨S2048x4096, .f32⟩
  | .hbm, ⟨19, _⟩ => ⟨S2048x4096, .bf16⟩
  | .hbm, ⟨20, _⟩ => ⟨S4096x2048, .f32⟩
  | .hbm, ⟨21, _⟩ => ⟨S2048x4096, .f32⟩
  | .hbm, ⟨22, _⟩ => ⟨S2048x4096, .bf16⟩
  | .hbm, ⟨23, _⟩ => ⟨S4096x2048, .f32⟩
  | .hbm, ⟨24, _⟩ => ⟨S2048x4096, .f32⟩
  | .hbm, ⟨25, _⟩ => ⟨S2048x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩

abbrev nD : Nat := 1
abbrev τ : Topo := Topo.v7x

variable {F : FTy → Type} [FloatOps F]
-- ==== Kernel2.lean ====
abbrev S16384x4096 : Shape := ⟨2, ![16384, 4096]⟩
abbrev S1x4096x12304 : Shape := ⟨3, ![1, 4096, 12304]⟩
abbrev S4096x12304 : Shape := ⟨2, ![4096, 12304]⟩
abbrev S12304x4096 : Shape := ⟨2, ![12304, 4096]⟩
abbrev S2048x4096 : Shape := ⟨2, ![2048, 4096]⟩
abbrev S16384x2048 : Shape := ⟨2, ![16384, 2048]⟩
abbrev S1024x4096 : Shape := ⟨2, ![1024, 4096]⟩
abbrev S64x4096 : Shape := ⟨2, ![64, 4096]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S1x4096x12304, .f32⟩
  | .hbm, ⟨2, _⟩ => ⟨S4096x12304, .f32⟩
  | .hbm, ⟨3, _⟩ => ⟨S12304x4096, .f32⟩
  | .hbm, ⟨4, _⟩ => ⟨S2048x4096, .f32⟩
  | .hbm, ⟨5, _⟩ => ⟨S2048x4096, .bf16⟩
  | .hbm, ⟨6, _⟩ => ⟨S16384x2048, .bf16⟩
  | .hbm, ⟨7, _⟩ => ⟨S2048x4096, .bf16⟩
  | .hbm, ⟨8, _⟩ => ⟨S2048x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S1024x1024, .bf16⟩
  | .local _ .vmem, ⟨9, _⟩ => ⟨S1024x1024, .bf16⟩
  | .local _ .vmem, ⟨10, _⟩ => ⟨S64x4096, .bf16⟩
  | .local _ .vmem, ⟨11, _⟩ => ⟨S64x4096, .bf16⟩
  | .local _ .vmem, ⟨12, _⟩ => ⟨S64x4096, .bf16⟩
  | .local _ .vmem, ⟨13, _⟩ => ⟨S64x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c8_i32 : BitVec 32 := 8#32
  let v3 : BitVec 32 := Scalar.muli v2 c8_i32
  let c1026_i32 : BitVec 32 := 1026#32
  let v4 : BitVec 32 := Scalar.addi c1026_i32 v3
  let c8_i32_0 : BitVec 32 := 8#32
  let v5 : BitVec 32 := Scalar.muli c8_i32_0 v4
  let c0_i32 : BitVec 32 := 0#32
  let c0_i32_1 : BitVec 32 := 0#32
  ![v5.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c8_i32 : BitVec 32 := 8#32
  let v3 : BitVec 32 := Scalar.muli v2 c8_i32
  let c1282_i32 : BitVec 32 := 1282#32
  let v4 : BitVec 32 := Scalar.addi c1282_i32 v3
  let c8_i32_0 : BitVec 32 := 8#32
  let v5 : BitVec 32 := Scalar.muli c8_i32_0 v4
  let c0_i32 : BitVec 32 := 0#32
  let c0_i32_1 : BitVec 32 := 0#32
  ![v5.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
variable {F : FTy → Type} [FloatOps F] [Named F]
def κ : String → Option EReal := fun
  | "q_scale" => some (((Real.sqrt 128)⁻¹ * (Real.log 2)⁻¹ : ℝ) : EReal)
  | _ => none
-- ==== Reference2Ideal.lean ====
abbrev S16384x4096 : Shape := ⟨2, ![16384, 4096]⟩
abbrev S1x4096x12304 : Shape := ⟨3, ![1, 4096, 12304]⟩
abbrev S4096x12304 : Shape := ⟨2, ![4096, 12304]⟩
abbrev S4096x2048 : Shape := ⟨2, ![4096, 2048]⟩
abbrev S16384x2048 : Shape := ⟨2, ![16384, 2048]⟩
abbrev S_ : Shape := ⟨0, ![]⟩
abbrev S2048x4096 : Shape := ⟨2, ![2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S1x4096x12304, .f32⟩
  | .hbm, ⟨2, _⟩ => ⟨S4096x12304, .f32⟩
  | .hbm, ⟨3, _⟩ => ⟨S16384x4096, .f32⟩
  | .hbm, ⟨4, _⟩ => ⟨S4096x2048, .f32⟩
  | .hbm, ⟨5, _⟩ => ⟨S4096x2048, .bf16⟩
  | .hbm, ⟨6, _⟩ => ⟨S4096x2048, .f32⟩
  | .hbm, ⟨7, _⟩ => ⟨S16384x2048, .f32⟩
  | .hbm, ⟨8, _⟩ => ⟨S_, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S_, .f32⟩
  | .hbm, ⟨14, _⟩ => ⟨S16384x2048, .f32⟩
  | .hbm, ⟨15, _⟩ => ⟨S16384x2048, .f32⟩
  | .hbm, ⟨16, _⟩ => ⟨S16384x2048, .bf16⟩
  | .hbm, ⟨17, _⟩ => ⟨S4096x2048, .f32⟩
  | .hbm, ⟨18, _⟩ => ⟨S2048x4096, .f32⟩
  | .hbm, ⟨19, _⟩ => ⟨S2048x4096, .bf16⟩
  | .hbm, ⟨20, _⟩ => ⟨S4096x2048, .f32⟩
  | .hbm, ⟨21, _⟩ => ⟨S2048x4096, .f32⟩
  | .hbm, ⟨22, _⟩ => ⟨S2048x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== Kernel3.lean ====
abbrev S16384x4096 : Shape := ⟨2, ![16384, 4096]⟩
abbrev S16384x2048 : Shape := ⟨2, ![16384, 2048]⟩
abbrev S1x2048 : Shape := ⟨2, ![1, 2048]⟩
abbrev S1x4096x4096 : Shape := ⟨3, ![1, 4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S2048 : Shape := ⟨1, ![2048]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S4096x11008 : Shape := ⟨2, ![4096, 11008]⟩
abbrev S16384x11008 : Shape := ⟨2, ![16384, 11008]⟩
abbrev S2048x4096 : Shape := ⟨2, ![2048, 4096]⟩
abbrev S4096x256 : Shape := ⟨2, ![4096, 256]⟩
abbrev S2048x256 : Shape := ⟨2, ![2048, 256]⟩
abbrev S11008x4096 : Shape := ⟨2, ![11008, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 32
  | .vmem => 42
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S1x4096x4096, .f32⟩
  | .hbm, ⟨6, _⟩ => ⟨S1x4096, .f32⟩
  | .hbm, ⟨7, _⟩ => ⟨S1x4096x11008, .f32⟩
  | .hbm, ⟨8, _⟩ => ⟨S1x4096x11008, .f32⟩
  | .hbm, ⟨9, _⟩ => ⟨S1x11008x4096, .f32⟩
  | .hbm, ⟨10, _⟩ => ⟨S4096, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S16384x4096, .bf16⟩
  | .hbm, ⟨16, _⟩ => ⟨S4096x4096, .f32⟩
  | .hbm, ⟨17, _⟩ => ⟨S4096x4096, .bf16⟩
  | .hbm, ⟨18, _⟩ => ⟨S16384x4096, .f32⟩
  | .hbm, ⟨19, _⟩ => ⟨S4096, .f32⟩
  | .hbm, ⟨20, _⟩ => ⟨S1x4096, .f32⟩
  | .hbm, ⟨21, _⟩ => ⟨S16384x4096, .bf16⟩
  | .hbm, ⟨22, _⟩ => ⟨S4096x11008, .f32⟩
  | .hbm, ⟨23, _⟩ => ⟨S4096x11008, .bf16⟩
  | .hbm, ⟨24, _⟩ => ⟨S4096x11008, .f32⟩
  | .hbm, ⟨25, _⟩ => ⟨S4096x11008, .bf16⟩
  | .hbm, ⟨26, _⟩ => ⟨S16384x11008, .bf16⟩
  | .hbm, ⟨27, _⟩ => ⟨S11008x4096, .f32⟩
  | .hbm, ⟨28, _⟩ => ⟨S11008x4096, .bf16⟩
  | .hbm, ⟨29, _⟩ => ⟨S16384x4096, .f32⟩
  | .hbm, ⟨30, _⟩ => ⟨S1x4096, .f32⟩
  | .hbm, ⟨31, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S1024x4096, .bf16⟩
  | .local _ .vmem, ⟨10, _⟩ => ⟨S4096x1024, .bf16⟩
  | .local _ .vmem, ⟨11, _⟩ => ⟨S4096x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S512x4096, .f32⟩
  | .local _ .vmem, ⟨17, _⟩ => ⟨S512x4096, .f32⟩
  | .local _ .vmem, ⟨18, _⟩ => ⟨S1x4096, .f32⟩
  | .local _ .vmem, ⟨19, _⟩ => ⟨S512x4096, .bf16⟩
  | .local _ .vmem, ⟨20, _⟩ => ⟨S512x4096, .bf16⟩
  | .local _ .vmem, ⟨21, _⟩ => ⟨S2048x4096, .bf16⟩
  | .local _ .vmem, ⟨22, _⟩ => ⟨S2048x4096, .bf16⟩
  | .local _ .vmem, ⟨23, _⟩ => ⟨S4096x256, .bf16⟩
  | .local _ .vmem, ⟨24, _⟩ => ⟨S4096x256, .bf16⟩
  | .local _ .vmem, ⟨25, _⟩ => ⟨S4096x256, .bf16⟩
  | .local _ .vmem, ⟨26, _⟩ => ⟨S4096x256, .bf16⟩
  | .local _ .vmem, ⟨27, _⟩ => ⟨S2048x256, .bf16⟩
  | .local _ .vmem, ⟨28, _⟩ => ⟨S2048x256, .bf16⟩
  | .local _ .vmem, ⟨29, _⟩ => ⟨S512x11008, .bf16⟩
  | .local _ .vmem, ⟨30, _⟩ => ⟨S512x11008, .bf16⟩
  | .local _ .vmem, ⟨31, _⟩ => ⟨S11008x512, .bf16⟩
  | .local _ .vmem, ⟨32, _⟩ => ⟨S11008x512, .bf16⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x4096, .f32⟩
  | .local _ .vmem, ⟨38, _⟩ => ⟨S512x4096, .f32⟩
  | .local _ .vmem, ⟨39, _⟩ => ⟨S1x4096, .f32⟩
  | .local _ .vmem, ⟨40, _⟩ => ⟨S512x4096, .f32⟩
  | .local _ .vmem, ⟨41, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![32, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x11008 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S11008x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== Kernel3Ideal.lean ====
abbrev S16384x4096 : Shape := ⟨2, ![16384, 4096]⟩
abbrev S16384x2048 : Shape := ⟨2, ![16384, 2048]⟩
abbrev S1x2048 : Shape := ⟨2, ![1, 2048]⟩
abbrev S1x4096x4096 : Shape := ⟨3, ![1, 4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S2048 : Shape := ⟨1, ![2048]⟩
abbrev S512x2048 : Shape := ⟨2, ![512, 2048]⟩
abbrev S512x4096 : Shape := ⟨2, ![512, 4096]⟩
abbrev S512 : Shape := ⟨1, ![512]⟩
abbrev S512x1 : Shape := ⟨2, ![512, 1]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩
abbrev S4096x11008 : Shape := ⟨2, ![4096, 11008]⟩
abbrev S16384x11008 : Shape := ⟨2, ![16384, 11008]⟩
abbrev S2048x4096 : Shape := ⟨2, ![2048, 4096]⟩
abbrev S4096x256 : Shape := ⟨2, ![4096, 256]⟩
abbrev S2048x256 : Shape := ⟨2, ![2048, 256]⟩
abbrev S11008x4096 : Shape := ⟨2, ![11008, 4096]⟩
abbrev S512x11008 : Shape := ⟨2, ![512, 11008]⟩
abbrev S11008x512 : Shape := ⟨2, ![11008, 512]⟩
abbrev S512x512 : Shape := ⟨2, ![512, 512]⟩

abbrev nBuf : Space → Nat
  | .hbm => 32
  | .vmem => 42
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S1x4096x4096, .f32⟩
  | .hbm, ⟨6, _⟩ => ⟨S1x4096, .f32⟩
  | .hbm, ⟨7, _⟩ => ⟨S1x4096x11008, .f32⟩
  | .hbm, ⟨8, _⟩ => ⟨S1x4096x11008, .f32⟩
  | .hbm, ⟨9, _⟩ => ⟨S1x11008x4096, .f32⟩
  | .hbm, ⟨10, _⟩ => ⟨S4096, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S16384x4096, .bf16⟩
  | .hbm, ⟨16, _⟩ => ⟨S4096x4096, .f32⟩
  | .hbm, ⟨17, _⟩ => ⟨S4096x4096, .bf16⟩
  | .hbm, ⟨18, _⟩ => ⟨S16384x4096, .f32⟩
  | .hbm, ⟨19, _⟩ => ⟨S4096, .f32⟩
  | .hbm, ⟨20, _⟩ => ⟨S1x4096, .f32⟩
  | .hbm, ⟨21, _⟩ => ⟨S16384x4096, .bf16⟩
  | .hbm, ⟨22, _⟩ => ⟨S4096x11008, .f32⟩
  | .hbm, ⟨23, _⟩ => ⟨S4096x11008, .bf16⟩
  | .hbm, ⟨24, _⟩ => ⟨S4096x11008, .f32⟩
  | .hbm, ⟨25, _⟩ => ⟨S4096x11008, .bf16⟩
  | .hbm, ⟨26, _⟩ => ⟨S16384x11008, .bf16⟩
  | .hbm, ⟨27, _⟩ => ⟨S11008x4096, .f32⟩
  | .hbm, ⟨28, _⟩ => ⟨S11008x4096, .bf16⟩
  | .hbm, ⟨29, _⟩ => ⟨S16384x4096, .f32⟩
  | .hbm, ⟨30, _⟩ => ⟨S1x4096, .f32⟩
  | .hbm, ⟨31, _⟩ => ⟨S16384x4096, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x4096, .bf16⟩
  | .local _ .vmem, ⟨7, _⟩ => ⟨S512x4096, .bf16⟩
  | .local _ .vmem, ⟨8, _⟩ => ⟨S1024x4096, .bf16⟩
  | .local _ .vmem, ⟨9, _⟩ => ⟨S1024x4096, .bf16⟩
  | .local _ .vmem, ⟨10, _⟩ => ⟨S4096x1024, .bf16⟩
  | .local _ .vmem, ⟨11, _⟩ => ⟨S4096x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S512x4096, .f32⟩
  | .local _ .vmem, ⟨17, _⟩ => ⟨S512x4096, .f32⟩
  | .local _ .vmem, ⟨18, _⟩ => ⟨S1x4096, .f32⟩
  | .local _ .vmem, ⟨19, _⟩ => ⟨S512x4096, .bf16⟩
  | .local _ .vmem, ⟨20, _⟩ => ⟨S512x4096, .bf16⟩
  | .local _ .vmem, ⟨21, _⟩ => ⟨S2048x4096, .bf16⟩
  | .local _ .vmem, ⟨22, _⟩ => ⟨S2048x4096, .bf16⟩
  | .local _ .vmem, ⟨23, _⟩ => ⟨S4096x256, .bf16⟩
  | .local _ .vmem, ⟨24, _⟩ => ⟨S4096x256, .bf16⟩
  | .local _ .vmem, ⟨25, _⟩ => ⟨S4096x256, .bf16⟩
  | .local _ .vmem, ⟨26, _⟩ => ⟨S4096x256, .bf16⟩
  | .local _ .vmem, ⟨27, _⟩ => ⟨S2048x256, .bf16⟩
  | .local _ .vmem, ⟨28, _⟩ => ⟨S2048x256, .bf16⟩
  | .local _ .vmem, ⟨29, _⟩ => ⟨S512x11008, .bf16⟩
  | .local _ .vmem, ⟨30, _⟩ => ⟨S512x11008, .bf16⟩
  | .local _ .vmem, ⟨31, _⟩ => ⟨S11008x512, .bf16⟩
  | .local _ .vmem, ⟨32, _⟩ => ⟨S11008x512, .bf16⟩
  | .local _ .vmem, ⟨33, _⟩ => ⟨S512x512, .f32⟩
  | .local _ .vmem, ⟨34, _⟩ => ⟨S512x512, .f32⟩
  | .local _ .vmem, ⟨35, _⟩ => ⟨S512x512, .f32⟩
  | .local _ .vmem, ⟨36, _⟩ => ⟨S512x512, .f32⟩
  | .local _ .vmem, ⟨37, _⟩ => ⟨S512x4096, .f32⟩
  | .local _ .vmem, ⟨38, _⟩ => ⟨S512x4096, .f32⟩
  | .local _ .vmem, ⟨39, _⟩ => ⟨S1x4096, .f32⟩
  | .local _ .vmem, ⟨40, _⟩ => ⟨S512x4096, .f32⟩
  | .local _ .vmem, ⟨41, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg2_0 : Ref sig .tc := ⟨.vmem, 40, rfl⟩
abbrev cc5_stg2_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc5_sem0_0 : DmaSem sig := 37
abbrev cc5_sem0_1 : DmaSem sig := 38
abbrev cc5_sem1_0 : DmaSem sig := 39
abbrev cc5_sem2_0 : DmaSem sig := 40
abbrev cc5_sem2_1 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![32, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x11008 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S11008x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![32], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x4096 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S512x4096 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== Reference3Ideal.lean ====
abbrev S16384x4096 : Shape := ⟨2, ![16384, 4096]⟩
abbrev S16384x2048 : Shape := ⟨2, ![16384, 2048]⟩
abbrev S1x2048 : Shape := ⟨2, ![1, 2048]⟩
abbrev S1x4096x4096 : Shape := ⟨3, ![1, 4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S2048 : Shape := ⟨1, ![2048]⟩
abbrev S_ : Shape := ⟨0, ![]⟩
abbrev S16384 : Shape := ⟨1, ![16384]⟩
abbrev S16384x1 : Shape := ⟨2, ![16384, 1]⟩
abbrev S4096x4096 : Shape := ⟨2, ![4096, 4096]⟩
abbrev S4096x11008 : Shape := ⟨2, ![4096, 11008]⟩
abbrev S16384x11008 : Shape := ⟨2, ![16384, 11008]⟩
abbrev S11008x4096 : Shape := ⟨2, ![11008, 4096]⟩

abbrev nBuf : Space → Nat
  | .hbm => 99
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x2048, .f32⟩
  | .hbm, ⟨2, _⟩ => ⟨S16384x2048, .f32⟩
  | .hbm, ⟨3, _⟩ => ⟨S1x2048, .f32⟩
  | .hbm, ⟨4, _⟩ => ⟨S1x2048, .f32⟩
  | .hbm, ⟨5, _⟩ => ⟨S1x4096x4096, .f32⟩
  | .hbm, ⟨6, _⟩ => ⟨S1x4096, .f32⟩
  | .hbm, ⟨7, _⟩ => ⟨S1x4096x11008, .f32⟩
  | .hbm, ⟨8, _⟩ => ⟨S1x4096x11008, .f32⟩
  | .hbm, ⟨9, _⟩ => ⟨S1x11008x4096, .f32⟩
  | .hbm, ⟨10, _⟩ => ⟨S4096, .f32⟩
  | .hbm, ⟨11, _⟩ => ⟨S2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x2048, .f32⟩
  | .hbm, ⟨24, _⟩ => ⟨S16384x2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S2048, .f32⟩
  | .hbm, ⟨29, _⟩ => ⟨S16384x2048, .f32⟩
  | .hbm, ⟨30, _⟩ => ⟨S_, .f32⟩
  | .hbm, ⟨31, _⟩ => ⟨S16384, .f32⟩
  | .hbm, ⟨32, _⟩ => ⟨S16384x1, .f32⟩
  | .hbm, ⟨33, _⟩ => ⟨S_, .f32⟩
  | .hbm, ⟨34, _⟩ => ⟨S16384x1, .f32⟩
  | .hbm, ⟨35, _⟩ => ⟨S16384x1, .f32⟩
  | .hbm, ⟨36, _⟩ => ⟨S_, .f32⟩
  | .hbm, ⟨37, _⟩ => ⟨S16384x1, .f32⟩
  | .hbm, ⟨38, _⟩ => ⟨S16384x1, .f32⟩
  | .hbm, ⟨39, _⟩ => ⟨S16384x1, .f32⟩
  | .hbm, ⟨40, _⟩ => ⟨S16384x2048, .f32⟩
  | .hbm, ⟨41, _⟩ => ⟨S16384x2048, .f32⟩
  | .hbm, ⟨42, _⟩ => ⟨S1x2048, .f32⟩
  | .hbm, ⟨43, _⟩ => ⟨S16384x2048, .f32⟩
  | .hbm, ⟨44, _⟩ => ⟨S16384x2048, .f32⟩
  | .hbm, ⟨45, _⟩ => ⟨S16384x4096, .f32⟩
  | .hbm, ⟨46, _⟩ => ⟨S4096x4096, .f32⟩
  | .hbm, ⟨47, _⟩ => ⟨S16384x4096, .f32⟩
  | .hbm, ⟨48, _⟩ => ⟨S16384x4096, .f32⟩
  | .hbm, ⟨49, _⟩ => ⟨S4096, .f32⟩
  | .hbm, ⟨50, _⟩ => ⟨S16384x4096, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x4096, .f32⟩
  | .hbm, ⟨62, _⟩ => ⟨S16384x4096, .f32⟩
  | .hbm, ⟨63, _⟩ => ⟨S1x4096, .f32⟩
  | .hbm, ⟨64, _⟩ => ⟨S16384x4096, .f32⟩
  | .hbm, ⟨65, _⟩ => ⟨S16384x4096, .f32⟩
  | .hbm, ⟨66, _⟩ => ⟨S4096x11008, .f32⟩
  | .hbm, ⟨67, _⟩ => ⟨S16384x11008, .f32⟩
  | .hbm, ⟨68, _⟩ => ⟨S16384x11008, .f32⟩
  | .hbm, ⟨69, _⟩ => ⟨S16384x11008, .f32⟩
  | .hbm, ⟨70, _⟩ => ⟨S_, .f32⟩
  | .hbm, ⟨71, _⟩ => ⟨S16384x11008, .f32⟩
  | .hbm, ⟨72, _⟩ => ⟨S16384x11008, .f32⟩
  | .hbm, ⟨73, _⟩ => ⟨S_, .f32⟩
  | .hbm, ⟨74, _⟩ => ⟨S16384x11008, .f32⟩
  | .hbm, ⟨75, _⟩ => ⟨S16384x11008, .f32⟩
  | .hbm, ⟨76, _⟩ => ⟨S16384x11008, .f32⟩
  | .hbm, ⟨77, _⟩ => ⟨S4096x11008, .f32⟩
  | .hbm, ⟨78, _⟩ => ⟨S16384x11008, .f32⟩
  | .hbm, ⟨79, _⟩ => ⟨S16384x11008, .f32⟩
  | .hbm, ⟨80, _⟩ => ⟨S11008x4096, .f32⟩
  | .hbm, ⟨81, _⟩ => ⟨S16384x4096, .f32⟩
  | .hbm, ⟨82, _⟩ => ⟨S16384x4096, .f32⟩
  | .hbm, ⟨83, _⟩ => ⟨S16384x4096, .f32⟩
  | .hbm, ⟨84, _⟩ => ⟨S_, .f32⟩
  | .hbm, ⟨85, _⟩ => ⟨S16384, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S16384x1, .f32⟩
  | .hbm, ⟨92, _⟩ => ⟨S16384x1, .f32⟩
  | .hbm, ⟨93, _⟩ => ⟨S16384x1, .f32⟩
  | .hbm, ⟨94, _⟩ => ⟨S16384x4096, .f32⟩
  | .hbm, ⟨95, _⟩ => ⟨S16384x4096, .f32⟩
  | .hbm, ⟨96, _⟩ => ⟨S1x4096, .f32⟩
  | .hbm, ⟨97, _⟩ => ⟨S16384x4096, .f32⟩
  | .hbm, ⟨98, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kernel4.lean ====
abbrev S16384x4096 : Shape := ⟨2, ![16384, 4096]⟩
abbrev S1x4096 : Shape := ⟨2, ![1, 4096]⟩
abbrev S1x4096x12304 : Shape := ⟨3, ![1, 4096, 12304]⟩
abbrev S1x16 : Shape := ⟨2, ![1, 16]⟩
abbrev S4096x12304 : Shape := ⟨2, ![4096, 12304]⟩
abbrev S12304x4096 : Shape := ⟨2, ![12304, 4096]⟩
abbrev S16x4096 : Shape := ⟨2, ![16, 4096]⟩
abbrev S_ : Shape := ⟨0, ![]⟩
abbrev S128x4096 : Shape := ⟨2, ![128, 4096]⟩
abbrev S16 : Shape := ⟨1, ![16]⟩
abbrev S128 : Shape := ⟨1, ![128]⟩
abbrev S1x128 : Shape := ⟨2, ![1, 128]⟩
abbrev S4096 : Shape := ⟨1, ![4096]⟩
abbrev S16384x128 : Shape := ⟨2, ![16384, 128]⟩
abbrev S2048x4096 : Shape := ⟨2, ![2048, 4096]⟩
abbrev S512x4096 : Shape := ⟨2, ![512, 4096]⟩
abbrev S64x4096 : Shape := ⟨2, ![64, 4096]⟩
abbrev S512x128 : Shape := ⟨2, ![512, 128]⟩
abbrev S512 : Shape := ⟨1, ![512]⟩
abbrev S512x1 : Shape := ⟨2, ![512, 1]⟩
abbrev S16384x16 : Shape := ⟨2, ![16384, 16]⟩

abbrev nBuf : Space → Nat
  | .hbm => 22
  | .vmem => 13
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x12304, .f32⟩
  | .hbm, ⟨3, _⟩ => ⟨S1x16, .f32⟩
  | .hbm, ⟨4, _⟩ => ⟨S4096x12304, .f32⟩
  | .hbm, ⟨5, _⟩ => ⟨S12304x4096, .f32⟩
  | .hbm, ⟨6, _⟩ => ⟨S16x4096, .f32⟩
  | .hbm, ⟨7, _⟩ => ⟨S_, .i32⟩
  | .hbm, ⟨8, _⟩ => ⟨S_, .f32⟩
  | .hbm, ⟨9, _⟩ => ⟨S128x4096, .f32⟩
  | .hbm, ⟨10, _⟩ => ⟨S128x4096, .bf16⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S4096, .f32⟩
  | .hbm, ⟨17, _⟩ => ⟨S1x4096, .f32⟩
  | .hbm, ⟨18, _⟩ => ⟨S16384x4096, .bf16⟩
  | .hbm, ⟨19, _⟩ => ⟨S16384x128, .f32⟩
  | .hbm, ⟨20, _⟩ => ⟨S2048x4096, .bf16⟩
  | .hbm, ⟨21, _⟩ => ⟨S16384x16, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S128x4096, .bf16⟩
  | .local _ .vmem, ⟨4, _⟩ => ⟨S1x128, .f32⟩
  | .local _ .vmem, ⟨5, _⟩ => ⟨S64x4096, .f32⟩
  | .local _ .vmem, ⟨6, _⟩ => ⟨S64x4096, .f32⟩
  | .local _ .vmem, ⟨7, _⟩ => ⟨S512x4096, .bf16⟩
  | .local _ .vmem, ⟨8, _⟩ => ⟨S512x4096, .bf16⟩
  | .local _ .vmem, ⟨9, _⟩ => ⟨S512x128, .f32⟩
  | .local _ .vmem, ⟨10, _⟩ => ⟨S512x128, .f32⟩
  | .local _ .vmem, ⟨11, _⟩ => ⟨S64x4096, .bf16⟩
  | .local _ .vmem, ⟨12, _⟩ => ⟨S64x4096, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16384x4096 : Shape := ⟨2, ![16384, 4096]⟩
abbrev S1x4096 : Shape := ⟨2, ![1, 4096]⟩
abbrev S1x4096x12304 : Shape := ⟨3, ![1, 4096, 12304]⟩
abbrev S1x16 : Shape := ⟨2, ![1, 16]⟩
abbrev S4096x12304 : Shape := ⟨2, ![4096, 12304]⟩
abbrev S4096 : Shape := ⟨1, ![4096]⟩
abbrev S_ : Shape := ⟨0, ![]⟩
abbrev S16384 : Shape := ⟨1, ![16384]⟩
abbrev S16384x1 : Shape := ⟨2, ![16384, 1]⟩
abbrev S4096x16 : Shape := ⟨2, ![4096, 16]⟩
abbrev S16384x16 : Shape := ⟨2, ![16384, 16]⟩
abbrev S16 : Shape := ⟨1, ![16]⟩
abbrev S4096x2048 : Shape := ⟨2, ![4096, 2048]⟩
abbrev S2048x4096 : Shape := ⟨2, ![2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S1x4096, .f32⟩
  | .hbm, ⟨2, _⟩ => ⟨S1x4096x12304, .f32⟩
  | .hbm, ⟨3, _⟩ => ⟨S1x16, .f32⟩
  | .hbm, ⟨4, _⟩ => ⟨S4096x12304, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S4096x16, .f32⟩
  | .hbm, ⟨23, _⟩ => ⟨S16384x16, .f32⟩
  | .hbm, ⟨24, _⟩ => ⟨S16, .f32⟩
  | .hbm, ⟨25, _⟩ => ⟨S1x16, .f32⟩
  | .hbm, ⟨26, _⟩ => ⟨S16384x16, .f32⟩
  | .hbm, ⟨27, _⟩ => ⟨S16384x16, .f32⟩
  | .hbm, ⟨28, _⟩ => ⟨S16384x16, .f32⟩
  | .hbm, ⟨29, _⟩ => ⟨S_, .f32⟩
  | .hbm, ⟨30, _⟩ => ⟨S16384x16, .f32⟩
  | .hbm, ⟨31, _⟩ => ⟨S16384x16, .f32⟩
  | .hbm, ⟨32, _⟩ => ⟨S16384x16, .f32⟩
  | .hbm, ⟨33, _⟩ => ⟨S16384x16, .f32⟩
  | .hbm, ⟨34, _⟩ => ⟨S16384x16, .i1⟩
  | .hbm, ⟨35, _⟩ => ⟨S16384x16, .f32⟩
  | .hbm, ⟨36, _⟩ => ⟨S16384x16, .f32⟩
  | .hbm, ⟨37, _⟩ => ⟨S16384x16, .f32⟩
  | .hbm, ⟨38, _⟩ => ⟨S16384x16, .f32⟩
  | .hbm, ⟨39, _⟩ => ⟨S16384x16, .f32⟩
  | .hbm, ⟨40, _⟩ => ⟨S16384x16, .f32⟩
  | .hbm, ⟨41, _⟩ => ⟨S16384x16, .f32⟩
  | .hbm, ⟨42, _⟩ => ⟨S16384x16, .f32⟩
  | .hbm, ⟨43, _⟩ => ⟨S16384x16, .f32⟩
  | .hbm, ⟨44, _⟩ => ⟨S16384x4096, .bf16⟩
  | .hbm, ⟨45, _⟩ => ⟨S4096x2048, .f32⟩
  | .hbm, ⟨46, _⟩ => ⟨S2048x4096, .f32⟩
  | .hbm, ⟨47, _⟩ => ⟨S2048x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩

abbrev nD : Nat := 1
abbrev τ : Topo := Topo.v7x

variable {F : FTy → Type} [FloatOps F]
-- ==== Kernel5.lean ====
abbrev S16384x4096 : Shape := ⟨2, ![16384, 4096]⟩
abbrev S2048x4096 : Shape := ⟨2, ![2048, 4096]⟩
abbrev S262144x128 : Shape := ⟨2, ![262144, 128]⟩
abbrev S16384x2048 : Shape := ⟨2, ![16384, 2048]⟩
abbrev S512x4096 : Shape := ⟨2, ![512, 4096]⟩
abbrev S8192x128 : Shape := ⟨2, ![8192, 128]⟩
abbrev S512x2048 : Shape := ⟨2, ![512, 2048]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2048x4096, .bf16⟩
  | .hbm, ⟨2, _⟩ => ⟨S262144x128, .f32⟩
  | .hbm, ⟨3, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S2048x4096, .bf16⟩
  | .local _ .vmem, ⟨3, _⟩ => ⟨S8192x128, .f32⟩
  | .local _ .vmem, ⟨4, _⟩ => ⟨S8192x128, .f32⟩
  | .local _ .vmem, ⟨5, _⟩ => ⟨S512x2048, .bf16⟩
  | .local _ .vmem, ⟨6, _⟩ => ⟨S512x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Kernel5Ideal.lean ====
abbrev S16384x4096 : Shape := ⟨2, ![16384, 4096]⟩
abbrev S2048x4096 : Shape := ⟨2, ![2048, 4096]⟩
abbrev S262144x128 : Shape := ⟨2, ![262144, 128]⟩
abbrev S16384x2048 : Shape := ⟨2, ![16384, 2048]⟩
abbrev S512x4096 : Shape := ⟨2, ![512, 4096]⟩
abbrev S8192x128 : Shape := ⟨2, ![8192, 128]⟩
abbrev S512x2048 : Shape := ⟨2, ![512, 2048]⟩
abbrev S512x128 : Shape := ⟨2, ![512, 128]⟩

abbrev nBuf : Space → Nat
  | .hbm => 4
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S2048x4096, .bf16⟩
  | .hbm, ⟨2, _⟩ => ⟨S262144x128, .f32⟩
  | .hbm, ⟨3, _⟩ => ⟨S16384x2048, .bf16⟩
  | .local _ .vmem, ⟨0, _⟩ => ⟨S512x4096, .bf16⟩
  | .local _ .vmem, ⟨1, _⟩ => ⟨S512x4096, .bf16⟩
  | .local _ .vmem, ⟨2, _⟩ => ⟨S2048x4096, .bf16⟩
  | .local _ .vmem, ⟨3, _⟩ => ⟨S8192x128, .f32⟩
  | .local _ .vmem, ⟨4, _⟩ => ⟨S8192x128, .f32⟩
  | .local _ .vmem, ⟨5, _⟩ => ⟨S512x2048, .bf16⟩
  | .local _ .vmem, ⟨6, _⟩ => ⟨S512x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S16384x4096 : Shape := ⟨2, ![16384, 4096]⟩
abbrev S2048x4096 : Shape := ⟨2, ![2048, 4096]⟩
abbrev S4096x2048 : Shape := ⟨2, ![4096, 2048]⟩
abbrev S16384x2048 : Shape := ⟨2, ![16384, 2048]⟩
abbrev S262144x128 : Shape := ⟨2, ![262144, 128]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2048x4096, .bf16⟩
  | .hbm, ⟨2, _⟩ => ⟨S16384x4096, .f32⟩
  | .hbm, ⟨3, _⟩ => ⟨S2048x4096, .f32⟩
  | .hbm, ⟨4, _⟩ => ⟨S4096x2048, .f32⟩
  | .hbm, ⟨5, _⟩ => ⟨S16384x2048, .f32⟩
  | .hbm, ⟨6, _⟩ => ⟨S262144x128, .f32⟩
  | .hbm, ⟨7, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel6.lean ====
abbrev S512x4096 : Shape := ⟨2, ![512, 4096]⟩
abbrev S1x4096 : Shape := ⟨2, ![1, 4096]⟩
abbrev S1x4096x12304 : Shape := ⟨3, ![1, 4096, 12304]⟩
abbrev S1x16 : Shape := ⟨2, ![1, 16]⟩
abbrev S4096x12304 : Shape := ⟨2, ![4096, 12304]⟩
abbrev S12304x4096 : Shape := ⟨2, ![12304, 4096]⟩
abbrev S16x4096 : Shape := ⟨2, ![16, 4096]⟩
abbrev S_ : Shape := ⟨0, ![]⟩
abbrev S128x4096 : Shape := ⟨2, ![128, 4096]⟩
abbrev S16 : Shape := ⟨1, ![16]⟩
abbrev S128 : Shape := ⟨1, ![128]⟩
abbrev S1x128 : Shape := ⟨2, ![1, 128]⟩
abbrev S4096 : Shape := ⟨1, ![4096]⟩
abbrev S512x128 : Shape := ⟨2, ![512, 128]⟩
abbrev S512 : Shape := ⟨1, ![512]⟩
abbrev S512x1 : Shape := ⟨2, ![512, 1]⟩
abbrev S512x16 : Shape := ⟨2, ![512, 16]⟩

abbrev nBuf : Space → Nat
  | .hbm => 21
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096x12304, .f32⟩
  | .hbm, ⟨3, _⟩ => ⟨S1x16, .f32⟩
  | .hbm, ⟨4, _⟩ => ⟨S4096x12304, .f32⟩
  | .hbm, ⟨5, _⟩ => ⟨S12304x4096, .f32⟩
  | .hbm, ⟨6, _⟩ => ⟨S16x4096, .f32⟩
  | .hbm, ⟨7, _⟩ => ⟨S_, .i32⟩
  | .hbm, ⟨8, _⟩ => ⟨S_, .f32⟩
  | .hbm, ⟨9, _⟩ => ⟨S128x4096, .f32⟩
  | .hbm, ⟨10, _⟩ => ⟨S128x4096, .bf16⟩
  | .hbm, ⟨11, _⟩ => ⟨S16, .f32⟩
  | .hbm, ⟨12, _⟩ => ⟨S_, .i32⟩
  | .hbm, ⟨13, _⟩ => ⟨S_, .f32⟩
  | .hbm, ⟨14, _⟩ => ⟨S128, .f32⟩
  | .hbm, ⟨15, _⟩ => ⟨S1x128, .f32⟩
  | .hbm, ⟨16, _⟩ => ⟨S4096, .f32⟩
  | .hbm, ⟨17, _⟩ => ⟨S1x4096, .f32⟩
  | .hbm, ⟨18, _⟩ => ⟨S512x4096, .bf16⟩
  | .hbm, ⟨19, _⟩ => ⟨S512x128, .f32⟩
  | .hbm, ⟨20, _⟩ => ⟨S512x16, .f32⟩
  | .local _ .vmem, ⟨0, _⟩ => ⟨S512x4096, .f32⟩
  | .local _ .vmem, ⟨1, _⟩ => ⟨S1x4096, .f32⟩
  | .local _ .vmem, ⟨2, _⟩ => ⟨S128x4096, .bf16⟩
  | .local _ .vmem, ⟨3, _⟩ => ⟨S1x128, .f32⟩
  | .local _ .vmem, ⟨4, _⟩ => ⟨S512x4096, .bf16⟩
  | .local _ .vmem, ⟨5, _⟩ => ⟨S512x128, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call1_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== Reference6Ideal.lean ====
abbrev S512x4096 : Shape := ⟨2, ![512, 4096]⟩
abbrev S1x4096 : Shape := ⟨2, ![1, 4096]⟩
abbrev S1x4096x12304 : Shape := ⟨3, ![1, 4096, 12304]⟩
abbrev S1x16 : Shape := ⟨2, ![1, 16]⟩
abbrev S4096 : Shape := ⟨1, ![4096]⟩
abbrev S_ : Shape := ⟨0, ![]⟩
abbrev S512 : Shape := ⟨1, ![512]⟩
abbrev S512x1 : Shape := ⟨2, ![512, 1]⟩
abbrev S4096x12304 : Shape := ⟨2, ![4096, 12304]⟩
abbrev S4096x16 : Shape := ⟨2, ![4096, 16]⟩
abbrev S512x16 : Shape := ⟨2, ![512, 16]⟩
abbrev S16 : Shape := ⟨1, ![16]⟩

abbrev nBuf : Space → Nat
  | .hbm => 45
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S1x4096x12304, .f32⟩
  | .hbm, ⟨3, _⟩ => ⟨S1x16, .f32⟩
  | .hbm, ⟨4, _⟩ => ⟨S4096, .f32⟩
  | .hbm, ⟨5, _⟩ => ⟨S512x4096, .f32⟩
  | .hbm, ⟨6, _⟩ => ⟨S_, .f32⟩
  | .hbm, ⟨7, _⟩ => ⟨S512, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S_, .f32⟩
  | .hbm, ⟨13, _⟩ => ⟨S512x1, .f32⟩
  | .hbm, ⟨14, _⟩ => ⟨S512x1, .f32⟩
  | .hbm, ⟨15, _⟩ => ⟨S512x1, .f32⟩
  | .hbm, ⟨16, _⟩ => ⟨S512x4096, .f32⟩
  | .hbm, ⟨17, _⟩ => ⟨S512x4096, .f32⟩
  | .hbm, ⟨18, _⟩ => ⟨S1x4096, .f32⟩
  | .hbm, ⟨19, _⟩ => ⟨S512x4096, .f32⟩
  | .hbm, ⟨20, _⟩ => ⟨S512x4096, .f32⟩
  | .hbm, ⟨21, _⟩ => ⟨S4096x12304, .f32⟩
  | .hbm, ⟨22, _⟩ => ⟨S4096x16, .f32⟩
  | .hbm, ⟨23, _⟩ => ⟨S512x16, .f32⟩
  | .hbm, ⟨24, _⟩ => ⟨S16, .f32⟩
  | .hbm, ⟨25, _⟩ => ⟨S1x16, .f32⟩
  | .hbm, ⟨26, _⟩ => ⟨S512x16, .f32⟩
  | .hbm, ⟨27, _⟩ => ⟨S512x16, .f32⟩
  | .hbm, ⟨28, _⟩ => ⟨S512x16, .f32⟩
  | .hbm, ⟨29, _⟩ => ⟨S_, .f32⟩
  | .hbm, ⟨30, _⟩ => ⟨S512x16, .f32⟩
  | .hbm, ⟨31, _⟩ => ⟨S512x16, .f32⟩
  | .hbm, ⟨32, _⟩ => ⟨S512x16, .f32⟩
  | .hbm, ⟨33, _⟩ => ⟨S512x16, .f32⟩
  | .hbm, ⟨34, _⟩ => ⟨S512x16, .i1⟩
  | .hbm, ⟨35, _⟩ => ⟨S512x16, .f32⟩
  | .hbm, ⟨36, _⟩ => ⟨S512x16, .f32⟩
  | .hbm, ⟨37, _⟩ => ⟨S512x16, .f32⟩
  | .hbm, ⟨38, _⟩ => ⟨S512x16, .f32⟩
  | .hbm, ⟨39, _⟩ => ⟨S512x16, .f32⟩
  | .hbm, ⟨40, _⟩ => ⟨S512x16, .f32⟩
  | .hbm, ⟨41, _⟩ => ⟨S512x16, .f32⟩
  | .hbm, ⟨42, _⟩ => ⟨S512x16, .f32⟩
  | .hbm, ⟨43, _⟩ => ⟨S512x16, .f32⟩
  | .hbm, ⟨44, _⟩ => ⟨S512x4096, .bf16⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_call0_cst : Ref sig .tc := ⟨.hbm, 29, rfl⟩
abbrev main_call0_call0_v0 : Ref sig .tc := ⟨.hbm, 30, rfl⟩
abbrev main_call0_call0_v1 : Ref sig .tc := ⟨.hbm, 31, rfl⟩
abbrev main_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_v5 : Ref sig .tc := ⟨.hbm, 35, rfl⟩
abbrev main_call0_call0_v6 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_v9 : Ref sig .tc := ⟨.hbm, 39, rfl⟩
abbrev main_call0_call0_v10 : Ref sig .tc := ⟨.hbm, 40, rfl⟩
abbrev main_call0_call0_v11 : Ref sig .tc := ⟨.hbm, 41, rfl⟩
abbrev main_call0_v1 : Ref sig .tc := ⟨.hbm, 42, rfl⟩
abbrev main_v21 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Kernel7.lean ====
abbrev S512x4096 : Shape := ⟨2, ![512, 4096]⟩
abbrev S2048x4096 : Shape := ⟨2, ![2048, 4096]⟩
abbrev S8192x128 : Shape := ⟨2, ![8192, 128]⟩
abbrev S512x2048 : Shape := ⟨2, ![512, 2048]⟩
abbrev S512x128 : Shape := ⟨2, ![512, 128]⟩

abbrev nBuf : Space → Nat
  | .hbm => 4
  | .vmem => 4
  | .smem => 0
  | _ => 0

abbrev bufTy : (tb : Table) → Fin (tcTables nBuf tb) → BufTy
  | .hbm, ⟨0, _⟩ => ⟨S512x4096, .bf16⟩
  | .hbm, ⟨1, _⟩ => ⟨S2048x4096, .bf16⟩
  | .hbm, ⟨2, _⟩ => ⟨S8192x128, .f32⟩
  | .hbm, ⟨3, _⟩ => ⟨S512x2048, .bf16⟩
  | .local _ .vmem, ⟨0, _⟩ => ⟨S512x4096, .bf16⟩
  | .local _ .vmem, ⟨1, _⟩ => ⟨S2048x4096, .bf16⟩
  | .local _ .vmem, ⟨2, _⟩ => ⟨S8192x128, .f32⟩
  | .local _ .vmem, ⟨3, _⟩ => ⟨S512x2048, .bf16⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference7Ideal.lean ====
abbrev S512x4096 : Shape := ⟨2, ![512, 4096]⟩
abbrev S2048x4096 : Shape := ⟨2, ![2048, 4096]⟩
abbrev S4096x2048 : Shape := ⟨2, ![4096, 2048]⟩
abbrev S512x2048 : Shape := ⟨2, ![512, 2048]⟩
abbrev S8192x128 : Shape := ⟨2, ![8192, 128]⟩

abbrev nBuf : Space → Nat
  | .hbm => 8
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S2048x4096, .bf16⟩
  | .hbm, ⟨2, _⟩ => ⟨S512x4096, .f32⟩
  | .hbm, ⟨3, _⟩ => ⟨S2048x4096, .f32⟩
  | .hbm, ⟨4, _⟩ => ⟨S4096x2048, .f32⟩
  | .hbm, ⟨5, _⟩ => ⟨S512x2048, .f32⟩
  | .hbm, ⟨6, _⟩ => ⟨S8192x128, .f32⟩
  | .hbm, ⟨7, _⟩ => ⟨S512x2048, .bf16⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel8.lean ====
abbrev S512x4096 : Shape := ⟨2, ![512, 4096]⟩
abbrev S512x2048 : Shape := ⟨2, ![512, 2048]⟩
abbrev S1x2048 : Shape := ⟨2, ![1, 2048]⟩
abbrev S1x4096x4096 : Shape := ⟨3, ![1, 4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S2048 : Shape := ⟨1, ![2048]⟩
abbrev S512 : Shape := ⟨1, ![512]⟩
abbrev S512x1 : Shape := ⟨2, ![512, 1]⟩
abbrev S4096x4096 : Shape := ⟨2, ![4096, 4096]⟩
abbrev S4096x1024 : Shape := ⟨2, ![4096, 1024]⟩
abbrev S512x1024 : Shape := ⟨2, ![512, 1024]⟩
abbrev S4096x11008 : Shape := ⟨2, ![4096, 11008]⟩
abbrev S512x11008 : Shape := ⟨2, ![512, 11008]⟩
abbrev S4096x256 : Shape := ⟨2, ![4096, 256]⟩
abbrev S512x256 : Shape := ⟨2, ![512, 256]⟩
abbrev S11008x4096 : Shape := ⟨2, ![11008, 4096]⟩
abbrev S11008x512 : Shape := ⟨2, ![11008, 512]⟩
abbrev S512x512 : Shape := ⟨2, ![512, 512]⟩

abbrev nBuf : Space → Nat
  | .hbm => 32
  | .vmem => 32
  | .smem => 0
  | _ => 0

abbrev bufTy : (tb : Table) → Fin (tcTables nBuf tb) → BufTy
  | .hbm, ⟨0, _⟩ => ⟨S512x4096, .f32⟩
  | .hbm, ⟨1, _⟩ => ⟨S512x2048, .f32⟩
  | .hbm, ⟨2, _⟩ => ⟨S512x2048, .f32⟩
  | .hbm, ⟨3, _⟩ => ⟨S1x2048, .f32⟩
  | .hbm, ⟨4, _⟩ => ⟨S1x2048, .f32⟩
  | .hbm, ⟨5, _⟩ => ⟨S1x4096x4096, .f32⟩
  | .hbm, ⟨6, _⟩ => ⟨S1x4096, .f32⟩
  | .hbm, ⟨7, _⟩ => ⟨S1x4096x11008, .f32⟩
  | .hbm, ⟨8, _⟩ => ⟨S1x4096x11008, .f32⟩
  | .hbm, ⟨9, _⟩ => ⟨S1x11008x4096, .f32⟩
  | .hbm, ⟨10, _⟩ => ⟨S4096, .f32⟩
  | .hbm, ⟨11, _⟩ => ⟨S2048, .f32⟩
  | .hbm, ⟨12, _⟩ => ⟨S2048, .f32⟩
  | .hbm, ⟨13, _⟩ => ⟨S1x2048, .f32⟩
  | .hbm, ⟨14, _⟩ => ⟨S1x2048, .f32⟩
  | .hbm, ⟨15, _⟩ => ⟨S512x4096, .bf16⟩
  | .hbm, ⟨16, _⟩ => ⟨S4096x4096, .f32⟩
  | .hbm, ⟨17, _⟩ => ⟨S4096x4096, .bf16⟩
  | .hbm, ⟨18, _⟩ => ⟨S512x4096, .f32⟩
  | .hbm, ⟨19, _⟩ => ⟨S4096, .f32⟩
  | .hbm, ⟨20, _⟩ => ⟨S1x4096, .f32⟩
  | .hbm, ⟨21, _⟩ => ⟨S512x4096, .bf16⟩
  | .hbm, ⟨22, _⟩ => ⟨S4096x11008, .f32⟩
  | .hbm, ⟨23, _⟩ => ⟨S4096x11008, .bf16⟩
  | .hbm, ⟨24, _⟩ => ⟨S4096x11008, .f32⟩
  | .hbm, ⟨25, _⟩ => ⟨S4096x11008, .bf16⟩
  | .hbm, ⟨26, _⟩ => ⟨S512x11008, .bf16⟩
  | .hbm, ⟨27, _⟩ => ⟨S11008x4096, .f32⟩
  | .hbm, ⟨28, _⟩ => ⟨S11008x4096, .bf16⟩
  | .hbm, ⟨29, _⟩ => ⟨S512x4096, .f32⟩
  | .hbm, ⟨30, _⟩ => ⟨S1x4096, .f32⟩
  | .hbm, ⟨31, _⟩ => ⟨S512x4096, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x4096, .bf16⟩
  | .local _ .vmem, ⟨5, _⟩ => ⟨S512x4096, .bf16⟩
  | .local _ .vmem, ⟨6, _⟩ => ⟨S4096x1024, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x4096, .f32⟩
  | .local _ .vmem, ⟨13, _⟩ => ⟨S1x4096, .f32⟩
  | .local _ .vmem, ⟨14, _⟩ => ⟨S512x4096, .bf16⟩
  | .local _ .vmem, ⟨15, _⟩ => ⟨S512x4096, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S512x256, .bf16⟩
  | .local _ .vmem, ⟨21, _⟩ => ⟨S512x256, .bf16⟩
  | .local _ .vmem, ⟨22, _⟩ => ⟨S512x11008, .bf16⟩
  | .local _ .vmem, ⟨23, _⟩ => ⟨S11008x512, .bf16⟩
  | .local _ .vmem, ⟨24, _⟩ => ⟨S11008x512, .bf16⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x4096, .f32⟩
  | .local _ .vmem, ⟨30, _⟩ => ⟨S1x4096, .f32⟩
  | .local _ .vmem, ⟨31, _⟩ => ⟨S512x4096, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg1_0 : Ref sig .tc := ⟨.vmem, 30, rfl⟩
abbrev cc5_stg2_0 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc3_sem3_0 : DmaSem sig := 20
abbrev cc3_sem3_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc4_sem3_0 : DmaSem sig := 27
abbrev cc4_sem3_1 : DmaSem sig := 28
abbrev cc5_sem0_0 : DmaSem sig := 29
abbrev cc5_sem1_0 : DmaSem sig := 30
abbrev cc5_sem2_0 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev grid1 : Pipeline.Grid := ⟨2, ![1, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S512x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S512x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1x4096 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x4096 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true]

abbrev grid3 : Pipeline.Grid := ⟨2, ![1, 43], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S512x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4096x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S512x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S512x11008 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S11008x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S512x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S512x4096 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x4096 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S512x4096 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]
-- ==== Reference8Ideal.lean ====
abbrev S512x4096 : Shape := ⟨2, ![512, 4096]⟩
abbrev S512x2048 : Shape := ⟨2, ![512, 2048]⟩
abbrev S1x2048 : Shape := ⟨2, ![1, 2048]⟩
abbrev S1x4096x4096 : Shape := ⟨3, ![1, 4096, 4096]⟩
abbrev S1x4096 : Shape := ⟨2, ![1, 4096]⟩
abbrev S1x4096x11008 : Shape := ⟨3, ![1, 4096, 11008]⟩
abbrev S1x11008x4096 : Shape := ⟨3, ![1, 11008, 4096]⟩
abbrev S4096 : Shape := ⟨1, ![4096]⟩
abbrev S2048 : Shape := ⟨1, ![2048]⟩
abbrev S_ : Shape := ⟨0, ![]⟩
abbrev S512 : Shape := ⟨1, ![512]⟩
abbrev S512x1 : Shape := ⟨2, ![512, 1]⟩
abbrev S4096x4096 : Shape := ⟨2, ![4096, 4096]⟩
abbrev S4096x11008 : Shape := ⟨2, ![4096, 11008]⟩
abbrev S512x11008 : Shape := ⟨2, ![512, 11008]⟩
abbrev S11008x4096 : Shape := ⟨2, ![11008, 4096]⟩

abbrev nBuf : Space → Nat
  | .hbm => 99
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S512x2048, .f32⟩
  | .hbm, ⟨2, _⟩ => ⟨S512x2048, .f32⟩
  | .hbm, ⟨3, _⟩ => ⟨S1x2048, .f32⟩
  | .hbm, ⟨4, _⟩ => ⟨S1x2048, .f32⟩
  | .hbm, ⟨5, _⟩ => ⟨S1x4096x4096, .f32⟩
  | .hbm, ⟨6, _⟩ => ⟨S1x4096, .f32⟩
  | .hbm, ⟨7, _⟩ => ⟨S1x4096x11008, .f32⟩
  | .hbm, ⟨8, _⟩ => ⟨S1x4096x11008, .f32⟩
  | .hbm, ⟨9, _⟩ => ⟨S1x11008x4096, .f32⟩
  | .hbm, ⟨10, _⟩ => ⟨S4096, .f32⟩
  | .hbm, ⟨11, _⟩ => ⟨S2048, .f32⟩
  | .hbm, ⟨12, _⟩ => ⟨S512x2048, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S_, .f32⟩
  | .hbm, ⟨20, _⟩ => ⟨S512x1, .f32⟩
  | .hbm, ⟨21, _⟩ => ⟨S512x1, .f32⟩
  | .hbm, ⟨22, _⟩ => ⟨S512x1, .f32⟩
  | .hbm, ⟨23, _⟩ => ⟨S512x2048, .f32⟩
  | .hbm, ⟨24, _⟩ => ⟨S512x2048, .f32⟩
  | .hbm, ⟨25, _⟩ => ⟨S1x2048, .f32⟩
  | .hbm, ⟨26, _⟩ => ⟨S512x2048, .f32⟩
  | .hbm, ⟨27, _⟩ => ⟨S512x2048, .f32⟩
  | .hbm, ⟨28, _⟩ => ⟨S2048, .f32⟩
  | .hbm, ⟨29, _⟩ => ⟨S512x2048, .f32⟩
  | .hbm, ⟨30, _⟩ => ⟨S_, .f32⟩
  | .hbm, ⟨31, _⟩ => ⟨S512, .f32⟩
  | .hbm, ⟨32, _⟩ => ⟨S512x1, .f32⟩
  | .hbm, ⟨33, _⟩ => ⟨S_, .f32⟩
  | .hbm, ⟨34, _⟩ => ⟨S512x1, .f32⟩
  | .hbm, ⟨35, _⟩ => ⟨S512x1, .f32⟩
  | .hbm, ⟨36, _⟩ => ⟨S_, .f32⟩
  | .hbm, ⟨37, _⟩ => ⟨S512x1, .f32⟩
  | .hbm, ⟨38, _⟩ => ⟨S512x1, .f32⟩
  | .hbm, ⟨39, _⟩ => ⟨S512x1, .f32⟩
  | .hbm, ⟨40, _⟩ => ⟨S512x2048, .f32⟩
  | .hbm, ⟨41, _⟩ => ⟨S512x2048, .f32⟩
  | .hbm, ⟨42, _⟩ => ⟨S1x2048, .f32⟩
  | .hbm, ⟨43, _⟩ => ⟨S512x2048, .f32⟩
  | .hbm, ⟨44, _⟩ => ⟨S512x2048, .f32⟩
  | .hbm, ⟨45, _⟩ => ⟨S512x4096, .f32⟩
  | .hbm, ⟨46, _⟩ => ⟨S4096x4096, .f32⟩
  | .hbm, ⟨47, _⟩ => ⟨S512x4096, .f32⟩
  | .hbm, ⟨48, _⟩ => ⟨S512x4096, .f32⟩
  | .hbm, ⟨49, _⟩ => ⟨S4096, .f32⟩
  | .hbm, ⟨50, _⟩ => ⟨S512x4096, .f32⟩
  | .hbm, ⟨51, _⟩ => ⟨S_, .f32⟩
  | .hbm, ⟨52, _⟩ => ⟨S512, .f32⟩
  | .hbm, ⟨53, _⟩ => ⟨S512x1, .f32⟩
  | .hbm, ⟨54, _⟩ => ⟨S_, .f32⟩
  | .hbm, ⟨55, _⟩ => ⟨S512x1, .f32⟩
  | .hbm, ⟨56, _⟩ => ⟨S512x1, .f32⟩
  | .hbm, ⟨57, _⟩ => ⟨S_, .f32⟩
  | .hbm, ⟨58, _⟩ => ⟨S512x1, .f32⟩
  | .hbm, ⟨59, _⟩ => ⟨S512x1, .f32⟩
  | .hbm, ⟨60, _⟩ => ⟨S512x1, .f32⟩
  | .hbm, ⟨61, _⟩ => ⟨S512x4096, .f32⟩
  | .hbm, ⟨62, _⟩ => ⟨S512x4096, .f32⟩
  | .hbm, ⟨63, _⟩ => ⟨S1x4096, .f32⟩
  | .hbm, ⟨64, _⟩ => ⟨S512x4096, .f32⟩
  | .hbm, ⟨65, _⟩ => ⟨S512x4096, .f32⟩
  | .hbm, ⟨66, _⟩ => ⟨S4096x11008, .f32⟩
  | .hbm, ⟨67, _⟩ => ⟨S512x11008, .f32⟩
  | .hbm, ⟨68, _⟩ => ⟨S512x11008, .f32⟩
  | .hbm, ⟨69, _⟩ => ⟨S512x11008, .f32⟩
  | .hbm, ⟨70, _⟩ => ⟨S_, .f32⟩
  | .hbm, ⟨71, _⟩ => ⟨S512x11008, .f32⟩
  | .hbm, ⟨72, _⟩ => ⟨S512x11008, .f32⟩
  | .hbm, ⟨73, _⟩ => ⟨S_, .f32⟩
  | .hbm, ⟨74, _⟩ => ⟨S512x11008, .f32⟩
  | .hbm, ⟨75, _⟩ => ⟨S512x11008, .f32⟩
  | .hbm, ⟨76, _⟩ => ⟨S512x11008, .f32⟩
  | .hbm, ⟨77, _⟩ => ⟨S4096x11008, .f32⟩
  | .hbm, ⟨78, _⟩ => ⟨S512x11008, .f32⟩
  | .hbm, ⟨79, _⟩ => ⟨S512x11008, .f32⟩
  | .hbm, ⟨80, _⟩ => ⟨S11008x4096, .f32⟩
  | .hbm, ⟨81, _⟩ => ⟨S512x4096, .f32⟩
  | .hbm, ⟨82, _⟩ => ⟨S512x4096, .f32⟩
  | .hbm, ⟨83, _⟩ => ⟨S512x4096, .f32⟩
  | .hbm, ⟨84, _⟩ => ⟨S_, .f32⟩
  | .hbm, ⟨85, _⟩ => ⟨S512, .f32⟩
  | .hbm, ⟨86, _⟩ => ⟨S512x1, .f32⟩
  | .hbm, ⟨87, _⟩ => ⟨S_, .f32⟩
  | .hbm, ⟨88, _⟩ => ⟨S512x1, .f32⟩
  | .hbm, ⟨89, _⟩ => ⟨S512x1, .f32⟩
  | .hbm, ⟨90, _⟩ => ⟨S_, .f32⟩
  | .hbm, ⟨91, _⟩ => ⟨S512x1, .f32⟩
  | .hbm, ⟨92, _⟩ => ⟨S512x1, .f32⟩
  | .hbm, ⟨93, _⟩ => ⟨S512x1, .f32⟩
  | .hbm, ⟨94, _⟩ => ⟨S512x4096, .f32⟩
  | .hbm, ⟨95, _⟩ => ⟨S512x4096, .f32⟩
  | .hbm, ⟨96, _⟩ => ⟨S1x4096, .f32⟩
  | .hbm, ⟨97, _⟩ => ⟨S512x4096, .f32⟩
  | .hbm, ⟨98, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_v0 : Ref sig .tc := ⟨.hbm, 68, rfl⟩
abbrev main_call0_v1 : Ref sig .tc := ⟨.hbm, 69, rfl⟩
abbrev main_call0_cst : Ref sig .tc := ⟨.hbm, 70, rfl⟩
abbrev main_call0_v2 : Ref sig .tc := ⟨.hbm, 71, rfl⟩
abbrev main_call0_v3 : Ref sig .tc := ⟨.hbm, 72, rfl⟩
abbrev main_call0_cst_0 : Ref sig .tc := ⟨.hbm, 73, rfl⟩
abbrev main_call0_v4 : Ref sig .tc := ⟨.hbm, 74, rfl⟩
abbrev main_call0_v5 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_8 : Ref sig .tc := ⟨.hbm, 84, rfl⟩
abbrev main_v56 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩

abbrev nD : Nat := 1
abbrev τ : Topo := Topo.v7x

variable {F : FTy → Type} [FloatOps F]
-- ==== Kernel9.lean ====
abbrev S512x2048 : Shape := ⟨2, ![512, 2048]⟩
abbrev S16x1024x16x128 : Shape := ⟨4, ![16, 1024, 16, 128]⟩
abbrev S16x16x1024 : Shape := ⟨3, ![16, 16, 1024]⟩
abbrev S16x16x32 : Shape := ⟨3, ![16, 16, 32]⟩
abbrev S16x16384x128 : Shape := ⟨3, ![16, 16384, 128]⟩
abbrev S32x2048 : Shape := ⟨2, ![32, 2048]⟩
abbrev S1x16384x128 : Shape := ⟨3, ![1, 16384, 128]⟩
abbrev S1x16x1024 : Shape := ⟨3, ![1, 16, 1024]⟩
abbrev S1x16x32 : Shape := ⟨3, ![1, 16, 32]⟩
abbrev S32x32 : Shape := ⟨2, ![32, 32]⟩
abbrev S32x128 : Shape := ⟨2, ![32, 128]⟩
abbrev S1x1024x128 : Shape := ⟨3, ![1, 1024, 128]⟩
abbrev S1024x128 : Shape := ⟨2, ![1024, 128]⟩
abbrev S32x1024 : Shape := ⟨2, ![32, 1024]⟩
abbrev S1x1x1024 : Shape := ⟨3, ![1, 1, 1024]⟩
abbrev S1x1024 : Shape := ⟨2, ![1, 1024]⟩
abbrev S1x1x32 : Shape := ⟨3, ![1, 1, 32]⟩
abbrev S1x32 : Shape := ⟨2, ![1, 32]⟩
abbrev S32 : Shape := ⟨1, ![32]⟩
abbrev S32x1 : Shape := ⟨2, ![32, 1]⟩

abbrev nBuf : Space → Nat
  | .hbm => 10
  | .vmem => 16
  | .smem => 0
  | _ => 0

abbrev bufTy : (tb : Table) → Fin (tcTables nBuf tb) → BufTy
  | .hbm, ⟨0, _⟩ => ⟨S512x2048, .bf16⟩
  | .hbm, ⟨1, _⟩ => ⟨S16x1024x16x128, .f32⟩
  | .hbm, ⟨2, _⟩ => ⟨S16x1024x16x128, .f32⟩
  | .hbm, ⟨3, _⟩ => ⟨S512x2048, .bf16⟩
  | .hbm, ⟨4, _⟩ => ⟨S512x2048, .bf16⟩
  | .hbm, ⟨5, _⟩ => ⟨S16x16x1024, .f32⟩
  | .hbm, ⟨6, _⟩ => ⟨S16x16x32, .f32⟩
  | .hbm, ⟨7, _⟩ => ⟨S16x16384x128, .f32⟩
  | .hbm, ⟨8, _⟩ => ⟨S16x16384x128, .f32⟩
  | .hbm, ⟨9, _⟩ => ⟨S512x2048, .f32⟩
  | .local _ .vmem, ⟨0, _⟩ => ⟨S32x2048, .bf16⟩
  | .local _ .vmem, ⟨1, _⟩ => ⟨S32x2048, .bf16⟩
  | .local _ .vmem, ⟨2, _⟩ => ⟨S1x16384x128, .f32⟩
  | .local _ .vmem, ⟨3, _⟩ => ⟨S1x16384x128, .f32⟩
  | .local _ .vmem, ⟨4, _⟩ => ⟨S1x16384x128, .f32⟩
  | .local _ .vmem, ⟨5, _⟩ => ⟨S1x16384x128, .f32⟩
  | .local _ .vmem, ⟨6, _⟩ => ⟨S32x2048, .bf16⟩
  | .local _ .vmem, ⟨7, _⟩ => ⟨S32x2048, .bf16⟩
  | .local _ .vmem, ⟨8, _⟩ => ⟨S32x2048, .bf16⟩
  | .local _ .vmem, ⟨9, _⟩ => ⟨S32x2048, .bf16⟩
  | .local _ .vmem, ⟨10, _⟩ => ⟨S1x16x1024, .f32⟩
  | .local _ .vmem, ⟨11, _⟩ => ⟨S1x16x1024, .f32⟩
  | .local _ .vmem, ⟨12, _⟩ => ⟨S1x16x32, .f32⟩
  | .local _ .vmem, ⟨13, _⟩ => ⟨S1x16x32, .f32⟩
  | .local _ .vmem, ⟨14, _⟩ => ⟨S32x2048, .f32⟩
  | .local _ .vmem, ⟨15, _⟩ => ⟨S32x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x16x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel9Ideal.lean ====
variable {F : FTy → Type} [FloatOps F] [Named F]
def κ : String → Option EReal := fun
  | "log2e" => some (((Real.log 2)⁻¹ : ℝ) : EReal)
  | "mask" => some ⊥
  | _ => none
-- ==== Reference9Ideal.lean ====
abbrev S512x2048 : Shape := ⟨2, ![512, 2048]⟩
abbrev S16x1024x16x128 : Shape := ⟨4, ![16, 1024, 16, 128]⟩
abbrev S16x16x1024 : Shape := ⟨3, ![16, 16, 1024]⟩
abbrev S16x16x32 : Shape := ⟨3, ![16, 16, 32]⟩
abbrev S16x32x16x128 : Shape := ⟨4, ![16, 32, 16, 128]⟩
abbrev S16x1056x16x128 : Shape := ⟨4, ![16, 1056, 16, 128]⟩
abbrev S16x16x1056 : Shape := ⟨3, ![16, 16, 1056]⟩
abbrev S16x16x32x1056 : Shape := ⟨4, ![16, 16, 32, 1056]⟩
abbrev S_ : Shape := ⟨0, ![]⟩
abbrev S16x16x32x1 : Shape := ⟨4, ![16, 16, 32, 1]⟩
abbrev S16x16x1x1056 : Shape := ⟨4, ![16, 16, 1, 1056]⟩
abbrev S32 : Shape := ⟨1, ![32]⟩
abbrev S1056 : Shape := ⟨1, ![1056]⟩
abbrev S1x1056 : Shape := ⟨2, ![1, 1056]⟩
abbrev S32x1 : Shape := ⟨2, ![32, 1]⟩
abbrev S32x1056 : Shape := ⟨2, ![32, 1056]⟩
abbrev S16x16x128x32 : Shape := ⟨4, ![16, 16, 128, 32]⟩

abbrev nBuf : Space → Nat
  | .hbm => 59
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S16x1024x16x128, .f32⟩
  | .hbm, ⟨2, _⟩ => ⟨S16x1024x16x128, .f32⟩
  | .hbm, ⟨3, _⟩ => ⟨S512x2048, .bf16⟩
  | .hbm, ⟨4, _⟩ => ⟨S512x2048, .bf16⟩
  | .hbm, ⟨5, _⟩ => ⟨S16x16x1024, .f32⟩
  | .hbm, ⟨6, _⟩ => ⟨S16x16x32, .f32⟩
  | .hbm, ⟨7, _⟩ => ⟨S512x2048, .f32⟩
  | .hbm, ⟨8, _⟩ => ⟨S16x32x16x128, .f32⟩
  | .hbm, ⟨9, _⟩ => ⟨S512x2048, .f32⟩
  | .hbm, ⟨10, _⟩ => ⟨S16x32x16x128, .f32⟩
  | .hbm, ⟨11, _⟩ => ⟨S512x2048, .f32⟩
  | .hbm, ⟨12, _⟩ => ⟨S16x32x16x128, .f32⟩
  | .hbm, ⟨13, _⟩ => ⟨S16x1056x16x128, .f32⟩
  | .hbm, ⟨14, _⟩ => ⟨S16x1056x16x128, .f32⟩
  | .hbm, ⟨15, _⟩ => ⟨S16x16x1056, .f32⟩
  | .hbm, ⟨16, _⟩ => ⟨S16x16x32x1056, .f32⟩
  | .hbm, ⟨17, _⟩ => ⟨S_, .f32⟩
  | .hbm, ⟨18, _⟩ => ⟨S_, .f32⟩
  | .hbm, ⟨19, _⟩ => ⟨S16x16x32x1056, .f32⟩
  | .hbm, ⟨20, _⟩ => ⟨S16x16x32x1056, .f32⟩
  | .hbm, ⟨21, _⟩ => ⟨S16x16x32x1, .f32⟩
  | .hbm, ⟨22, _⟩ => ⟨S16x16x1x1056, .f32⟩
  | .hbm, ⟨23, _⟩ => ⟨S16x16x32x1056, .f32⟩
  | .hbm, ⟨24, _⟩ => ⟨S16x16x32x1056, .f32⟩
  | .hbm, ⟨25, _⟩ => ⟨S16x16x32x1056, .f32⟩
  | .hbm, ⟨26, _⟩ => ⟨S16x16x32x1056, .f32⟩
  | .hbm, ⟨27, _⟩ => ⟨S32, .i32⟩
  | .hbm, ⟨28, _⟩ => ⟨S_, .i32⟩
  | .hbm, ⟨29, _⟩ => ⟨S32, .i32⟩
  | .hbm, ⟨30, _⟩ => ⟨S32, .i32⟩
  | .hbm, ⟨31, _⟩ => ⟨S1056, .i32⟩
  | .hbm, ⟨32, _⟩ => ⟨S1x1056, .i32⟩
  | .hbm, ⟨33, _⟩ => ⟨S32x1, .i32⟩
  | .hbm, ⟨34, _⟩ => ⟨S32x1056, .i32⟩
  | .hbm, ⟨35, _⟩ => ⟨S32x1056, .i32⟩
  | .hbm, ⟨36, _⟩ => ⟨S32x1056, .i1⟩
  | .hbm, ⟨37, _⟩ => ⟨S_, .f32⟩
  | .hbm, ⟨38, _⟩ => ⟨S_, .f32⟩
  | .hbm, ⟨39, _⟩ => ⟨S16x16x32x1056, .i1⟩
  | .hbm, ⟨40, _⟩ => ⟨S16x16x32x1056, .f32⟩
  | .hbm, ⟨41, _⟩ => ⟨S16x16x32x1056, .f32⟩
  | .hbm, ⟨42, _⟩ => ⟨S_, .f32⟩
  | .hbm, ⟨43, _⟩ => ⟨S16x16x32, .f32⟩
  | .hbm, ⟨44, _⟩ => ⟨S_, .f32⟩
  | .hbm, ⟨45, _⟩ => ⟨S16x16x32, .f32⟩
  | .hbm, ⟨46, _⟩ => ⟨S16x16x32, .f32⟩
  | .hbm, ⟨47, _⟩ => ⟨S16x16x32x1, .f32⟩
  | .hbm, ⟨48, _⟩ => ⟨S16x16x32x1056, .f32⟩
  | .hbm, ⟨49, _⟩ => ⟨S16x16x32x1056, .f32⟩
  | .hbm, ⟨50, _⟩ => ⟨S16x16x32x1056, .f32⟩
  | .hbm, ⟨51, _⟩ => ⟨S_, .f32⟩
  | .hbm, ⟨52, _⟩ => ⟨S16x16x32, .f32⟩
  | .hbm, ⟨53, _⟩ => ⟨S16x16x32x1, .f32⟩
  | .hbm, ⟨54, _⟩ => ⟨S16x16x32x1056, .f32⟩
  | .hbm, ⟨55, _⟩ => ⟨S16x16x32x1056, .f32⟩
  | .hbm, ⟨56, _⟩ => ⟨S16x16x128x32, .f32⟩
  | .hbm, ⟨57, _⟩ => ⟨S16x32x16x128, .f32⟩
  | .hbm, ⟨58, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_0 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_cst_2 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel10.lean ====
abbrev S16384x128 : Shape := ⟨2, ![16384, 128]⟩
abbrev S8x2048x128 : Shape := ⟨3, ![8, 2048, 128]⟩
abbrev S_ : Shape := ⟨0, ![]⟩
abbrev S8x1x128 : Shape := ⟨3, ![8, 1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S8x128x2048 : Shape := ⟨3, ![8, 128, 2048]⟩
abbrev S1x512x128 : Shape := ⟨3, ![1, 512, 128]⟩
abbrev S1x1x128 : Shape := ⟨3, ![1, 1, 128]⟩
abbrev S1x128x512 : Shape := ⟨3, ![1, 128, 512]⟩
abbrev S1x128 : Shape := ⟨2, ![1, 128]⟩
abbrev S512x128 : Shape := ⟨2, ![512, 128]⟩
abbrev S512x384 : Shape := ⟨2, ![512, 384]⟩
abbrev S128x512 : Shape := ⟨2, ![128, 512]⟩
abbrev S8x16x2048 : Shape := ⟨3, ![8, 16, 2048]⟩

abbrev nBuf : Space → Nat
  | .hbm => 14
  | .vmem => 10
  | .smem => 0
  | _ => 0

abbrev bufTy : (tb : Table) → Fin (tcTables nBuf tb) → BufTy
  | .hbm, ⟨0, _⟩ => ⟨S16384x128, .f32⟩
  | .hbm, ⟨1, _⟩ => ⟨S8x2048x128, .f32⟩
  | .hbm, ⟨2, _⟩ => ⟨S_, .f32⟩
  | .hbm, ⟨3, _⟩ => ⟨S8x1x128, .f32⟩
  | .hbm, ⟨4, _⟩ => ⟨S512, .i32⟩
  | .hbm, ⟨5, _⟩ => ⟨S512x1, .i32⟩
  | .hbm, ⟨6, _⟩ => ⟨S1x512, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .bf16⟩
  | .hbm, ⟨11, _⟩ => ⟨S8x128x2048, .f32⟩
  | .hbm, ⟨12, _⟩ => ⟨S8x1x128, .f32⟩
  | .hbm, ⟨13, _⟩ => ⟨S8x16x2048, .f32⟩
  | .local _ .vmem, ⟨0, _⟩ => ⟨S1x512x128, .f32⟩
  | .local _ .vmem, ⟨1, _⟩ => ⟨S1x512x128, .f32⟩
  | .local _ .vmem, ⟨2, _⟩ => ⟨S1x1x128, .f32⟩
  | .local _ .vmem, ⟨3, _⟩ => ⟨S1x1x128, .f32⟩
  | .local _ .vmem, ⟨4, _⟩ => ⟨S512x512, .bf16⟩
  | .local _ .vmem, ⟨5, _⟩ => ⟨S1x128x512, .f32⟩
  | .local _ .vmem, ⟨6, _⟩ => ⟨S1x128x512, .f32⟩
  | .local _ .vmem, ⟨7, _⟩ => ⟨S1x1x128, .f32⟩
  | .local _ .vmem, ⟨8, _⟩ => ⟨S1x1x128, .f32⟩
  | .local _ .vmem, ⟨9, _⟩ => ⟨S1x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9_0 : Ref sig .tc := ⟨.hbm, 11, rfl⟩
abbrev main_v9_1 : Ref sig .tc := ⟨.hbm, 12, rfl⟩
abbrev main_v10 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference10Ideal.lean ====
abbrev S16384x128 : Shape := ⟨2, ![16384, 128]⟩
abbrev S16384x16 : Shape := ⟨2, ![16384, 16]⟩
abbrev S8x2048x16 : Shape := ⟨3, ![8, 2048, 16]⟩
abbrev S_ : Shape := ⟨0, ![]⟩
abbrev S8x16x2048 : Shape := ⟨3, ![8, 16, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16, .f32⟩
  | .hbm, ⟨2, _⟩ => ⟨S8x2048x16, .f32⟩
  | .hbm, ⟨3, _⟩ => ⟨S_, .f32⟩
  | .hbm, ⟨4, _⟩ => ⟨S_, .f32⟩
  | .hbm, ⟨5, _⟩ => ⟨S8x2048x16, .f32⟩
  | .hbm, ⟨6, _⟩ => ⟨S8x16x2048, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_call0_cst : Ref sig .tc := ⟨.hbm, 3, rfl⟩
abbrev main_call0_call0_v0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel11.lean ====
abbrev S512x2048 : Shape := ⟨2, ![512, 2048]⟩
abbrev S16x1024x16x128 : Shape := ⟨4, ![16, 1024, 16, 128]⟩
abbrev S16x16384x128 : Shape := ⟨3, ![16, 16384, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S512x256 : Shape := ⟨2, ![512, 256]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S64x32 : Shape := ⟨2, ![64, 32]⟩
abbrev S32x2048 : Shape := ⟨2, ![32, 2048]⟩
abbrev S1x16384x128 : Shape := ⟨3, ![1, 16384, 128]⟩
abbrev S32x128 : Shape := ⟨2, ![32, 128]⟩
abbrev S1x1024x128 : Shape := ⟨3, ![1, 1024, 128]⟩
abbrev S1024x128 : Shape := ⟨2, ![1024, 128]⟩
abbrev S32x64 : Shape := ⟨2, ![32, 64]⟩
abbrev S32x1024 : Shape := ⟨2, ![32, 1024]⟩
abbrev S32x256 : Shape := ⟨2, ![32, 256]⟩
abbrev S128x256 : Shape := ⟨2, ![128, 256]⟩
abbrev S128x512 : Shape := ⟨2, ![128, 512]⟩
abbrev S256x128 : Shape := ⟨2, ![256, 128]⟩

abbrev nBuf : Space → Nat
  | .hbm => 24
  | .vmem => 14
  | .smem => 0
  | _ => 0

abbrev bufTy : (tb : Table) → Fin (tcTables nBuf tb) → BufTy
  | .hbm, ⟨0, _⟩ => ⟨S512x2048, .bf16⟩
  | .hbm, ⟨1, _⟩ => ⟨S16x1024x16x128, .f32⟩
  | .hbm, ⟨2, _⟩ => ⟨S16x1024x16x128, .f32⟩
  | .hbm, ⟨3, _⟩ => ⟨S512x2048, .bf16⟩
  | .hbm, ⟨4, _⟩ => ⟨S512x2048, .bf16⟩
  | .hbm, ⟨5, _⟩ => ⟨S16x16384x128, .f32⟩
  | .hbm, ⟨6, _⟩ => ⟨S16x16384x128, .f32⟩
  | .hbm, ⟨7, _⟩ => ⟨S256, .i32⟩
  | .hbm, ⟨8, _⟩ => ⟨S256x1, .i32⟩
  | .hbm, ⟨9, _⟩ => ⟨S1x256, .i32⟩
  | .hbm, ⟨10, _⟩ => ⟨S256x256, .i32⟩
  | .hbm, ⟨11, _⟩ => ⟨S256x256, .i32⟩
  | .hbm, ⟨12, _⟩ => ⟨S256x256, .i1⟩
  | .hbm, ⟨13, _⟩ => ⟨S256x256, .bf16⟩
  | .hbm, ⟨14, _⟩ => ⟨S512x256, .bf16⟩
  | .hbm, ⟨15, _⟩ => ⟨S32, .i32⟩
  | .hbm, ⟨16, _⟩ => ⟨S32x1, .i32⟩
  | .hbm, ⟨17, _⟩ => ⟨S1x32, .i32⟩
  | .hbm, ⟨18, _⟩ => ⟨S32x32, .i32⟩
  | .hbm, ⟨19, _⟩ => ⟨S32x32, .i32⟩
  | .hbm, ⟨20, _⟩ => ⟨S32x32, .i1⟩
  | .hbm, ⟨21, _⟩ => ⟨S32x32, .bf16⟩
  | .hbm, ⟨22, _⟩ => ⟨S64x32, .bf16⟩
  | .hbm, ⟨23, _⟩ => ⟨S512x2048, .f32⟩
  | .local _ .vmem, ⟨0, _⟩ => ⟨S32x2048, .bf16⟩
  | .local _ .vmem, ⟨1, _⟩ => ⟨S32x2048, .bf16⟩
  | .local _ .vmem, ⟨2, _⟩ => ⟨S1x16384x128, .f32⟩
  | .local _ .vmem, ⟨3, _⟩ => ⟨S1x16384x128, .f32⟩
  | .local _ .vmem, ⟨4, _⟩ => ⟨S1x16384x128, .f32⟩
  | .local _ .vmem, ⟨5, _⟩ => ⟨S1x16384x128, .f32⟩
  | .local _ .vmem, ⟨6, _⟩ => ⟨S32x2048, .bf16⟩
  | .local _ .vmem, ⟨7, _⟩ => ⟨S32x2048, .bf16⟩
  | .local _ .vmem, ⟨8, _⟩ => ⟨S32x2048, .bf16⟩
  | .local _ .vmem, ⟨9, _⟩ => ⟨S32x2048, .bf16⟩
  | .local _ .vmem, ⟨10, _⟩ => ⟨S512x256, .bf16⟩
  | .local _ .vmem, ⟨11, _⟩ => ⟨S64x32, .bf16⟩
  | .local _ .vmem, ⟨12, _⟩ => ⟨S32x2048, .f32⟩
  | .local _ .vmem, ⟨13, _⟩ => ⟨S32x2048, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16384x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel11Ideal.lean ====
variable {F : FTy → Type} [FloatOps F] [Named F]
def κ : String → Option EReal := fun
  | "log2e" => some (((Real.log 2)⁻¹ : ℝ) : EReal)
  | _ => none
-- ==== Reference11Ideal.lean ====
abbrev S512x2048 : Shape := ⟨2, ![512, 2048]⟩
abbrev S16x1024x16x128 : Shape := ⟨4, ![16, 1024, 16, 128]⟩
abbrev S16x32x16x128 : Shape := ⟨4, ![16, 32, 16, 128]⟩
abbrev S16x1056x16x128 : Shape := ⟨4, ![16, 1056, 16, 128]⟩
abbrev S16x16x32x1056 : Shape := ⟨4, ![16, 16, 32, 1056]⟩
abbrev S_ : Shape := ⟨0, ![]⟩
abbrev S32 : Shape := ⟨1, ![32]⟩
abbrev S1056 : Shape := ⟨1, ![1056]⟩
abbrev S1x1056 : Shape := ⟨2, ![1, 1056]⟩
abbrev S32x1 : Shape := ⟨2, ![32, 1]⟩
abbrev S32x1056 : Shape := ⟨2, ![32, 1056]⟩
abbrev S16x16x128x32 : Shape := ⟨4, ![16, 16, 128, 32]⟩

abbrev nBuf : Space → Nat
  | .hbm => 80
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S16x1024x16x128, .f32⟩
  | .hbm, ⟨2, _⟩ => ⟨S16x1024x16x128, .f32⟩
  | .hbm, ⟨3, _⟩ => ⟨S512x2048, .bf16⟩
  | .hbm, ⟨4, _⟩ => ⟨S512x2048, .bf16⟩
  | .hbm, ⟨5, _⟩ => ⟨S512x2048, .f32⟩
  | .hbm, ⟨6, _⟩ => ⟨S16x32x16x128, .f32⟩
  | .hbm, ⟨7, _⟩ => ⟨S512x2048, .f32⟩
  | .hbm, ⟨8, _⟩ => ⟨S16x32x16x128, .f32⟩
  | .hbm, ⟨9, _⟩ => ⟨S512x2048, .f32⟩
  | .hbm, ⟨10, _⟩ => ⟨S16x32x16x128, .f32⟩
  | .hbm, ⟨11, _⟩ => ⟨S16x1056x16x128, .f32⟩
  | .hbm, ⟨12, _⟩ => ⟨S16x1056x16x128, .f32⟩
  | .hbm, ⟨13, _⟩ => ⟨S16x16x32x1056, .f32⟩
  | .hbm, ⟨14, _⟩ => ⟨S_, .f32⟩
  | .hbm, ⟨15, _⟩ => ⟨S_, .f32⟩
  | .hbm, ⟨16, _⟩ => ⟨S16x16x32x1056, .f32⟩
  | .hbm, ⟨17, _⟩ => ⟨S16x16x32x1056, .f32⟩
  | .hbm, ⟨18, _⟩ => ⟨S32, .i32⟩
  | .hbm, ⟨19, _⟩ => ⟨S_, .i32⟩
  | .hbm, ⟨20, _⟩ => ⟨S32, .i32⟩
  | .hbm, ⟨21, _⟩ => ⟨S32, .i32⟩
  | .hbm, ⟨22, _⟩ => ⟨S1056, .i32⟩
  | .hbm, ⟨23, _⟩ => ⟨S1x1056, .i32⟩
  | .hbm, ⟨24, _⟩ => ⟨S32x1, .i32⟩
  | .hbm, ⟨25, _⟩ => ⟨S32x1056, .i32⟩
  | .hbm, ⟨26, _⟩ => ⟨S32x1056, .i32⟩
  | .hbm, ⟨27, _⟩ => ⟨S32x1056, .i1⟩
  | .hbm, ⟨28, _⟩ => ⟨S16x16x32x1056, .f32⟩
  | .hbm, ⟨29, _⟩ => ⟨S16x16x32x1056, .f32⟩
  | .hbm, ⟨30, _⟩ => ⟨S_, .f32⟩
  | .hbm, ⟨31, _⟩ => ⟨S16x16x32x1056, .f32⟩
  | .hbm, ⟨32, _⟩ => ⟨S16x16x32x1056, .f32⟩
  | .hbm, ⟨33, _⟩ => ⟨S16x16x32x1056, .f32⟩
  | .hbm, ⟨34, _⟩ => ⟨S16x16x32x1056, .f32⟩
  | .hbm, ⟨35, _⟩ => ⟨S16x16x32x1056, .i1⟩
  | .hbm, ⟨36, _⟩ => ⟨S16x16x32x1056, .f32⟩
  | .hbm, ⟨37, _⟩ => ⟨S16x16x32x1056, .f32⟩
  | .hbm, ⟨38, _⟩ => ⟨S16x16x32x1056, .f32⟩
  | .hbm, ⟨39, _⟩ => ⟨S16x16x32x1056, .f32⟩
  | .hbm, ⟨40, _⟩ => ⟨S16x16x32x1056, .f32⟩
  | .hbm, ⟨41, _⟩ => ⟨S16x16x32x1056, .f32⟩
  | .hbm, ⟨42, _⟩ => ⟨S16x16x32x1056, .f32⟩
  | .hbm, ⟨43, _⟩ => ⟨S16x16x32x1056, .f32⟩
  | .hbm, ⟨44, _⟩ => ⟨S16x16x32x1056, .f32⟩
  | .hbm, ⟨45, _⟩ => ⟨S_, .f32⟩
  | .hbm, ⟨46, _⟩ => ⟨S_, .f32⟩
  | .hbm, ⟨47, _⟩ => ⟨S16x16x32x1056, .i1⟩
  | .hbm, ⟨48, _⟩ => ⟨S16x16x32x1056, .f32⟩
  | .hbm, ⟨49, _⟩ => ⟨S16x16x32x1056, .f32⟩
  | .hbm, ⟨50, _⟩ => ⟨S_, .f32⟩
  | .hbm, ⟨51, _⟩ => ⟨S_, .f32⟩
  | .hbm, ⟨52, _⟩ => ⟨S16x16x32x1056, .f32⟩
  | .hbm, ⟨53, _⟩ => ⟨S16x16x32x1056, .f32⟩
  | .hbm, ⟨54, _⟩ => ⟨S16x16x32x1056, .f32⟩
  | .hbm, ⟨55, _⟩ => ⟨S_, .f32⟩
  | .hbm, ⟨56, _⟩ => ⟨S16x16x32x1056, .f32⟩
  | .hbm, ⟨57, _⟩ => ⟨S16x16x32x1056, .f32⟩
  | .hbm, ⟨58, _⟩ => ⟨S16x16x32x1056, .f32⟩
  | .hbm, ⟨59, _⟩ => ⟨S16x16x32x1056, .f32⟩
  | .hbm, ⟨60, _⟩ => ⟨S16x16x32x1056, .i1⟩
  | .hbm, ⟨61, _⟩ => ⟨S16x16x32x1056, .f32⟩
  | .hbm, ⟨62, _⟩ => ⟨S16x16x32x1056, .f32⟩
  | .hbm, ⟨63, _⟩ => ⟨S16x16x32x1056, .f32⟩
  | .hbm, ⟨64, _⟩ => ⟨S16x16x32x1056, .f32⟩
  | .hbm, ⟨65, _⟩ => ⟨S16x16x32x1056, .f32⟩
  | .hbm, ⟨66, _⟩ => ⟨S16x16x32x1056, .f32⟩
  | .hbm, ⟨67, _⟩ => ⟨S16x16x32x1056, .f32⟩
  | .hbm, ⟨68, _⟩ => ⟨S16x16x32x1056, .f32⟩
  | .hbm, ⟨69, _⟩ => ⟨S16x16x32x1056, .f32⟩
  | .hbm, ⟨70, _⟩ => ⟨S16x16x32x1056, .f32⟩
  | .hbm, ⟨71, _⟩ => ⟨S16x16x32x1056, .f32⟩
  | .hbm, ⟨72, _⟩ => ⟨S_, .f32⟩
  | .hbm, ⟨73, _⟩ => ⟨S_, .f32⟩
  | .hbm, ⟨74, _⟩ => ⟨S16x16x32x1056, .i1⟩
  | .hbm, ⟨75, _⟩ => ⟨S16x16x32x1056, .f32⟩
  | .hbm, ⟨76, _⟩ => ⟨S16x16x32x1056, .f32⟩
  | .hbm, ⟨77, _⟩ => ⟨S16x16x128x32, .f32⟩
  | .hbm, ⟨78, _⟩ => ⟨S16x32x16x128, .f32⟩
  | .hbm, ⟨79, _⟩ => ⟨S512x2048, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v22 : Ref sig .tc := ⟨.hbm, 44, rfl⟩
abbrev main_cst_0 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v23 : Ref sig .tc := ⟨.hbm, 49, rfl⟩
abbrev main_call2_cst : Ref sig .tc := ⟨.hbm, 50, rfl⟩
abbrev main_call2_v0 : Ref sig .tc := ⟨.hbm, 51, rfl⟩
abbrev main_v24 : Ref sig .tc := ⟨.hbm, 52, rfl⟩
abbrev main_v25 : Ref sig .tc := ⟨.hbm, 53, rfl⟩
abbrev main_call3_v0 : Ref sig .tc := ⟨.hbm, 54, rfl⟩
abbrev main_call3_call0_cst : Ref sig .tc := ⟨.hbm, 55, rfl⟩
abbrev main_call3_call0_v0 : Ref sig .tc := ⟨.hbm, 56, rfl⟩
abbrev main_call3_call0_v1 : Ref sig .tc := ⟨.hbm, 57, rfl⟩
abbrev main_call3_call0_v2 : Ref sig .tc := ⟨.hbm, 58, rfl⟩
abbrev main_call3_call0_v3 : Ref sig .tc := ⟨.hbm, 59, rfl⟩
abbrev main_call3_call0_v4 : Ref sig .tc := ⟨.hbm, 60, rfl⟩
abbrev main_call3_call0_v5 : Ref sig .tc := ⟨.hbm, 61, rfl⟩
abbrev main_call3_call0_v6 : Ref sig .tc := ⟨.hbm, 62, rfl⟩
abbrev main_call3_call0_v7 : Ref sig .tc := ⟨.hbm, 63, rfl⟩
abbrev main_call3_call0_v8 : Ref sig .tc := ⟨.hbm, 64, rfl⟩
abbrev main_call3_call0_v9 : Ref sig .tc := ⟨.hbm, 65, rfl⟩
abbrev main_call3_call0_v10 : Ref sig .tc := ⟨.hbm, 66, rfl⟩
abbrev main_call3_call0_v11 : Ref sig .tc := ⟨.hbm, 67, rfl⟩
abbrev main_call3_v1 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_1 : Ref sig .tc := ⟨.hbm, 72, rfl⟩
abbrev main_call4_v0 : Ref sig .tc := ⟨.hbm, 73, rfl⟩
abbrev main_call4_v1 : Ref sig .tc := ⟨.hbm, 74, rfl⟩
abbrev main_call4_v2 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩

abbrev nD : Nat := 1
abbrev τ : Topo := Topo.v7x

variable {F : FTy → Type} [FloatOps F]
-- ==== Kernel12.lean ====
abbrev S16x1024x16 : Shape := ⟨3, ![16, 1024, 16]⟩
abbrev S_ : Shape := ⟨0, ![]⟩
abbrev S16x1024x128 : Shape := ⟨3, ![16, 1024, 128]⟩
abbrev S16x1x128 : Shape := ⟨3, ![16, 1, 128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S16x128x1024 : Shape := ⟨3, ![16, 128, 1024]⟩
abbrev S1x512x128 : Shape := ⟨3, ![1, 512, 128]⟩
abbrev S1x1x128 : Shape := ⟨3, ![1, 1, 128]⟩
abbrev S1x128x512 : Shape := ⟨3, ![1, 128, 512]⟩
abbrev S1x128 : Shape := ⟨2, ![1, 128]⟩
abbrev S512x128 : Shape := ⟨2, ![512, 128]⟩
abbrev S512x384 : Shape := ⟨2, ![512, 384]⟩
abbrev S128x512 : Shape := ⟨2, ![128, 512]⟩
abbrev S16x16x1024 : Shape := ⟨3, ![16, 16, 1024]⟩

abbrev nBuf : Space → Nat
  | .hbm => 16
  | .vmem => 10
  | .smem => 0
  | _ => 0

abbrev bufTy : (tb : Table) → Fin (tcTables nBuf tb) → BufTy
  | .hbm, ⟨0, _⟩ => ⟨S16x1024x16, .f32⟩
  | .hbm, ⟨1, _⟩ => ⟨S_, .i32⟩
  | .hbm, ⟨2, _⟩ => ⟨S_, .f32⟩
  | .hbm, ⟨3, _⟩ => ⟨S16x1024x128, .f32⟩
  | .hbm, ⟨4, _⟩ => ⟨S_, .f32⟩
  | .hbm, ⟨5, _⟩ => ⟨S16x1x128, .f32⟩
  | .hbm, ⟨6, _⟩ => ⟨S512, .i32⟩
  | .hbm, ⟨7, _⟩ => ⟨S512x1, .i32⟩
  | .hbm, ⟨8, _⟩ => ⟨S1x512, .i32⟩
  | .hbm, ⟨9, _⟩ => ⟨S512x512, .i32⟩
  | .hbm, ⟨10, _⟩ => ⟨S512x512, .i32⟩
  | .hbm, ⟨11, _⟩ => ⟨S512x512, .i1⟩
  | .hbm, ⟨12, _⟩ => ⟨S512x512, .bf16⟩
  | .hbm, ⟨13, _⟩ => ⟨S16x128x1024, .f32⟩
  | .hbm, ⟨14, _⟩ => ⟨S16x1x128, .f32⟩
  | .hbm, ⟨15, _⟩ => ⟨S16x16x1024, .f32⟩
  | .local _ .vmem, ⟨0, _⟩ => ⟨S1x512x128, .f32⟩
  | .local _ .vmem, ⟨1, _⟩ => ⟨S1x512x128, .f32⟩
  | .local _ .vmem, ⟨2, _⟩ => ⟨S1x1x128, .f32⟩
  | .local _ .vmem, ⟨3, _⟩ => ⟨S1x1x128, .f32⟩
  | .local _ .vmem, ⟨4, _⟩ => ⟨S512x512, .bf16⟩
  | .local _ .vmem, ⟨5, _⟩ => ⟨S1x128x512, .f32⟩
  | .local _ .vmem, ⟨6, _⟩ => ⟨S1x128x512, .f32⟩
  | .local _ .vmem, ⟨7, _⟩ => ⟨S1x1x128, .f32⟩
  | .local _ .vmem, ⟨8, _⟩ => ⟨S1x1x128, .f32⟩
  | .local _ .vmem, ⟨9, _⟩ => ⟨S1x128, .f32⟩
  | _, _ => ⟨S16x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference12Ideal.lean ====
abbrev S16x1024x16 : Shape := ⟨3, ![16, 1024, 16]⟩
abbrev S_ : Shape := ⟨0, ![]⟩
abbrev S16x16x1024 : Shape := ⟨3, ![16, 16, 1024]⟩
abbrev S16x1x16 : Shape := ⟨3, ![16, 1, 16]⟩
abbrev S16x1x128 : Shape := ⟨3, ![16, 1, 128]⟩

abbrev nBuf : Space → Nat
  | .hbm => 9
  | .vmem => 0
  | .smem => 0
  | _ => 0

abbrev bufTy : (tb : Table) → Fin (tcTables nBuf tb) → BufTy
  | .hbm, ⟨0, _⟩ => ⟨S16x1024x16, .f32⟩
  | .hbm, ⟨1, _⟩ => ⟨S_, .f32⟩
  | .hbm, ⟨2, _⟩ => ⟨S_, .f32⟩
  | .hbm, ⟨3, _⟩ => ⟨S16x1024x16, .f32⟩
  | .hbm, ⟨4, _⟩ => ⟨S16x16x1024, .f32⟩
  | .hbm, ⟨5, _⟩ => ⟨S16x1x16, .f32⟩
  | .hbm, ⟨6, _⟩ => ⟨S_, .i32⟩
  | .hbm, ⟨7, _⟩ => ⟨S_, .f32⟩
  | .hbm, ⟨8, _⟩ => ⟨S16x1x128, .f32⟩
  | _, _ => ⟨S16x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_call0_cst : Ref sig .tc := ⟨.hbm, 1, rfl⟩
abbrev main_call0_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call1_v0 : Ref sig .tc := ⟨.hbm, 7, rfl⟩
abbrev main_v3 : Ref sig .tc := ⟨.hbm, 8, rfl⟩

abbrev nD : Nat := 1
abbrev τ : Topo := Topo.v7x

variable {F : FTy → Type} [FloatOps F]
-- ==== Kernel13.lean ====
abbrev S512x128 : Shape := ⟨2, ![512, 128]⟩
abbrev S16x1x128 : Shape := ⟨3, ![16, 1, 128]⟩
abbrev S16x32x128 : Shape := ⟨3, ![16, 32, 128]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S16x128x32 : Shape := ⟨3, ![16, 128, 32]⟩
abbrev S1x32x128 : Shape := ⟨3, ![1, 32, 128]⟩
abbrev S1x1x128 : Shape := ⟨3, ![1, 1, 128]⟩
abbrev S1x128x32 : Shape := ⟨3, ![1, 128, 32]⟩
abbrev S1x128 : Shape := ⟨2, ![1, 128]⟩
abbrev S32x128 : Shape := ⟨2, ![32, 128]⟩
abbrev S32x384 : Shape := ⟨2, ![32, 384]⟩
abbrev S128x32 : Shape := ⟨2, ![128, 32]⟩
abbrev S16x16x32 : Shape := ⟨3, ![16, 16, 32]⟩

abbrev nBuf : Space → Nat
  | .hbm => 13
  | .vmem => 10
  | .smem => 0
  | _ => 0

abbrev bufTy : (tb : Table) → Fin (tcTables nBuf tb) → BufTy
  | .hbm, ⟨0, _⟩ => ⟨S512x128, .f32⟩
  | .hbm, ⟨1, _⟩ => ⟨S16x1x128, .f32⟩
  | .hbm, ⟨2, _⟩ => ⟨S16x32x128, .f32⟩
  | .hbm, ⟨3, _⟩ => ⟨S32, .i32⟩
  | .hbm, ⟨4, _⟩ => ⟨S32x1, .i32⟩
  | .hbm, ⟨5, _⟩ => ⟨S1x32, .i32⟩
  | .hbm, ⟨6, _⟩ => ⟨S32x32, .i32⟩
  | .hbm, ⟨7, _⟩ => ⟨S32x32, .i32⟩
  | .hbm, ⟨8, _⟩ => ⟨S32x32, .i1⟩
  | .hbm, ⟨9, _⟩ => ⟨S32x32, .bf16⟩
  | .hbm, ⟨10, _⟩ => ⟨S16x128x32, .f32⟩
  | .hbm, ⟨11, _⟩ => ⟨S16x1x128, .f32⟩
  | .hbm, ⟨12, _⟩ => ⟨S16x16x32, .f32⟩
  | .local _ .vmem, ⟨0, _⟩ => ⟨S1x32x128, .f32⟩
  | .local _ .vmem, ⟨1, _⟩ => ⟨S1x32x128, .f32⟩
  | .local _ .vmem, ⟨2, _⟩ => ⟨S1x1x128, .f32⟩
  | .local _ .vmem, ⟨3, _⟩ => ⟨S1x1x128, .f32⟩
  | .local _ .vmem, ⟨4, _⟩ => ⟨S32x32, .bf16⟩
  | .local _ .vmem, ⟨5, _⟩ => ⟨S1x128x32, .f32⟩
  | .local _ .vmem, ⟨6, _⟩ => ⟨S1x128x32, .f32⟩
  | .local _ .vmem, ⟨7, _⟩ => ⟨S1x1x128, .f32⟩
  | .local _ .vmem, ⟨8, _⟩ => ⟨S1x1x128, .f32⟩
  | .local _ .vmem, ⟨9, _⟩ => ⟨S1x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S32x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference13Ideal.lean ====
abbrev S512x128 : Shape := ⟨2, ![512, 128]⟩
abbrev S16x1x128 : Shape := ⟨3, ![16, 1, 128]⟩
abbrev S16x1x16 : Shape := ⟨3, ![16, 1, 16]⟩
abbrev S512x16 : Shape := ⟨2, ![512, 16]⟩
abbrev S16x32x16 : Shape := ⟨3, ![16, 32, 16]⟩
abbrev S_ : Shape := ⟨0, ![]⟩
abbrev S16x16x32 : Shape := ⟨3, ![16, 16, 32]⟩

abbrev nBuf : Space → Nat
  | .hbm => 11
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S16x1x128, .f32⟩
  | .hbm, ⟨2, _⟩ => ⟨S16x1x16, .f32⟩
  | .hbm, ⟨3, _⟩ => ⟨S512x16, .f32⟩
  | .hbm, ⟨4, _⟩ => ⟨S16x32x16, .f32⟩
  | .hbm, ⟨5, _⟩ => ⟨S_, .f32⟩
  | .hbm, ⟨6, _⟩ => ⟨S_, .f32⟩
  | .hbm, ⟨7, _⟩ => ⟨S16x32x16, .f32⟩
  | .hbm, ⟨8, _⟩ => ⟨S16x32x16, .f32⟩
  | .hbm, ⟨9, _⟩ => ⟨S16x32x16, .f32⟩
  | .hbm, ⟨10, _⟩ => ⟨S16x16x32, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_call0_cst : Ref sig .tc := ⟨.hbm, 5, rfl⟩
abbrev main_call0_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.ProjQ.Scale.lean ====
/-
  The scale folded into the queries. The kernel multiplies by one literal, which the certificate names the real it was rounded
  from, `(√128)⁻¹ * (log 2)⁻¹`; the references divide by the root of 128 and by the logarithm of 2. Here the two are one product.
-/
module

public import Idealize.ShloMosaic.PureOps.Ideal

@[expose] public section

noncomputable section

namespace Cert.ProjQ

open Idealize.ShloMosaic

/-- The scale folded into the queries: one over the root of the head width and over the logarithm of 2, by which an exponential
    is a power of 2. -/
abbrev scale : EReal := (((Real.sqrt 128)⁻¹ * (Real.log 2)⁻¹ : ℝ) : EReal)

/-- The literal 128.0 is the real 128. -/
theorem lit_128 : Ideal.ofBits .f32 0x43000000#32 = ((128 : ℝ) : EReal) := by
  simp [Ideal.ofBits, Ideal.ieee, -EReal.coe_mul]; norm_num

/-- The literal 2.0 is the real 2. -/
theorem lit_2 : Ideal.ofBits .f32 0x40000000#32 = ((2 : ℝ) : EReal) := by
  simp [Ideal.ofBits, Ideal.ieee, -EReal.coe_mul]; norm_num

/-- Dividing by the root of 128 and then by the logarithm of 2 is one multiplication by `scale`. -/
theorem div_div_scale (x : EReal) :
    Ideal.div (Ideal.div x (Ideal.sqrt (Ideal.ofBits .f32 0x43000000#32))) (Ideal.log (Ideal.ofBits .f32 0x40000000#32)) = x * scale := by
  have h1 : Real.sqrt 128 ≠ 0 := (Real.sqrt_pos.mpr (by norm_num)).ne'
  have h2 : Real.log 2 ≠ 0 := (Real.log_pos (by norm_num)).ne'
  rw [lit_128, lit_2, Ideal.sqrt_coe, if_neg (by norm_num), Ideal.log_coe, if_neg (by norm_num), Ideal.div_coe h1,
    Ideal.div_coe h2, mul_assoc, ← EReal.coe_mul, one_div, one_div]

end Cert.ProjQ

end
-- ==== Proof.ProjQ.Kernel.lean ====
/-
  The query projection of the forgetting attention, `proj_q_fox`, read as a value. The launch walks a (16, 2) grid. Point
  `t` multiplies the 1024 rows of the activations from `1024 * (t / 2)` on by the transpose of the 1024 rows of the weight
  from `1024 * (t % 2)` on, scales the product by one constant and writes it to its block of the queries. Beside the
  product it copies 64 rows of each of three further weights, read from one transposed table through windows whose place is
  given in elements: from row `2048 + 64 * t`, `4096 + 64 * t` and `6160 + 64 * t` on. Here each of the four result arrays is
  shown to be one function of the two arguments.
-/
module

public import proofs.«01_k».proof.Defs
public import proofs.«01_k».proof.Proof.Gen.KernelIdeal.Value
public import proofs.«01_k».proof.Proof.ProjQ.Scale
public import Idealize.ShloMosaic.Lib.Pipeline.Value
public import Idealize.ShloMosaic.Lib.Pointwise
public import Idealize.ShloMosaic.Lib.StableHlo.ReadAt

@[expose] public section

set_option maxRecDepth 16384

noncomputable section

namespace Cert.ProjQ

open Idealize.ShloMosaic Idealize.ShloMosaic.TcCoe Idealize.SL.Sem Cert.KernelIdeal Cert.KernelIdeal.Gen
open Idealize.ShloMosaic.Pipeline (Dat Cfg Window)

variable (m : (ℓ : Loc nD τ sig) → Buf (Elt Ideal) ℓ) (ρ : Dev nD → PrngReg)

/-- The activations, one row per token. -/
abbrev act (c : Dev nD) : S16384x4096.Idx → EReal := m ((c : Thread nD τ).loc main_arg0)

/-- The combined projection weight, one column per projected feature. -/
abbrev wIn (c : Dev nD) : S1x4096x12304.Idx → EReal := m ((c : Thread nD τ).loc main_arg1)

/-- The kernel's literal, named, is the scale. -/
theorem q_scale : Named.named (F := Ideal) κ "q_scale" (φ := .f32) 0x3E0293EE#32 = scale :=
  IdealRules.named_const.ideal_named_scalar _ _ _ _ rfl

/-- The query weight as the launch finds it: row `r` is column `r` of the combined weight. -/
theorem wq_at (c : Dev nD) (r : Fin 2048) (k : Fin 4096) :
    V m c main_v3 (ix2 r k) = wIn m c (ix3 0 k ⟨r, by omega⟩) := by
  unfold V
  after_reads_at

/-- The transposed table as the launch finds it: row `r` is column `r` of the combined weight. -/
theorem wt_at (c : Dev nD) (r : Fin 12304) (k : Fin 4096) :
    V m c main_v1 (ix2 r k) = wIn m c (ix3 0 k r) := by
  unfold V
  after_reads_at

/-- Where each window's block lies at point `t`: the row blocks of the activations and of the queries move with `t / 2`, those
    of the query weight and the queries' columns with `t % 2`, and the three copied weights' windows begin 64 rows further on at
    each point. -/
theorem places : ∀ t : Fin cfg0.N,
    (win0_0.index t 0 = t.val / 2 ∧ win0_0.index t 1 = 0)
    ∧ (win0_1.index t 0 = t.val % 2 ∧ win0_1.index t 1 = 0)
    ∧ (win0_2.index t 0 = 2048 + 64 * t.val ∧ win0_2.index t 1 = 0)
    ∧ (win0_3.index t 0 = 4096 + 64 * t.val ∧ win0_3.index t 1 = 0)
    ∧ (win0_4.index t 0 = 6160 + 64 * t.val ∧ win0_4.index t 1 = 0)
    ∧ (win0_5.index t 0 = t.val / 2 ∧ win0_5.index t 1 = t.val % 2)
    ∧ (win0_6.index t 0 = t.val ∧ win0_6.index t 1 = 0)
    ∧ (win0_7.index t 0 = t.val ∧ win0_7.index t 1 = 0)
    ∧ (win0_8.index t 0 = t.val ∧ win0_8.index t 1 = 0) :=
  (by decide +kernel : ∀ t : Fin grid0.N, _)

/-- The launch has 32 points. -/
theorem lt32 (t : Fin cfg0.N) : t.val < 32 := t.isLt

/-- The activations' block at point `t`: 1024 rows from row `1024 * (t / 2)` on. -/
theorem blk_act (c : Dev nD) (t : Fin cfg0.N) (y : S1024x4096.Idx) :
    iblk m c 0 t y = act m c (ix2 ⟨1024 * (t.val / 2) + (y 0).val, by have := lt32 t; have := (y 0).isLt; change (y 0).val < 1024 at this; omega⟩ (y 1)) := by
  have hp := (places t).1
  unfold iblk
  rw [View.read_apply]
  show V m c main_arg0 _ = _
  rw [V_main_arg0]
  refine congrArg (act m c) (Shape.idx_ext₂ ?_ ?_)
  · rw [show ((((cfg0.win 0).blk t).view.emb y) 0 : ℕ) = win0_0.index t 0 * win0_0.size 0 + y 0 from win0_0.rect_emb_val t y 0, hp.1]
    show _ * 1024 + _ = _
    simp only [ix2]
    omega
  · exact win0_0.rect_emb_val_of_index_zero t 1 hp.2 y

/-- The query weight's block at point `t`: 1024 rows from row `1024 * (t % 2)` on. -/
theorem blk_wq (c : Dev nD) (t : Fin cfg0.N) (y : S1024x4096.Idx) :
    iblk m c 1 t y = wIn m c (ix3 0 (y 1) ⟨1024 * (t.val % 2) + (y 0).val, by have := (y 0).isLt; change (y 0).val < 1024 at this; omega⟩) := by
  have hp := (places t).2.1
  have h0 : (y 0).val < 1024 := (y 0).isLt
  unfold iblk
  rw [View.read_apply]
  refine Eq.trans ?_ (wq_at m c ⟨1024 * (t.val % 2) + (y 0).val, by omega⟩ (y 1))
  refine congrArg (V m c main_v3) (Shape.idx_ext₂ ?_ ?_)
  · rw [show ((((cfg0.win 1).blk t).view.emb y) 0 : ℕ) = win0_1.index t 0 * win0_1.size 0 + y 0 from win0_1.rect_emb_val t y 0, hp.1]
    show _ * 1024 + _ = _
    simp only [ix2]
    omega
  · exact win0_1.rect_emb_val_of_index_zero t 1 hp.2 y

/-- Window 2's block at point `t`, its place given in elements: 64 rows of the transposed table from row `2048 + 64 * t` on. -/
theorem blk_side2 (c : Dev nD) (t : Fin cfg0.N) (y : S64x4096.Idx) :
    iblk m c 2 t y = wIn m c (ix3 0 (y 1) ⟨2048 + 64 * t.val + (y 0).val, by have := lt32 t; have := (y 0).isLt; change (y 0).val < 64 at this; omega⟩) := by
  have hp := (places t).2.2.1
  have ht := lt32 t
  have h0 : (y 0).val < 64 := (y 0).isLt
  unfold iblk
  rw [View.read_apply]
  refine Eq.trans ?_ (wt_at m c ⟨2048 + 64 * t.val + (y 0).val, by omega⟩ (y 1))
  refine congrArg (V m c main_v1) (Shape.idx_ext₂ ?_ ?_)
  · exact (win0_2.rect_emb_val_off t y 0).trans (congrArg (· + (y 0).val) hp.1)
  · exact win0_2.rect_emb_val_of_index_zero t 1 hp.2 y

/-- Window 3's block at point `t`, its place given in elements: 64 rows of the transposed table from row `4096 + 64 * t` on. -/
theorem blk_side3 (c : Dev nD) (t : Fin cfg0.N) (y : S64x4096.Idx) :
    iblk m c 3 t y = wIn m c (ix3 0 (y 1) ⟨4096 + 64 * t.val + (y 0).val, by have := lt32 t; have := (y 0).isLt; change (y 0).val < 64 at this; omega⟩) := by
  have hp := (places t).2.2.2.1
  have ht := lt32 t
  have h0 : (y 0).val < 64 := (y 0).isLt
  unfold iblk
  rw [View.read_apply]
  refine Eq.trans ?_ (wt_at m c ⟨4096 + 64 * t.val + (y 0).val, by omega⟩ (y 1))
  refine congrArg (V m c main_v1) (Shape.idx_ext₂ ?_ ?_)
  · exact (win0_3.rect_emb_val_off t y 0).trans (congrArg (· + (y 0).val) hp.1)
  · exact win0_3.rect_emb_val_of_index_zero t 1 hp.2 y

/-- Window 4's block at point `t`, its place given in elements: 64 rows of the transposed table from row `6160 + 64 * t` on. -/
theorem blk_side4 (c : Dev nD) (t : Fin cfg0.N) (y : S64x4096.Idx) :
    iblk m c 4 t y = wIn m c (ix3 0 (y 1) ⟨6160 + 64 * t.val + (y 0).val, by have := lt32 t; have := (y 0).isLt; change (y 0).val < 64 at this; omega⟩) := by
  have hp := (places t).2.2.2.2.1
  have ht := lt32 t
  have h0 : (y 0).val < 64 := (y 0).isLt
  unfold iblk
  rw [View.read_apply]
  refine Eq.trans ?_ (wt_at m c ⟨6160 + 64 * t.val + (y 0).val, by omega⟩ (y 1))
  refine congrArg (V m c main_v1) (Shape.idx_ext₂ ?_ ?_)
  · exact (win0_4.rect_emb_val_off t y 0).trans (congrArg (· + (y 0).val) hp.1)
  · exact win0_4.rect_emb_val_of_index_zero t 1 hp.2 y

/-- Offsets written out as two zeros are the zero offset. -/
theorem hz : (![0, 0] : Fin 2 → Nat) = fun _ => 0 := funext fun a => by fin_cases a <;> rfl

/-- The queries as one array: the product of row `i 0` of the activations with column `i 1` of the combined weight, scaled. -/
def queries (c : Dev nD) : S16384x2048.Idx → EReal := fun i =>
  (∑ k : Fin 4096, act m c (ix2 (i 0) k) * wIn m c (ix3 0 k ⟨(i 1).val, by have := (i 1).isLt; change (i 1).val < 2048 at this; omega⟩)) * scale

/-- What point `t` writes back to the queries is its block of `queries`. -/
theorem flushed_queries (c : Dev nD) (t : Fin cfg0.N) :
    (dats m 0 c).flushed 5 t = ((cfg0.win 5).blk t).view.read (Elt Ideal) (queries m c) := by
  have hp := (places t).2.2.2.2.2.1
  have ht := lt32 t
  rw [Value.flushed5]
  unfold out0_5
  rw [View.canon_unit_zero hz, View.ld_unit_zero hz, View.ld_unit_zero hz]
  funext y
  rw [View.read_apply]
  have h0 : (y 0).val < 1024 := (y 0).isLt
  have h1 : (y 1).val < 1024 := (y 1).isLt
  have e : ((cfg0.win 5).blk t).view.emb y = ix2 ⟨1024 * (t.val / 2) + (y 0).val, by omega⟩ ⟨1024 * (t.val % 2) + (y 1).val, by omega⟩ :=
    Shape.idx_ext₂
      (((win0_5.rect_emb_val t y 0).trans (by rw [hp.1]; show _ * 1024 + _ = _; simp only [ix2]; omega)))
      (((win0_5.rect_emb_val t y 1).trans (by rw [hp.2]; show _ * 1024 + _ = _; simp only [ix2]; omega)))
  show k0_pay4 (iblk m c 0 t) (iblk m c 1 t) y = queries m c _
  rw [e]
  pointwise [k0_pay4, queries]
  simp only [blk_act, blk_wq, q_scale]
  rfl

/-- The blocks of the queries tile their array, so it ends at `queries`. -/
theorem final_queries (c : Dev nD) : (dats m 0 c).arrAt 5 cfg0.N = queries m c :=
  (dats m 0 c).arrAt_eq_of_cover 5 (queries m c) (fun t _ => flushed_queries m c t) fun i => by
    have h0 : (i 0).val < 16384 := (i 0).isLt
    have h1 : (i 1).val < 2048 := (i 1).isLt
    let t : Fin cfg0.N := ⟨2 * ((i 0).val / 1024) + (i 1).val / 1024, by show _ < 32; omega⟩
    have hp := (places t).2.2.2.2.2.1
    refine ⟨t, flush0_5 t, ?_⟩
    show i ∈ ((View.whole main_v4_0).slice (win0_5.rect t)).set
    rw [View.set_slice_whole, Rect.mem_set_unit]
    intro a
    match a with
    | ⟨0, _⟩ =>
      show win0_5.index t 0 * 1024 ≤ (i 0).val ∧ (i 0).val < win0_5.index t 0 * 1024 + 1024
      rw [hp.1]; dsimp only [t]; omega
    | ⟨1, _⟩ =>
      show win0_5.index t 1 * 1024 ≤ (i 1).val ∧ (i 1).val < win0_5.index t 1 * 1024 + 1024
      rw [hp.2]; dsimp only [t]; omega

/-- The copied weight of result 1: row `r` is column `2048 + r` of the combined weight. -/
def side6 (c : Dev nD) : S2048x4096.Idx → EReal := fun i =>
  wIn m c (ix3 0 (i 1) ⟨2048 + (i 0).val, by have := (i 0).isLt; change (i 0).val < 2048 at this; omega⟩)

/-- What point `t` writes back to result 1 is its block of `side6`. -/
theorem flushed_side6 (c : Dev nD) (t : Fin cfg0.N) :
    (dats m 0 c).flushed 6 t = ((cfg0.win 6).blk t).view.read (Elt Ideal) (side6 m c) := by
  have hp := (places t).2.2.2.2.2.2.1
  have ht := lt32 t
  rw [Value.flushed6]
  unfold out0_6
  rw [View.canon_unit_zero hz, View.ld_unit_zero hz]
  funext y
  rw [View.read_apply]
  have h0 : (y 0).val < 64 := (y 0).isLt
  have e : ((cfg0.win 6).blk t).view.emb y = ix2 ⟨64 * t.val + (y 0).val, by omega⟩ (y 1) :=
    Shape.idx_ext₂
      ((win0_6.rect_emb_val t y 0).trans (by rw [hp.1]; show _ * 64 + _ = _; simp only [ix2]; omega))
      (win0_6.rect_emb_val_of_index_zero t 1 hp.2 y)
  show k0_pay1 (iblk m c 2 t) y = side6 m c _
  rw [e]
  unfold k0_pay1 side6
  rw [shapeCast_self]
  refine (blk_side2 m c t y).trans (congrArg (wIn m c) ?_)
  simp only [ix2, Nat.add_assoc]

/-- Its blocks tile the array, so it ends at `side6`. -/
theorem final_side6 (c : Dev nD) : (dats m 0 c).arrAt 6 cfg0.N = side6 m c :=
  (dats m 0 c).arrAt_eq_of_cover 6 (side6 m c) (fun t _ => flushed_side6 m c t) fun i => by
    have h0 : (i 0).val < 2048 := (i 0).isLt
    have h1 : (i 1).val < 4096 := (i 1).isLt
    let t : Fin cfg0.N := ⟨(i 0).val / 64, by show _ < 32; omega⟩
    have hp := (places t).2.2.2.2.2.2.1
    refine ⟨t, flush0_6 t, ?_⟩
    show i ∈ ((View.whole main_v4_1).slice (win0_6.rect t)).set
    rw [View.set_slice_whole, Rect.mem_set_unit]
    intro a
    match a with
    | ⟨0, _⟩ =>
      show win0_6.index t 0 * 64 ≤ (i 0).val ∧ (i 0).val < win0_6.index t 0 * 64 + 64
      rw [hp.1]; dsimp only [t]; omega
    | ⟨1, _⟩ =>
      show win0_6.index t 1 * 4096 ≤ (i 1).val ∧ (i 1).val < win0_6.index t 1 * 4096 + 4096
      rw [hp.2]; omega

/-- The copied weight of result 2: row `r` is column `4096 + r` of the combined weight. -/
def side7 (c : Dev nD) : S2048x4096.Idx → EReal := fun i =>
  wIn m c (ix3 0 (i 1) ⟨4096 + (i 0).val, by have := (i 0).isLt; change (i 0).val < 2048 at this; omega⟩)

/-- What point `t` writes back to result 2 is its block of `side7`. -/
theorem flushed_side7 (c : Dev nD) (t : Fin cfg0.N) :
    (dats m 0 c).flushed 7 t = ((cfg0.win 7).blk t).view.read (Elt Ideal) (side7 m c) := by
  have hp := (places t).2.2.2.2.2.2.2.1
  have ht := lt32 t
  rw [Value.flushed7]
  unfold out0_7
  rw [View.canon_unit_zero hz, View.ld_unit_zero hz]
  funext y
  rw [View.read_apply]
  have h0 : (y 0).val < 64 := (y 0).isLt
  have e : ((cfg0.win 7).blk t).view.emb y = ix2 ⟨64 * t.val + (y 0).val, by omega⟩ (y 1) :=
    Shape.idx_ext₂
      ((win0_7.rect_emb_val t y 0).trans (by rw [hp.1]; show _ * 64 + _ = _; simp only [ix2]; omega))
      (win0_7.rect_emb_val_of_index_zero t 1 hp.2 y)
  show k0_pay2 (iblk m c 3 t) y = side7 m c _
  rw [e]
  unfold k0_pay2 side7
  rw [shapeCast_self]
  refine (blk_side3 m c t y).trans (congrArg (wIn m c) ?_)
  simp only [ix2, Nat.add_assoc]

/-- Its blocks tile the array, so it ends at `side7`. -/
theorem final_side7 (c : Dev nD) : (dats m 0 c).arrAt 7 cfg0.N = side7 m c :=
  (dats m 0 c).arrAt_eq_of_cover 7 (side7 m c) (fun t _ => flushed_side7 m c t) fun i => by
    have h0 : (i 0).val < 2048 := (i 0).isLt
    have h1 : (i 1).val < 4096 := (i 1).isLt
    let t : Fin cfg0.N := ⟨(i 0).val / 64, by show _ < 32; omega⟩
    have hp := (places t).2.2.2.2.2.2.2.1
    refine ⟨t, flush0_7 t, ?_⟩
    show i ∈ ((View.whole main_v4_2).slice (win0_7.rect t)).set
    rw [View.set_slice_whole, Rect.mem_set_unit]
    intro a
    match a with
    | ⟨0, _⟩ =>
      show win0_7.index t 0 * 64 ≤ (i 0).val ∧ (i 0).val < win0_7.index t 0 * 64 + 64
      rw [hp.1]; dsimp only [t]; omega
    | ⟨1, _⟩ =>
      show win0_7.index t 1 * 4096 ≤ (i 1).val ∧ (i 1).val < win0_7.index t 1 * 4096 + 4096
      rw [hp.2]; omega

/-- The copied weight of result 3: row `r` is column `6160 + r` of the combined weight. -/
def side8 (c : Dev nD) : S2048x4096.Idx → EReal := fun i =>
  wIn m c (ix3 0 (i 1) ⟨6160 + (i 0).val, by have := (i 0).isLt; change (i 0).val < 2048 at this; omega⟩)

/-- What point `t` writes back to result 3 is its block of `side8`. -/
theorem flushed_side8 (c : Dev nD) (t : Fin cfg0.N) :
    (dats m 0 c).flushed 8 t = ((cfg0.win 8).blk t).view.read (Elt Ideal) (side8 m c) := by
  have hp := (places t).2.2.2.2.2.2.2.2
  have ht := lt32 t
  rw [Value.flushed8]
  unfold out0_8
  rw [View.canon_unit_zero hz, View.ld_unit_zero hz]
  funext y
  rw [View.read_apply]
  have h0 : (y 0).val < 64 := (y 0).isLt
  have e : ((cfg0.win 8).blk t).view.emb y = ix2 ⟨64 * t.val + (y 0).val, by omega⟩ (y 1) :=
    Shape.idx_ext₂
      ((win0_8.rect_emb_val t y 0).trans (by rw [hp.1]; show _ * 64 + _ = _; simp only [ix2]; omega))
      (win0_8.rect_emb_val_of_index_zero t 1 hp.2 y)
  show k0_pay3 (iblk m c 4 t) y = side8 m c _
  rw [e]
  unfold k0_pay3 side8
  rw [shapeCast_self]
  refine (blk_side4 m c t y).trans (congrArg (wIn m c) ?_)
  simp only [ix2, Nat.add_assoc]

/-- Its blocks tile the array, so it ends at `side8`. -/
theorem final_side8 (c : Dev nD) : (dats m 0 c).arrAt 8 cfg0.N = side8 m c :=
  (dats m 0 c).arrAt_eq_of_cover 8 (side8 m c) (fun t _ => flushed_side8 m c t) fun i => by
    have h0 : (i 0).val < 2048 := (i 0).isLt
    have h1 : (i 1).val < 4096 := (i 1).isLt
    let t : Fin cfg0.N := ⟨(i 0).val / 64, by show _ < 32; omega⟩
    have hp := (places t).2.2.2.2.2.2.2.2
    refine ⟨t, flush0_8 t, ?_⟩
    show i ∈ ((View.whole main_v4_3).slice (win0_8.rect t)).set
    rw [View.set_slice_whole, Rect.mem_set_unit]
    intro a
    match a with
    | ⟨0, _⟩ =>
      show win0_8.index t 0 * 64 ≤ (i 0).val ∧ (i 0).val < win0_8.index t 0 * 64 + 64
      rw [hp.1]; dsimp only [t]; omega
    | ⟨1, _⟩ =>
      show win0_8.index t 1 * 4096 ≤ (i 1).val ∧ (i 1).val < win0_8.index t 1 * 4096 + 4096
      rw [hp.2]; omega

/-- The run: the four results are the four functions above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v4_0) = queries m c
    ∧ r.2.mem ((c.tc : Thread nD τ).loc main_v4_1) = side6 m c
    ∧ r.2.mem ((c.tc : Thread nD τ).loc main_v4_2) = side7 m c
    ∧ r.2.mem ((c.tc : Thread nD τ).loc main_v4_3) = side8 m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => by
    obtain ⟨h0, h1, h2, h3, ha, hb⟩ := h c
    exact ⟨h0.trans (final_queries m c), h1.trans (final_side6 m c), h2.trans (final_side7 m c), h3.trans (final_side8 m c), ha, hb⟩)
    (Value.run_blocks m ρ)

end Cert.ProjQ

end
-- ==== Proof.ProjQ.Ref.lean ====
/-
  The reference of `proj_q_fox` read at an index, and the value claim: its four results are the four functions the kernel's
  results were shown to be.
-/
module

public import proofs.«01_k».proof.Proof.ProjQ.Kernel
public import proofs.«01_k».proof.Proof.Gen.ReferenceIdeal.Read
public import Idealize.ShloMosaic.Lib.Pointwise
public import Idealize.ShloMosaic.Lib.Quiescent

@[expose] public section

set_option maxRecDepth 16384

noncomputable section

namespace Cert.ProjQ

open Idealize.ShloMosaic Idealize.ShloMosaic.TcCoe Idealize.SL.Sem

open Cert.ReferenceIdeal.Read

/-- The combined weight without its leading axis of size one. -/
theorem flat_at (x1 : Cert.ReferenceIdeal.S1x4096x12304.Idx → EReal) (j : Cert.ReferenceIdeal.S4096x12304.Idx) :
    val_main_v0 (F := Ideal) x1 j = x1 (ix3 0 (j 0) (j 1)) := by
  pointwise [val_main_v0]

/-- The reference's queries are those of the kernel. -/
theorem ref_queries (m : (ℓ : Loc Cert.KernelIdeal.nD Cert.KernelIdeal.τ Cert.KernelIdeal.sig) → Buf (Elt Ideal) ℓ) (c : Dev Cert.KernelIdeal.nD) :
    val_main_v12 (F := Ideal) (act m c) (wIn m c) = queries m c := by
  funext i
  rw [val_main_v12_apply, val_main_v11_apply, val_main_v10_apply, val_main_v9_apply, val_main_cst_0_apply, val_main_v8_apply,
    val_main_v7_apply, val_main_v6_apply, val_main_cst_apply, val_main_v5_apply]
  simp only [val_main_v1_apply, val_main_v4_apply, val_main_v3_apply, val_main_v2_apply, flat_at]
  have e : ∀ k : Fin 4096, lidx_main_v5 i k = ix2 (i 0) k := fun k => funext fun a => match a with | ⟨0, _⟩ => rfl | ⟨1, _⟩ => rfl
  simp only [e]
  exact div_div_scale _

/-- The reference's first rounded weight is the kernel's first copy. -/
theorem ref_side6 (m : (ℓ : Loc Cert.KernelIdeal.nD Cert.KernelIdeal.τ Cert.KernelIdeal.sig) → Buf (Elt Ideal) ℓ) (c : Dev Cert.KernelIdeal.nD) :
    val_main_v15 (F := Ideal) (wIn m c) = side6 m c := by
  funext i
  rw [val_main_v15_apply, val_main_v14_apply, val_main_v13_apply, flat_at]
  rfl

/-- Its second rounded weight is the kernel's second copy. -/
theorem ref_side7 (m : (ℓ : Loc Cert.KernelIdeal.nD Cert.KernelIdeal.τ Cert.KernelIdeal.sig) → Buf (Elt Ideal) ℓ) (c : Dev Cert.KernelIdeal.nD) :
    val_main_v18 (F := Ideal) (wIn m c) = side7 m c := by
  funext i
  rw [val_main_v18_apply, val_main_v17_apply, val_main_v16_apply, flat_at]
  rfl

/-- Its third rounded weight is the kernel's third copy. -/
theorem ref_side8 (m : (ℓ : Loc Cert.KernelIdeal.nD Cert.KernelIdeal.τ Cert.KernelIdeal.sig) → Buf (Elt Ideal) ℓ) (c : Dev Cert.KernelIdeal.nD) :
    val_main_v21 (F := Ideal) (wIn m c) = side8 m c := by
  funext i
  rw [val_main_v21_apply, val_main_v20_apply, val_main_v19_apply, flat_at]
  rfl

/-- The kernel and the reference, started on equal arguments, end with equal results. -/
theorem algebraic : Cert.algebraic_KernelIdeal_ReferenceIdeal (hKernelIdeal := Cert.KernelIdeal.Gen.facts) (hReferenceIdeal := Cert.ReferenceIdeal.Gen.facts) := by
  intro m ρ m' ρ' _ hm
  refine ⟨queries m, side6 m, side7 m, side8 m, run m ρ, ?_⟩
  refine (θ_run _ _ _).mono (fun r h c => ?_) (Cert.ReferenceIdeal.Value.run (F := Ideal) m' ρ')
  obtain ⟨h0, h1, h2, h3, ha, hb⟩ := h c
  rw [(hm c).1, (hm c).2] at h0
  rw [(hm c).2] at h1 h2 h3
  exact ⟨h0.trans (ref_queries m c), h1.trans (ref_side6 m c), h2.trans (ref_side7 m c), h3.trans (ref_side8 m c), ha, hb⟩

end Cert.ProjQ

end
-- ==== Proof.ProjQSb.Kernel.lean ====
/-
  The query projection of the stick-breaking attention, `proj_q_sb`, read as a value. The launch walks a (16, 2) grid. Point
  `t` multiplies the 1024 rows of the activations from `1024 * (t / 2)` on by the transpose of the 1024 rows of the weight
  from `1024 * (t % 2)` on, scales the product by one constant and writes it to its block of the queries. Beside the
  product it copies 64 rows of each of two further weights, read from one transposed table through windows whose place is
  given in elements: from row `8208 + 64 * t` and `10256 + 64 * t` on. Here each of the three result arrays is
  shown to be one function of the two arguments.
-/
module

public import proofs.«01_k».proof.Defs
public import proofs.«01_k».proof.Proof.Gen.Kernel2Ideal.Value
public import proofs.«01_k».proof.Proof.ProjQ.Scale
public import Idealize.ShloMosaic.Lib.Pipeline.Value
public import Idealize.ShloMosaic.Lib.Pointwise
public import Idealize.ShloMosaic.Lib.StableHlo.ReadAt

@[expose] public section

set_option maxRecDepth 16384

noncomputable section

namespace Cert.ProjQSb

open Idealize.ShloMosaic Idealize.ShloMosaic.TcCoe Idealize.SL.Sem Cert.Kernel2Ideal Cert.Kernel2Ideal.Gen
open Idealize.ShloMosaic.Pipeline (Dat Cfg Window)
open Cert.ProjQ (scale)

variable (m : (ℓ : Loc nD τ sig) → Buf (Elt Ideal) ℓ) (ρ : Dev nD → PrngReg)

/-- The activations, one row per token. -/
abbrev act (c : Dev nD) : S16384x4096.Idx → EReal := m ((c : Thread nD τ).loc main_arg0)

/-- The combined projection weight, one column per projected feature. -/
abbrev wIn (c : Dev nD) : S1x4096x12304.Idx → EReal := m ((c : Thread nD τ).loc main_arg1)

/-- The kernel's literal, named, is the scale. -/
theorem q_scale : Named.named (F := Ideal) κ "q_scale" (φ := .f32) 0x3E0293EE#32 = scale :=
  IdealRules.named_const.ideal_named_scalar _ _ _ _ rfl

/-- The query weight as the launch finds it: row `r` is column `6160 + r` of the combined weight. -/
theorem wq_at (c : Dev nD) (r : Fin 2048) (k : Fin 4096) :
    V m c main_v3 (ix2 r k) = wIn m c (ix3 0 k ⟨6160 + r.val, by omega⟩) := by
  unfold V
  after_reads_at

/-- The transposed table as the launch finds it: row `r` is column `r` of the combined weight. -/
theorem wt_at (c : Dev nD) (r : Fin 12304) (k : Fin 4096) :
    V m c main_v1 (ix2 r k) = wIn m c (ix3 0 k r) := by
  unfold V
  after_reads_at

/-- Where each window's block lies at point `t`: the row blocks of the activations and of the queries move with `t / 2`, those
    of the query weight and the queries' columns with `t % 2`, and the two copied weights' windows begin 64 rows further on at
    each point. -/
theorem places : ∀ t : Fin cfg0.N,
    (win0_0.index t 0 = t.val / 2 ∧ win0_0.index t 1 = 0)
    ∧ (win0_1.index t 0 = t.val % 2 ∧ win0_1.index t 1 = 0)
    ∧ (win0_2.index t 0 = 8208 + 64 * t.val ∧ win0_2.index t 1 = 0)
    ∧ (win0_3.index t 0 = 10256 + 64 * t.val ∧ win0_3.index t 1 = 0)
    ∧ (win0_4.index t 0 = t.val / 2 ∧ win0_4.index t 1 = t.val % 2)
    ∧ (win0_5.index t 0 = t.val ∧ win0_5.index t 1 = 0)
    ∧ (win0_6.index t 0 = t.val ∧ win0_6.index t 1 = 0) :=
  (by decide +kernel : ∀ t : Fin grid0.N, _)

/-- The launch has 32 points. -/
theorem lt32 (t : Fin cfg0.N) : t.val < 32 := t.isLt

/-- The activations' block at point `t`: 1024 rows from row `1024 * (t / 2)` on. -/
theorem blk_act (c : Dev nD) (t : Fin cfg0.N) (y : S1024x4096.Idx) :
    iblk m c 0 t y = act m c (ix2 ⟨1024 * (t.val / 2) + (y 0).val, by have := lt32 t; have := (y 0).isLt; change (y 0).val < 1024 at this; omega⟩ (y 1)) := by
  have hp := (places t).1
  unfold iblk
  rw [View.read_apply]
  show V m c main_arg0 _ = _
  rw [V_main_arg0]
  refine congrArg (act m c) (Shape.idx_ext₂ ?_ ?_)
  · rw [show ((((cfg0.win 0).blk t).view.emb y) 0 : ℕ) = win0_0.index t 0 * win0_0.size 0 + y 0 from win0_0.rect_emb_val t y 0, hp.1]
    show _ * 1024 + _ = _
    simp only [ix2]
    omega
  · exact win0_0.rect_emb_val_of_index_zero t 1 hp.2 y

/-- The query weight's block at point `t`: 1024 rows from row `1024 * (t % 2)` on. -/
theorem blk_wq (c : Dev nD) (t : Fin cfg0.N) (y : S1024x4096.Idx) :
    iblk m c 1 t y = wIn m c (ix3 0 (y 1) ⟨6160 + (1024 * (t.val % 2) + (y 0).val), by have := (y 0).isLt; change (y 0).val < 1024 at this; omega⟩) := by
  have hp := (places t).2.1
  have h0 : (y 0).val < 1024 := (y 0).isLt
  unfold iblk
  rw [View.read_apply]
  refine Eq.trans ?_ (wq_at m c ⟨1024 * (t.val % 2) + (y 0).val, by omega⟩ (y 1))
  refine congrArg (V m c main_v3) (Shape.idx_ext₂ ?_ ?_)
  · rw [show ((((cfg0.win 1).blk t).view.emb y) 0 : ℕ) = win0_1.index t 0 * win0_1.size 0 + y 0 from win0_1.rect_emb_val t y 0, hp.1]
    show _ * 1024 + _ = _
    simp only [ix2]
    omega
  · exact win0_1.rect_emb_val_of_index_zero t 1 hp.2 y

/-- Window 2's block at point `t`, its place given in elements: 64 rows of the transposed table from row `8208 + 64 * t` on. -/
theorem blk_side2 (c : Dev nD) (t : Fin cfg0.N) (y : S64x4096.Idx) :
    iblk m c 2 t y = wIn m c (ix3 0 (y 1) ⟨8208 + 64 * t.val + (y 0).val, by have := lt32 t; have := (y 0).isLt; change (y 0).val < 64 at this; omega⟩) := by
  have hp := (places t).2.2.1
  have ht := lt32 t
  have h0 : (y 0).val < 64 := (y 0).isLt
  unfold iblk
  rw [View.read_apply]
  refine Eq.trans ?_ (wt_at m c ⟨8208 + 64 * t.val + (y 0).val, by omega⟩ (y 1))
  refine congrArg (V m c main_v1) (Shape.idx_ext₂ ?_ ?_)
  · exact (win0_2.rect_emb_val_off t y 0).trans (congrArg (· + (y 0).val) hp.1)
  · exact win0_2.rect_emb_val_of_index_zero t 1 hp.2 y

/-- Window 3's block at point `t`, its place given in elements: 64 rows of the transposed table from row `10256 + 64 * t` on. -/
theorem blk_side3 (c : Dev nD) (t : Fin cfg0.N) (y : S64x4096.Idx) :
    iblk m c 3 t y = wIn m c (ix3 0 (y 1) ⟨10256 + 64 * t.val + (y 0).val, by have := lt32 t; have := (y 0).isLt; change (y 0).val < 64 at this; omega⟩) := by
  have hp := (places t).2.2.2.1
  have ht := lt32 t
  have h0 : (y 0).val < 64 := (y 0).isLt
  unfold iblk
  rw [View.read_apply]
  refine Eq.trans ?_ (wt_at m c ⟨10256 + 64 * t.val + (y 0).val, by omega⟩ (y 1))
  refine congrArg (V m c main_v1) (Shape.idx_ext₂ ?_ ?_)
  · exact (win0_3.rect_emb_val_off t y 0).trans (congrArg (· + (y 0).val) hp.1)
  · exact win0_3.rect_emb_val_of_index_zero t 1 hp.2 y

/-- Offsets written out as two zeros are the zero offset. -/
theorem hz : (![0, 0] : Fin 2 → Nat) = fun _ => 0 := funext fun a => by fin_cases a <;> rfl

/-- The queries as one array: the product of row `i 0` of the activations with column `6160 + i 1` of the combined weight, scaled. -/
def queries (c : Dev nD) : S16384x2048.Idx → EReal := fun i =>
  (∑ k : Fin 4096, act m c (ix2 (i 0) k) * wIn m c (ix3 0 k ⟨6160 + (i 1).val, by have := (i 1).isLt; change (i 1).val < 2048 at this; omega⟩)) * scale

/-- What point `t` writes back to the queries is its block of `queries`. -/
theorem flushed_queries (c : Dev nD) (t : Fin cfg0.N) :
    (dats m 0 c).flushed 4 t = ((cfg0.win 4).blk t).view.read (Elt Ideal) (queries m c) := by
  have hp := (places t).2.2.2.2.1
  have ht := lt32 t
  rw [Value.flushed4]
  unfold out0_4
  rw [View.canon_unit_zero hz, View.ld_unit_zero hz, View.ld_unit_zero hz]
  funext y
  rw [View.read_apply]
  have h0 : (y 0).val < 1024 := (y 0).isLt
  have h1 : (y 1).val < 1024 := (y 1).isLt
  have e : ((cfg0.win 4).blk t).view.emb y = ix2 ⟨1024 * (t.val / 2) + (y 0).val, by omega⟩ ⟨1024 * (t.val % 2) + (y 1).val, by omega⟩ :=
    Shape.idx_ext₂
      (((win0_4.rect_emb_val t y 0).trans (by rw [hp.1]; show _ * 1024 + _ = _; simp only [ix2]; omega)))
      (((win0_4.rect_emb_val t y 1).trans (by rw [hp.2]; show _ * 1024 + _ = _; simp only [ix2]; omega)))
  show k0_pay3 (iblk m c 0 t) (iblk m c 1 t) y = queries m c _
  rw [e]
  pointwise [k0_pay3, queries]
  simp only [blk_act, blk_wq, q_scale]
  rfl

/-- The blocks of the queries tile their array, so it ends at `queries`. -/
theorem final_queries (c : Dev nD) : (dats m 0 c).arrAt 4 cfg0.N = queries m c :=
  (dats m 0 c).arrAt_eq_of_cover 4 (queries m c) (fun t _ => flushed_queries m c t) fun i => by
    have h0 : (i 0).val < 16384 := (i 0).isLt
    have h1 : (i 1).val < 2048 := (i 1).isLt
    let t : Fin cfg0.N := ⟨2 * ((i 0).val / 1024) + (i 1).val / 1024, by show _ < 32; omega⟩
    have hp := (places t).2.2.2.2.1
    refine ⟨t, flush0_4 t, ?_⟩
    show i ∈ ((View.whole main_v4_0).slice (win0_4.rect t)).set
    rw [View.set_slice_whole, Rect.mem_set_unit]
    intro a
    match a with
    | ⟨0, _⟩ =>
      show win0_4.index t 0 * 1024 ≤ (i 0).val ∧ (i 0).val < win0_4.index t 0 * 1024 + 1024
      rw [hp.1]; dsimp only [t]; omega
    | ⟨1, _⟩ =>
      show win0_4.index t 1 * 1024 ≤ (i 1).val ∧ (i 1).val < win0_4.index t 1 * 1024 + 1024
      rw [hp.2]; dsimp only [t]; omega

/-- The copied weight of result 1: row `r` is column `8208 + r` of the combined weight. -/
def side5 (c : Dev nD) : S2048x4096.Idx → EReal := fun i =>
  wIn m c (ix3 0 (i 1) ⟨8208 + (i 0).val, by have := (i 0).isLt; change (i 0).val < 2048 at this; omega⟩)

/-- What point `t` writes back to result 1 is its block of `side5`. -/
theorem flushed_side5 (c : Dev nD) (t : Fin cfg0.N) :
    (dats m 0 c).flushed 5 t = ((cfg0.win 5).blk t).view.read (Elt Ideal) (side5 m c) := by
  have hp := (places t).2.2.2.2.2.1
  have ht := lt32 t
  rw [Value.flushed5]
  unfold out0_5
  rw [View.canon_unit_zero hz, View.ld_unit_zero hz]
  funext y
  rw [View.read_apply]
  have h0 : (y 0).val < 64 := (y 0).isLt
  have e : ((cfg0.win 5).blk t).view.emb y = ix2 ⟨64 * t.val + (y 0).val, by omega⟩ (y 1) :=
    Shape.idx_ext₂
      ((win0_5.rect_emb_val t y 0).trans (by rw [hp.1]; show _ * 64 + _ = _; simp only [ix2]; omega))
      (win0_5.rect_emb_val_of_index_zero t 1 hp.2 y)
  show k0_pay1 (iblk m c 2 t) y = side5 m c _
  rw [e]
  unfold k0_pay1 side5
  rw [shapeCast_self]
  refine (blk_side2 m c t y).trans (congrArg (wIn m c) ?_)
  simp only [ix2, Nat.add_assoc]

/-- Its blocks tile the array, so it ends at `side5`. -/
theorem final_side5 (c : Dev nD) : (dats m 0 c).arrAt 5 cfg0.N = side5 m c :=
  (dats m 0 c).arrAt_eq_of_cover 5 (side5 m c) (fun t _ => flushed_side5 m c t) fun i => by
    have h0 : (i 0).val < 2048 := (i 0).isLt
    have h1 : (i 1).val < 4096 := (i 1).isLt
    let t : Fin cfg0.N := ⟨(i 0).val / 64, by show _ < 32; omega⟩
    have hp := (places t).2.2.2.2.2.1
    refine ⟨t, flush0_5 t, ?_⟩
    show i ∈ ((View.whole main_v4_1).slice (win0_5.rect t)).set
    rw [View.set_slice_whole, Rect.mem_set_unit]
    intro a
    match a with
    | ⟨0, _⟩ =>
      show win0_5.index t 0 * 64 ≤ (i 0).val ∧ (i 0).val < win0_5.index t 0 * 64 + 64
      rw [hp.1]; dsimp only [t]; omega
    | ⟨1, _⟩ =>
      show win0_5.index t 1 * 4096 ≤ (i 1).val ∧ (i 1).val < win0_5.index t 1 * 4096 + 4096
      rw [hp.2]; omega

/-- The copied weight of result 2: row `r` is column `10256 + r` of the combined weight. -/
def side6 (c : Dev nD) : S2048x4096.Idx → EReal := fun i =>
  wIn m c (ix3 0 (i 1) ⟨10256 + (i 0).val, by have := (i 0).isLt; change (i 0).val < 2048 at this; omega⟩)

/-- What point `t` writes back to result 2 is its block of `side6`. -/
theorem flushed_side6 (c : Dev nD) (t : Fin cfg0.N) :
    (dats m 0 c).flushed 6 t = ((cfg0.win 6).blk t).view.read (Elt Ideal) (side6 m c) := by
  have hp := (places t).2.2.2.2.2.2
  have ht := lt32 t
  rw [Value.flushed6]
  unfold out0_6
  rw [View.canon_unit_zero hz, View.ld_unit_zero hz]
  funext y
  rw [View.read_apply]
  have h0 : (y 0).val < 64 := (y 0).isLt
  have e : ((cfg0.win 6).blk t).view.emb y = ix2 ⟨64 * t.val + (y 0).val, by omega⟩ (y 1) :=
    Shape.idx_ext₂
      ((win0_6.rect_emb_val t y 0).trans (by rw [hp.1]; show _ * 64 + _ = _; simp only [ix2]; omega))
      (win0_6.rect_emb_val_of_index_zero t 1 hp.2 y)
  show k0_pay2 (iblk m c 3 t) y = side6 m c _
  rw [e]
  unfold k0_pay2 side6
  rw [shapeCast_self]
  refine (blk_side3 m c t y).trans (congrArg (wIn m c) ?_)
  simp only [ix2, Nat.add_assoc]

/-- Its blocks tile the array, so it ends at `side6`. -/
theorem final_side6 (c : Dev nD) : (dats m 0 c).arrAt 6 cfg0.N = side6 m c :=
  (dats m 0 c).arrAt_eq_of_cover 6 (side6 m c) (fun t _ => flushed_side6 m c t) fun i => by
    have h0 : (i 0).val < 2048 := (i 0).isLt
    have h1 : (i 1).val < 4096 := (i 1).isLt
    let t : Fin cfg0.N := ⟨(i 0).val / 64, by show _ < 32; omega⟩
    have hp := (places t).2.2.2.2.2.2
    refine ⟨t, flush0_6 t, ?_⟩
    show i ∈ ((View.whole main_v4_2).slice (win0_6.rect t)).set
    rw [View.set_slice_whole, Rect.mem_set_unit]
    intro a
    match a with
    | ⟨0, _⟩ =>
      show win0_6.index t 0 * 64 ≤ (i 0).val ∧ (i 0).val < win0_6.index t 0 * 64 + 64
      rw [hp.1]; dsimp only [t]; omega
    | ⟨1, _⟩ =>
      show win0_6.index t 1 * 4096 ≤ (i 1).val ∧ (i 1).val < win0_6.index t 1 * 4096 + 4096
      rw [hp.2]; omega

/-- The run: the three results are the three functions above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v4_0) = queries m c
    ∧ r.2.mem ((c.tc : Thread nD τ).loc main_v4_1) = side5 m c
    ∧ r.2.mem ((c.tc : Thread nD τ).loc main_v4_2) = side6 m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => by
    obtain ⟨h0, h1, h2, ha, hb⟩ := h c
    exact ⟨h0.trans (final_queries m c), h1.trans (final_side5 m c), h2.trans (final_side6 m c), ha, hb⟩)
    (Value.run_blocks m ρ)

end Cert.ProjQSb

end
-- ==== Proof.ProjQSb.Ref.lean ====
/-
  The reference of `proj_q_sb` read at an index, and the value claim: its three results are the three functions the kernel's
  results were shown to be.
-/
module

public import proofs.«01_k».proof.Proof.ProjQSb.Kernel
public import proofs.«01_k».proof.Proof.Gen.Reference2Ideal.Read
public import Idealize.ShloMosaic.Lib.Pointwise
public import Idealize.ShloMosaic.Lib.Quiescent

@[expose] public section

set_option maxRecDepth 16384

noncomputable section

namespace Cert.ProjQSb

open Idealize.ShloMosaic Idealize.ShloMosaic.TcCoe Idealize.SL.Sem

open Cert.Reference2Ideal.Read

/-- The combined weight without its leading axis of size one. -/
theorem flat_at (x1 : Cert.Reference2Ideal.S1x4096x12304.Idx → EReal) (j : Cert.Reference2Ideal.S4096x12304.Idx) :
    val_main_v0 (F := Ideal) x1 j = x1 (ix3 0 (j 0) (j 1)) := by
  pointwise [val_main_v0]

/-- The reference's queries are those of the kernel. -/
theorem ref_queries (m : (ℓ : Loc Cert.Kernel2Ideal.nD Cert.Kernel2Ideal.τ Cert.Kernel2Ideal.sig) → Buf (Elt Ideal) ℓ) (c : Dev Cert.Kernel2Ideal.nD) :
    val_main_v12 (F := Ideal) (act m c) (wIn m c) = queries m c := by
  funext i
  rw [val_main_v12_apply, val_main_v11_apply, val_main_v10_apply, val_main_v9_apply, val_main_cst_0_apply, val_main_v8_apply,
    val_main_v7_apply, val_main_v6_apply, val_main_cst_apply, val_main_v5_apply]
  simp only [val_main_v1_apply, val_main_v4_apply, val_main_v3_apply, val_main_v2_apply, flat_at]
  have e : ∀ k : Fin 4096, lidx_main_v5 i k = ix2 (i 0) k := fun k => funext fun a => match a with | ⟨0, _⟩ => rfl | ⟨1, _⟩ => rfl
  simp only [e]
  exact Cert.ProjQ.div_div_scale _

/-- The reference's first rounded weight is the kernel's first copy. -/
theorem ref_side5 (m : (ℓ : Loc Cert.Kernel2Ideal.nD Cert.Kernel2Ideal.τ Cert.Kernel2Ideal.sig) → Buf (Elt Ideal) ℓ) (c : Dev Cert.Kernel2Ideal.nD) :
    val_main_v15 (F := Ideal) (wIn m c) = side5 m c := by
  funext i
  rw [val_main_v15_apply, val_main_v14_apply, val_main_v13_apply, flat_at]
  rfl

/-- Its second rounded weight is the kernel's second copy. -/
theorem ref_side6 (m : (ℓ : Loc Cert.Kernel2Ideal.nD Cert.Kernel2Ideal.τ Cert.Kernel2Ideal.sig) → Buf (Elt Ideal) ℓ) (c : Dev Cert.Kernel2Ideal.nD) :
    val_main_v18 (F := Ideal) (wIn m c) = side6 m c := by
  funext i
  rw [val_main_v18_apply, val_main_v17_apply, val_main_v16_apply, flat_at]
  rfl

/-- The kernel and the reference, started on equal arguments, end with equal results. -/
theorem algebraic : Cert.algebraic_Kernel2Ideal_Reference2Ideal (hKernel2Ideal := Cert.Kernel2Ideal.Gen.facts) (hReference2Ideal := Cert.Reference2Ideal.Gen.facts) := by
  intro m ρ m' ρ' _ hm
  refine ⟨queries m, side5 m, side6 m, run m ρ, ?_⟩
  refine (θ_run _ _ _).mono (fun r h c => ?_) (Cert.Reference2Ideal.Value.run (F := Ideal) m' ρ')
  obtain ⟨h0, h1, h2, ha, hb⟩ := h c
  rw [(hm c).1, (hm c).2] at h0
  rw [(hm c).2] at h1 h2
  exact ⟨h0.trans (ref_queries m c), h1.trans (ref_side5 m c), h2.trans (ref_side6 m c), ha, hb⟩

end Cert.ProjQSb

end
-- ==== Proof.Tail.Norms.lean ====
/-
  The two launches that normalise the rows of a 16384 × 4096 array: the one before the feed-forward part and the last one of the
  layer. Each is shown, for whatever arrays it finds, to leave one function of them: every row over the root of its mean square,
  times the gain.
-/
module

public import proofs.«01_k».proof.Defs
public import proofs.«01_k».proof.Proof.Gen.Kernel3Ideal.Frame
public import Idealize.ShloMosaic.Lib.Pipeline.Value
public import Idealize.ShloMosaic.Lib.Pointwise
public import Idealize.ShloMosaic.Lib.StableHlo.ReadAt

@[expose] public section

set_option maxRecDepth 16384

noncomputable section

namespace Cert.Tail

open Idealize.ShloMosaic Idealize.ShloMosaic.TcCoe Idealize.SL.Sem Cert.Kernel3Ideal Cert.Kernel3Ideal.Gen
open Idealize.ShloMosaic.Pipeline (Dat Cfg Window)

variable (V : (c : Dev nD) → (b : Ref sig .tc) → Buf (Elt Ideal) ((c : Thread nD τ).loc b))

/-- Offsets written out as two zeros are the zero offset. -/
theorem hz : (![0, 0] : Fin 2 → Nat) = fun _ => 0 := funext fun a => by fin_cases a <;> rfl

/-- The literal added under the root of every normalisation. -/
abbrev eps : EReal := Ideal.ofBits .f32 0x358637BD#32

/-- Root-mean-square normalisation of the rows of a `16384 × 4096` array, with a gain per column. -/
def norm4096 (x : S16384x4096.Idx → EReal) (g : S1x4096.Idx → EReal) : S16384x4096.Idx → EReal := fun i =>
  x i * Ideal.rsqrt (Ideal.div (∑ k : Fin 4096, x (ix2 (i 0) k) * x (ix2 (i 0) k)) (Ideal.ofBits .f32 0x45800000#32) + eps) * g (ix2 0 (i 1))

/-! The normalisation before the feed-forward block. -/

/-- Where each window's block lies at point `t` of the launch. -/
theorem places2 : ∀ t : Fin cfg2.N,
    (win2_0.index t 0 = t.val ∧ win2_0.index t 1 = 0)
    ∧ (win2_1.index t 0 = 0 ∧ win2_1.index t 1 = 0)
    ∧ (win2_2.index t 0 = t.val ∧ win2_2.index t 1 = 0) :=
  (by decide +kernel : ∀ t : Fin grid2.N, _)

/-- The launch has 32 points. -/
theorem lt2 (t : Fin cfg2.N) : t.val < 32 := t.isLt

/-- The input's block at point `t`: 512 rows. -/
theorem blk2_0 (c : Dev nD) (t : Fin cfg2.N) (y : S512x4096.Idx) :
    iblk2 V c 0 t y = V c main_v7 (ix2 ⟨512 * (t.val) + (y 0).val, by have := lt2 t; have := (y 0).isLt; change (y 0).val < 512 at this; omega⟩ (y 1)) := by
  have hp := (places2 t).1
  unfold iblk2
  rw [View.read_apply]
  refine congrArg (V c main_v7) (Shape.idx_ext₂ ?_ ?_)
  · rw [show ((((cfg2.win 0).blk t).view.emb y) 0 : ℕ) = win2_0.index t 0 * win2_0.size 0 + y 0 from win2_0.rect_emb_val t y 0, hp.1]
    show _ * 512 + _ = _
    simp only [ix2]
    omega
  · exact win2_0.rect_emb_val_of_index_zero t 1 hp.2 y

/-- The gain is read whole at every point. -/
theorem blk2_1 (c : Dev nD) (t : Fin cfg2.N) (y : S1x4096.Idx) :
    iblk2 V c 1 t y = V c main_v9 y := by
  have hp := (places2 t).2.1
  unfold iblk2
  rw [View.read_apply]
  refine congrArg (V c main_v9) (Shape.idx_ext₂ ?_ ?_)
  · exact win2_1.rect_emb_val_of_index_zero t 0 hp.1 y
  · exact win2_1.rect_emb_val_of_index_zero t 1 hp.2 y

/-- What point `t` writes back is its 512 rows of the normalised array. -/
theorem flushed2 (c : Dev nD) (t : Fin cfg2.N) :
    (dat2 V c).flushed 2 t = ((cfg2.win 2).blk t).view.read (Elt Ideal) (norm4096 (V c main_v7) (V c main_v9)) := by
  have hp := (places2 t).2.2
  have ht := lt2 t
  show (cfg2.win 2).cut (grid2.coords t) ((dat2 V c).after 2 t) = _
  rw [after2_2]
  unfold out2_2
  rw [View.canon_unit_zero hz, View.ld_unit_zero hz, View.ld_unit_zero hz]
  funext y
  rw [View.read_apply]
  have h0 : (y 0).val < 512 := (y 0).isLt
  have h1 : (y 1).val < 4096 := (y 1).isLt
  have e : ((cfg2.win 2).blk t).view.emb y = ix2 ⟨512 * (t.val) + (y 0).val, by omega⟩ (y 1) :=
    Shape.idx_ext₂
      ((win2_2.rect_emb_val t y 0).trans (by rw [hp.1]; show _ * 512 + _ = _; simp only [ix2]; omega))
      (win2_2.rect_emb_val_of_index_zero t 1 hp.2 y)
  show k2_pay1 (iblk2 V c 0 t) (iblk2 V c 1 t) y = norm4096 _ _ _
  rw [e]
  pointwise [k2_pay1, norm4096]
  simp only [blk2_0, blk2_1]
  rfl

/-- The blocks tile the result array, so it ends as that function of the arrays the launch reads. -/
theorem final2 (c : Dev nD) : (dat2 V c).arrAt 2 cfg2.N = (norm4096 (V c main_v7) (V c main_v9)) :=
  (dat2 V c).arrAt_eq_of_cover 2 _ (fun t _ => flushed2 V c t) fun i => by
    have h0 : (i 0).val < 16384 := (i 0).isLt
    have h1 : (i 1).val < 4096 := (i 1).isLt
    let t : Fin cfg2.N := ⟨(i 0).val / 512, by show _ < 32; omega⟩
    have hp := (places2 t).2.2
    refine ⟨t, flush2_2 t, ?_⟩
    show i ∈ ((View.whole main_v10).slice (win2_2.rect t)).set
    rw [View.set_slice_whole, Rect.mem_set_unit]
    intro a
    match a with
    | ⟨0, _⟩ =>
      show win2_2.index t 0 * 512 ≤ (i 0).val ∧ (i 0).val < win2_2.index t 0 * 512 + 512
      rw [hp.1]; dsimp only [t]; omega
    | ⟨1, _⟩ =>
      show win2_2.index t 1 * 4096 ≤ (i 1).val ∧ (i 1).val < win2_2.index t 1 * 4096 + 4096
      rw [hp.2]; omega

/-! The final normalisation. -/

/-- Where each window's block lies at point `t` of the launch. -/
theorem places5 : ∀ t : Fin cfg5.N,
    (win5_0.index t 0 = t.val ∧ win5_0.index t 1 = 0)
    ∧ (win5_1.index t 0 = 0 ∧ win5_1.index t 1 = 0)
    ∧ (win5_2.index t 0 = t.val ∧ win5_2.index t 1 = 0) :=
  (by decide +kernel : ∀ t : Fin grid5.N, _)

/-- The launch has 32 points. -/
theorem lt5 (t : Fin cfg5.N) : t.val < 32 := t.isLt

/-- The input's block at point `t`: 512 rows. -/
theorem blk5_0 (c : Dev nD) (t : Fin cfg5.N) (y : S512x4096.Idx) :
    iblk5 V c 0 t y = V c main_v18 (ix2 ⟨512 * (t.val) + (y 0).val, by have := lt5 t; have := (y 0).isLt; change (y 0).val < 512 at this; omega⟩ (y 1)) := by
  have hp := (places5 t).1
  unfold iblk5
  rw [View.read_apply]
  refine congrArg (V c main_v18) (Shape.idx_ext₂ ?_ ?_)
  · rw [show ((((cfg5.win 0).blk t).view.emb y) 0 : ℕ) = win5_0.index t 0 * win5_0.size 0 + y 0 from win5_0.rect_emb_val t y 0, hp.1]
    show _ * 512 + _ = _
    simp only [ix2]
    omega
  · exact win5_0.rect_emb_val_of_index_zero t 1 hp.2 y

/-- The gain is read whole at every point. -/
theorem blk5_1 (c : Dev nD) (t : Fin cfg5.N) (y : S1x4096.Idx) :
    iblk5 V c 1 t y = V c main_v19 y := by
  have hp := (places5 t).2.1
  unfold iblk5
  rw [View.read_apply]
  refine congrArg (V c main_v19) (Shape.idx_ext₂ ?_ ?_)
  · exact win5_1.rect_emb_val_of_index_zero t 0 hp.1 y
  · exact win5_1.rect_emb_val_of_index_zero t 1 hp.2 y

/-- What point `t` writes back is its 512 rows of the normalised array. -/
theorem flushed5 (c : Dev nD) (t : Fin cfg5.N) :
    (dat5 V c).flushed 2 t = ((cfg5.win 2).blk t).view.read (Elt Ideal) (norm4096 (V c main_v18) (V c main_v19)) := by
  have hp := (places5 t).2.2
  have ht := lt5 t
  show (cfg5.win 2).cut (grid5.coords t) ((dat5 V c).after 2 t) = _
  rw [after5_2]
  unfold out5_2
  rw [View.canon_unit_zero hz, View.ld_unit_zero hz, View.ld_unit_zero hz]
  funext y
  rw [View.read_apply]
  have h0 : (y 0).val < 512 := (y 0).isLt
  have h1 : (y 1).val < 4096 := (y 1).isLt
  have e : ((cfg5.win 2).blk t).view.emb y = ix2 ⟨512 * (t.val) + (y 0).val, by omega⟩ (y 1) :=
    Shape.idx_ext₂
      ((win5_2.rect_emb_val t y 0).trans (by rw [hp.1]; show _ * 512 + _ = _; simp only [ix2]; omega))
      (win5_2.rect_emb_val_of_index_zero t 1 hp.2 y)
  show k5_pay1 (iblk5 V c 0 t) (iblk5 V c 1 t) y = norm4096 _ _ _
  rw [e]
  pointwise [k5_pay1, norm4096]
  simp only [blk5_0, blk5_1]
  rfl

/-- The blocks tile the result array, so it ends as that function of the arrays the launch reads. -/
theorem final5 (c : Dev nD) : (dat5 V c).arrAt 2 cfg5.N = (norm4096 (V c main_v18) (V c main_v19)) :=
  (dat5 V c).arrAt_eq_of_cover 2 _ (fun t _ => flushed5 V c t) fun i => by
    have h0 : (i 0).val < 16384 := (i 0).isLt
    have h1 : (i 1).val < 4096 := (i 1).isLt
    let t : Fin cfg5.N := ⟨(i 0).val / 512, by show _ < 32; omega⟩
    have hp := (places5 t).2.2
    refine ⟨t, flush5_2 t, ?_⟩
    show i ∈ ((View.whole main_v20).slice (win5_2.rect t)).set
    rw [View.set_slice_whole, Rect.mem_set_unit]
    intro a
    match a with
    | ⟨0, _⟩ =>
      show win5_2.index t 0 * 512 ≤ (i 0).val ∧ (i 0).val < win5_2.index t 0 * 512 + 512
      rw [hp.1]; dsimp only [t]; omega
    | ⟨1, _⟩ =>
      show win5_2.index t 1 * 4096 ≤ (i 1).val ∧ (i 1).val < win5_2.index t 1 * 4096 + 4096
      rw [hp.2]; omega

end Cert.Tail

end
-- ==== Proof.Tail.Products.lean ====
/-
  The three launches that multiply by a weight, at 16384 rows: the output projection and the down projection, each added to
  the stream it continues, and the gated pair of products of the feed-forward part. Each is shown, for whatever arrays it finds,
  to leave one function of them.
-/
module

public import proofs.«01_k».proof.Defs
public import proofs.«01_k».proof.Proof.Gen.Kernel3Ideal.Frame
public import proofs.«01_k».proof.Proof.Tail.Norms
public import Idealize.ShloMosaic.Lib.Pipeline.Value
public import Idealize.ShloMosaic.Lib.Pointwise
public import Idealize.ShloMosaic.Lib.StableHlo.ReadAt

@[expose] public section

set_option maxRecDepth 16384

noncomputable section

namespace Cert.Tail

open Idealize.ShloMosaic Idealize.ShloMosaic.TcCoe Idealize.SL.Sem Cert.Kernel3Ideal Cert.Kernel3Ideal.Gen
open Idealize.ShloMosaic.Pipeline (Dat Cfg Window)

variable (V : (c : Dev nD) → (b : Ref sig .tc) → Buf (Elt Ideal) ((c : Thread nD τ).loc b))

/-- A product added to a residual: `x + a · w`, inner width 4096. -/
def resid4096 (a : S16384x4096.Idx → EReal) (w : S4096x4096.Idx → EReal) (x : S16384x4096.Idx → EReal) : S16384x4096.Idx → EReal := fun i =>
  x i + ∑ k : Fin 4096, a (ix2 (i 0) k) * w (ix2 k (i 1))

/-- The same with inner width 11008. -/
def resid11008 (a : S16384x11008.Idx → EReal) (w : S11008x4096.Idx → EReal) (x : S16384x4096.Idx → EReal) : S16384x4096.Idx → EReal := fun i =>
  x i + ∑ k : Fin 11008, a (ix2 (i 0) k) * w (ix2 k (i 1))

/-- The gate or the up product: `h · w`. -/
def prod11008 (h : S16384x4096.Idx → EReal) (w : S4096x11008.Idx → EReal) : S16384x11008.Idx → EReal := fun i =>
  ∑ k : Fin 4096, h (ix2 (i 0) k) * w (ix2 k (i 1))

/-- The gated activation: the gate product times its logistic times the up product. -/
def gated (h : S16384x4096.Idx → EReal) (wg wu : S4096x11008.Idx → EReal) : S16384x11008.Idx → EReal := fun i =>
  prod11008 h wg i * Ideal.logistic (prod11008 h wg i) * prod11008 h wu i

/-! The output projection. -/

/-- Where each window's block lies at point `t` of the launch. -/
theorem places1 : ∀ t : Fin cfg1.N,
    (win1_0.index t 0 = t.val / 4 ∧ win1_0.index t 1 = 0)
    ∧ (win1_1.index t 0 = 0 ∧ win1_1.index t 1 = t.val % 4)
    ∧ (win1_2.index t 0 = t.val / 4 ∧ win1_2.index t 1 = t.val % 4)
    ∧ (win1_3.index t 0 = t.val / 4 ∧ win1_3.index t 1 = t.val % 4) :=
  (by decide +kernel : ∀ t : Fin grid1.N, _)

/-- The launch has 64 points. -/
theorem lt1 (t : Fin cfg1.N) : t.val < 64 := t.isLt

/-- The left operand's block at point `t`: 1024 rows. -/
theorem blk1_0 (c : Dev nD) (t : Fin cfg1.N) (y : S1024x4096.Idx) :
    iblk1 V c 0 t y = V c main_v4 (ix2 ⟨1024 * (t.val / 4) + (y 0).val, by have := lt1 t; have := (y 0).isLt; change (y 0).val < 1024 at this; omega⟩ (y 1)) := by
  have hp := (places1 t).1
  unfold iblk1
  rw [View.read_apply]
  refine congrArg (V c main_v4) (Shape.idx_ext₂ ?_ ?_)
  · rw [show ((((cfg1.win 0).blk t).view.emb y) 0 : ℕ) = win1_0.index t 0 * win1_0.size 0 + y 0 from win1_0.rect_emb_val t y 0, hp.1]
    show _ * 1024 + _ = _
    simp only [ix2]
    omega
  · exact win1_0.rect_emb_val_of_index_zero t 1 hp.2 y

/-- The weight's block at point `t`: 1024 columns. -/
theorem blk1_1 (c : Dev nD) (t : Fin cfg1.N) (y : S4096x1024.Idx) :
    iblk1 V c 1 t y = V c main_v6 (ix2 (y 0) ⟨1024 * (t.val % 4) + (y 1).val, by have := lt1 t; have := (y 1).isLt; change (y 1).val < 1024 at this; omega⟩) := by
  have hp := (places1 t).2.1
  unfold iblk1
  rw [View.read_apply]
  refine congrArg (V c main_v6) (Shape.idx_ext₂ ?_ ?_)
  · exact win1_1.rect_emb_val_of_index_zero t 0 hp.1 y
  · rw [show ((((cfg1.win 1).blk t).view.emb y) 1 : ℕ) = win1_1.index t 1 * win1_1.size 1 + y 1 from win1_1.rect_emb_val t y 1, hp.2]
    show _ * 1024 + _ = _
    simp only [ix2]
    omega

/-- The residual's block at point `t`. -/
theorem blk1_2 (c : Dev nD) (t : Fin cfg1.N) (y : S1024x1024.Idx) :
    iblk1 V c 2 t y = V c main_arg0 (ix2 ⟨1024 * (t.val / 4) + (y 0).val, by have := lt1 t; have := (y 0).isLt; change (y 0).val < 1024 at this; omega⟩ ⟨1024 * (t.val % 4) + (y 1).val, by have := lt1 t; have := (y 1).isLt; change (y 1).val < 1024 at this; omega⟩) := by
  have hp := (places1 t).2.2.1
  unfold iblk1
  rw [View.read_apply]
  refine congrArg (V c main_arg0) (Shape.idx_ext₂ ?_ ?_)
  · rw [show ((((cfg1.win 2).blk t).view.emb y) 0 : ℕ) = win1_2.index t 0 * win1_2.size 0 + y 0 from win1_2.rect_emb_val t y 0, hp.1]
    show _ * 1024 + _ = _
    simp only [ix2]
    omega
  · rw [show ((((cfg1.win 2).blk t).view.emb y) 1 : ℕ) = win1_2.index t 1 * win1_2.size 1 + y 1 from win1_2.rect_emb_val t y 1, hp.2]
    show _ * 1024 + _ = _
    simp only [ix2]
    omega

/-- What point `t` writes back is its block of the product added to the residual. -/
theorem flushed1 (c : Dev nD) (t : Fin cfg1.N) :
    (dat1 V c).flushed 3 t = ((cfg1.win 3).blk t).view.read (Elt Ideal) (resid4096 (V c main_v4) (V c main_v6) (V c main_arg0)) := by
  have hp := (places1 t).2.2.2
  have ht := lt1 t
  show (cfg1.win 3).cut (grid1.coords t) ((dat1 V c).after 3 t) = _
  rw [after1_3]
  unfold out1_3
  rw [View.canon_unit_zero hz, View.ld_unit_zero hz, View.ld_unit_zero hz, View.ld_unit_zero hz]
  funext y
  rw [View.read_apply]
  have h0 : (y 0).val < 1024 := (y 0).isLt
  have h1 : (y 1).val < 1024 := (y 1).isLt
  have e : ((cfg1.win 3).blk t).view.emb y = ix2 ⟨1024 * (t.val / 4) + (y 0).val, by omega⟩ ⟨1024 * (t.val % 4) + (y 1).val, by omega⟩ :=
    Shape.idx_ext₂
      ((win1_3.rect_emb_val t y 0).trans (by rw [hp.1]; show _ * 1024 + _ = _; simp only [ix2]; omega))
      ((win1_3.rect_emb_val t y 1).trans (by rw [hp.2]; show _ * 1024 + _ = _; simp only [ix2]; omega))
  show k1_pay1 (iblk1 V c 2 t) (iblk1 V c 0 t) (iblk1 V c 1 t) y = resid4096 _ _ _ _
  rw [e]
  pointwise [k1_pay1, resid4096]
  simp only [blk1_0, blk1_1, blk1_2]
  rfl

/-- The blocks tile the result array, so it ends as that function of the arrays the launch reads. -/
theorem final1 (c : Dev nD) : (dat1 V c).arrAt 3 cfg1.N = (resid4096 (V c main_v4) (V c main_v6) (V c main_arg0)) :=
  (dat1 V c).arrAt_eq_of_cover 3 _ (fun t _ => flushed1 V c t) fun i => by
    have h0 : (i 0).val < 16384 := (i 0).isLt
    have h1 : (i 1).val < 4096 := (i 1).isLt
    let t : Fin cfg1.N := ⟨4 * ((i 0).val / 1024) + (i 1).val / 1024, by show _ < 64; omega⟩
    have hp := (places1 t).2.2.2
    refine ⟨t, flush1_3 t, ?_⟩
    show i ∈ ((View.whole main_v7).slice (win1_3.rect t)).set
    rw [View.set_slice_whole, Rect.mem_set_unit]
    intro a
    match a with
    | ⟨0, _⟩ =>
      show win1_3.index t 0 * 1024 ≤ (i 0).val ∧ (i 0).val < win1_3.index t 0 * 1024 + 1024
      rw [hp.1]; dsimp only [t]; omega
    | ⟨1, _⟩ =>
      show win1_3.index t 1 * 1024 ≤ (i 1).val ∧ (i 1).val < win1_3.index t 1 * 1024 + 1024
      rw [hp.2]; dsimp only [t]; omega

/-! The gate and up products. -/

/-- Where each window's block lies at point `t` of the launch. -/
theorem places3 : ∀ t : Fin cfg3.N,
    (win3_0.index t 0 = t.val / 43 ∧ win3_0.index t 1 = 0)
    ∧ (win3_1.index t 0 = 0 ∧ win3_1.index t 1 = t.val % 43)
    ∧ (win3_2.index t 0 = 0 ∧ win3_2.index t 1 = t.val % 43)
    ∧ (win3_3.index t 0 = t.val / 43 ∧ win3_3.index t 1 = t.val % 43) :=
  (by decide +kernel : ∀ t : Fin grid3.N, _)

/-- The launch has 344 points. -/
theorem lt3 (t : Fin cfg3.N) : t.val < 344 := t.isLt

/-- The left operand's block at point `t`: 2048 rows. -/
theorem blk3_0 (c : Dev nD) (t : Fin cfg3.N) (y : S2048x4096.Idx) :
    iblk3 V c 0 t y = V c main_v10 (ix2 ⟨2048 * (t.val / 43) + (y 0).val, by have := lt3 t; have := (y 0).isLt; change (y 0).val < 2048 at this; omega⟩ (y 1)) := by
  have hp := (places3 t).1
  unfold iblk3
  rw [View.read_apply]
  refine congrArg (V c main_v10) (Shape.idx_ext₂ ?_ ?_)
  · rw [show ((((cfg3.win 0).blk t).view.emb y) 0 : ℕ) = win3_0.index t 0 * win3_0.size 0 + y 0 from win3_0.rect_emb_val t y 0, hp.1]
    show _ * 2048 + _ = _
    simp only [ix2]
    omega
  · exact win3_0.rect_emb_val_of_index_zero t 1 hp.2 y

/-- The gate weight's block at point `t`: 256 columns. -/
theorem blk3_1 (c : Dev nD) (t : Fin cfg3.N) (y : S4096x256.Idx) :
    iblk3 V c 1 t y = V c main_v12 (ix2 (y 0) ⟨256 * (t.val % 43) + (y 1).val, by have := lt3 t; have := (y 1).isLt; change (y 1).val < 256 at this; omega⟩) := by
  have hp := (places3 t).2.1
  unfold iblk3
  rw [View.read_apply]
  refine congrArg (V c main_v12) (Shape.idx_ext₂ ?_ ?_)
  · exact win3_1.rect_emb_val_of_index_zero t 0 hp.1 y
  · rw [show ((((cfg3.win 1).blk t).view.emb y) 1 : ℕ) = win3_1.index t 1 * win3_1.size 1 + y 1 from win3_1.rect_emb_val t y 1, hp.2]
    show _ * 256 + _ = _
    simp only [ix2]
    omega

/-- The up weight's block at point `t`: 256 columns. -/
theorem blk3_2 (c : Dev nD) (t : Fin cfg3.N) (y : S4096x256.Idx) :
    iblk3 V c 2 t y = V c main_v14 (ix2 (y 0) ⟨256 * (t.val % 43) + (y 1).val, by have := lt3 t; have := (y 1).isLt; change (y 1).val < 256 at this; omega⟩) := by
  have hp := (places3 t).2.2.1
  unfold iblk3
  rw [View.read_apply]
  refine congrArg (V c main_v14) (Shape.idx_ext₂ ?_ ?_)
  · exact win3_2.rect_emb_val_of_index_zero t 0 hp.1 y
  · rw [show ((((cfg3.win 2).blk t).view.emb y) 1 : ℕ) = win3_2.index t 1 * win3_2.size 1 + y 1 from win3_2.rect_emb_val t y 1, hp.2]
    show _ * 256 + _ = _
    simp only [ix2]
    omega

/-- What point `t` writes back is its block of the gated activation. -/
theorem flushed3 (c : Dev nD) (t : Fin cfg3.N) :
    (dat3 V c).flushed 3 t = ((cfg3.win 3).blk t).view.read (Elt Ideal) (gated (V c main_v10) (V c main_v12) (V c main_v14)) := by
  have hp := (places3 t).2.2.2
  have ht := lt3 t
  show (cfg3.win 3).cut (grid3.coords t) ((dat3 V c).after 3 t) = _
  rw [after3_3]
  unfold out3_3
  rw [View.canon_unit_zero hz, View.ld_unit_zero hz, View.ld_unit_zero hz, View.ld_unit_zero hz]
  funext y
  rw [View.read_apply]
  have h0 : (y 0).val < 2048 := (y 0).isLt
  have h1 : (y 1).val < 256 := (y 1).isLt
  have e : ((cfg3.win 3).blk t).view.emb y = ix2 ⟨2048 * (t.val / 43) + (y 0).val, by omega⟩ ⟨256 * (t.val % 43) + (y 1).val, by omega⟩ :=
    Shape.idx_ext₂
      ((win3_3.rect_emb_val t y 0).trans (by rw [hp.1]; show _ * 2048 + _ = _; simp only [ix2]; omega))
      ((win3_3.rect_emb_val t y 1).trans (by rw [hp.2]; show _ * 256 + _ = _; simp only [ix2]; omega))
  show k3_pay1 (iblk3 V c 0 t) (iblk3 V c 1 t) (iblk3 V c 2 t) y = gated _ _ _ _
  rw [e]
  pointwise [k3_pay1, gated, prod11008]
  simp only [blk3_0, blk3_1, blk3_2]
  rfl

/-- The blocks tile the result array, so it ends as that function of the arrays the launch reads. -/
theorem final3 (c : Dev nD) : (dat3 V c).arrAt 3 cfg3.N = (gated (V c main_v10) (V c main_v12) (V c main_v14)) :=
  (dat3 V c).arrAt_eq_of_cover 3 _ (fun t _ => flushed3 V c t) fun i => by
    have h0 : (i 0).val < 16384 := (i 0).isLt
    have h1 : (i 1).val < 11008 := (i 1).isLt
    let t : Fin cfg3.N := ⟨43 * ((i 0).val / 2048) + (i 1).val / 256, by show _ < 344; omega⟩
    have hp := (places3 t).2.2.2
    refine ⟨t, flush3_3 t, ?_⟩
    show i ∈ ((View.whole main_v15).slice (win3_3.rect t)).set
    rw [View.set_slice_whole, Rect.mem_set_unit]
    intro a
    match a with
    | ⟨0, _⟩ =>
      show win3_3.index t 0 * 2048 ≤ (i 0).val ∧ (i 0).val < win3_3.index t 0 * 2048 + 2048
      rw [hp.1]; dsimp only [t]; omega
    | ⟨1, _⟩ =>
      show win3_3.index t 1 * 256 ≤ (i 1).val ∧ (i 1).val < win3_3.index t 1 * 256 + 256
      rw [hp.2]; dsimp only [t]; omega

/-! The down product. -/

/-- Where each window's block lies at point `t` of the launch. -/
theorem places4 : ∀ t : Fin cfg4.N,
    (win4_0.index t 0 = t.val / 8 ∧ win4_0.index t 1 = 0)
    ∧ (win4_1.index t 0 = 0 ∧ win4_1.index t 1 = t.val % 8)
    ∧ (win4_2.index t 0 = t.val / 8 ∧ win4_2.index t 1 = t.val % 8)
    ∧ (win4_3.index t 0 = t.val / 8 ∧ win4_3.index t 1 = t.val % 8) :=
  (by decide +kernel : ∀ t : Fin grid4.N, _)

/-- The launch has 256 points. -/
theorem lt4 (t : Fin cfg4.N) : t.val < 256 := t.isLt

/-- The left operand's block at point `t`: 512 rows. -/
theorem blk4_0 (c : Dev nD) (t : Fin cfg4.N) (y : S512x11008.Idx) :
    iblk4 V c 0 t y = V c main_v15 (ix2 ⟨512 * (t.val / 8) + (y 0).val, by have := lt4 t; have := (y 0).isLt; change (y 0).val < 512 at this; omega⟩ (y 1)) := by
  have hp := (places4 t).1
  unfold iblk4
  rw [View.read_apply]
  refine congrArg (V c main_v15) (Shape.idx_ext₂ ?_ ?_)
  · rw [show ((((cfg4.win 0).blk t).view.emb y) 0 : ℕ) = win4_0.index t 0 * win4_0.size 0 + y 0 from win4_0.rect_emb_val t y 0, hp.1]
    show _ * 512 + _ = _
    simp only [ix2]
    omega
  · exact win4_0.rect_emb_val_of_index_zero t 1 hp.2 y

/-- The weight's block at point `t`: 512 columns. -/
theorem blk4_1 (c : Dev nD) (t : Fin cfg4.N) (y : S11008x512.Idx) :
    iblk4 V c 1 t y = V c main_v17 (ix2 (y 0) ⟨512 * (t.val % 8) + (y 1).val, by have := lt4 t; have := (y 1).isLt; change (y 1).val < 512 at this; omega⟩) := by
  have hp := (places4 t).2.1
  unfold iblk4
  rw [View.read_apply]
  refine congrArg (V c main_v17) (Shape.idx_ext₂ ?_ ?_)
  · exact win4_1.rect_emb_val_of_index_zero t 0 hp.1 y
  · rw [show ((((cfg4.win 1).blk t).view.emb y) 1 : ℕ) = win4_1.index t 1 * win4_1.size 1 + y 1 from win4_1.rect_emb_val t y 1, hp.2]
    show _ * 512 + _ = _
    simp only [ix2]
    omega

/-- The residual's block at point `t`. -/
theorem blk4_2 (c : Dev nD) (t : Fin cfg4.N) (y : S512x512.Idx) :
    iblk4 V c 2 t y = V c main_v7 (ix2 ⟨512 * (t.val / 8) + (y 0).val, by have := lt4 t; have := (y 0).isLt; change (y 0).val < 512 at this; omega⟩ ⟨512 * (t.val % 8) + (y 1).val, by have := lt4 t; have := (y 1).isLt; change (y 1).val < 512 at this; omega⟩) := by
  have hp := (places4 t).2.2.1
  unfold iblk4
  rw [View.read_apply]
  refine congrArg (V c main_v7) (Shape.idx_ext₂ ?_ ?_)
  · rw [show ((((cfg4.win 2).blk t).view.emb y) 0 : ℕ) = win4_2.index t 0 * win4_2.size 0 + y 0 from win4_2.rect_emb_val t y 0, hp.1]
    show _ * 512 + _ = _
    simp only [ix2]
    omega
  · rw [show ((((cfg4.win 2).blk t).view.emb y) 1 : ℕ) = win4_2.index t 1 * win4_2.size 1 + y 1 from win4_2.rect_emb_val t y 1, hp.2]
    show _ * 512 + _ = _
    simp only [ix2]
    omega

/-- What point `t` writes back is its block of the product added to the residual. -/
theorem flushed4 (c : Dev nD) (t : Fin cfg4.N) :
    (dat4 V c).flushed 3 t = ((cfg4.win 3).blk t).view.read (Elt Ideal) (resid11008 (V c main_v15) (V c main_v17) (V c main_v7)) := by
  have hp := (places4 t).2.2.2
  have ht := lt4 t
  show (cfg4.win 3).cut (grid4.coords t) ((dat4 V c).after 3 t) = _
  rw [after4_3]
  unfold out4_3
  rw [View.canon_unit_zero hz, View.ld_unit_zero hz, View.ld_unit_zero hz, View.ld_unit_zero hz]
  funext y
  rw [View.read_apply]
  have h0 : (y 0).val < 512 := (y 0).isLt
  have h1 : (y 1).val < 512 := (y 1).isLt
  have e : ((cfg4.win 3).blk t).view.emb y = ix2 ⟨512 * (t.val / 8) + (y 0).val, by omega⟩ ⟨512 * (t.val % 8) + (y 1).val, by omega⟩ :=
    Shape.idx_ext₂
      ((win4_3.rect_emb_val t y 0).trans (by rw [hp.1]; show _ * 512 + _ = _; simp only [ix2]; omega))
      ((win4_3.rect_emb_val t y 1).trans (by rw [hp.2]; show _ * 512 + _ = _; simp only [ix2]; omega))
  show k4_pay1 (iblk4 V c 2 t) (iblk4 V c 0 t) (iblk4 V c 1 t) y = resid11008 _ _ _ _
  rw [e]
  pointwise [k4_pay1, resid11008]
  simp only [blk4_0, blk4_1, blk4_2]
  rfl

/-- The blocks tile the result array, so it ends as that function of the arrays the launch reads. -/
theorem final4 (c : Dev nD) : (dat4 V c).arrAt 3 cfg4.N = (resid11008 (V c main_v15) (V c main_v17) (V c main_v7)) :=
  (dat4 V c).arrAt_eq_of_cover 3 _ (fun t _ => flushed4 V c t) fun i => by
    have h0 : (i 0).val < 16384 := (i 0).isLt
    have h1 : (i 1).val < 4096 := (i 1).isLt
    let t : Fin cfg4.N := ⟨8 * ((i 0).val / 512) + (i 1).val / 512, by show _ < 256; omega⟩
    have hp := (places4 t).2.2.2
    refine ⟨t, flush4_3 t, ?_⟩
    show i ∈ ((View.whole main_v18).slice (win4_3.rect t)).set
    rw [View.set_slice_whole, Rect.mem_set_unit]
    intro a
    match a with
    | ⟨0, _⟩ =>
      show win4_3.index t 0 * 512 ≤ (i 0).val ∧ (i 0).val < win4_3.index t 0 * 512 + 512
      rw [hp.1]; dsimp only [t]; omega
    | ⟨1, _⟩ =>
      show win4_3.index t 1 * 512 ≤ (i 1).val ∧ (i 1).val < win4_3.index t 1 * 512 + 512
      rw [hp.2]; dsimp only [t]; omega

end Cert.Tail

end
-- ==== Proof.Tail.Merge.lean ====
/-
  The launch that merges the two head groups, at 16384 rows: it normalises each group with its own gain and puts them side by
  side. It is shown, for whatever arrays it finds, to leave one function of them.
-/
module

public import proofs.«01_k».proof.Defs
public import proofs.«01_k».proof.Proof.Gen.Kernel3Ideal.Frame
public import proofs.«01_k».proof.Proof.Tail.Norms
public import Idealize.ShloMosaic.Lib.Pipeline.Value
public import Idealize.ShloMosaic.Lib.Pointwise
public import Idealize.ShloMosaic.Lib.StableHlo.ReadAt

@[expose] public section

set_option maxRecDepth 16384

noncomputable section

namespace Cert.Tail

open Idealize.ShloMosaic Idealize.ShloMosaic.TcCoe Idealize.SL.Sem Cert.Kernel3Ideal Cert.Kernel3Ideal.Gen
open Idealize.ShloMosaic.Pipeline (Dat Cfg Window)

variable (V : (c : Dev nD) → (b : Ref sig .tc) → Buf (Elt Ideal) ((c : Thread nD τ).loc b))

/-- Root-mean-square normalisation of the rows of a `16384 × 2048` array, with a gain per column, at row `r` and column `q`. -/
def norm2048 (x : S16384x2048.Idx → EReal) (g : S1x2048.Idx → EReal) (r : Fin 16384) (q : Fin 2048) : EReal :=
  x (ix2 r q) * Ideal.rsqrt (Ideal.div (∑ k : Fin 2048, x (ix2 r k) * x (ix2 r k)) (Ideal.ofBits .f32 0x45000000#32) + eps) * g (ix2 0 q)

/-- The two head groups, each normalised, side by side. -/
def merged (a b : S16384x2048.Idx → EReal) (ga gb : S1x2048.Idx → EReal) : S16384x4096.Idx → EReal := fun i =>
  if h : (i 1).val < 2048 then norm2048 a ga (i 0) ⟨(i 1).val, h⟩
  else norm2048 b gb (i 0) ⟨(i 1).val - 2048, by have h1 : (i 1).val < 4096 := (i 1).isLt; omega⟩

/-- A block of 512 rows, each normalised, at row `r` and column `q`. -/
def rows512 (x : S512x2048.Idx → EReal) (g : S1x2048.Idx → EReal) (r : Fin 512) (q : Fin 2048) : EReal :=
  x (ix2 r q) * Ideal.rsqrt (Ideal.div (∑ k : Fin 2048, x (ix2 r k) * x (ix2 r k)) (Ideal.ofBits .f32 0x45000000#32) + eps) * g (ix2 0 q)

/-- Two such blocks side by side. -/
def pair512 (a b : S512x2048.Idx → EReal) (ga gb : S1x2048.Idx → EReal) : S512x4096.Idx → EReal := fun i =>
  if h : (i 1).val < 2048 then rows512 a ga (i 0) ⟨(i 1).val, h⟩
  else rows512 b gb (i 0) ⟨(i 1).val - 2048, by have h1 : (i 1).val < 4096 := (i 1).isLt; omega⟩

/-- The first store's payload is the first block, normalised; -/
theorem pay1_at (x : S512x2048.Idx → EReal) (g : S1x2048.Idx → EReal) (y : S512x2048.Idx) :
    k0_pay1 (F := Ideal) x g y = rows512 x g (y 0) (y 1) := by
  pointwise [k0_pay1, rows512]

/-- and the second store's is the second. -/
theorem pay2_at (x : S512x2048.Idx → EReal) (g : S1x2048.Idx → EReal) (y : S512x2048.Idx) :
    k0_pay2 (F := Ideal) x g y = rows512 x g (y 0) (y 1) := by
  pointwise [k0_pay2, rows512]

/-- The body's two stores leave the two normalised blocks side by side. -/
theorem out0_at (a b : S512x2048.Idx → EReal) (ga gb : S1x2048.Idx → EReal) (y : S512x4096.Idx) :
    out0_4 (F := Ideal) a b ga gb y = pair512 a b ga gb y := by
  unfold out0_4
  refine View.canon_apply_of_pieces (Val := Elt Ideal) (S := S512x4096) (e := .bf16) (pair512 a b ga gb) _ ?_ y (cover0_4 _ _ y)
  intro pc hpc
  rcases List.mem_cons.1 hpc with rfl | hpc
  · intro x
    have hx1 : (x 1).val < 2048 := (x 1).isLt
    have e0 : (r0_3.emb x 0) = x 0 := Fin.ext (show 0 + 1 * (x 0).val = _ by omega)
    have e1 : (r0_3.emb x 1).val = 2048 + (x 1).val := by show 2048 + 1 * (x 1).val = _; omega
    dsimp only
    rw [View.ld_unit_zero hz, View.ld_unit_zero hz]
    refine (pay2_at b gb x).trans ?_
    unfold pair512
    rw [dif_neg (by omega)]
    exact congrArg₂ (rows512 b gb) e0.symm (Fin.ext (by show _ = (r0_3.emb x 1).val - 2048; omega))
  · rcases List.mem_cons.1 hpc with rfl | hpc
    · intro x
      have hx1 : (x 1).val < 2048 := (x 1).isLt
      have e0 : (r0_2.emb x 0) = x 0 := Fin.ext (show 0 + 1 * (x 0).val = _ by omega)
      have e1 : (r0_2.emb x 1).val = (x 1).val := by show 0 + 1 * (x 1).val = _; omega
      dsimp only
      rw [View.ld_unit_zero hz, View.ld_unit_zero hz]
      refine (pay1_at a ga x).trans ?_
      unfold pair512
      rw [dif_pos (by omega)]
      exact congrArg₂ (rows512 a ga) e0.symm (Fin.ext e1.symm)
    · exact absurd hpc List.not_mem_nil

/-- Where each window's block lies at point `t` of the launch. -/
theorem places0 : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0) :=
  (by decide +kernel : ∀ t : Fin grid0.N, _)

/-- The launch has 32 points. -/
theorem lt0 (t : Fin cfg0.N) : t.val < 32 := t.isLt

/-- The first group's block at point `t`: 512 rows. -/
theorem blk0_0 (c : Dev nD) (t : Fin cfg0.N) (y : S512x2048.Idx) :
    iblk0 V c 0 t y = V c main_arg1 (ix2 ⟨512 * (t.val) + (y 0).val, by have := lt0 t; have := (y 0).isLt; change (y 0).val < 512 at this; omega⟩ (y 1)) := by
  have hp := (places0 t).1
  unfold iblk0
  rw [View.read_apply]
  refine congrArg (V c main_arg1) (Shape.idx_ext₂ ?_ ?_)
  · rw [show ((((cfg0.win 0).blk t).view.emb y) 0 : ℕ) = win0_0.index t 0 * win0_0.size 0 + y 0 from win0_0.rect_emb_val t y 0, hp.1]
    show _ * 512 + _ = _
    simp only [ix2]
    omega
  · exact win0_0.rect_emb_val_of_index_zero t 1 hp.2 y

/-- The second group's block at point `t`: 512 rows. -/
theorem blk0_1 (c : Dev nD) (t : Fin cfg0.N) (y : S512x2048.Idx) :
    iblk0 V c 1 t y = V c main_arg2 (ix2 ⟨512 * (t.val) + (y 0).val, by have := lt0 t; have := (y 0).isLt; change (y 0).val < 512 at this; omega⟩ (y 1)) := by
  have hp := (places0 t).2.1
  unfold iblk0
  rw [View.read_apply]
  refine congrArg (V c main_arg2) (Shape.idx_ext₂ ?_ ?_)
  · rw [show ((((cfg0.win 1).blk t).view.emb y) 0 : ℕ) = win0_1.index t 0 * win0_1.size 0 + y 0 from win0_1.rect_emb_val t y 0, hp.1]
    show _ * 512 + _ = _
    simp only [ix2]
    omega
  · exact win0_1.rect_emb_val_of_index_zero t 1 hp.2 y

/-- The first gain is read whole at every point. -/
theorem blk0_2 (c : Dev nD) (t : Fin cfg0.N) (y : S1x2048.Idx) :
    iblk0 V c 2 t y = V c main_v2 y := by
  have hp := (places0 t).2.2.1
  unfold iblk0
  rw [View.read_apply]
  refine congrArg (V c main_v2) (Shape.idx_ext₂ ?_ ?_)
  · exact win0_2.rect_emb_val_of_index_zero t 0 hp.1 y
  · exact win0_2.rect_emb_val_of_index_zero t 1 hp.2 y

/-- The second gain is read whole at every point. -/
theorem blk0_3 (c : Dev nD) (t : Fin cfg0.N) (y : S1x2048.Idx) :
    iblk0 V c 3 t y = V c main_v3 y := by
  have hp := (places0 t).2.2.2.1
  unfold iblk0
  rw [View.read_apply]
  refine congrArg (V c main_v3) (Shape.idx_ext₂ ?_ ?_)
  · exact win0_3.rect_emb_val_of_index_zero t 0 hp.1 y
  · exact win0_3.rect_emb_val_of_index_zero t 1 hp.2 y

/-- What point `t` writes back, its two stores side by side, is its 512 rows of the merged array. -/
theorem flushed0 (c : Dev nD) (t : Fin cfg0.N) :
    (dat0 V c).flushed 4 t = ((cfg0.win 4).blk t).view.read (Elt Ideal) (merged (V c main_arg1) (V c main_arg2) (V c main_v2) (V c main_v3)) := by
  have hp := (places0 t).2.2.2.2
  have ht := lt0 t
  show (cfg0.win 4).cut (grid0.coords t) ((dat0 V c).after 4 t) = _
  rw [after0_4]
  unfold out0_4
  funext y
  rw [View.read_apply]
  have h0 : (y 0).val < 512 := (y 0).isLt
  have e : ((cfg0.win 4).blk t).view.emb y = ix2 ⟨512 * (t.val) + (y 0).val, by omega⟩ (y 1) :=
    Shape.idx_ext₂
      ((win0_4.rect_emb_val t y 0).trans (by rw [hp.1]; show _ * 512 + _ = _; simp only [ix2]; omega))
      (win0_4.rect_emb_val_of_index_zero t 1 hp.2 y)
  rw [e]
  refine (out0_at _ _ _ _ y).trans ?_
  unfold pair512 merged rows512 norm2048
  simp only [blk0_0, blk0_1, blk0_2, blk0_3]
  rfl

/-- The blocks tile the result array, so it ends as that function of the arrays the launch reads. -/
theorem final0 (c : Dev nD) : (dat0 V c).arrAt 4 cfg0.N = (merged (V c main_arg1) (V c main_arg2) (V c main_v2) (V c main_v3)) :=
  (dat0 V c).arrAt_eq_of_cover 4 _ (fun t _ => flushed0 V c t) fun i => by
    have h0 : (i 0).val < 16384 := (i 0).isLt
    have h1 : (i 1).val < 4096 := (i 1).isLt
    let t : Fin cfg0.N := ⟨(i 0).val / 512, by show _ < 32; omega⟩
    have hp := (places0 t).2.2.2.2
    refine ⟨t, flush0_4 t, ?_⟩
    show i ∈ ((View.whole main_v4).slice (win0_4.rect t)).set
    rw [View.set_slice_whole, Rect.mem_set_unit]
    intro a
    match a with
    | ⟨0, _⟩ =>
      show win0_4.index t 0 * 512 ≤ (i 0).val ∧ (i 0).val < win0_4.index t 0 * 512 + 512
      rw [hp.1]; dsimp only [t]; omega
    | ⟨1, _⟩ =>
      show win0_4.index t 1 * 4096 ≤ (i 1).val ∧ (i 1).val < win0_4.index t 1 * 4096 + 4096
      rw [hp.2]; omega

end Cert.Tail

end
-- ==== Proof.Tail.Kernel.lean ====
/-
  The layer after its attentions, run as one value. The program enters six launches: the two attentions' outputs are
  normalised and set side by side, projected and added to the input, normalised, gated through the feed-forward's first two
  weights, projected back and added again, and normalised once more. Between the launches the host only reshapes a gain or
  rounds a weight. Here the contents of every array a launch reads are followed back to the arguments, and the result is
  shown to be one function of them.
-/
module

public import proofs.«01_k».proof.Proof.Tail.Norms
public import proofs.«01_k».proof.Proof.Tail.Products
public import proofs.«01_k».proof.Proof.Tail.Merge
public import Idealize.ShloMosaic.Lib.Quiescent

@[expose] public section

set_option maxRecDepth 16384

noncomputable section

namespace Cert.Tail

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

local notation "𝕄" => MT nD τ sig Unit (Elt Ideal) ℕ (UR sig nD τ) ℕ

variable (m : (ℓ : Loc nD τ sig) → Buf (Elt Ideal) ℓ) (ρ : Dev nD → PrngReg)

/-- An argument array at launch. -/
abbrev arg0 (c : Dev nD) : S16384x4096.Idx → EReal := m ((c : Thread nD τ).loc main_arg0)
/-- The output of the forgetting attention, its heads side by side. -/
abbrev arg1 (c : Dev nD) : S16384x2048.Idx → EReal := m ((c : Thread nD τ).loc main_arg1)
/-- The output of the stick-breaking attention, its heads side by side. -/
abbrev arg2 (c : Dev nD) : S16384x2048.Idx → EReal := m ((c : Thread nD τ).loc main_arg2)
/-- The gain of the forgetting heads' normalisation. -/
abbrev arg3 (c : Dev nD) : S1x2048.Idx → EReal := m ((c : Thread nD τ).loc main_arg3)
/-- The gain of the stick-breaking heads' normalisation. -/
abbrev arg4 (c : Dev nD) : S1x2048.Idx → EReal := m ((c : Thread nD τ).loc main_arg4)
/-- The output projection's weight. -/
abbrev arg5 (c : Dev nD) : S1x4096x4096.Idx → EReal := m ((c : Thread nD τ).loc main_arg5)
/-- The gain of the normalisation before the feed-forward part. -/
abbrev arg6 (c : Dev nD) : S1x4096.Idx → EReal := m ((c : Thread nD τ).loc main_arg6)
/-- The gate weight. -/
abbrev arg7 (c : Dev nD) : S1x4096x11008.Idx → EReal := m ((c : Thread nD τ).loc main_arg7)
/-- The up weight. -/
abbrev arg8 (c : Dev nD) : S1x4096x11008.Idx → EReal := m ((c : Thread nD τ).loc main_arg8)
/-- The down weight. -/
abbrev arg9 (c : Dev nD) : S1x11008x4096.Idx → EReal := m ((c : Thread nD τ).loc main_arg9)
/-- The gain of the last normalisation. -/
abbrev arg10 (c : Dev nD) : S4096.Idx → EReal := m ((c : Thread nD τ).loc main_arg10)

/-! What the host stretches leave in the arrays the launches read, from any contents `U` before the stretch: a gain keeps its
    values, and a weight loses its leading axis of size one. -/

variable (U : Valuation τ sig (Elt Ideal))

/-- The gain of the first attention. -/
theorem host_v2 (q : Fin 2048) : StableHlo.after (hostOps0 (F := Ideal)) U (Proc.devRef .tc main_v2) (ix2 (0 : Fin 1) q) = U (Proc.devRef .tc main_arg3) (ix2 (0 : Fin 1) q) := by
  after_reads_at

/-- The gain of the second attention. -/
theorem host_v3 (q : Fin 2048) : StableHlo.after (hostOps0 (F := Ideal)) U (Proc.devRef .tc main_v3) (ix2 (0 : Fin 1) q) = U (Proc.devRef .tc main_arg4) (ix2 (0 : Fin 1) q) := by
  after_reads_at

/-- The output weight. -/
theorem host_v6 (r : Fin 4096) (q : Fin 4096) : StableHlo.after (hostOps1 (F := Ideal)) U (Proc.devRef .tc main_v6) (ix2 r q) = U (Proc.devRef .tc main_arg5) (ix3 (0 : Fin 1) r q) := by
  after_reads_at

/-- The gain before the feed-forward block. -/
theorem host_v9 (q : Fin 4096) : StableHlo.after (hostOps2 (F := Ideal)) U (Proc.devRef .tc main_v9) (ix2 (0 : Fin 1) q) = U (Proc.devRef .tc main_arg6) (ix2 (0 : Fin 1) q) := by
  after_reads_at

/-- The gate weight. -/
theorem host_v12 (r : Fin 4096) (q : Fin 11008) : StableHlo.after (hostOps3 (F := Ideal)) U (Proc.devRef .tc main_v12) (ix2 r q) = U (Proc.devRef .tc main_arg7) (ix3 (0 : Fin 1) r q) := by
  after_reads_at

/-- The up weight. -/
theorem host_v14 (r : Fin 4096) (q : Fin 11008) : StableHlo.after (hostOps3 (F := Ideal)) U (Proc.devRef .tc main_v14) (ix2 r q) = U (Proc.devRef .tc main_arg8) (ix3 (0 : Fin 1) r q) := by
  after_reads_at

/-- The down weight. -/
theorem host_v17 (r : Fin 11008) (q : Fin 4096) : StableHlo.after (hostOps4 (F := Ideal)) U (Proc.devRef .tc main_v17) (ix2 r q) = U (Proc.devRef .tc main_arg9) (ix3 (0 : Fin 1) r q) := by
  after_reads_at

/-- The last gain. -/
theorem host_v19 (q : Fin 4096) : StableHlo.after (hostOps5 (F := Ideal)) U (Proc.devRef .tc main_v19) (ix2 (0 : Fin 1) q) = U (Proc.devRef .tc main_arg10) (ix1 q) := by
  after_reads_at

/-! The values along the way, as functions of the arguments. -/

/-- A stacked weight of one layer, as a matrix. -/
def layer {a b : Nat} (w : (⟨3, ![1, a, b]⟩ : Shape).Idx → EReal) : (⟨2, ![a, b]⟩ : Shape).Idx → EReal := fun i => w (ix3 0 (i 0) (i 1))

/-- The two attentions' outputs, normalised and side by side. -/
def mix (c : Dev nD) : S16384x4096.Idx → EReal := merged (arg1 m c) (arg2 m c) (arg3 m c) (arg4 m c)

/-- The stream after the output projection. -/
def stream1 (c : Dev nD) : S16384x4096.Idx → EReal := resid4096 (mix m c) (layer (arg5 m c)) (arg0 m c)

/-- The feed-forward block's input. -/
def ffnIn (c : Dev nD) : S16384x4096.Idx → EReal := norm4096 (stream1 m c) (arg6 m c)

/-- The feed-forward block's inner activation. -/
def inner (c : Dev nD) : S16384x11008.Idx → EReal := gated (ffnIn m c) (layer (arg7 m c)) (layer (arg8 m c))

/-- The stream after the feed-forward block. -/
def stream2 (c : Dev nD) : S16384x4096.Idx → EReal := resid11008 (inner m c) (layer (arg9 m c)) (stream1 m c)

/-- The result. -/
def final (c : Dev nD) : S16384x4096.Idx → EReal := norm4096 (stream2 m c) (fun i => arg10 m c (ix1 (i 1)))

/-! Each launch's reads and its result. -/

/-- The first gain the merging launch finds is the argument. -/
theorem read_v2 (c : Dev nD) : V1 m ρ c main_v2 = arg3 m c := by
  funext i
  obtain ⟨a, q, rfl⟩ : ∃ (a : Fin 1) (q : Fin 2048), i = ix2 a q := ⟨i 0, i 1, eq_ix2 i⟩
  obtain rfl : a = 0 := Subsingleton.elim _ _
  exact (host_v2 (W0 m ρ c) q).trans (congrFun (W0_args m ρ c main_arg3 (by decide)) (ix2 (0 : Fin 1) q))

/-- The second gain the merging launch finds is the argument. -/
theorem read_v3 (c : Dev nD) : V1 m ρ c main_v3 = arg4 m c := by
  funext i
  obtain ⟨a, q, rfl⟩ : ∃ (a : Fin 1) (q : Fin 2048), i = ix2 a q := ⟨i 0, i 1, eq_ix2 i⟩
  obtain rfl : a = 0 := Subsingleton.elim _ _
  exact (host_v3 (W0 m ρ c) q).trans (congrFun (W0_args m ρ c main_arg4 (by decide)) (ix2 (0 : Fin 1) q))

/-- The weight the output projection finds is the argument without its leading axis. -/
theorem read_v6 (c : Dev nD) : V3 m ρ c main_v6 = layer (arg5 m c) := by
  funext i
  obtain ⟨r, q, rfl⟩ : ∃ (r : Fin 4096) (q : Fin 4096), i = ix2 r q := ⟨i 0, i 1, eq_ix2 i⟩
  exact (host_v6 (W2 m ρ c) r q).trans (congrFun (W2_args m ρ c main_arg5 (by decide)) (ix3 (0 : Fin 1) r q))

/-- The gain the second normalisation finds is the argument. -/
theorem read_v9 (c : Dev nD) : V5 m ρ c main_v9 = arg6 m c := by
  funext i
  obtain ⟨a, q, rfl⟩ : ∃ (a : Fin 1) (q : Fin 4096), i = ix2 a q := ⟨i 0, i 1, eq_ix2 i⟩
  obtain rfl : a = 0 := Subsingleton.elim _ _
  exact (host_v9 (W4 m ρ c) q).trans (congrFun (W4_args m ρ c main_arg6 (by decide)) (ix2 (0 : Fin 1) q))

/-- The gate weight the feed-forward launch finds is the argument without its leading axis. -/
theorem read_v12 (c : Dev nD) : V7 m ρ c main_v12 = layer (arg7 m c) := by
  funext i
  obtain ⟨r, q, rfl⟩ : ∃ (r : Fin 4096) (q : Fin 11008), i = ix2 r q := ⟨i 0, i 1, eq_ix2 i⟩
  exact (host_v12 (W6 m ρ c) r q).trans (congrFun (W6_args m ρ c main_arg7 (by decide)) (ix3 (0 : Fin 1) r q))

/-- The up weight it finds is the argument without its leading axis. -/
theorem read_v14 (c : Dev nD) : V7 m ρ c main_v14 = layer (arg8 m c) := by
  funext i
  obtain ⟨r, q, rfl⟩ : ∃ (r : Fin 4096) (q : Fin 11008), i = ix2 r q := ⟨i 0, i 1, eq_ix2 i⟩
  exact (host_v14 (W6 m ρ c) r q).trans (congrFun (W6_args m ρ c main_arg8 (by decide)) (ix3 (0 : Fin 1) r q))

/-- The down weight its second half finds is the argument without its leading axis. -/
theorem read_v17 (c : Dev nD) : V9 m ρ c main_v17 = layer (arg9 m c) := by
  funext i
  obtain ⟨r, q, rfl⟩ : ∃ (r : Fin 11008) (q : Fin 4096), i = ix2 r q := ⟨i 0, i 1, eq_ix2 i⟩
  exact (host_v17 (W8 m ρ c) r q).trans (congrFun (W8_args m ρ c main_arg9 (by decide)) (ix3 (0 : Fin 1) r q))

/-- The gain the last normalisation finds is the argument as one row. -/
theorem read_v19 (c : Dev nD) : V11 m ρ c main_v19 = fun i : S1x4096.Idx => arg10 m c (ix1 (i 1)) := by
  funext i
  obtain ⟨a, q, rfl⟩ : ∃ (a : Fin 1) (q : Fin 4096), i = ix2 a q := ⟨i 0, i 1, eq_ix2 i⟩
  obtain rfl : a = 0 := Subsingleton.elim _ _
  exact (host_v19 (W10 m ρ c) q).trans (congrFun (W10_args m ρ c main_arg10 (by decide)) (ix1 q))

/-- The merge leaves `mix`, -/
theorem at_v4 (c : Dev nD) : V3 m ρ c main_v4 = mix m c := by
  refine (W3_of m ρ c main_v4 (by decide)).trans ((W2_arr m ρ c 4).trans ((final0 (V1 m ρ) c).trans ?_))
  unfold mix
  rw [read_v2, read_v3]
  rw [show V1 m ρ c main_arg1 = arg1 m c from W1_args m ρ c main_arg1 (by decide), show V1 m ρ c main_arg2 = arg2 m c from W1_args m ρ c main_arg2 (by decide)]

/-- the output projection `stream1`, where it is still when the next launch and -/
theorem at_v7 (c : Dev nD) : V5 m ρ c main_v7 = stream1 m c := by
  refine (W5_of m ρ c main_v7 (by decide)).trans ((W4_arr m ρ c 3).trans ((final1 (V3 m ρ) c).trans ?_))
  unfold stream1
  rw [read_v6, at_v4]
  rw [show V3 m ρ c main_arg0 = arg0 m c from W3_args m ρ c main_arg0 (by decide)]

/-- the last product read it, -/
theorem still_v7 (c : Dev nD) : V9 m ρ c main_v7 = stream1 m c :=
  (W9_of m ρ c main_v7 (by decide)).trans ((W8_of m ρ c main_v7 (by decide)).trans
    ((W7_of m ρ c main_v7 (by decide)).trans ((W6_of m ρ c main_v7 (by decide)).trans (at_v7 m ρ c))))

/-- the normalisation `ffnIn`, -/
theorem at_v10 (c : Dev nD) : V7 m ρ c main_v10 = ffnIn m c := by
  refine (W7_of m ρ c main_v10 (by decide)).trans ((W6_arr m ρ c 2).trans ((final2 (V5 m ρ) c).trans ?_))
  unfold ffnIn
  rw [read_v9, at_v7]

/-- the gated product `inner`, -/
theorem at_v15 (c : Dev nD) : V9 m ρ c main_v15 = inner m c := by
  refine (W9_of m ρ c main_v15 (by decide)).trans ((W8_arr m ρ c 3).trans ((final3 (V7 m ρ) c).trans ?_))
  unfold inner
  rw [read_v12, read_v14, at_v10]

/-- the down product `stream2`, -/
theorem at_v18 (c : Dev nD) : V11 m ρ c main_v18 = stream2 m c := by
  refine (W11_of m ρ c main_v18 (by decide)).trans ((W10_arr m ρ c 3).trans ((final4 (V9 m ρ) c).trans ?_))
  unfold stream2
  rw [read_v17, at_v15, still_v7]

/-- and the last normalisation `final`. -/
theorem at_v20 (c : Dev nD) : W12 m ρ c (Proc.devRef .tc main_v20) = final m c := by
  refine (W12_arr m ρ c 2).trans ((final5 (V11 m ρ) c).trans ?_)
  unfold final
  rw [read_v19, at_v18]

-- the launch theorem's implicit arguments are found by unifying its conclusion with this one, which takes unfolding plain
-- definitions in a metavariable's type
set_option backward.isDefEq.respectTransparency.types false in
/-- Every buffer that the launch can reach ends at the last boundary's contents, so the result is `final` and the arguments are as
    launched. -/
theorem run : θ_run (defs (F := Ideal)) (onTc (τ := τ) (main (F := Ideal))) ⟨m, fun _ => 0, ρ⟩ (fun r => ∀ c : Dev nD,
    r.2.mem ((c.tc : Thread nD τ).loc main_v20) = final m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨(h c _ (mem_uc main_v20 (by decide))).trans (at_v20 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.Tail

end
-- ==== Proof.Tail.Ref.lean ====
/-
  The reference of the layer after its attentions, read stage by stage: each normalisation, product and gate is the function the
  kernel's launch was shown to compute, so the two results are one function of the arguments.
-/
module

public import proofs.«01_k».proof.Proof.Tail.Kernel
public import proofs.«01_k».proof.Proof.Gen.Reference3Ideal.Read

@[expose] public section

set_option maxRecDepth 16384

noncomputable section

namespace Cert.Tail

open Idealize.ShloMosaic Idealize.ShloMosaic.TcCoe Idealize.SL.Sem
open Cert.Reference3Ideal.Read
open Cert.Kernel3Ideal (S16384x4096 S16384x2048 S1x2048 S1x4096x4096 S1x4096 S1x4096x11008 S1x11008x4096 S4096 S16384x11008)

variable (x0 : S16384x4096.Idx → EReal) (x1 x2 : S16384x2048.Idx → EReal) (x3 x4 : S1x2048.Idx → EReal)
  (x5 : S1x4096x4096.Idx → EReal) (x6 : S1x4096.Idx → EReal) (x7 x8 : S1x4096x11008.Idx → EReal)
  (x9 : S1x11008x4096.Idx → EReal) (x10 : S4096.Idx → EReal)

/-- A normalised row of the first attention's output. -/
theorem ref_fox (r : Fin 16384) (q : Fin 2048) : val_main_v13 (F := Ideal) x1 x3 (ix2 r q) = norm2048 x1 x3 r q := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [norm2048]

/-- A normalised row of the second attention's output. -/
theorem ref_sb (r : Fin 16384) (q : Fin 2048) : val_main_v27 (F := Ideal) x2 x4 (ix2 r q) = norm2048 x2 x4 r q := by
  unfold val_main_v27 val_main_v26 val_main_v25 val_main_v24 val_main_v23 val_main_v22 val_main_v21 val_main_v20 val_main_v19 val_main_v18 val_main_v17 val_main_v16 val_main_v15 val_main_v14 val_main_cst_2 val_main_cst_3 val_main_cst_4
  pointwise [norm2048]

/-- The two side by side. -/
theorem ref_mix : val_main_v28 (F := Ideal) x1 x2 x3 x4 = merged x1 x2 x3 x4 := by
  funext i
  obtain ⟨r, q, rfl⟩ : ∃ (r : Fin 16384) (q : Fin 4096), i = ix2 r q := ⟨i 0, i 1, eq_ix2 i⟩
  unfold val_main_v28 merged
  refine (concatenate_pair_apply 1 (val_main_v13 (F := Ideal) x1 x3) (val_main_v27 (F := Ideal) x2 x4) _ (ix2 r q)).trans ?_
  by_cases h : q.val < 2048
  · rw [dif_pos (show ((ix2 r q : S16384x4096.Idx) 1).val < 2048 from h)]
    refine (dif_pos (show q.val < 2048 from h)).trans ?_
    refine Eq.trans ?_ (ref_fox x1 x3 r ⟨q.val, h⟩)
    exact congrArg (val_main_v13 (F := Ideal) x1 x3) (Shape.idx_ext₂ rfl rfl)
  · rw [dif_neg (show ¬ ((ix2 r q : S16384x4096.Idx) 1).val < 2048 from h)]
    refine (dif_neg (show ¬ q.val < 2048 from h)).trans ?_
    refine Eq.trans ?_ (ref_sb x2 x4 r ⟨q.val - 2048, by omega⟩)
    exact congrArg (val_main_v27 (F := Ideal) x2 x4) (Shape.idx_ext₂ rfl rfl)

/-- The output projection with its residual. -/
theorem ref_stream1 : val_main_v31 (F := Ideal) x0 x1 x2 x3 x4 x5 = resid4096 (val_main_v28 (F := Ideal) x1 x2 x3 x4) (layer x5) x0 := by
  funext i
  unfold val_main_v31 val_main_v30 val_main_v29
  generalize val_main_v28 (F := Ideal) x1 x2 x3 x4 = a
  pointwise [resid4096, layer]

/-- The normalisation before the feed-forward block. -/
theorem ref_ffnIn : val_main_v45 (F := Ideal) x0 x1 x2 x3 x4 x5 x6 = norm4096 (val_main_v31 (F := Ideal) x0 x1 x2 x3 x4 x5) x6 := by
  funext i
  obtain ⟨r, q, rfl⟩ : ∃ (r : Fin 16384) (q : Fin 4096), i = ix2 r q := ⟨i 0, i 1, eq_ix2 i⟩
  unfold val_main_v45 val_main_v44 val_main_v43 val_main_v42 val_main_v41 val_main_v40 val_main_v39 val_main_v38 val_main_v37 val_main_v36 val_main_v35 val_main_v34 val_main_v33 val_main_v32 val_main_cst_5 val_main_cst_6 val_main_cst_7
  generalize val_main_v31 (F := Ideal) x0 x1 x2 x3 x4 x5 = a
  pointwise [norm4096]

/-- The gated activation. -/
theorem ref_inner : val_main_v51 (F := Ideal) x0 x1 x2 x3 x4 x5 x6 x7 x8
    = gated (val_main_v45 (F := Ideal) x0 x1 x2 x3 x4 x5 x6) (layer x7) (layer x8) := by
  funext i
  unfold val_main_v51 val_main_v50 val_main_v49 val_main_v48 val_main_call0_v5 val_main_call0_v4 val_main_call0_v3 val_main_call0_v2 val_main_call0_v1 val_main_call0_v0 val_main_v47 val_main_v46 val_main_call0_cst val_main_call0_cst_0
  generalize val_main_v45 (F := Ideal) x0 x1 x2 x3 x4 x5 x6 = a
  pointwise [gated, prod11008, layer, Ideal.logistic]

/-- The down product with its residual. -/
theorem ref_stream2 : val_main_v54 (F := Ideal) x0 x1 x2 x3 x4 x5 x6 x7 x8 x9
    = resid11008 (val_main_v51 (F := Ideal) x0 x1 x2 x3 x4 x5 x6 x7 x8) (layer x9) (val_main_v31 (F := Ideal) x0 x1 x2 x3 x4 x5) := by
  funext i
  unfold val_main_v54 val_main_v53 val_main_v52
  generalize val_main_v51 (F := Ideal) x0 x1 x2 x3 x4 x5 x6 x7 x8 = a
  generalize val_main_v31 (F := Ideal) x0 x1 x2 x3 x4 x5 = b
  pointwise [resid11008, layer]

/-- The last normalisation. -/
theorem ref_final : val_main_v67 (F := Ideal) x0 x1 x2 x3 x4 x5 x6 x7 x8 x9 x10
    = norm4096 (val_main_v54 (F := Ideal) x0 x1 x2 x3 x4 x5 x6 x7 x8 x9) (fun i => x10 (ix1 (i 1))) := by
  funext i
  obtain ⟨r, q, rfl⟩ : ∃ (r : Fin 16384) (q : Fin 4096), i = ix2 r q := ⟨i 0, i 1, eq_ix2 i⟩
  unfold val_main_v67 val_main_v66 val_main_v65 val_main_v64 val_main_v63 val_main_v62 val_main_v61 val_main_v60 val_main_v59 val_main_v58 val_main_v57 val_main_v56 val_main_v55 val_main_cst_8 val_main_cst_9 val_main_cst_10
  generalize val_main_v54 (F := Ideal) x0 x1 x2 x3 x4 x5 x6 x7 x8 x9 = a
  pointwise [norm4096]

/-- The reference's result is the kernel's. -/
theorem ref_eq (m : (ℓ : Loc Cert.Kernel3Ideal.nD Cert.Kernel3Ideal.τ Cert.Kernel3Ideal.sig) → Buf (Elt Ideal) ℓ) (c : Dev Cert.Kernel3Ideal.nD) :
    val_main_v67 (F := Ideal) (arg0 m c) (arg1 m c) (arg2 m c) (arg3 m c) (arg4 m c) (arg5 m c) (arg6 m c) (arg7 m c) (arg8 m c) (arg9 m c) (arg10 m c)
      = final m c := by
  rw [ref_final, ref_stream2, ref_inner, ref_ffnIn, ref_stream1, ref_mix]
  rfl

/-- The kernel and the reference, started on equal arguments, end with equal results. -/
theorem algebraic : Cert.algebraic_Kernel3Ideal_Reference3Ideal (hKernel3Ideal := Cert.Kernel3Ideal.Gen.facts) (hReference3Ideal := Cert.Reference3Ideal.Gen.facts) := by
  intro m ρ m' ρ' _ hm
  refine ⟨final m, run m ρ, ?_⟩
  refine (θ_run _ _ _).mono (fun r h c => ⟨?_, (h c).2⟩) (Cert.Reference3Ideal.Value.run (F := Ideal) m' ρ')
  obtain ⟨e0, e1, e2, e3, e4, e5, e6, e7, e8, e9, e10⟩ := hm c
  refine (h c).1.trans ((val_main_v67_eq m' c).trans ?_)
  rw [e0, e1, e2, e3, e4, e5, e6, e7, e8, e9, e10]
  exact ref_eq m c

end Cert.Tail

end
-- ==== Proof.AttnNorm.Kernel.lean ====
/-
  The first normalisation of the layer read as a value. The launch walks 32 points; point `t` normalises 512 rows of the stream, takes
  their product with the forget weight, and turns it into the logarithm of the forget gate; it also rounds 64 rows of the query weight.
  Here each result array is shown to be one function of the arguments.
-/
module

public import proofs.«01_k».proof.Defs
public import proofs.«01_k».proof.Proof.Gen.Kernel4Ideal.Frame
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.AttnNorm

open Idealize.ShloMosaic Idealize.ShloMosaic.TcCoe Idealize.SL.Sem Cert.Kernel4Ideal Cert.Kernel4Ideal.Gen
open Idealize.ShloMosaic.Pipeline (Dat Cfg Window)

variable (m : (ℓ : Loc nD τ sig) → Buf (Elt Ideal) ℓ) (ρ : Dev nD → PrngReg)

/-- The stream, one row per token. -/
abbrev stream (c : Dev nD) : S16384x4096.Idx → EReal := m ((c : Thread nD τ).loc main_arg0)

/-- The gain of the normalisation. -/
abbrev gain (c : Dev nD) : S1x4096.Idx → EReal := m ((c : Thread nD τ).loc main_arg1)

/-- The layer's combined projection weight. -/
abbrev weight (c : Dev nD) : S1x4096x12304.Idx → EReal := m ((c : Thread nD τ).loc main_arg2)

/-- The bias of the forget gate. -/
abbrev bias (c : Dev nD) : S1x16.Idx → EReal := m ((c : Thread nD τ).loc main_arg3)

/-! What the launch finds in the arrays prepared for it. -/

/-- The gain reaches the launch as it was given. -/
theorem found_gain (c : Dev nD) (k : Fin 4096) : V m c main_v9 (ix2 (0 : Fin 1) k) = gain m c (ix2 (0 : Fin 1) k) := by
  unfold V V0
  after_reads_at

/-- The first 16 rows of the padded forget weight are columns 6144 to 6159 of the combined weight. -/
theorem found_forget (c : Dev nD) (h : Fin 16) (k : Fin 4096) :
    V m c main_v4 (ix2 (⟨h.val, by omega⟩ : Fin 128) k) = weight m c (ix3 (0 : Fin 1) k ⟨6144 + h.val, by omega⟩) := by
  unfold V V0
  after_reads_at

/-- The first 16 entries of the padded bias are the bias. -/
theorem found_bias (c : Dev nD) (h : Fin 16) :
    V m c main_v7 (ix2 (0 : Fin 1) (⟨h.val, by omega⟩ : Fin 128)) = bias m c (ix2 (0 : Fin 1) h) := by
  unfold V V0
  after_reads_at

/-- The transposed weight. -/
theorem found_rows (c : Dev nD) (r : Fin 12304) (k : Fin 4096) :
    V m c main_v1 (ix2 r k) = weight m c (ix3 (0 : Fin 1) k r) := by
  unfold V V0
  after_reads_at

/-- Where each window's block lies at point `t`. -/
theorem places : ∀ t : Fin cfg0.N,
    (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N, _)

/-- The number of points. -/
theorem lt_points (t : Fin cfg0.N) : t.val < 32 := t.isLt

/-- The stream's block at point `t`: 512 rows from row `512 * t` on. -/
theorem blk_stream (c : Dev nD) (t : Fin cfg0.N) (y : S512x4096.Idx) :
    iblk m c 0 t y = stream m c (ix2 ⟨512 * t.val + (y 0).val, by have := lt_points t; have := (y 0).isLt; change (y 0).val < 512 at this; omega⟩ (y 1)) := by
  have hp := (places t).1
  unfold iblk
  rw [View.read_apply]
  show V m c main_arg0 _ = _
  rw [V_main_arg0]
  refine congrArg (stream m c) (Shape.idx_ext₂ ?_ ?_)
  · rw [show ((((cfg0.win 0).blk t).view.emb y) 0 : ℕ) = win0_0.index t 0 * win0_0.size 0 + y 0 from win0_0.rect_emb_val t y 0, hp.1]
    show _ * 512 + _ = _
    simp only [ix2]
    omega
  · exact win0_0.rect_emb_val_of_index_zero t 1 hp.2 y

/-- The gain is read whole at every point. -/
theorem blk_gain (c : Dev nD) (t : Fin cfg0.N) (y : S1x4096.Idx) : iblk m c 1 t y = V m c main_v9 y := by
  have hp := (places t).2.1
  unfold iblk
  rw [View.read_apply]
  refine congrArg (V m c main_v9) (Shape.idx_ext₂ ?_ ?_)
  · exact win0_1.rect_emb_val_of_index_zero t 0 hp.1 y
  · exact win0_1.rect_emb_val_of_index_zero t 1 hp.2 y

/-- The padded forget weight is read whole at every point. -/
theorem blk_forget (c : Dev nD) (t : Fin cfg0.N) (y : S128x4096.Idx) : iblk m c 2 t y = V m c main_v4 y := by
  have hp := (places t).2.2.1
  unfold iblk
  rw [View.read_apply]
  refine congrArg (V m c main_v4) (Shape.idx_ext₂ ?_ ?_)
  · exact win0_2.rect_emb_val_of_index_zero t 0 hp.1 y
  · exact win0_2.rect_emb_val_of_index_zero t 1 hp.2 y

/-- The padded bias is read whole at every point. -/
theorem blk_bias (c : Dev nD) (t : Fin cfg0.N) (y : S1x128.Idx) : iblk m c 3 t y = V m c main_v7 y := by
  have hp := (places t).2.2.2.1
  unfold iblk
  rw [View.read_apply]
  refine congrArg (V m c main_v7) (Shape.idx_ext₂ ?_ ?_)
  · exact win0_3.rect_emb_val_of_index_zero t 0 hp.1 y
  · exact win0_3.rect_emb_val_of_index_zero t 1 hp.2 y

/-- The weight's rows that point `t` rounds: 64 rows from row `64 * t` on. -/
theorem blk_rows (c : Dev nD) (t : Fin cfg0.N) (y : S64x4096.Idx) :
    X0_4 m c t y = V m c main_v1 (ix2 ⟨64 * t.val + (y 0).val, by have := lt_points t; have := (y 0).isLt; change (y 0).val < 64 at this; omega⟩ (y 1)) := by
  have hp := (places t).2.2.2.2.1
  unfold X0_4 Pipeline.Window.fill
  rw [dif_pos (moved0_4 t y)]
  unfold iblk
  rw [View.read_apply]
  refine congrArg (V m c main_v1) (Shape.idx_ext₂ ?_ ?_)
  · refine (win0_4.rect_emb_val t _ 0).trans ?_
    rw [hp.1]
    show _ * 64 + (y 0).val = _
    simp only [ix2]
    omega
  · exact win0_4.rect_emb_val_of_index_zero t 1 hp.2 _

/-- Offsets written out as two zeros are the zero offset. -/
theorem hz : (![0, 0] : Fin 2 → Nat) = fun _ => 0 := funext fun a => by fin_cases a <;> rfl

/-- The stream normalised: each row divided by the root of its mean square (to which a literal is added), times the gain. -/
def normed (c : Dev nD) : S16384x4096.Idx → EReal := fun i =>
  stream m c i * Ideal.rsqrt (Ideal.div (∑ k : Fin 4096, stream m c (ix2 (i 0) k) * stream m c (ix2 (i 0) k)) (Ideal.ofBits .f32 0x45800000#32)
      + Ideal.ofBits .f32 0x358637BD#32)
    * gain m c (ix2 0 (i 1))

/-- Minus the softplus of `-z`, in the form that is safe for every `z`. -/
def logGate (z : EReal) : EReal := 0 - (max (0 - z) 0 + Ideal.log1p (Ideal.exp (0 - max (0 - z) (-(0 - z)))))

/-- The logarithm of the forget gate on the padded lanes. -/
def padded (c : Dev nD) : S16384x128.Idx → EReal := fun i =>
  logGate ((∑ k : Fin 4096, normed m c (ix2 (i 0) k) * V m c main_v4 (ix2 (i 1) k)) + V m c main_v7 (ix2 0 (i 1)))

/-- The logarithm of the forget gate of each head. -/
def gates (c : Dev nD) : S16384x16.Idx → EReal := fun i =>
  logGate ((∑ k : Fin 4096, normed m c (ix2 (i 0) k) * weight m c (ix3 0 k ⟨6144 + (i 1).val, by have := (i 1).isLt; change (i 1).val < 16 at this; omega⟩))
    + bias m c (ix2 0 (i 1)))

/-- The body's normalised block at an index. -/
theorem pay_norm (c : Dev nD) (t : Fin cfg0.N) (y : S512x4096.Idx) :
    k0_pay3 (F := Ideal) (iblk m c 0 t) (iblk m c 1 t) y
      = normed m c (ix2 ⟨512 * t.val + (y 0).val, by have := lt_points t; have := (y 0).isLt; change (y 0).val < 512 at this; omega⟩ (y 1)) := by
  pointwise [k0_pay3, normed]
  simp only [blk_stream, blk_gain]
  refine congrArg₂ (· * ·) rfl ?_
  exact found_gain m c _

/-- The body's forget logit at an index. -/
theorem pay_logit (c : Dev nD) (t : Fin cfg0.N) (y : S512x128.Idx) :
    k0_pay4 (F := Ideal) (iblk m c 0 t) (iblk m c 1 t) (iblk m c 2 t) (iblk m c 3 t) y
      = 0 - ((∑ k : Fin 4096, normed m c (ix2 ⟨512 * t.val + (y 0).val, by have := lt_points t; have := (y 0).isLt; change (y 0).val < 512 at this; omega⟩ k)
          * V m c main_v4 (ix2 (y 1) k)) + V m c main_v7 (ix2 0 (y 1))) := by
  have e : ∀ z : S512x4096.Idx, k0_pay3 (F := Ideal) (iblk m c 0 t) (iblk m c 1 t) z = _ := pay_norm m c t
  unfold k0_pay4
  generalize k0_pay3 (F := Ideal) (iblk m c 0 t) (iblk m c 1 t) = hn at e ⊢
  pointwise []
  simp only [e, blk_forget, blk_bias]
  rfl

/-- The body's log gate at an index. -/
theorem pay_gate (c : Dev nD) (t : Fin cfg0.N) (y : S512x128.Idx) :
    k0_pay1 (F := Ideal) (k0_pay5 (iblk m c 0 t) (iblk m c 1 t) (iblk m c 2 t) (iblk m c 3 t)) (k0_pay6 (iblk m c 0 t) (iblk m c 1 t) (iblk m c 2 t) (iblk m c 3 t)) y
      = padded m c (ix2 ⟨512 * t.val + (y 0).val, by have := lt_points t; have := (y 0).isLt; change (y 0).val < 512 at this; omega⟩ (y 1)) := by
  have e := pay_logit m c t y
  unfold k0_pay1 k0_pay5 k0_pay6
  generalize k0_pay4 (F := Ideal) (iblk m c 0 t) (iblk m c 1 t) (iblk m c 2 t) (iblk m c 3 t) = z at e ⊢
  pointwise [padded, logGate]
  rw [e]
  rfl

/-- What point `t` writes back of the normalised rows is its block of `normed`. -/
theorem flushed_normed (c : Dev nD) (t : Fin cfg0.N) :
    (dats m 0 c).flushed 5 t = ((cfg0.win 5).blk t).view.read (Elt Ideal) (normed m c) := by
  have hp := (places t).2.2.2.2.2.1
  have ht := lt_points t
  show (cfg0.win 5).cut (grid0.coords t) ((dats m 0 c).after 5 t) = _
  rw [after0_5]
  unfold outsAt0
  frame_out
  funext y
  rw [View.read_apply]
  have h0 : (y 0).val < 512 := (y 0).isLt
  have e : ((cfg0.win 5).blk t).view.emb y = ix2 ⟨512 * t.val + (y 0).val, by omega⟩ (y 1) :=
    Shape.idx_ext₂
      ((win0_5.rect_emb_val t y 0).trans (by rw [hp.1]; show _ * 512 + _ = _; simp only [ix2]; omega))
      (win0_5.rect_emb_val_of_index_zero t 1 hp.2 y)
  show k0_pay3 (F := Ideal) (iblk m c 0 t) (iblk m c 1 t) y = normed m c _
  rw [e]
  exact pay_norm m c t y

/-- Its blocks tile the array, so it ends at `normed`. -/
theorem final_normed (c : Dev nD) : (dats m 0 c).arrAt 5 cfg0.N = normed m c :=
  (dats m 0 c).arrAt_eq_of_cover 5 (normed m c) (fun t _ => flushed_normed m c t) fun i => by
    have h0 : (i 0).val < 16384 := (i 0).isLt
    have h1 : (i 1).val < 4096 := (i 1).isLt
    let t : Fin cfg0.N := ⟨(i 0).val / 512, by show _ < 32; omega⟩
    have hp := (places t).2.2.2.2.2.1
    refine ⟨t, flush0_5 t, ?_⟩
    show i ∈ ((View.whole main_v10_0).slice (win0_5.rect t)).set
    rw [View.set_slice_whole, Rect.mem_set_unit]
    intro a
    match a with
    | ⟨0, _⟩ =>
      show win0_5.index t 0 * 512 ≤ (i 0).val ∧ (i 0).val < win0_5.index t 0 * 512 + 512
      rw [hp.1]; dsimp only [t]; omega
    | ⟨1, _⟩ =>
      show win0_5.index t 1 * 4096 ≤ (i 1).val ∧ (i 1).val < win0_5.index t 1 * 4096 + 4096
      rw [hp.2]; omega

/-- What point `t` writes back of the log gates is its block of `padded`. -/
theorem flushed_padded (c : Dev nD) (t : Fin cfg0.N) :
    (dats m 0 c).flushed 6 t = ((cfg0.win 6).blk t).view.read (Elt Ideal) (padded m c) := by
  have hp := (places t).2.2.2.2.2.2.1
  have ht := lt_points t
  show (cfg0.win 6).cut (grid0.coords t) ((dats m 0 c).after 6 t) = _
  rw [after0_6]
  unfold outsAt0
  frame_out
  funext y
  rw [View.read_apply]
  have h0 : (y 0).val < 512 := (y 0).isLt
  have e : ((cfg0.win 6).blk t).view.emb y = ix2 ⟨512 * t.val + (y 0).val, by omega⟩ (y 1) :=
    Shape.idx_ext₂
      ((win0_6.rect_emb_val t y 0).trans (by rw [hp.1]; show _ * 512 + _ = _; simp only [ix2]; omega))
      (win0_6.rect_emb_val_of_index_zero t 1 hp.2 y)
  show k0_pay1 (F := Ideal) (k0_pay5 (iblk m c 0 t) (iblk m c 1 t) (iblk m c 2 t) (iblk m c 3 t)) (k0_pay6 (iblk m c 0 t) (iblk m c 1 t) (iblk m c 2 t) (iblk m c 3 t)) y = padded m c _
  rw [e]
  exact pay_gate m c t y

/-- Its blocks tile the array, so it ends at `padded`. -/
theorem final_padded (c : Dev nD) : (dats m 0 c).arrAt 6 cfg0.N = padded m c :=
  (dats m 0 c).arrAt_eq_of_cover 6 (padded m c) (fun t _ => flushed_padded m c t) fun i => by
    have h0 : (i 0).val < 16384 := (i 0).isLt
    have h1 : (i 1).val < 128 := (i 1).isLt
    let t : Fin cfg0.N := ⟨(i 0).val / 512, by show _ < 32; omega⟩
    have hp := (places t).2.2.2.2.2.2.1
    refine ⟨t, flush0_6 t, ?_⟩
    show i ∈ ((View.whole main_v10_1).slice (win0_6.rect t)).set
    rw [View.set_slice_whole, Rect.mem_set_unit]
    intro a
    match a with
    | ⟨0, _⟩ =>
      show win0_6.index t 0 * 512 ≤ (i 0).val ∧ (i 0).val < win0_6.index t 0 * 512 + 512
      rw [hp.1]; dsimp only [t]; omega
    | ⟨1, _⟩ =>
      show win0_6.index t 1 * 128 ≤ (i 1).val ∧ (i 1).val < win0_6.index t 1 * 128 + 128
      rw [hp.2]; omega

/-- The rounded query weight: the first 2048 columns of the combined weight, as rows. -/
def queryRows (c : Dev nD) : S2048x4096.Idx → EReal := fun i => weight m c (ix3 0 (i 1) ⟨(i 0).val, by have := (i 0).isLt; change (i 0).val < 2048 at this; omega⟩)

/-- What point `t` writes back of the rounded weight is its block of `queryRows`. -/
theorem flushed_queryRows (c : Dev nD) (t : Fin cfg0.N) :
    (dats m 0 c).flushed 7 t = ((cfg0.win 7).blk t).view.read (Elt Ideal) (queryRows m c) := by
  have hp := (places t).2.2.2.2.2.2.2
  have ht := lt_points t
  show (cfg0.win 7).cut (grid0.coords t) ((dats m 0 c).after 7 t) = _
  rw [after0_7]
  unfold outsAt0
  frame_out
  funext y
  rw [View.read_apply]
  have h0 : (y 0).val < 64 := (y 0).isLt
  have e : ((cfg0.win 7).blk t).view.emb y = ix2 ⟨64 * t.val + (y 0).val, by omega⟩ (y 1) :=
    Shape.idx_ext₂
      ((win0_7.rect_emb_val t y 0).trans (by rw [hp.1]; show _ * 64 + _ = _; simp only [ix2]; omega))
      (win0_7.rect_emb_val_of_index_zero t 1 hp.2 y)
  show k0_pay2 (F := Ideal) (X0_4 m c t) y = queryRows m c _
  rw [e]
  pointwise [k0_pay2, queryRows]
  rw [blk_rows]
  exact found_rows m c _ _

/-- Its blocks tile the array, so it ends at `queryRows`. -/
theorem final_queryRows (c : Dev nD) : (dats m 0 c).arrAt 7 cfg0.N = queryRows m c :=
  (dats m 0 c).arrAt_eq_of_cover 7 (queryRows m c) (fun t _ => flushed_queryRows m c t) fun i => by
    have h0 : (i 0).val < 2048 := (i 0).isLt
    have h1 : (i 1).val < 4096 := (i 1).isLt
    let t : Fin cfg0.N := ⟨(i 0).val / 64, by show _ < 32; omega⟩
    have hp := (places t).2.2.2.2.2.2.2
    refine ⟨t, flush0_7 t, ?_⟩
    show i ∈ ((View.whole main_v10_2).slice (win0_7.rect t)).set
    rw [View.set_slice_whole, Rect.mem_set_unit]
    intro a
    match a with
    | ⟨0, _⟩ =>
      show win0_7.index t 0 * 64 ≤ (i 0).val ∧ (i 0).val < win0_7.index t 0 * 64 + 64
      rw [hp.1]; dsimp only [t]; omega
    | ⟨1, _⟩ =>
      show win0_7.index t 1 * 4096 ≤ (i 1).val ∧ (i 1).val < win0_7.index t 1 * 4096 + 4096
      rw [hp.2]; omega

/-- The slice after the launch keeps the 16 heads' lanes. -/
theorem tail_gates (c : Dev nD) : Pipeline.afterTail₀ cfgs (dats m) 0 (V0 m) [hostOps1] c main_v11 = gates m c := by
  funext i
  obtain ⟨r, h, rfl⟩ : ∃ (r : Fin 16384) (h : Fin 16), i = ix2 r h := ⟨i 0, i 1, eq_ix2 i⟩
  have e : ∀ U : Valuation τ sig (Elt Ideal), StableHlo.after (hostOps1 (F := Ideal)) U (Proc.devRef .tc main_v11) (ix2 r h)
      = U (Proc.devRef .tc main_v10_1) (ix2 r (⟨h.val, by omega⟩ : Fin 128)) := fun U => by after_reads_at
  unfold Pipeline.afterTail₀
  refine (e _).trans ?_
  refine (congrFun (Pipeline.withArrays_arr spec0 (by decide) c (V0 m c) (fun w => (dats m 0 c).arrAt w cfg0.N) 6) _).trans ?_
  rw [final_padded]
  unfold padded gates
  refine congrArg logGate (congrArg₂ (· + ·) ?_ (found_bias m c h))
  exact Finset.sum_congr rfl fun k _ => congrArg (_ * ·) (found_forget m c h k)

/-- The run: the results are the functions above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v10_0) = normed m c
    ∧ r.2.mem ((c.tc : Thread nD τ).loc main_v11) = gates m c
    ∧ r.2.mem ((c.tc : Thread nD τ).loc main_v10_2) = queryRows m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => by
    obtain ⟨⟨ha, -⟩, h1⟩ := h
    exact ⟨((h1 c).1 5).trans (final_normed m c),
      ((h1 c).2 main_v11 (Pipeline.mem_restRefs_of main_v11 (by decide) (by decide))).trans (tail_gates m c),
      ((h1 c).1 7).trans (final_queryRows m c), ha c⟩)
    (θ_run_and (Gen.frame m ρ) (run_main m ρ))

end Cert.AttnNorm

end
-- ==== Proof.AttnNorm.Ref.lean ====
/-
  The reference of the first normalisation read at an index, and the value claim: its results are the functions the kernel's
  results were shown to be. The reference spells the log gate through `jax.nn.log_sigmoid`, whose guard against an undefined
  difference never fires on the extended reals.
-/
module

public import proofs.«01_k».proof.Proof.AttnNorm.Kernel
public import proofs.«01_k».proof.Proof.Gen.Reference4Ideal.Read
public import Idealize.ShloMosaic.Lib.Pointwise
public import Idealize.ShloMosaic.Lib.Quiescent

@[expose] public section

set_option maxRecDepth 16384

noncomputable section

namespace Cert.AttnNorm

open Idealize.ShloMosaic Idealize.ShloMosaic.TcCoe Idealize.SL.Sem

open Cert.Reference4Ideal.Read

/-- The reference's normalised stream at an index. -/
theorem ref_at (m : (ℓ : Loc Cert.Kernel4Ideal.nD Cert.Kernel4Ideal.τ Cert.Kernel4Ideal.sig) → Buf (Elt Ideal) ℓ) (c : Dev Cert.Kernel4Ideal.nD) (i : Cert.Reference4Ideal.S16384x4096.Idx) :
    val_main_v14 (F := Ideal) (stream m c) (gain m c) i = normed m c i := by
  rw [val_main_v14_apply, val_main_v11_apply, val_main_v10_apply, val_main_v9_apply, val_main_v8_apply, val_main_v6_apply,
    val_main_v4_apply, val_main_v3_apply, val_main_v5_apply, val_main_v7_apply, val_main_v13_apply, val_main_v12_apply, val_main_v1_apply]
  simp only [val_main_v2_apply]
  unfold normed
  refine congrArg₂ (· * ·) (congrArg (stream m c i * ·) (congrArg Ideal.rsqrt (congrArg₂ (· + ·) (congrArg₂ Ideal.div ?_ rfl) rfl))) ?_
  · refine (congrArg (· + _) (Ideal.ofBits_zero_f32 : Ideal.ofBits .f32 0x00000000#32 = 0)).trans ((zero_add _).trans ?_)
    exact Finset.sum_congr rfl fun k _ => congrArg₂ (· * ·) (congrArg (stream m c) (Shape.idx_ext₂ rfl rfl)) (congrArg (stream m c) (Shape.idx_ext₂ rfl rfl))
  · refine congrArg (gain m c) (Shape.idx_ext₂ rfl ?_)
    show ((i 1).val) % 4096 = (i 1).val
    exact Nat.mod_eq_of_lt (i 1).isLt

/-- The reference's normalised stream is the kernel's. -/
theorem ref_normed (m : (ℓ : Loc Cert.Kernel4Ideal.nD Cert.Kernel4Ideal.τ Cert.Kernel4Ideal.sig) → Buf (Elt Ideal) ℓ) (c : Dev Cert.Kernel4Ideal.nD) : val_main_v22 (F := Ideal) (stream m c) (gain m c) = normed m c := by
  funext i
  rw [val_main_v22_apply]
  exact ref_at m c i

/-- The reference's forget logit at an index. -/
theorem ref_logit (m : (ℓ : Loc Cert.Kernel4Ideal.nD Cert.Kernel4Ideal.τ Cert.Kernel4Ideal.sig) → Buf (Elt Ideal) ℓ) (c : Dev Cert.Kernel4Ideal.nD) (i : Cert.Reference4Ideal.S16384x16.Idx) :
    val_main_v20 (F := Ideal) (stream m c) (gain m c) (weight m c) (bias m c) i
      = (∑ k : Fin 4096, normed m c (ix2 (i 0) k) * weight m c (ix3 0 k ⟨6144 + (i 1).val, by have := (i 1).isLt; change (i 1).val < 16 at this; omega⟩))
        + bias m c (ix2 0 (i 1)) := by
  have h1 : (i 1).val < 16 := (i 1).isLt
  rw [val_main_v20_apply, val_main_v16_apply, val_main_v19_apply, val_main_v18_apply, val_main_v17_apply]
  simp only [val_main_v15_apply, val_main_v0_apply, ref_at]
  refine congrArg₂ (· + ·) (Finset.sum_congr rfl fun k _ => congrArg₂ (· * ·) (congrArg (normed m c) (Shape.idx_ext₂ rfl rfl)) ?_) ?_
  · have hk : k.val < 4096 := k.isLt
    refine congrArg (weight m c) (funext fun a => Fin.ext ?_)
    match a with
    | ⟨0, _⟩ => rfl
    | ⟨1, _⟩ => show (k.val * 12304 + (6144 + (i 1).val)) / 12304 % 4096 = k.val; omega
    | ⟨2, _⟩ => show (k.val * 12304 + (6144 + (i 1).val)) % 12304 = 6144 + (i 1).val; omega
  · exact congrArg (bias m c) (Shape.idx_ext₂ rfl (Nat.mod_eq_of_lt h1))

/-- The reference's log gate of a logit is the kernel's: the guard never fires. -/
theorem log_gate (z : EReal) :
    -(Scalar.select (Ideal.cmp .une (-z - 0) (-z - 0)) (-z + 0) (max (-z) 0 + Ideal.log1p (Ideal.exp (-(max (-z - 0) (-(-z - 0)))))))
      = logGate z := by
  have hs : -z - 0 = -z := sub_zero _
  have h0 : (0 : EReal) - z = -z := zero_sub z
  have hc : Ideal.cmp .une (-z) (-z) = 0#1 := by simp [Ideal.cmp]
  unfold logGate
  rw [hs, hc, h0]
  show -(max (-z) 0 + _) = 0 - (max (-z) 0 + _)
  rw [zero_sub, zero_sub]

/-- The reference's log gates are the kernel's. -/
theorem ref_gates (m : (ℓ : Loc Cert.Kernel4Ideal.nD Cert.Kernel4Ideal.τ Cert.Kernel4Ideal.sig) → Buf (Elt Ideal) ℓ) (c : Dev Cert.Kernel4Ideal.nD) : val_main_v21 (F := Ideal) (stream m c) (gain m c) (weight m c) (bias m c) = gates m c := by
  funext i
  rw [val_main_v21_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_v0_apply, ref_logit]
  simp only [val_main_call0_call0_cst_apply]
  unfold gates
  generalize (∑ k : Fin 4096, (_ : EReal)) + _ = z
  refine Eq.trans ?_ (log_gate z)
  have h : (FloatOps.ofBits .f32 0x00000000#32 : Ideal .f32) = (0 : EReal) := Ideal.ofBits_zero_f32
  rw [h]
  rfl

/-- The reference's rounded query weight is the kernel's. -/
theorem ref_queryRows (m : (ℓ : Loc Cert.Kernel4Ideal.nD Cert.Kernel4Ideal.τ Cert.Kernel4Ideal.sig) → Buf (Elt Ideal) ℓ) (c : Dev Cert.Kernel4Ideal.nD) : val_main_v25 (F := Ideal) (weight m c) = queryRows m c := by
  funext i
  have h0 : (i 0).val < 2048 := (i 0).isLt
  have h1 : (i 1).val < 4096 := (i 1).isLt
  rw [val_main_v25_apply, val_main_v24_apply, val_main_v23_apply, val_main_v0_apply]
  unfold queryRows
  refine congrArg (weight m c) (funext fun a => Fin.ext ?_)
  match a with
  | ⟨0, _⟩ => rfl
  | ⟨1, _⟩ => show ((i 1).val * 12304 + (i 0).val) / 12304 % 4096 = (i 1).val; omega
  | ⟨2, _⟩ => show ((i 1).val * 12304 + (i 0).val) % 12304 = (i 0).val; omega

/-- The kernel and the reference, started on equal arguments, end with equal results. -/
theorem algebraic : Cert.algebraic_Kernel4Ideal_Reference4Ideal (hKernel4Ideal := Cert.Kernel4Ideal.Gen.facts) (hReference4Ideal := Cert.Reference4Ideal.Gen.facts) := by
  intro m ρ m' ρ' _ hm
  refine ⟨normed m, gates m, queryRows m, run m ρ, ?_⟩
  refine (θ_run _ _ _).mono (fun r h c => ?_) (Cert.Reference4Ideal.Value.run (F := Ideal) m' ρ')
  obtain ⟨h0, h1, h2, ha⟩ := h c
  rw [(hm c).1, (hm c).2.1] at h0
  rw [val_main_v21_eq, (hm c).1, (hm c).2.1, (hm c).2.2.1, (hm c).2.2.2] at h1
  rw [(hm c).2.2.1] at h2
  exact ⟨h0.trans (ref_normed m c), h1.trans (ref_gates m c), h2.trans (ref_queryRows m c), ha⟩

end Cert.AttnNorm

end
-- ==== Proof.ProjKv.Body.lean ====
/-
  The body of a key or value projection, run once at a generic grid point. It multiplies 512 rows of the hidden state by the
  transpose of the 2048 rows of a weight, stores the product rounded, and stores the product a second time as an array of
  8192 rows of 128: head `h` of row `r` goes to row `16 * r + h`, one head after the other through a rectangle that takes
  every sixteenth row. Here the two buffers are shown to end at two functions of the product, and the launch to run.
-/
module

public import proofs.«01_k».proof.Proof.Gen.Kernel5Ideal.Frame
public import proofs.«01_k».proof.Proof.Gen.Kernel5Ideal.Skeleton
public import Idealize.ShloMosaic.Lib.Pipeline.Value
public import Idealize.ShloMosaic.Lib.Pointwise
public import Idealize.ShloMosaic.Lib.Claim
public import Mathlib.Tactic.IntervalCases

@[expose] public section

set_option maxRecDepth 16384

noncomputable section

namespace Cert.ProjKv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A 512 × 2048 product laid out by heads: row `16 * r + h` of the 8192 rows of 128 is head `h` of the product's row `r`. -/
def heads (z : FVec F S512x2048 .f32) : Vec F S8192x128 .f32 := fun y =>
  z (ix2 ⟨(y 0).val / 16, by have := (y 0).isLt; change (y 0).val < 8192 at this; omega⟩
    ⟨128 * ((y 0).val % 16) + (y 1).val, by have := (y 1).isLt; change (y 1).val < 128 at this; omega⟩)

/-- Head `h` of the product is what `heads` puts at every sixteenth row from row `h` on. -/
theorem head_piece (z : FVec F S512x2048 .f32) (h o : ℕ) (hh : h < 16) (ho : o = 128 * h)
    (sl : S512x2048.Slices ![0, o] S512x128)
    (inb : ∀ a, S512x128.size a = 0 ∨ (![h, 0] : Fin 2 → Nat) a + (![16, 1] : Fin 2 → Nat) a * (S512x128.size a - 1) < S8192x128.size a)
    (sp : ∀ a, 0 < (![16, 1] : Fin 2 → Nat) a) (x : S512x128.Idx) :
    extractStridedSlice S512x128 ![0, o] z sl x
      = heads z ((⟨(⟨![h, 0], S512x128.size, ![16, 1], inb⟩ : LoadRect S8192x128), sp⟩ : Rect S8192x128).emb x) := by
  have e0 : (((⟨(⟨![h, 0], S512x128.size, ![16, 1], inb⟩ : LoadRect S8192x128), sp⟩ : Rect S8192x128).emb x) 0).val = h + 16 * (x 0).val := rfl
  have e1 : (((⟨(⟨![h, 0], S512x128.size, ![16, 1], inb⟩ : LoadRect S8192x128), sp⟩ : Rect S8192x128).emb x) 1).val = 0 + 1 * (x 1).val := rfl
  unfold extractStridedSlice heads
  refine congrArg z (Shape.idx_ext₂ ?_ ?_)
  · show 0 + (x 0).val = _ / 16
    rw [e0]; omega
  · show o + (x 1).val = 128 * (_ % 16) + _
    rw [e0, e1]; omega

/-- Every row of the 8192 lies in the rectangle of its head. -/
theorem mem_head (h : ℕ) (y : S8192x128.Idx) (hy : (y 0).val % 16 = h)
    (inb : ∀ a, S512x128.size a = 0 ∨ (![h, 0] : Fin 2 → Nat) a + (![16, 1] : Fin 2 → Nat) a * (S512x128.size a - 1) < S8192x128.size a)
    (sp : ∀ a, 0 < (![16, 1] : Fin 2 → Nat) a) :
    y ∈ (⟨(⟨![h, 0], S512x128.size, ![16, 1], inb⟩ : LoadRect S8192x128), sp⟩ : Rect S8192x128).set := by
  have h0 : (y 0).val < 8192 := (y 0).isLt
  have h1 : (y 1).val < 128 := (y 1).isLt
  refine (LoadRect.mem_set _).mpr fun a => ?_
  match a with
  | ⟨0, _⟩ =>
    refine ⟨(y 0).val / 16, ?_, ?_⟩
    · show (y 0).val / 16 < 512
      omega
    · show (y 0).val = h + 16 * ((y 0).val / 16)
      omega
  | ⟨1, _⟩ =>
    refine ⟨(y 1).val, h1, ?_⟩
    show (y 1).val = 0 + 1 * (y 1).val
    omega

/-- The body's rectangles: each block read or stored whole. -/
abbrev rAct : Rect S512x4096 := Rect.unit (s := S512x4096) ![0, 0] S512x4096.size inb_S512x4096_S512x4096_0_0
/-- The weight's. -/
abbrev rWgt : Rect S2048x4096 := Rect.unit (s := S2048x4096) ![0, 0] S2048x4096.size inb_S2048x4096_S2048x4096_0_0
/-- The rounded product's. -/
abbrev rOut : Rect S512x2048 := Rect.unit (s := S512x2048) ![0, 0] S512x2048.size inb_S512x2048_S512x2048_0_0

/-- The product of the two blocks, as the body computes it. -/
abbrev prod (x0 : Vec F S512x4096 .bf16) (x1 : Vec F S2048x4096 .bf16) : FVec F S512x2048 .f32 := k0_pay7 (View.ld x0 rAct) (View.ld x1 rWgt)

/-- What the body leaves in the buffer by heads, -/
def outHeads (x0 : Vec F S512x4096 .bf16) (x1 : Vec F S2048x4096 .bf16) : Vec F S8192x128 .f32 := heads (prod x0 x1)

/-- and in the buffer of the rounded product. -/
def outFlat (x0 : Vec F S512x4096 .bf16) (x1 : Vec F S2048x4096 .bf16) : Vec F S512x2048 .bf16 :=
  View.canon [⟨rOut, k0_pay8 (View.ld x0 rAct) (View.ld x1 rWgt)⟩]

/-- The one store of the rounded product covers its buffer. -/
theorem cover_flat (p0 : Vec F S512x2048 .bf16) (y : S512x2048.Idx) :
    ∃ pc ∈ ([⟨rOut, p0⟩] : List (View.Piece (Elt F) S512x2048 .bf16)), y ∈ pc.1.set :=
  View.cover_of_tiled [⟨rOut, p0⟩] S512x2048.size (by rfl) y

/-- The sixteen stores by heads, last first. -/
abbrev pieces (z : FVec F S512x2048 .f32) : List (View.Piece (Elt F) S8192x128 .f32) :=
  [⟨⟨(⟨![15, 0], S512x128.size, ![16, 1], inb_S8192x128_S512x128_15_0_s_16_1⟩ : LoadRect S8192x128), spos_16_1⟩, extractStridedSlice S512x128 ![0, 1920] z slices_S512x2048_o0_1920_S512x128⟩,
   ⟨⟨(⟨![14, 0], S512x128.size, ![16, 1], inb_S8192x128_S512x128_14_0_s_16_1⟩ : LoadRect S8192x128), spos_16_1⟩, extractStridedSlice S512x128 ![0, 1792] z slices_S512x2048_o0_1792_S512x128⟩,
   ⟨⟨(⟨![13, 0], S512x128.size, ![16, 1], inb_S8192x128_S512x128_13_0_s_16_1⟩ : LoadRect S8192x128), spos_16_1⟩, extractStridedSlice S512x128 ![0, 1664] z slices_S512x2048_o0_1664_S512x128⟩,
   ⟨⟨(⟨![12, 0], S512x128.size, ![16, 1], inb_S8192x128_S512x128_12_0_s_16_1⟩ : LoadRect S8192x128), spos_16_1⟩, extractStridedSlice S512x128 ![0, 1536] z slices_S512x2048_o0_1536_S512x128⟩,
   ⟨⟨(⟨![11, 0], S512x128.size, ![16, 1], inb_S8192x128_S512x128_11_0_s_16_1⟩ : LoadRect S8192x128), spos_16_1⟩, extractStridedSlice S512x128 ![0, 1408] z slices_S512x2048_o0_1408_S512x128⟩,
   ⟨⟨(⟨![10, 0], S512x128.size, ![16, 1], inb_S8192x128_S512x128_10_0_s_16_1⟩ : LoadRect S8192x128), spos_16_1⟩, extractStridedSlice S512x128 ![0, 1280] z slices_S512x2048_o0_1280_S512x128⟩,
   ⟨⟨(⟨![9, 0], S512x128.size, ![16, 1], inb_S8192x128_S512x128_9_0_s_16_1⟩ : LoadRect S8192x128), spos_16_1⟩, extractStridedSlice S512x128 ![0, 1152] z slices_S512x2048_o0_1152_S512x128⟩,
   ⟨⟨(⟨![8, 0], S512x128.size, ![16, 1], inb_S8192x128_S512x128_8_0_s_16_1⟩ : LoadRect S8192x128), spos_16_1⟩, extractStridedSlice S512x128 ![0, 1024] z slices_S512x2048_o0_1024_S512x128⟩,
   ⟨⟨(⟨![7, 0], S512x128.size, ![16, 1], inb_S8192x128_S512x128_7_0_s_16_1⟩ : LoadRect S8192x128), spos_16_1⟩, extractStridedSlice S512x128 ![0, 896] z slices_S512x2048_o0_896_S512x128⟩,
   ⟨⟨(⟨![6, 0], S512x128.size, ![16, 1], inb_S8192x128_S512x128_6_0_s_16_1⟩ : LoadRect S8192x128), spos_16_1⟩, extractStridedSlice S512x128 ![0, 768] z slices_S512x2048_o0_768_S512x128⟩,
   ⟨⟨(⟨![5, 0], S512x128.size, ![16, 1], inb_S8192x128_S512x128_5_0_s_16_1⟩ : LoadRect S8192x128), spos_16_1⟩, extractStridedSlice S512x128 ![0, 640] z slices_S512x2048_o0_640_S512x128⟩,
   ⟨⟨(⟨![4, 0], S512x128.size, ![16, 1], inb_S8192x128_S512x128_4_0_s_16_1⟩ : LoadRect S8192x128), spos_16_1⟩, extractStridedSlice S512x128 ![0, 512] z slices_S512x2048_o0_512_S512x128⟩,
   ⟨⟨(⟨![3, 0], S512x128.size, ![16, 1], inb_S8192x128_S512x128_3_0_s_16_1⟩ : LoadRect S8192x128), spos_16_1⟩, extractStridedSlice S512x128 ![0, 384] z slices_S512x2048_o0_384_S512x128⟩,
   ⟨⟨(⟨![2, 0], S512x128.size, ![16, 1], inb_S8192x128_S512x128_2_0_s_16_1⟩ : LoadRect S8192x128), spos_16_1⟩, extractStridedSlice S512x128 ![0, 256] z slices_S512x2048_o0_256_S512x128⟩,
   ⟨⟨(⟨![1, 0], S512x128.size, ![16, 1], inb_S8192x128_S512x128_1_0_s_16_1⟩ : LoadRect S8192x128), spos_16_1⟩, extractStridedSlice S512x128 ![0, 128] z slices_S512x2048_o0_128_S512x128⟩,
   ⟨⟨(⟨![0, 0], S512x128.size, ![16, 1], inb_S8192x128_S512x128_0_0_s_16_1⟩ : LoadRect S8192x128), spos_16_1⟩, extractStridedSlice S512x128 ![0, 0] z slices_S512x2048_o0_0_S512x128⟩]

/-- Written through whatever view and over whatever contents, the sixteen stores leave the product by heads. -/
theorem read_pieces {g : RefSig} {sp : Space} (v : View g .tc sp S8192x128 .f32) (f : v.ty.Contents (Elt F)) (z : FVec F S512x2048 .f32) :
    v.read (Elt F) (v.writes (Elt F) f (pieces z)) = heads z := by
  funext y
  refine View.read_writes_apply_of_pieces v f (heads z) (pieces z) ?_ y ?_
  · intro p hp
    simp only [pieces, List.mem_cons, List.not_mem_nil, _root_.or_false] at hp
    rcases hp with rfl | rfl | rfl | rfl | rfl | rfl | rfl | rfl | rfl | rfl | rfl | rfl | rfl | rfl | rfl | rfl
    · exact head_piece z 15 1920 (by decide) (by decide) slices_S512x2048_o0_1920_S512x128 inb_S8192x128_S512x128_15_0_s_16_1 spos_16_1
    · exact head_piece z 14 1792 (by decide) (by decide) slices_S512x2048_o0_1792_S512x128 inb_S8192x128_S512x128_14_0_s_16_1 spos_16_1
    · exact head_piece z 13 1664 (by decide) (by decide) slices_S512x2048_o0_1664_S512x128 inb_S8192x128_S512x128_13_0_s_16_1 spos_16_1
    · exact head_piece z 12 1536 (by decide) (by decide) slices_S512x2048_o0_1536_S512x128 inb_S8192x128_S512x128_12_0_s_16_1 spos_16_1
    · exact head_piece z 11 1408 (by decide) (by decide) slices_S512x2048_o0_1408_S512x128 inb_S8192x128_S512x128_11_0_s_16_1 spos_16_1
    · exact head_piece z 10 1280 (by decide) (by decide) slices_S512x2048_o0_1280_S512x128 inb_S8192x128_S512x128_10_0_s_16_1 spos_16_1
    · exact head_piece z 9 1152 (by decide) (by decide) slices_S512x2048_o0_1152_S512x128 inb_S8192x128_S512x128_9_0_s_16_1 spos_16_1
    · exact head_piece z 8 1024 (by decide) (by decide) slices_S512x2048_o0_1024_S512x128 inb_S8192x128_S512x128_8_0_s_16_1 spos_16_1
    · exact head_piece z 7 896 (by decide) (by decide) slices_S512x2048_o0_896_S512x128 inb_S8192x128_S512x128_7_0_s_16_1 spos_16_1
    · exact head_piece z 6 768 (by decide) (by decide) slices_S512x2048_o0_768_S512x128 inb_S8192x128_S512x128_6_0_s_16_1 spos_16_1
    · exact head_piece z 5 640 (by decide) (by decide) slices_S512x2048_o0_640_S512x128 inb_S8192x128_S512x128_5_0_s_16_1 spos_16_1
    · exact head_piece z 4 512 (by decide) (by decide) slices_S512x2048_o0_512_S512x128 inb_S8192x128_S512x128_4_0_s_16_1 spos_16_1
    · exact head_piece z 3 384 (by decide) (by decide) slices_S512x2048_o0_384_S512x128 inb_S8192x128_S512x128_3_0_s_16_1 spos_16_1
    · exact head_piece z 2 256 (by decide) (by decide) slices_S512x2048_o0_256_S512x128 inb_S8192x128_S512x128_2_0_s_16_1 spos_16_1
    · exact head_piece z 1 128 (by decide) (by decide) slices_S512x2048_o0_128_S512x128 inb_S8192x128_S512x128_1_0_s_16_1 spos_16_1
    · exact head_piece z 0 0 (by decide) (by decide) slices_S512x2048_o0_0_S512x128 inb_S8192x128_S512x128_0_0_s_16_1 spos_16_1
  · have hlt : (y 0).val % 16 < 16 := Nat.mod_lt _ (by decide)
    obtain ⟨h, hh⟩ : ∃ h, (y 0).val % 16 = h := ⟨_, rfl⟩
    rw [hh] at hlt
    interval_cases h
    · exact ⟨_, List.getElem_mem (l := pieces z) (n := 15) (by show 15 < 16; decide), mem_head 0 y hh _ _⟩
    · exact ⟨_, List.getElem_mem (l := pieces z) (n := 14) (by show 14 < 16; decide), mem_head 1 y hh _ _⟩
    · exact ⟨_, List.getElem_mem (l := pieces z) (n := 13) (by show 13 < 16; decide), mem_head 2 y hh _ _⟩
    · exact ⟨_, List.getElem_mem (l := pieces z) (n := 12) (by show 12 < 16; decide), mem_head 3 y hh _ _⟩
    · exact ⟨_, List.getElem_mem (l := pieces z) (n := 11) (by show 11 < 16; decide), mem_head 4 y hh _ _⟩
    · exact ⟨_, List.getElem_mem (l := pieces z) (n := 10) (by show 10 < 16; decide), mem_head 5 y hh _ _⟩
    · exact ⟨_, List.getElem_mem (l := pieces z) (n := 9) (by show 9 < 16; decide), mem_head 6 y hh _ _⟩
    · exact ⟨_, List.getElem_mem (l := pieces z) (n := 8) (by show 8 < 16; decide), mem_head 7 y hh _ _⟩
    · exact ⟨_, List.getElem_mem (l := pieces z) (n := 7) (by show 7 < 16; decide), mem_head 8 y hh _ _⟩
    · exact ⟨_, List.getElem_mem (l := pieces z) (n := 6) (by show 6 < 16; decide), mem_head 9 y hh _ _⟩
    · exact ⟨_, List.getElem_mem (l := pieces z) (n := 5) (by show 5 < 16; decide), mem_head 10 y hh _ _⟩
    · exact ⟨_, List.getElem_mem (l := pieces z) (n := 4) (by show 4 < 16; decide), mem_head 11 y hh _ _⟩
    · exact ⟨_, List.getElem_mem (l := pieces z) (n := 3) (by show 3 < 16; decide), mem_head 12 y hh _ _⟩
    · exact ⟨_, List.getElem_mem (l := pieces z) (n := 2) (by show 2 < 16; decide), mem_head 13 y hh _ _⟩
    · exact ⟨_, List.getElem_mem (l := pieces z) (n := 1) (by show 1 < 16; decide), mem_head 14 y hh _ _⟩
    · exact ⟨_, List.getElem_mem (l := pieces z) (n := 0) (by show 0 < 16; decide), mem_head 15 y hh _ _⟩

set_option maxHeartbeats 2000000 in
/-- The body on whole buffers, the inputs' at what they hold and the outputs' at anything, leaves the inputs as they were and
    the outputs at `outHeads` and `outFlat` of them. -/
theorem sound_kernel (c : Dev nD) (E : Set ℕ) (i : grid0.Coords) (arg1 : Memref sig .tc .vmem S512x4096 .bf16) (harg1 : arg1.IsWhole) (arg2 : Memref sig .tc .vmem S2048x4096 .bf16) (harg2 : arg2.IsWhole) (arg3 : Memref sig .tc .vmem S8192x128 .f32) (harg3 : arg3.IsWhole) (arg4 : Memref sig .tc .vmem S512x2048 .bf16) (harg4 : arg4.IsWhole)
    (x0 : Vec F S512x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (outHeads x0 x1) ∗ owns (c : Thread nD τ) arg4 fullShare (outFlat x0 x1)) -∗ K ⟨⟩))
      ⊢ wp frame (wpE (defs₀ (F := F)) Variants.none c none) E (cc0_proj_kv i arg1 harg1 arg2 harg2 arg3 harg3 arg4 harg4) K := by
  simp only [cc0_proj_kv_eq_skeleton]; unfold cc0_proj_kv_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_pieces _ _ _
  iexists _; isplitr
  swap; · iexact H3
  ipureintro
  exact View.read_writes_eq_canon _ _ _ (cover_flat _)

/-- The run's data: the arrays as launched, each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outHeads (iblk m c 0 t) (iblk m c 1 t)
    | ⟨3, _⟩ => outFlat (iblk m c 0 t) (iblk m c 1 t)
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- What the body leaves in the windows' buffers. The hidden state's buffer. -/
theorem after_0 (c : Dev nD) (t : Fin cfg0.N) : (dats m 0 c).after 0 t = iblk m c 0 t := by dsimp only [dats]
/-- The weight's buffer. -/
theorem after_1 (c : Dev nD) (t : Fin cfg0.N) : (dats m 0 c).after 1 t = iblk m c 1 t := by dsimp only [dats]
/-- The buffer by heads. -/
theorem after_2 (c : Dev nD) (t : Fin cfg0.N) : (dats m 0 c).after 2 t = outHeads (iblk m c 0 t) (iblk m c 1 t) := by dsimp only [dats]
/-- The buffer of the rounded product. -/
theorem after_3 (c : Dev nD) (t : Fin cfg0.N) : (dats m 0 c).after 3 t = outFlat (iblk m c 0 t) (iblk m c 1 t) := by dsimp only [dats]

/-- Each input's buffer holds its block when the body begins. The hidden state's. -/
theorem before_0 (c : Dev nD) (t : Fin cfg0.N) (d) : (dats m 0 c).before 0 t d = iblk m c 0 t :=
  before0_0_of m (dats m 0 c) (A_eq m c 0) (after_0 m c) t d
/-- The weight's. -/
theorem before_1 (c : Dev nD) (t : Fin cfg0.N) (d) : (dats m 0 c).before 1 t d = iblk m c 1 t :=
  before0_1_of m (dats m 0 c) (A_eq m c 1) (after_1 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point, from its blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The label the launch calls at point `t` is the body there. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch runs to its end: every array at what the points wrote back, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun _ _ => ite_self _)
    (howed := fun _ _ => rfl) (V := V m) (hmain := hmain m Variants.none) (hA := A_eq m) (hΦ := fun _ _ => rfl)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ProjKv

end
-- ==== Proof.ProjKv.Kernel.lean ====
/-
  A key or value projection read as a value. The launch walks 32 points; point `t` handles the 512 rows of the hidden state from
  `512 * t` on and writes 8192 rows of the result by heads and 512 rows of the rounded product. Here both result arrays are
  shown to be functions of the two arguments.
-/
module

public import proofs.«01_k».proof.Defs
public import proofs.«01_k».proof.Proof.ProjKv.Body
public import Idealize.ShloMosaic.Lib.Pipeline.Value
public import Idealize.ShloMosaic.Lib.Pointwise

@[expose] public section

set_option maxRecDepth 16384

noncomputable section

namespace Cert.ProjKv

open Idealize.ShloMosaic Idealize.ShloMosaic.TcCoe Idealize.SL.Sem Cert.Kernel5Ideal Cert.Kernel5Ideal.Gen
open Idealize.ShloMosaic.Pipeline (Dat Cfg Window)

variable (m : (ℓ : Loc nD τ sig) → Buf (Elt Ideal) ℓ) (ρ : Dev nD → PrngReg)

/-- The hidden state, one row per token. -/
abbrev hid (c : Dev nD) : S16384x4096.Idx → EReal := m ((c : Thread nD τ).loc main_arg0)

/-- The weight, one row per projected feature. -/
abbrev wgt (c : Dev nD) : S2048x4096.Idx → EReal := m ((c : Thread nD τ).loc main_arg1)

/-- Where each window's block lies at point `t`: the weight's stays, the others' move with `t`. -/
theorem places : ∀ t : Fin cfg0.N,
    (win0_0.index t 0 = t.val ∧ win0_0.index t 1 = 0)
    ∧ (win0_1.index t 0 = 0 ∧ win0_1.index t 1 = 0)
    ∧ (win0_2.index t 0 = t.val ∧ win0_2.index t 1 = 0)
    ∧ (win0_3.index t 0 = t.val ∧ win0_3.index t 1 = 0) :=
  (by decide +kernel : ∀ t : Fin grid0.N, _)

/-- The number of points. -/
theorem lt_points (t : Fin cfg0.N) : t.val < 32 := t.isLt

/-- The hidden state's block at point `t`: 512 rows from row `512 * t` on. -/
theorem blk_hid (c : Dev nD) (t : Fin cfg0.N) (y : S512x4096.Idx) :
    iblk m c 0 t y = hid m c (ix2 ⟨512 * t.val + (y 0).val, by have := lt_points t; have := (y 0).isLt; change (y 0).val < 512 at this; omega⟩ (y 1)) := by
  have hp := (places t).1
  unfold iblk
  rw [View.read_apply]
  show hid m c _ = _
  refine congrArg (hid m c) (Shape.idx_ext₂ ?_ ?_)
  · rw [show ((((cfg0.win 0).blk t).view.emb y) 0 : ℕ) = win0_0.index t 0 * win0_0.size 0 + y 0 from win0_0.rect_emb_val t y 0, hp.1]
    show _ * 512 + _ = _
    simp only [ix2]
    omega
  · exact win0_0.rect_emb_val_of_index_zero t 1 hp.2 y

/-- The weight's block at every point is the weight. -/
theorem blk_wgt (c : Dev nD) (t : Fin cfg0.N) (y : S2048x4096.Idx) :
    iblk m c 1 t y = wgt m c y := by
  have hp := (places t).2.1
  unfold iblk
  rw [View.read_apply]
  show wgt m c _ = _
  exact congrArg (wgt m c) (Shape.idx_ext₂ (win0_1.rect_emb_val_of_index_zero t 0 hp.1 y) (win0_1.rect_emb_val_of_index_zero t 1 hp.2 y))

/-- Offsets written out as two zeros are the zero offset. -/
theorem hz : (![0, 0] : Fin 2 → Nat) = fun _ => 0 := funext fun a => by fin_cases a <;> rfl

/-- One entry of the projection: row `r` of the hidden state times row `k` of the weight. -/
def entry (c : Dev nD) (r : Fin 16384) (k : Fin 2048) : EReal :=
  ∑ j : Fin 4096, hid m c (ix2 r j) * wgt m c (ix2 k j)

/-- The projection, one row per token. -/
def flat (c : Dev nD) : S16384x2048.Idx → EReal := fun i => entry m c (i 0) (i 1)

/-- The projection by heads: row `16 * r + h` is head `h` of token `r`. -/
def byHeads (c : Dev nD) : S262144x128.Idx → EReal := fun i =>
  entry m c ⟨(i 0).val / 16, by have := (i 0).isLt; change (i 0).val < 262144 at this; omega⟩
    ⟨128 * ((i 0).val % 16) + (i 1).val, by have := (i 1).isLt; change (i 1).val < 128 at this; omega⟩

/-- The body's product at point `t` is the projection's rows from `512 * t` on. -/
theorem prod_at (c : Dev nD) (t : Fin cfg0.N) (y : S512x2048.Idx) :
    prod (F := Ideal) (iblk m c 0 t) (iblk m c 1 t) y
      = entry m c ⟨512 * t.val + (y 0).val, by have := lt_points t; have := (y 0).isLt; change (y 0).val < 512 at this; omega⟩ (y 1) := by
  unfold prod
  rw [View.ld_unit_zero hz, View.ld_unit_zero hz]
  show k0_pay7 (iblk m c 0 t) (iblk m c 1 t) y = _
  pointwise [k0_pay7, entry]
  simp only [blk_hid, blk_wgt]
  rfl

/-- What point `t` writes back by heads is its block of `byHeads`. -/
theorem flushed_heads (c : Dev nD) (t : Fin cfg0.N) :
    (dats m 0 c).flushed 2 t = ((cfg0.win 2).blk t).view.read (Elt Ideal) (byHeads m c) := by
  have hp := (places t).2.2.1
  have ht := lt_points t
  show (cfg0.win 2).cut (grid0.coords t) ((dats m 0 c).after 2 t) = _
  rw [after_2]
  funext y
  rw [View.read_apply]
  have h0 : (y 0).val < 8192 := (y 0).isLt
  have h1 : (y 1).val < 128 := (y 1).isLt
  have e : ((cfg0.win 2).blk t).view.emb y = ix2 ⟨8192 * t.val + (y 0).val, by omega⟩ (y 1) :=
    Shape.idx_ext₂
      ((win0_2.rect_emb_val t y 0).trans (by rw [hp.1]; show _ * 8192 + _ = _; simp only [ix2]; omega))
      (win0_2.rect_emb_val_of_index_zero t 1 hp.2 y)
  show heads (prod (iblk m c 0 t) (iblk m c 1 t)) y = byHeads m c _
  rw [e]
  unfold heads byHeads
  rw [prod_at]
  congr 1
  · refine Fin.ext ?_
    simp only [ix2]
    show 512 * t.val + (y 0).val / 16 = (8192 * t.val + (y 0).val) / 16
    omega
  · refine Fin.ext ?_
    simp only [ix2]
    show 128 * ((y 0).val % 16) + (y 1).val = 128 * ((8192 * t.val + (y 0).val) % 16) + (y 1).val
    omega

/-- Its blocks tile the array, so it ends at `byHeads`. -/
theorem final_heads (c : Dev nD) : (dats m 0 c).arrAt 2 cfg0.N = byHeads m c :=
  (dats m 0 c).arrAt_eq_of_cover 2 (byHeads m c) (fun t _ => flushed_heads m c t) fun i => by
    have h0 : (i 0).val < 262144 := (i 0).isLt
    have h1 : (i 1).val < 128 := (i 1).isLt
    let t : Fin cfg0.N := ⟨(i 0).val / 8192, by show _ < 32; omega⟩
    have hp := (places t).2.2.1
    refine ⟨t, flush0_2 t, ?_⟩
    show i ∈ ((View.whole main_v0_0).slice (win0_2.rect t)).set
    rw [View.set_slice_whole, Rect.mem_set_unit]
    intro a
    match a with
    | ⟨0, _⟩ =>
      show win0_2.index t 0 * 8192 ≤ (i 0).val ∧ (i 0).val < win0_2.index t 0 * 8192 + 8192
      rw [hp.1]; dsimp only [t]; omega
    | ⟨1, _⟩ =>
      show win0_2.index t 1 * 128 ≤ (i 1).val ∧ (i 1).val < win0_2.index t 1 * 128 + 128
      rw [hp.2]; omega

/-- What point `t` writes back of the rounded product is its block of `flat`. -/
theorem flushed_flat (c : Dev nD) (t : Fin cfg0.N) :
    (dats m 0 c).flushed 3 t = ((cfg0.win 3).blk t).view.read (Elt Ideal) (flat m c) := by
  have hp := (places t).2.2.2
  have ht := lt_points t
  show (cfg0.win 3).cut (grid0.coords t) ((dats m 0 c).after 3 t) = _
  rw [after_3]
  unfold outFlat
  rw [View.canon_unit_zero hz]
  funext y
  rw [View.read_apply]
  have h0 : (y 0).val < 512 := (y 0).isLt
  have e : ((cfg0.win 3).blk t).view.emb y = ix2 ⟨512 * t.val + (y 0).val, by omega⟩ (y 1) :=
    Shape.idx_ext₂
      ((win0_3.rect_emb_val t y 0).trans (by rw [hp.1]; show _ * 512 + _ = _; simp only [ix2]; omega))
      (win0_3.rect_emb_val_of_index_zero t 1 hp.2 y)
  show prod (iblk m c 0 t) (iblk m c 1 t) y = flat m c _
  rw [e, prod_at]
  rfl

/-- Its blocks tile the array, so it ends at `flat`. -/
theorem final_flat (c : Dev nD) : (dats m 0 c).arrAt 3 cfg0.N = flat m c :=
  (dats m 0 c).arrAt_eq_of_cover 3 (flat m c) (fun t _ => flushed_flat m c t) fun i => by
    have h0 : (i 0).val < 16384 := (i 0).isLt
    have h1 : (i 1).val < 2048 := (i 1).isLt
    let t : Fin cfg0.N := ⟨(i 0).val / 512, by show _ < 32; omega⟩
    have hp := (places t).2.2.2
    refine ⟨t, flush0_3 t, ?_⟩
    show i ∈ ((View.whole main_v0_1).slice (win0_3.rect t)).set
    rw [View.set_slice_whole, Rect.mem_set_unit]
    intro a
    match a with
    | ⟨0, _⟩ =>
      show win0_3.index t 0 * 512 ≤ (i 0).val ∧ (i 0).val < win0_3.index t 0 * 512 + 512
      rw [hp.1]; dsimp only [t]; omega
    | ⟨1, _⟩ =>
      show win0_3.index t 1 * 2048 ≤ (i 1).val ∧ (i 1).val < win0_3.index t 1 * 2048 + 2048
      rw [hp.2]; omega

/-- The run: the two results are the two functions above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v0_0) = byHeads m c
    ∧ r.2.mem ((c.tc : Thread nD τ).loc main_v0_1) = flat m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => by
    obtain ⟨⟨ha, -⟩, hr⟩ := h
    exact ⟨((hr.1 c).1 2).trans (final_heads m c), ((hr.1 c).1 3).trans (final_flat m c), ha c⟩)
    (θ_run_and (frame m ρ) (run_main m ρ))

end Cert.ProjKv

end
-- ==== Proof.ProjKv.Ref.lean ====
/-
  The reference of a key or value projection read at an index, and the value claim: its two results are the two functions the
  kernel's results were shown to be.
-/
module

public import proofs.«01_k».proof.Proof.ProjKv.Kernel
public import proofs.«01_k».proof.Proof.Gen.Reference5Ideal.Read
public import Idealize.ShloMosaic.Lib.Pointwise
public import Idealize.ShloMosaic.Lib.Quiescent

@[expose] public section

set_option maxRecDepth 16384

noncomputable section

namespace Cert.ProjKv

open Idealize.ShloMosaic Idealize.ShloMosaic.TcCoe Idealize.SL.Sem

open Cert.Reference5Ideal.Read

/-- An entry of the reference's product is the kernel's. -/
theorem ref_entry (m : (ℓ : Loc Cert.Kernel5Ideal.nD Cert.Kernel5Ideal.τ Cert.Kernel5Ideal.sig) → Buf (Elt Ideal) ℓ) (c : Dev Cert.Kernel5Ideal.nD) (i : Cert.Reference5Ideal.S16384x2048.Idx) :
    val_main_v3 (F := Ideal) (hid m c) (wgt m c) i = entry m c (i 0) (i 1) := by
  rw [val_main_v3_apply]
  simp only [val_main_v0_apply, val_main_v2_apply, val_main_v1_apply]
  unfold entry
  refine Finset.sum_congr rfl fun k _ => ?_
  refine congrArg₂ (· * ·) (congrArg (hid m c) (Shape.idx_ext₂ rfl rfl)) (congrArg (wgt m c) (Shape.idx_ext₂ rfl rfl))

/-- The reference's projection by heads is the kernel's. -/
theorem ref_heads (m : (ℓ : Loc Cert.Kernel5Ideal.nD Cert.Kernel5Ideal.τ Cert.Kernel5Ideal.sig) → Buf (Elt Ideal) ℓ) (c : Dev Cert.Kernel5Ideal.nD) :
    val_main_v4 (F := Ideal) (hid m c) (wgt m c) = byHeads m c := by
  funext i
  have h0 : (i 0).val < 262144 := (i 0).isLt
  have h1 : (i 1).val < 128 := (i 1).isLt
  rw [val_main_v4_apply, ref_entry]
  unfold byHeads
  congr 1 <;> refine Fin.ext ?_ <;> first | rfl | (dsimp; omega)

/-- The reference's rounded projection is the kernel's. -/
theorem ref_flat (m : (ℓ : Loc Cert.Kernel5Ideal.nD Cert.Kernel5Ideal.τ Cert.Kernel5Ideal.sig) → Buf (Elt Ideal) ℓ) (c : Dev Cert.Kernel5Ideal.nD) :
    val_main_v5 (F := Ideal) (hid m c) (wgt m c) = flat m c := by
  funext i
  rw [val_main_v5_apply, ref_entry]
  rfl

/-- The kernel and the reference, started on equal arguments, end with equal results. -/
theorem algebraic : Cert.algebraic_Kernel5Ideal_Reference5Ideal (hKernel5Ideal := Cert.Kernel5Ideal.Gen.facts) (hReference5Ideal := Cert.Reference5Ideal.Gen.facts) := by
  intro m ρ m' ρ' _ hm
  refine ⟨byHeads m, flat m, run m ρ, ?_⟩
  refine (θ_run _ _ _).mono (fun r h c => ?_) (Cert.Reference5Ideal.Value.run (F := Ideal) m' ρ')
  obtain ⟨h0, h1, ha, hb⟩ := h c
  rw [(hm c).1, (hm c).2] at h0 h1
  exact ⟨h0.trans (ref_heads m c), h1.trans (ref_flat m c), ha, hb⟩

end Cert.ProjKv

end
-- ==== Proof.ProjKv.Frame.lean ====
/-
The key and value projections' program on the device's own numbers.

The idealized program is the same text as the program itself: nothing in it is rewritten.  So the one run
proved in `Proof/ProjKv/Body.lean`, at every number system, is a run of the program too, once the two body
tables are seen to be one table.
-/
module

public import proofs.«01_k».proof.Defs
public import proofs.«01_k».proof.Proof.Gen.Kernel5.Frame
public import proofs.«01_k».proof.Proof.ProjKv.Body

@[expose] public section
set_option maxRecDepth 65536
noncomputable section
namespace Cert.ProjKv
open Idealize.ShloMosaic Idealize.SL.Sem

variable {F : FTy → Type} [FloatOps F] [h : Cert.Kernel5.Facts] [h' : Cert.Kernel5Ideal.Facts]

/-- The two programs' kernels are one table: they have one label, and the same body under it. -/
theorem kernels_eq : (@Cert.Kernel5.defs₀ F _ _) = (@Cert.Kernel5Ideal.defs₀ F _ _) := by
  refine congrArg Defs.onTc (funext fun l => ?_)
  match l with
  | ⟨0, _⟩ => rfl

/-- The two programs' body tables, the pipeline's included, are one table. -/
theorem table_eq : (@Cert.Kernel5.defs F _ _) = (@Cert.Kernel5Ideal.defs F _ _) :=
  congrArg (Pipeline.defs (fun _ => Cert.Kernel5Ideal.cfg0.toPCfg)) kernels_eq

/-- The key and value projections' program runs, and keeps its arguments. -/
theorem frame_bits : Cert.quiescent_Kernel5 (hKernel5 := Cert.Kernel5.Gen.facts) := fun m ρ _ => by
  rw [table_eq (h' := Cert.Kernel5Ideal.Gen.facts)]
  exact frame (F := Bits) m ρ

end Cert.ProjKv
end
-- ==== Proof.AttnNormS.Kernel.lean ====
/-
  The first normalisation of the layer read as a value. The launch has one point, which normalises the 512 rows of the stream, takes
  their product with the forget weight, and turns it into the logarithm of the forget gate.
  Here each result array is shown to be one function of the arguments.
-/
module

public import proofs.«01_k».proof.Defs
public import proofs.«01_k».proof.Proof.AttnNorm.Ref
public import proofs.«01_k».proof.Proof.Gen.Kernel6Ideal.Frame
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

namespace Cert.AttnNormS

open Idealize.ShloMosaic Idealize.ShloMosaic.TcCoe Idealize.SL.Sem Cert.Kernel6Ideal Cert.Kernel6Ideal.Gen
open Idealize.ShloMosaic.Pipeline (Dat Cfg Window)
open Cert.AttnNorm (logGate log_gate)

variable (m : (ℓ : Loc nD τ sig) → Buf (Elt Ideal) ℓ) (ρ : Dev nD → PrngReg)

/-- The stream, one row per token. -/
abbrev stream (c : Dev nD) : S512x4096.Idx → EReal := m ((c : Thread nD τ).loc main_arg0)

/-- The gain of the normalisation. -/
abbrev gain (c : Dev nD) : S1x4096.Idx → EReal := m ((c : Thread nD τ).loc main_arg1)

/-- The layer's combined projection weight. -/
abbrev weight (c : Dev nD) : S1x4096x12304.Idx → EReal := m ((c : Thread nD τ).loc main_arg2)

/-- The bias of the forget gate. -/
abbrev bias (c : Dev nD) : S1x16.Idx → EReal := m ((c : Thread nD τ).loc main_arg3)

/-! What the launch finds in the arrays prepared for it. -/

/-- The gain reaches the launch as it was given. -/
theorem found_gain (c : Dev nD) (k : Fin 4096) : V m c main_v9 (ix2 (0 : Fin 1) k) = gain m c (ix2 (0 : Fin 1) k) := by
  unfold V V0
  after_reads_at

/-- The first 16 rows of the padded forget weight are columns 6144 to 6159 of the combined weight. -/
theorem found_forget (c : Dev nD) (h : Fin 16) (k : Fin 4096) :
    V m c main_v4 (ix2 (⟨h.val, by omega⟩ : Fin 128) k) = weight m c (ix3 (0 : Fin 1) k ⟨6144 + h.val, by omega⟩) := by
  unfold V V0
  after_reads_at

/-- The first 16 entries of the padded bias are the bias. -/
theorem found_bias (c : Dev nD) (h : Fin 16) :
    V m c main_v7 (ix2 (0 : Fin 1) (⟨h.val, by omega⟩ : Fin 128)) = bias m c (ix2 (0 : Fin 1) h) := by
  unfold V V0
  after_reads_at

/-- Where each window's block lies at point `t`. -/
theorem places : ∀ t : Fin cfg0.N,
    (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0) :=
  (by decide +kernel : ∀ t : Fin grid0.N, _)

/-- The number of points. -/
theorem lt_points (t : Fin cfg0.N) : t.val < 1 := t.isLt

/-- The stream is read whole. -/
theorem blk_stream (c : Dev nD) (t : Fin cfg0.N) (y : S512x4096.Idx) :
    iblk m c 0 t y = stream m c y := by
  have hp := (places t).1
  unfold iblk
  rw [View.read_apply]
  show V m c main_arg0 _ = _
  rw [V_main_arg0]
  refine congrArg (stream m c) (Shape.idx_ext₂ ?_ ?_)
  · exact win0_0.rect_emb_val_of_index_zero t 0 hp.1 y
  · exact win0_0.rect_emb_val_of_index_zero t 1 hp.2 y

/-- The gain is read whole at every point. -/
theorem blk_gain (c : Dev nD) (t : Fin cfg0.N) (y : S1x4096.Idx) : iblk m c 1 t y = V m c main_v9 y := by
  have hp := (places t).2.1
  unfold iblk
  rw [View.read_apply]
  refine congrArg (V m c main_v9) (Shape.idx_ext₂ ?_ ?_)
  · exact win0_1.rect_emb_val_of_index_zero t 0 hp.1 y
  · exact win0_1.rect_emb_val_of_index_zero t 1 hp.2 y

/-- The padded forget weight is read whole at every point. -/
theorem blk_forget (c : Dev nD) (t : Fin cfg0.N) (y : S128x4096.Idx) : iblk m c 2 t y = V m c main_v4 y := by
  have hp := (places t).2.2.1
  unfold iblk
  rw [View.read_apply]
  refine congrArg (V m c main_v4) (Shape.idx_ext₂ ?_ ?_)
  · exact win0_2.rect_emb_val_of_index_zero t 0 hp.1 y
  · exact win0_2.rect_emb_val_of_index_zero t 1 hp.2 y

/-- The padded bias is read whole at every point. -/
theorem blk_bias (c : Dev nD) (t : Fin cfg0.N) (y : S1x128.Idx) : iblk m c 3 t y = V m c main_v7 y := by
  have hp := (places t).2.2.2.1
  unfold iblk
  rw [View.read_apply]
  refine congrArg (V m c main_v7) (Shape.idx_ext₂ ?_ ?_)
  · exact win0_3.rect_emb_val_of_index_zero t 0 hp.1 y
  · exact win0_3.rect_emb_val_of_index_zero t 1 hp.2 y

/-- Offsets written out as two zeros are the zero offset. -/
theorem hz : (![0, 0] : Fin 2 → Nat) = fun _ => 0 := funext fun a => by fin_cases a <;> rfl

/-- The stream normalised: each row divided by the root of its mean square (to which a literal is added), times the gain. -/
def normed (c : Dev nD) : S512x4096.Idx → EReal := fun i =>
  stream m c i * Ideal.rsqrt (Ideal.div (∑ k : Fin 4096, stream m c (ix2 (i 0) k) * stream m c (ix2 (i 0) k)) (Ideal.ofBits .f32 0x45800000#32)
      + Ideal.ofBits .f32 0x358637BD#32)
    * gain m c (ix2 0 (i 1))

/-- The logarithm of the forget gate on the padded lanes. -/
def padded (c : Dev nD) : S512x128.Idx → EReal := fun i =>
  logGate ((∑ k : Fin 4096, normed m c (ix2 (i 0) k) * V m c main_v4 (ix2 (i 1) k)) + V m c main_v7 (ix2 0 (i 1)))

/-- The logarithm of the forget gate of each head. -/
def gates (c : Dev nD) : S512x16.Idx → EReal := fun i =>
  logGate ((∑ k : Fin 4096, normed m c (ix2 (i 0) k) * weight m c (ix3 0 k ⟨6144 + (i 1).val, by have := (i 1).isLt; change (i 1).val < 16 at this; omega⟩))
    + bias m c (ix2 0 (i 1)))

/-- The body's normalised block at an index. -/
theorem pay_norm (c : Dev nD) (t : Fin cfg0.N) (y : S512x4096.Idx) :
    k0_pay1 (F := Ideal) (iblk m c 0 t) (iblk m c 1 t) y
      = normed m c y := by
  pointwise [k0_pay1, normed]
  simp only [blk_stream, blk_gain]
  refine congrArg₂ (· * ·) rfl ?_
  exact found_gain m c _

/-- The body's log gate at an index. -/
theorem pay_gate (c : Dev nD) (t : Fin cfg0.N) (y : S512x128.Idx) :
    k0_pay2 (F := Ideal) (iblk m c 0 t) (iblk m c 1 t) (iblk m c 2 t) (iblk m c 3 t) y = padded m c y := by
  have e : ∀ z : S512x4096.Idx, k0_pay1 (F := Ideal) (iblk m c 0 t) (iblk m c 1 t) z = _ := pay_norm m c t
  unfold k0_pay2
  generalize k0_pay1 (F := Ideal) (iblk m c 0 t) (iblk m c 1 t) = hn at e ⊢
  pointwise [padded, logGate]
  simp only [e, blk_forget, blk_bias]
  rfl

/-- What point `t` writes back of the normalised rows is its block of `normed`. -/
theorem flushed_normed (c : Dev nD) (t : Fin cfg0.N) :
    (dats m 0 c).flushed 4 t = ((cfg0.win 4).blk t).view.read (Elt Ideal) (normed m c) := by
  have hp := (places t).2.2.2.2.1
  have ht := lt_points t
  show (cfg0.win 4).cut (grid0.coords t) ((dats m 0 c).after 4 t) = _
  rw [after0_4]
  unfold out0_4
  rw [View.canon_unit_zero hz, View.ld_unit_zero hz, View.ld_unit_zero hz]
  funext y
  rw [View.read_apply]
  have h0 : (y 0).val < 512 := (y 0).isLt
  have e : ((cfg0.win 4).blk t).view.emb y = y :=
    Shape.idx_ext₂
      (win0_4.rect_emb_val_of_index_zero t 0 hp.1 y)
      (win0_4.rect_emb_val_of_index_zero t 1 hp.2 y)
  show k0_pay1 (F := Ideal) (iblk m c 0 t) (iblk m c 1 t) y = normed m c _
  rw [e]
  exact pay_norm m c t y

/-- Its blocks tile the array, so it ends at `normed`. -/
theorem final_normed (c : Dev nD) : (dats m 0 c).arrAt 4 cfg0.N = normed m c :=
  (dats m 0 c).arrAt_eq_of_cover 4 (normed m c) (fun t _ => flushed_normed m c t) fun i => by
    have h0 : (i 0).val < 512 := (i 0).isLt
    have h1 : (i 1).val < 4096 := (i 1).isLt
    let t : Fin cfg0.N := ⟨0, by show _ < 1; omega⟩
    have hp := (places t).2.2.2.2.1
    refine ⟨t, flush0_4 t, ?_⟩
    show i ∈ ((View.whole main_v10_0).slice (win0_4.rect t)).set
    rw [View.set_slice_whole, Rect.mem_set_unit]
    intro a
    match a with
    | ⟨0, _⟩ =>
      show win0_4.index t 0 * 512 ≤ (i 0).val ∧ (i 0).val < win0_4.index t 0 * 512 + 512
      rw [hp.1]; omega
    | ⟨1, _⟩ =>
      show win0_4.index t 1 * 4096 ≤ (i 1).val ∧ (i 1).val < win0_4.index t 1 * 4096 + 4096
      rw [hp.2]; omega

/-- What point `t` writes back of the log gates is its block of `padded`. -/
theorem flushed_padded (c : Dev nD) (t : Fin cfg0.N) :
    (dats m 0 c).flushed 5 t = ((cfg0.win 5).blk t).view.read (Elt Ideal) (padded m c) := by
  have hp := (places t).2.2.2.2.2
  have ht := lt_points t
  show (cfg0.win 5).cut (grid0.coords t) ((dats m 0 c).after 5 t) = _
  rw [after0_5]
  unfold out0_5
  rw [View.canon_unit_zero hz, View.ld_unit_zero hz, View.ld_unit_zero hz, View.ld_unit_zero hz, View.ld_unit_zero hz]
  funext y
  rw [View.read_apply]
  have h0 : (y 0).val < 512 := (y 0).isLt
  have e : ((cfg0.win 5).blk t).view.emb y = y :=
    Shape.idx_ext₂
      (win0_5.rect_emb_val_of_index_zero t 0 hp.1 y)
      (win0_5.rect_emb_val_of_index_zero t 1 hp.2 y)
  show k0_pay2 (F := Ideal) (iblk m c 0 t) (iblk m c 1 t) (iblk m c 2 t) (iblk m c 3 t) y = padded m c _
  rw [e]
  exact pay_gate m c t y

/-- Its blocks tile the array, so it ends at `padded`. -/
theorem final_padded (c : Dev nD) : (dats m 0 c).arrAt 5 cfg0.N = padded m c :=
  (dats m 0 c).arrAt_eq_of_cover 5 (padded m c) (fun t _ => flushed_padded m c t) fun i => by
    have h0 : (i 0).val < 512 := (i 0).isLt
    have h1 : (i 1).val < 128 := (i 1).isLt
    let t : Fin cfg0.N := ⟨0, by show _ < 1; omega⟩
    have hp := (places t).2.2.2.2.2
    refine ⟨t, flush0_5 t, ?_⟩
    show i ∈ ((View.whole main_v10_1).slice (win0_5.rect t)).set
    rw [View.set_slice_whole, Rect.mem_set_unit]
    intro a
    match a with
    | ⟨0, _⟩ =>
      show win0_5.index t 0 * 512 ≤ (i 0).val ∧ (i 0).val < win0_5.index t 0 * 512 + 512
      rw [hp.1]; omega
    | ⟨1, _⟩ =>
      show win0_5.index t 1 * 128 ≤ (i 1).val ∧ (i 1).val < win0_5.index t 1 * 128 + 128
      rw [hp.2]; omega

/-- The slice after the launch keeps the 16 heads' lanes. -/
theorem tail_gates (c : Dev nD) : Pipeline.afterTail₀ cfgs (dats m) 0 (V0 m) [hostOps1] c main_v11 = gates m c := by
  funext i
  obtain ⟨r, h, rfl⟩ : ∃ (r : Fin 512) (h : Fin 16), i = ix2 r h := ⟨i 0, i 1, eq_ix2 i⟩
  have e : ∀ U : Valuation τ sig (Elt Ideal), StableHlo.after (hostOps1 (F := Ideal)) U (Proc.devRef .tc main_v11) (ix2 r h)
      = U (Proc.devRef .tc main_v10_1) (ix2 r (⟨h.val, by omega⟩ : Fin 128)) := fun U => by after_reads_at
  unfold Pipeline.afterTail₀
  refine (e _).trans ?_
  refine (congrFun (Pipeline.withArrays_arr spec0 (by decide) c (V0 m c) (fun w => (dats m 0 c).arrAt w cfg0.N) 5) _).trans ?_
  rw [final_padded]
  unfold padded gates
  refine congrArg logGate (congrArg₂ (· + ·) ?_ (found_bias m c h))
  exact Finset.sum_congr rfl fun k _ => congrArg (_ * ·) (found_forget m c h k)

/-- The run: the results are the functions above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v10_0) = normed m c
    ∧ r.2.mem ((c.tc : Thread nD τ).loc main_v11) = gates m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => by
    obtain ⟨⟨ha, -⟩, h1⟩ := h
    exact ⟨((h1 c).1 4).trans (final_normed m c),
      ((h1 c).2 main_v11 (Pipeline.mem_restRefs_of main_v11 (by decide) (by decide))).trans (tail_gates m c),
       ha c⟩)
    (θ_run_and (Gen.frame m ρ) (run_main m ρ))

end Cert.AttnNormS

end
-- ==== Proof.AttnNormS.Ref.lean ====
/-
  The reference of the first normalisation read at an index, and the value claim: its results are the functions the kernel's
  results were shown to be. The reference spells the log gate through `jax.nn.log_sigmoid`, whose guard against an undefined
  difference never fires on the extended reals.
-/
module

public import proofs.«01_k».proof.Proof.AttnNormS.Kernel
public import proofs.«01_k».proof.Proof.Gen.Reference6Ideal.Read
public import Idealize.ShloMosaic.Lib.Pointwise
public import Idealize.ShloMosaic.Lib.Quiescent

@[expose] public section

set_option maxRecDepth 16384

noncomputable section

namespace Cert.AttnNormS

open Idealize.ShloMosaic Idealize.ShloMosaic.TcCoe Idealize.SL.Sem

open Cert.Reference6Ideal.Read
open Cert.AttnNorm (logGate log_gate)

/-- The reference's normalised stream at an index. -/
theorem ref_at (m : (ℓ : Loc Cert.Kernel6Ideal.nD Cert.Kernel6Ideal.τ Cert.Kernel6Ideal.sig) → Buf (Elt Ideal) ℓ) (c : Dev Cert.Kernel6Ideal.nD) (i : Cert.Reference6Ideal.S512x4096.Idx) :
    val_main_v13 (F := Ideal) (stream m c) (gain m c) i = normed m c i := by
  rw [val_main_v13_apply, val_main_v10_apply, val_main_v9_apply, val_main_v8_apply, val_main_v7_apply, val_main_v5_apply,
    val_main_v3_apply, val_main_v2_apply, val_main_v4_apply, val_main_v6_apply, val_main_v12_apply, val_main_v11_apply, val_main_v0_apply]
  simp only [val_main_v1_apply]
  unfold normed
  refine congrArg₂ (· * ·) (congrArg (stream m c i * ·) (congrArg Ideal.rsqrt (congrArg₂ (· + ·) (congrArg₂ Ideal.div ?_ rfl) rfl))) ?_
  · refine (congrArg (· + _) (Ideal.ofBits_zero_f32 : Ideal.ofBits .f32 0x00000000#32 = 0)).trans ((zero_add _).trans ?_)
    exact Finset.sum_congr rfl fun k _ => congrArg₂ (· * ·) (congrArg (stream m c) (Shape.idx_ext₂ rfl rfl)) (congrArg (stream m c) (Shape.idx_ext₂ rfl rfl))
  · refine congrArg (gain m c) (Shape.idx_ext₂ rfl ?_)
    show ((i 1).val) % 4096 = (i 1).val
    exact Nat.mod_eq_of_lt (i 1).isLt

/-- The reference's normalised stream is the kernel's. -/
theorem ref_normed (m : (ℓ : Loc Cert.Kernel6Ideal.nD Cert.Kernel6Ideal.τ Cert.Kernel6Ideal.sig) → Buf (Elt Ideal) ℓ) (c : Dev Cert.Kernel6Ideal.nD) : val_main_v22 (F := Ideal) (stream m c) (gain m c) = normed m c := by
  funext i
  rw [val_main_v22_apply]
  exact ref_at m c i

/-- The reference's forget logit at an index. -/
theorem ref_logit (m : (ℓ : Loc Cert.Kernel6Ideal.nD Cert.Kernel6Ideal.τ Cert.Kernel6Ideal.sig) → Buf (Elt Ideal) ℓ) (c : Dev Cert.Kernel6Ideal.nD) (i : Cert.Reference6Ideal.S512x16.Idx) :
    val_main_v20 (F := Ideal) (stream m c) (gain m c) (weight m c) (bias m c) i
      = (∑ k : Fin 4096, normed m c (ix2 (i 0) k) * weight m c (ix3 0 k ⟨6144 + (i 1).val, by have := (i 1).isLt; change (i 1).val < 16 at this; omega⟩))
        + bias m c (ix2 0 (i 1)) := by
  have h1 : (i 1).val < 16 := (i 1).isLt
  rw [val_main_v20_apply, val_main_v16_apply, val_main_v19_apply, val_main_v18_apply, val_main_v17_apply]
  simp only [val_main_v15_apply, val_main_v14_apply, ref_at]
  refine congrArg₂ (· + ·) (Finset.sum_congr rfl fun k _ => congrArg₂ (· * ·) (congrArg (normed m c) (Shape.idx_ext₂ rfl rfl)) ?_) ?_
  · have hk : k.val < 4096 := k.isLt
    refine congrArg (weight m c) (funext fun a => Fin.ext ?_)
    match a with
    | ⟨0, _⟩ => rfl
    | ⟨1, _⟩ => show (k.val * 12304 + (6144 + (i 1).val)) / 12304 % 4096 = k.val; omega
    | ⟨2, _⟩ => show (k.val * 12304 + (6144 + (i 1).val)) % 12304 = 6144 + (i 1).val; omega
  · exact congrArg (bias m c) (Shape.idx_ext₂ rfl (Nat.mod_eq_of_lt h1))

/-- The reference's log gates are the kernel's. -/
theorem ref_gates (m : (ℓ : Loc Cert.Kernel6Ideal.nD Cert.Kernel6Ideal.τ Cert.Kernel6Ideal.sig) → Buf (Elt Ideal) ℓ) (c : Dev Cert.Kernel6Ideal.nD) : val_main_v21 (F := Ideal) (stream m c) (gain m c) (weight m c) (bias m c) = gates m c := by
  funext i
  rw [val_main_v21_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_v0_apply, ref_logit]
  simp only [val_main_call0_call0_cst_apply]
  unfold gates
  generalize (∑ k : Fin 4096, (_ : EReal)) + _ = z
  refine Eq.trans ?_ (log_gate z)
  have h : (FloatOps.ofBits .f32 0x00000000#32 : Ideal .f32) = (0 : EReal) := Ideal.ofBits_zero_f32
  rw [h]
  rfl

/-- The kernel and the reference, started on equal arguments, end with equal results. -/
theorem algebraic : Cert.algebraic_Kernel6Ideal_Reference6Ideal (hKernel6Ideal := Cert.Kernel6Ideal.Gen.facts) (hReference6Ideal := Cert.Reference6Ideal.Gen.facts) := by
  intro m ρ m' ρ' _ hm
  refine ⟨normed m, gates m, run m ρ, ?_⟩
  refine (θ_run _ _ _).mono (fun r h c => ?_) (Cert.Reference6Ideal.Value.run (F := Ideal) m' ρ')
  obtain ⟨h0, h1, ha⟩ := h c
  rw [(hm c).1, (hm c).2.1] at h0
  rw [val_main_v21_eq, (hm c).1, (hm c).2.1, (hm c).2.2.1, (hm c).2.2.2] at h1
  exact ⟨h0.trans (ref_normed m c), h1.trans (ref_gates m c), ha⟩

end Cert.AttnNormS

end
-- ==== Proof.ProjKvS.Body.lean ====
/-
  The body of a key or value projection at the sample's 512 rows, run once. It is the body of `Proof/ProjKv/Body.lean`, in a
  launch of one point; how its sixteen stores by heads fill their buffer is proved there.
-/
module

public import proofs.«01_k».proof.Proof.ProjKv.Body
public import proofs.«01_k».proof.Proof.Gen.Kernel7Ideal.Frame
public import proofs.«01_k».proof.Proof.Gen.Kernel7Ideal.Skeleton
public import Idealize.ShloMosaic.Lib.Pipeline.Value
public import Idealize.ShloMosaic.Lib.Pointwise
public import Idealize.ShloMosaic.Lib.Claim
public import Mathlib.Tactic.IntervalCases

@[expose] public section

set_option maxRecDepth 16384

noncomputable section

namespace Cert.ProjKvS

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.Kernel7Ideal Cert.Kernel7Ideal.Gen
open Cert.ProjKv (heads read_pieces)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's rectangles: each block read or stored whole. -/
abbrev rAct : Rect S512x4096 := Rect.unit (s := S512x4096) ![0, 0] S512x4096.size inb_S512x4096_S512x4096_0_0
/-- The weight's. -/
abbrev rWgt : Rect S2048x4096 := Rect.unit (s := S2048x4096) ![0, 0] S2048x4096.size inb_S2048x4096_S2048x4096_0_0
/-- The rounded product's. -/
abbrev rOut : Rect S512x2048 := Rect.unit (s := S512x2048) ![0, 0] S512x2048.size inb_S512x2048_S512x2048_0_0

/-- The product of the two blocks, as the body computes it. -/
abbrev prod (x0 : Vec F S512x4096 .bf16) (x1 : Vec F S2048x4096 .bf16) : FVec F S512x2048 .f32 := k0_pay7 (View.ld x0 rAct) (View.ld x1 rWgt)

/-- What the body leaves in the buffer by heads, -/
def outHeads (x0 : Vec F S512x4096 .bf16) (x1 : Vec F S2048x4096 .bf16) : Vec F S8192x128 .f32 := heads (prod x0 x1)

/-- and in the buffer of the rounded product. -/
def outFlat (x0 : Vec F S512x4096 .bf16) (x1 : Vec F S2048x4096 .bf16) : Vec F S512x2048 .bf16 :=
  View.canon [⟨rOut, k0_pay8 (View.ld x0 rAct) (View.ld x1 rWgt)⟩]

/-- The one store of the rounded product covers its buffer. -/
theorem cover_flat (p0 : Vec F S512x2048 .bf16) (y : S512x2048.Idx) :
    ∃ pc ∈ ([⟨rOut, p0⟩] : List (View.Piece (Elt F) S512x2048 .bf16)), y ∈ pc.1.set :=
  View.cover_of_tiled [⟨rOut, p0⟩] S512x2048.size (by rfl) y

set_option maxHeartbeats 2000000 in
/-- The body on whole buffers, the inputs' at what they hold and the outputs' at anything, leaves the inputs as they were and
    the outputs at `outHeads` and `outFlat` of them. -/
theorem sound_kernel (c : Dev nD) (E : Set ℕ) (i : grid0.Coords) (arg1 : Memref sig .tc .vmem S512x4096 .bf16) (harg1 : arg1.IsWhole) (arg2 : Memref sig .tc .vmem S2048x4096 .bf16) (harg2 : arg2.IsWhole) (arg3 : Memref sig .tc .vmem S8192x128 .f32) (harg3 : arg3.IsWhole) (arg4 : Memref sig .tc .vmem S512x2048 .bf16) (harg4 : arg4.IsWhole)
    (x0 : Vec F S512x4096 .bf16) (x1 : Vec F S2048x4096 .bf16) (K : PUnit → sProp 𝕄) :
    iprop(owns (c : Thread nD τ) arg1 fullShare x0 ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1 ∗ owns (c : Thread nD τ) arg3 fullShare (outHeads x0 x1) ∗ owns (c : Thread nD τ) arg4 fullShare (outFlat x0 x1)) -∗ K ⟨⟩))
      ⊢ wp frame (wpE (defs₀ (F := F)) Variants.none c none) E (cc0_proj_kv i arg1 harg1 arg2 harg2 arg3 harg3 arg4 harg4) K := by
  simp only [cc0_proj_kv_eq_skeleton]; unfold cc0_proj_kv_skel
  unfold owns
  iintro ⟨⟨%f0, %hf0, H0⟩, ⟨%f1, %hf1, H1⟩, ⟨%d2, %f2, -, H2⟩, ⟨%d3, %f3, -, H3⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact read_pieces _ _ _
  iexists _; isplitr
  swap; · iexact H3
  ipureintro
  exact View.read_writes_eq_canon _ _ _ (cover_flat _)

/-- The run's data: the arrays as launched, each input's buffer at its block, each output's at what the body leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outHeads (iblk m c 0 t) (iblk m c 1 t)
    | ⟨3, _⟩ => outFlat (iblk m c 0 t) (iblk m c 1 t)
  Φ _ := Pipeline.ΦA spec0 c
  q _ := fullShare
  owed _ := 0

/-- The arrays are those the launch finds. -/
theorem A_eq (c : Dev nD) (w : Fin cfg0.W) : (dats m 0 c).A w = V m c (Pipeline.arrRef spec0 w) := by
  dsimp only [dats]

/-- What the body leaves in the windows' buffers. The hidden state's buffer. -/
theorem after_0 (c : Dev nD) (t : Fin cfg0.N) : (dats m 0 c).after 0 t = iblk m c 0 t := by dsimp only [dats]
/-- The weight's buffer. -/
theorem after_1 (c : Dev nD) (t : Fin cfg0.N) : (dats m 0 c).after 1 t = iblk m c 1 t := by dsimp only [dats]
/-- The buffer by heads. -/
theorem after_2 (c : Dev nD) (t : Fin cfg0.N) : (dats m 0 c).after 2 t = outHeads (iblk m c 0 t) (iblk m c 1 t) := by dsimp only [dats]
/-- The buffer of the rounded product. -/
theorem after_3 (c : Dev nD) (t : Fin cfg0.N) : (dats m 0 c).after 3 t = outFlat (iblk m c 0 t) (iblk m c 1 t) := by dsimp only [dats]

/-- Each input's buffer holds its block when the body begins. The hidden state's. -/
theorem before_0 (c : Dev nD) (t : Fin cfg0.N) (d) : (dats m 0 c).before 0 t d = iblk m c 0 t :=
  before0_0_of m (dats m 0 c) (A_eq m c 0) (after_0 m c) t d
/-- The weight's. -/
theorem before_1 (c : Dev nD) (t : Fin cfg0.N) (d) : (dats m 0 c).before 1 t d = iblk m c 1 t :=
  before0_1_of m (dats m 0 c) (A_eq m c 1) (after_1 m c) t d

/-- What the body is handed at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point, from its blocks. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The label the launch calls at point `t` is the body there. -/
theorem defs₀_row (t : Fin cfg0.N) :
    defs₀ (F := F) .tc cfg0.body (cfg0.bodyArgs t (cfg0.slots t)) = bodyAt0 t := by
  unfold defs₀; rw [Defs.onTc_tc]

/-- The body does at every point what the launch asks of it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch runs to its end: every array at what the points wrote back, every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun _ _ => ite_self _)
    (howed := fun _ _ => rfl) (V := V m) (hmain := hmain m Variants.none) (hA := A_eq m) (hΦ := fun _ _ => rfl)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ProjKvS

end
-- ==== Proof.ProjKvS.Kernel.lean ====
/-
  A key or value projection read as a value. The launch has one point, which handles the 512 rows of the hidden
  state and writes the 8192 rows of the result by heads and the 512 rows of the rounded product. Here both result arrays are
  shown to be functions of the two arguments.
-/
module

public import proofs.«01_k».proof.Defs
public import proofs.«01_k».proof.Proof.ProjKvS.Body
public import Idealize.ShloMosaic.Lib.Pipeline.Value
public import Idealize.ShloMosaic.Lib.Pointwise

@[expose] public section

set_option maxRecDepth 16384

noncomputable section

namespace Cert.ProjKvS

open Idealize.ShloMosaic Idealize.ShloMosaic.TcCoe Idealize.SL.Sem Cert.Kernel7Ideal Cert.Kernel7Ideal.Gen
open Idealize.ShloMosaic.Pipeline (Dat Cfg Window)
open Cert.ProjKv (heads)

variable (m : (ℓ : Loc nD τ sig) → Buf (Elt Ideal) ℓ) (ρ : Dev nD → PrngReg)

/-- The hidden state, one row per token. -/
abbrev hid (c : Dev nD) : S512x4096.Idx → EReal := m ((c : Thread nD τ).loc main_arg0)

/-- The weight, one row per projected feature. -/
abbrev wgt (c : Dev nD) : S2048x4096.Idx → EReal := m ((c : Thread nD τ).loc main_arg1)

/-- Where each window's block lies at point `t`: there is one point, and each block is its whole array. -/
theorem places : ∀ t : Fin cfg0.N,
    (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0) :=
  (by decide +kernel : ∀ t : Fin grid0.N, _)

/-- The number of points. -/
theorem lt_points (t : Fin cfg0.N) : t.val < 1 := t.isLt

/-- The hidden state is read whole. -/
theorem blk_hid (c : Dev nD) (t : Fin cfg0.N) (y : S512x4096.Idx) :
    iblk m c 0 t y = hid m c y := by
  have hp := (places t).1
  unfold iblk
  rw [View.read_apply]
  show hid m c _ = _
  refine congrArg (hid m c) (Shape.idx_ext₂ ?_ ?_)
  · exact win0_0.rect_emb_val_of_index_zero t 0 hp.1 y
  · exact win0_0.rect_emb_val_of_index_zero t 1 hp.2 y

/-- The weight's block at every point is the weight. -/
theorem blk_wgt (c : Dev nD) (t : Fin cfg0.N) (y : S2048x4096.Idx) :
    iblk m c 1 t y = wgt m c y := by
  have hp := (places t).2.1
  unfold iblk
  rw [View.read_apply]
  show wgt m c _ = _
  exact congrArg (wgt m c) (Shape.idx_ext₂ (win0_1.rect_emb_val_of_index_zero t 0 hp.1 y) (win0_1.rect_emb_val_of_index_zero t 1 hp.2 y))

/-- Offsets written out as two zeros are the zero offset. -/
theorem hz : (![0, 0] : Fin 2 → Nat) = fun _ => 0 := funext fun a => by fin_cases a <;> rfl

/-- One entry of the projection: row `r` of the hidden state times row `k` of the weight. -/
def entry (c : Dev nD) (r : Fin 512) (k : Fin 2048) : EReal :=
  ∑ j : Fin 4096, hid m c (ix2 r j) * wgt m c (ix2 k j)

/-- The projection, one row per token. -/
def flat (c : Dev nD) : S512x2048.Idx → EReal := fun i => entry m c (i 0) (i 1)

/-- The projection by heads: row `16 * r + h` is head `h` of token `r`. -/
def byHeads (c : Dev nD) : S8192x128.Idx → EReal := fun i =>
  entry m c ⟨(i 0).val / 16, by have := (i 0).isLt; change (i 0).val < 8192 at this; omega⟩
    ⟨128 * ((i 0).val % 16) + (i 1).val, by have := (i 1).isLt; change (i 1).val < 128 at this; omega⟩

/-- The body's product at point `t` is the projection. -/
theorem prod_at (c : Dev nD) (t : Fin cfg0.N) (y : S512x2048.Idx) :
    prod (F := Ideal) (iblk m c 0 t) (iblk m c 1 t) y
      = entry m c (y 0) (y 1) := by
  unfold prod
  rw [View.ld_unit_zero hz, View.ld_unit_zero hz]
  show k0_pay7 (iblk m c 0 t) (iblk m c 1 t) y = _
  pointwise [k0_pay7, entry]
  simp only [blk_hid, blk_wgt]

/-- What point `t` writes back by heads is its block of `byHeads`. -/
theorem flushed_heads (c : Dev nD) (t : Fin cfg0.N) :
    (dats m 0 c).flushed 2 t = ((cfg0.win 2).blk t).view.read (Elt Ideal) (byHeads m c) := by
  have hp := (places t).2.2.1
  have ht := lt_points t
  show (cfg0.win 2).cut (grid0.coords t) ((dats m 0 c).after 2 t) = _
  rw [after_2]
  funext y
  rw [View.read_apply]
  have h0 : (y 0).val < 8192 := (y 0).isLt
  have h1 : (y 1).val < 128 := (y 1).isLt
  have e : ((cfg0.win 2).blk t).view.emb y = y :=
    Shape.idx_ext₂
      (win0_2.rect_emb_val_of_index_zero t 0 hp.1 y)
      (win0_2.rect_emb_val_of_index_zero t 1 hp.2 y)
  show heads (prod (iblk m c 0 t) (iblk m c 1 t)) y = byHeads m c _
  rw [e]
  unfold heads byHeads
  rw [prod_at]
  rfl

/-- Its blocks tile the array, so it ends at `byHeads`. -/
theorem final_heads (c : Dev nD) : (dats m 0 c).arrAt 2 cfg0.N = byHeads m c :=
  (dats m 0 c).arrAt_eq_of_cover 2 (byHeads m c) (fun t _ => flushed_heads m c t) fun i => by
    have h0 : (i 0).val < 8192 := (i 0).isLt
    have h1 : (i 1).val < 128 := (i 1).isLt
    let t : Fin cfg0.N := ⟨0, by show _ < 1; omega⟩
    have hp := (places t).2.2.1
    refine ⟨t, flush0_2 t, ?_⟩
    show i ∈ ((View.whole main_v0_0).slice (win0_2.rect t)).set
    rw [View.set_slice_whole, Rect.mem_set_unit]
    intro a
    match a with
    | ⟨0, _⟩ =>
      show win0_2.index t 0 * 8192 ≤ (i 0).val ∧ (i 0).val < win0_2.index t 0 * 8192 + 8192
      rw [hp.1]; omega
    | ⟨1, _⟩ =>
      show win0_2.index t 1 * 128 ≤ (i 1).val ∧ (i 1).val < win0_2.index t 1 * 128 + 128
      rw [hp.2]; omega

/-- What point `t` writes back of the rounded product is its block of `flat`. -/
theorem flushed_flat (c : Dev nD) (t : Fin cfg0.N) :
    (dats m 0 c).flushed 3 t = ((cfg0.win 3).blk t).view.read (Elt Ideal) (flat m c) := by
  have hp := (places t).2.2.2
  have ht := lt_points t
  show (cfg0.win 3).cut (grid0.coords t) ((dats m 0 c).after 3 t) = _
  rw [after_3]
  unfold outFlat
  rw [View.canon_unit_zero hz]
  funext y
  rw [View.read_apply]
  have h0 : (y 0).val < 512 := (y 0).isLt
  have e : ((cfg0.win 3).blk t).view.emb y = y :=
    Shape.idx_ext₂
      (win0_3.rect_emb_val_of_index_zero t 0 hp.1 y)
      (win0_3.rect_emb_val_of_index_zero t 1 hp.2 y)
  show prod (iblk m c 0 t) (iblk m c 1 t) y = flat m c _
  rw [e, prod_at]
  rfl

/-- Its blocks tile the array, so it ends at `flat`. -/
theorem final_flat (c : Dev nD) : (dats m 0 c).arrAt 3 cfg0.N = flat m c :=
  (dats m 0 c).arrAt_eq_of_cover 3 (flat m c) (fun t _ => flushed_flat m c t) fun i => by
    have h0 : (i 0).val < 512 := (i 0).isLt
    have h1 : (i 1).val < 2048 := (i 1).isLt
    let t : Fin cfg0.N := ⟨0, by show _ < 1; omega⟩
    have hp := (places t).2.2.2
    refine ⟨t, flush0_3 t, ?_⟩
    show i ∈ ((View.whole main_v0_1).slice (win0_3.rect t)).set
    rw [View.set_slice_whole, Rect.mem_set_unit]
    intro a
    match a with
    | ⟨0, _⟩ =>
      show win0_3.index t 0 * 512 ≤ (i 0).val ∧ (i 0).val < win0_3.index t 0 * 512 + 512
      rw [hp.1]; omega
    | ⟨1, _⟩ =>
      show win0_3.index t 1 * 2048 ≤ (i 1).val ∧ (i 1).val < win0_3.index t 1 * 2048 + 2048
      rw [hp.2]; omega

/-- The run: the two results are the two functions above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v0_0) = byHeads m c
    ∧ r.2.mem ((c.tc : Thread nD τ).loc main_v0_1) = flat m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => by
    obtain ⟨⟨ha, -⟩, hr⟩ := h
    exact ⟨((hr.1 c).1 2).trans (final_heads m c), ((hr.1 c).1 3).trans (final_flat m c), ha c⟩)
    (θ_run_and (frame m ρ) (run_main m ρ))

end Cert.ProjKvS

end
-- ==== Proof.ProjKvS.Ref.lean ====
/-
  The reference of a key or value projection read at an index, and the value claim: its two results are the two functions the
  kernel's results were shown to be.
-/
module

public import proofs.«01_k».proof.Proof.ProjKvS.Kernel
public import proofs.«01_k».proof.Proof.Gen.Reference7Ideal.Read
public import Idealize.ShloMosaic.Lib.Pointwise
public import Idealize.ShloMosaic.Lib.Quiescent

@[expose] public section

set_option maxRecDepth 16384

noncomputable section

namespace Cert.ProjKvS

open Idealize.ShloMosaic Idealize.ShloMosaic.TcCoe Idealize.SL.Sem

open Cert.Reference7Ideal.Read

/-- An entry of the reference's product is the kernel's. -/
theorem ref_entry (m : (ℓ : Loc Cert.Kernel7Ideal.nD Cert.Kernel7Ideal.τ Cert.Kernel7Ideal.sig) → Buf (Elt Ideal) ℓ) (c : Dev Cert.Kernel7Ideal.nD) (i : Cert.Reference7Ideal.S512x2048.Idx) :
    val_main_v3 (F := Ideal) (hid m c) (wgt m c) i = entry m c (i 0) (i 1) := by
  rw [val_main_v3_apply]
  simp only [val_main_v0_apply, val_main_v2_apply, val_main_v1_apply]
  unfold entry
  refine Finset.sum_congr rfl fun k _ => ?_
  refine congrArg₂ (· * ·) (congrArg (hid m c) (Shape.idx_ext₂ rfl rfl)) (congrArg (wgt m c) (Shape.idx_ext₂ rfl rfl))

/-- The reference's projection by heads is the kernel's. -/
theorem ref_heads (m : (ℓ : Loc Cert.Kernel7Ideal.nD Cert.Kernel7Ideal.τ Cert.Kernel7Ideal.sig) → Buf (Elt Ideal) ℓ) (c : Dev Cert.Kernel7Ideal.nD) :
    val_main_v4 (F := Ideal) (hid m c) (wgt m c) = byHeads m c := by
  funext i
  have h0 : (i 0).val < 8192 := (i 0).isLt
  have h1 : (i 1).val < 128 := (i 1).isLt
  rw [val_main_v4_apply, ref_entry]
  unfold byHeads
  congr 1 <;> refine Fin.ext ?_ <;> first | rfl | (dsimp; omega)

/-- The reference's rounded projection is the kernel's. -/
theorem ref_flat (m : (ℓ : Loc Cert.Kernel7Ideal.nD Cert.Kernel7Ideal.τ Cert.Kernel7Ideal.sig) → Buf (Elt Ideal) ℓ) (c : Dev Cert.Kernel7Ideal.nD) :
    val_main_v5 (F := Ideal) (hid m c) (wgt m c) = flat m c := by
  funext i
  rw [val_main_v5_apply, ref_entry]
  rfl

/-- The kernel and the reference, started on equal arguments, end with equal results. -/
theorem algebraic : Cert.algebraic_Kernel7Ideal_Reference7Ideal (hKernel7Ideal := Cert.Kernel7Ideal.Gen.facts) (hReference7Ideal := Cert.Reference7Ideal.Gen.facts) := by
  intro m ρ m' ρ' _ hm
  refine ⟨byHeads m, flat m, run m ρ, ?_⟩
  refine (θ_run _ _ _).mono (fun r h c => ?_) (Cert.Reference7Ideal.Value.run (F := Ideal) m' ρ')
  obtain ⟨h0, h1, ha, hb⟩ := h c
  rw [(hm c).1, (hm c).2] at h0 h1
  exact ⟨h0.trans (ref_heads m c), h1.trans (ref_flat m c), ha, hb⟩

end Cert.ProjKvS

end
-- ==== Proof.ProjKvS.Frame.lean ====
/-
The key and value projections' program on the device's own numbers.

The idealized program is the same text as the program itself: nothing in it is rewritten.  So the one run
proved in `Proof/ProjKvS/Body.lean`, at every number system, is a run of the program too, once the two body
tables are seen to be one table.
-/
module

public import proofs.«01_k».proof.Defs
public import proofs.«01_k».proof.Proof.Gen.Kernel7.Frame
public import proofs.«01_k».proof.Proof.ProjKvS.Body

@[expose] public section
set_option maxRecDepth 65536
noncomputable section
namespace Cert.ProjKvS
open Idealize.ShloMosaic Idealize.SL.Sem

variable {F : FTy → Type} [FloatOps F] [h : Cert.Kernel7.Facts] [h' : Cert.Kernel7Ideal.Facts]

/-- The two programs' kernels are one table: they have one label, and the same body under it. -/
theorem kernels_eq : (@Cert.Kernel7.defs₀ F _ _) = (@Cert.Kernel7Ideal.defs₀ F _ _) := by
  refine congrArg Defs.onTc (funext fun l => ?_)
  match l with
  | ⟨0, _⟩ => rfl

/-- The two programs' body tables, the pipeline's included, are one table. -/
theorem table_eq : (@Cert.Kernel7.defs F _ _) = (@Cert.Kernel7Ideal.defs F _ _) :=
  congrArg (Pipeline.defs (fun _ => Cert.Kernel7Ideal.cfg0.toPCfg)) kernels_eq

/-- The key and value projections' program runs, and keeps its arguments. -/
theorem frame_bits : Cert.quiescent_Kernel7 (hKernel7 := Cert.Kernel7.Gen.facts) := fun m ρ _ => by
  rw [table_eq (h' := Cert.Kernel7Ideal.Gen.facts)]
  exact frame (F := Bits) m ρ

end Cert.ProjKvS
end
-- ==== Proof.TailS.Norms.lean ====
/-
  The two launches that normalise the rows of a 512 × 4096 array: the one before the feed-forward part and the last one of the
  layer. Each is shown, for whatever arrays it finds, to leave one function of them: every row over the root of its mean square,
  times the gain.
-/
module

public import proofs.«01_k».proof.Defs
public import proofs.«01_k».proof.Proof.Gen.Kernel8Ideal.Frame
public import Idealize.ShloMosaic.Lib.Pipeline.Value
public import Idealize.ShloMosaic.Lib.Pointwise
public import Idealize.ShloMosaic.Lib.StableHlo.ReadAt

@[expose] public section

set_option maxRecDepth 16384

noncomputable section

namespace Cert.TailS

open Idealize.ShloMosaic Idealize.ShloMosaic.TcCoe Idealize.SL.Sem Cert.Kernel8Ideal Cert.Kernel8Ideal.Gen
open Idealize.ShloMosaic.Pipeline (Dat Cfg Window)

variable (V : (c : Dev nD) → (b : Ref sig .tc) → Buf (Elt Ideal) ((c : Thread nD τ).loc b))

/-- Offsets written out as two zeros are the zero offset. -/
theorem hz : (![0, 0] : Fin 2 → Nat) = fun _ => 0 := funext fun a => by fin_cases a <;> rfl

/-- The literal added under the root of every normalisation. -/
abbrev eps : EReal := Ideal.ofBits .f32 0x358637BD#32

/-- Root-mean-square normalisation of the rows of a `512 × 4096` array, with a gain per column. -/
def norm4096 (x : S512x4096.Idx → EReal) (g : S1x4096.Idx → EReal) : S512x4096.Idx → EReal := fun i =>
  x i * Ideal.rsqrt (Ideal.div (∑ k : Fin 4096, x (ix2 (i 0) k) * x (ix2 (i 0) k)) (Ideal.ofBits .f32 0x45800000#32) + eps) * g (ix2 0 (i 1))

/-! The normalisation before the feed-forward block. -/

/-- Where each window's block lies at point `t` of the launch. -/
theorem places2 : ∀ t : Fin cfg2.N,
    (win2_0.index t 0 = 0 ∧ win2_0.index t 1 = 0)
    ∧ (win2_1.index t 0 = 0 ∧ win2_1.index t 1 = 0)
    ∧ (win2_2.index t 0 = 0 ∧ win2_2.index t 1 = 0) :=
  (by decide +kernel : ∀ t : Fin grid2.N, _)

/-- The launch has 1 point. -/
theorem lt2 (t : Fin cfg2.N) : t.val < 1 := t.isLt

/-- The input is read whole. -/
theorem blk2_0 (c : Dev nD) (t : Fin cfg2.N) (y : S512x4096.Idx) :
    iblk2 V c 0 t y = V c main_v7 y := by
  have hp := (places2 t).1
  unfold iblk2
  rw [View.read_apply]
  refine congrArg (V c main_v7) (Shape.idx_ext₂ ?_ ?_)
  · exact win2_0.rect_emb_val_of_index_zero t 0 hp.1 y
  · exact win2_0.rect_emb_val_of_index_zero t 1 hp.2 y

/-- The gain is read whole at every point. -/
theorem blk2_1 (c : Dev nD) (t : Fin cfg2.N) (y : S1x4096.Idx) :
    iblk2 V c 1 t y = V c main_v9 y := by
  have hp := (places2 t).2.1
  unfold iblk2
  rw [View.read_apply]
  refine congrArg (V c main_v9) (Shape.idx_ext₂ ?_ ?_)
  · exact win2_1.rect_emb_val_of_index_zero t 0 hp.1 y
  · exact win2_1.rect_emb_val_of_index_zero t 1 hp.2 y

/-- What point `t` writes back is the normalised array. -/
theorem flushed2 (c : Dev nD) (t : Fin cfg2.N) :
    (dat2 V c).flushed 2 t = ((cfg2.win 2).blk t).view.read (Elt Ideal) (norm4096 (V c main_v7) (V c main_v9)) := by
  have hp := (places2 t).2.2
  have ht := lt2 t
  show (cfg2.win 2).cut (grid2.coords t) ((dat2 V c).after 2 t) = _
  rw [after2_2]
  unfold out2_2
  rw [View.canon_unit_zero hz, View.ld_unit_zero hz, View.ld_unit_zero hz]
  funext y
  rw [View.read_apply]
  have h0 : (y 0).val < 512 := (y 0).isLt
  have h1 : (y 1).val < 4096 := (y 1).isLt
  have e : ((cfg2.win 2).blk t).view.emb y = y :=
    Shape.idx_ext₂
      (win2_2.rect_emb_val_of_index_zero t 0 hp.1 y)
      (win2_2.rect_emb_val_of_index_zero t 1 hp.2 y)
  show k2_pay1 (iblk2 V c 0 t) (iblk2 V c 1 t) y = norm4096 _ _ _
  rw [e]
  pointwise [k2_pay1, norm4096]
  simp only [blk2_0, blk2_1]

/-- The blocks tile the result array, so it ends as that function of the arrays the launch reads. -/
theorem final2 (c : Dev nD) : (dat2 V c).arrAt 2 cfg2.N = (norm4096 (V c main_v7) (V c main_v9)) :=
  (dat2 V c).arrAt_eq_of_cover 2 _ (fun t _ => flushed2 V c t) fun i => by
    have h0 : (i 0).val < 512 := (i 0).isLt
    have h1 : (i 1).val < 4096 := (i 1).isLt
    let t : Fin cfg2.N := ⟨0, by show _ < 1; omega⟩
    have hp := (places2 t).2.2
    refine ⟨t, flush2_2 t, ?_⟩
    show i ∈ ((View.whole main_v10).slice (win2_2.rect t)).set
    rw [View.set_slice_whole, Rect.mem_set_unit]
    intro a
    match a with
    | ⟨0, _⟩ =>
      show win2_2.index t 0 * 512 ≤ (i 0).val ∧ (i 0).val < win2_2.index t 0 * 512 + 512
      rw [hp.1]; omega
    | ⟨1, _⟩ =>
      show win2_2.index t 1 * 4096 ≤ (i 1).val ∧ (i 1).val < win2_2.index t 1 * 4096 + 4096
      rw [hp.2]; omega

/-! The final normalisation. -/

/-- Where each window's block lies at point `t` of the launch. -/
theorem places5 : ∀ t : Fin cfg5.N,
    (win5_0.index t 0 = 0 ∧ win5_0.index t 1 = 0)
    ∧ (win5_1.index t 0 = 0 ∧ win5_1.index t 1 = 0)
    ∧ (win5_2.index t 0 = 0 ∧ win5_2.index t 1 = 0) :=
  (by decide +kernel : ∀ t : Fin grid5.N, _)

/-- The launch has 1 point. -/
theorem lt5 (t : Fin cfg5.N) : t.val < 1 := t.isLt

/-- The input is read whole. -/
theorem blk5_0 (c : Dev nD) (t : Fin cfg5.N) (y : S512x4096.Idx) :
    iblk5 V c 0 t y = V c main_v18 y := by
  have hp := (places5 t).1
  unfold iblk5
  rw [View.read_apply]
  refine congrArg (V c main_v18) (Shape.idx_ext₂ ?_ ?_)
  · exact win5_0.rect_emb_val_of_index_zero t 0 hp.1 y
  · exact win5_0.rect_emb_val_of_index_zero t 1 hp.2 y

/-- The gain is read whole at every point. -/
theorem blk5_1 (c : Dev nD) (t : Fin cfg5.N) (y : S1x4096.Idx) :
    iblk5 V c 1 t y = V c main_v19 y := by
  have hp := (places5 t).2.1
  unfold iblk5
  rw [View.read_apply]
  refine congrArg (V c main_v19) (Shape.idx_ext₂ ?_ ?_)
  · exact win5_1.rect_emb_val_of_index_zero t 0 hp.1 y
  · exact win5_1.rect_emb_val_of_index_zero t 1 hp.2 y

/-- What point `t` writes back is the normalised array. -/
theorem flushed5 (c : Dev nD) (t : Fin cfg5.N) :
    (dat5 V c).flushed 2 t = ((cfg5.win 2).blk t).view.read (Elt Ideal) (norm4096 (V c main_v18) (V c main_v19)) := by
  have hp := (places5 t).2.2
  have ht := lt5 t
  show (cfg5.win 2).cut (grid5.coords t) ((dat5 V c).after 2 t) = _
  rw [after5_2]
  unfold out5_2
  rw [View.canon_unit_zero hz, View.ld_unit_zero hz, View.ld_unit_zero hz]
  funext y
  rw [View.read_apply]
  have h0 : (y 0).val < 512 := (y 0).isLt
  have h1 : (y 1).val < 4096 := (y 1).isLt
  have e : ((cfg5.win 2).blk t).view.emb y = y :=
    Shape.idx_ext₂
      (win5_2.rect_emb_val_of_index_zero t 0 hp.1 y)
      (win5_2.rect_emb_val_of_index_zero t 1 hp.2 y)
  show k5_pay1 (iblk5 V c 0 t) (iblk5 V c 1 t) y = norm4096 _ _ _
  rw [e]
  pointwise [k5_pay1, norm4096]
  simp only [blk5_0, blk5_1]

/-- The blocks tile the result array, so it ends as that function of the arrays the launch reads. -/
theorem final5 (c : Dev nD) : (dat5 V c).arrAt 2 cfg5.N = (norm4096 (V c main_v18) (V c main_v19)) :=
  (dat5 V c).arrAt_eq_of_cover 2 _ (fun t _ => flushed5 V c t) fun i => by
    have h0 : (i 0).val < 512 := (i 0).isLt
    have h1 : (i 1).val < 4096 := (i 1).isLt
    let t : Fin cfg5.N := ⟨0, by show _ < 1; omega⟩
    have hp := (places5 t).2.2
    refine ⟨t, flush5_2 t, ?_⟩
    show i ∈ ((View.whole main_v20).slice (win5_2.rect t)).set
    rw [View.set_slice_whole, Rect.mem_set_unit]
    intro a
    match a with
    | ⟨0, _⟩ =>
      show win5_2.index t 0 * 512 ≤ (i 0).val ∧ (i 0).val < win5_2.index t 0 * 512 + 512
      rw [hp.1]; omega
    | ⟨1, _⟩ =>
      show win5_2.index t 1 * 4096 ≤ (i 1).val ∧ (i 1).val < win5_2.index t 1 * 4096 + 4096
      rw [hp.2]; omega

end Cert.TailS

end
-- ==== Proof.TailS.Products.lean ====
/-
  The three launches that multiply by a weight, at 512 rows: the output projection and the down projection, each added to
  the stream it continues, and the gated pair of products of the feed-forward part. Each is shown, for whatever arrays it finds,
  to leave one function of them.
-/
module

public import proofs.«01_k».proof.Defs
public import proofs.«01_k».proof.Proof.Gen.Kernel8Ideal.Frame
public import proofs.«01_k».proof.Proof.TailS.Norms
public import Idealize.ShloMosaic.Lib.Pipeline.Value
public import Idealize.ShloMosaic.Lib.Pointwise
public import Idealize.ShloMosaic.Lib.StableHlo.ReadAt

@[expose] public section

set_option maxRecDepth 16384

noncomputable section

namespace Cert.TailS

open Idealize.ShloMosaic Idealize.ShloMosaic.TcCoe Idealize.SL.Sem Cert.Kernel8Ideal Cert.Kernel8Ideal.Gen
open Idealize.ShloMosaic.Pipeline (Dat Cfg Window)

variable (V : (c : Dev nD) → (b : Ref sig .tc) → Buf (Elt Ideal) ((c : Thread nD τ).loc b))

/-- A product added to a residual: `x + a · w`, inner width 4096. -/
def resid4096 (a : S512x4096.Idx → EReal) (w : S4096x4096.Idx → EReal) (x : S512x4096.Idx → EReal) : S512x4096.Idx → EReal := fun i =>
  x i + ∑ k : Fin 4096, a (ix2 (i 0) k) * w (ix2 k (i 1))

/-- The same with inner width 11008. -/
def resid11008 (a : S512x11008.Idx → EReal) (w : S11008x4096.Idx → EReal) (x : S512x4096.Idx → EReal) : S512x4096.Idx → EReal := fun i =>
  x i + ∑ k : Fin 11008, a (ix2 (i 0) k) * w (ix2 k (i 1))

/-- The gate or the up product: `h · w`. -/
def prod11008 (h : S512x4096.Idx → EReal) (w : S4096x11008.Idx → EReal) : S512x11008.Idx → EReal := fun i =>
  ∑ k : Fin 4096, h (ix2 (i 0) k) * w (ix2 k (i 1))

/-- The gated activation: the gate product times its logistic times the up product. -/
def gated (h : S512x4096.Idx → EReal) (wg wu : S4096x11008.Idx → EReal) : S512x11008.Idx → EReal := fun i =>
  prod11008 h wg i * Ideal.logistic (prod11008 h wg i) * prod11008 h wu i

/-! The output projection. -/

/-- Where each window's block lies at point `t` of the launch. -/
theorem places1 : ∀ t : Fin cfg1.N,
    (win1_0.index t 0 = 0 ∧ win1_0.index t 1 = 0)
    ∧ (win1_1.index t 0 = 0 ∧ win1_1.index t 1 = t.val)
    ∧ (win1_2.index t 0 = 0 ∧ win1_2.index t 1 = t.val)
    ∧ (win1_3.index t 0 = 0 ∧ win1_3.index t 1 = t.val) :=
  (by decide +kernel : ∀ t : Fin grid1.N, _)

/-- The launch has 4 points. -/
theorem lt1 (t : Fin cfg1.N) : t.val < 4 := t.isLt

/-- The left operand is read whole at every point. -/
theorem blk1_0 (c : Dev nD) (t : Fin cfg1.N) (y : S512x4096.Idx) :
    iblk1 V c 0 t y = V c main_v4 y := by
  have hp := (places1 t).1
  unfold iblk1
  rw [View.read_apply]
  refine congrArg (V c main_v4) (Shape.idx_ext₂ ?_ ?_)
  · exact win1_0.rect_emb_val_of_index_zero t 0 hp.1 y
  · exact win1_0.rect_emb_val_of_index_zero t 1 hp.2 y

/-- The weight's block at point `t`: 1024 columns. -/
theorem blk1_1 (c : Dev nD) (t : Fin cfg1.N) (y : S4096x1024.Idx) :
    iblk1 V c 1 t y = V c main_v6 (ix2 (y 0) ⟨1024 * (t.val) + (y 1).val, by have := lt1 t; have := (y 1).isLt; change (y 1).val < 1024 at this; omega⟩) := by
  have hp := (places1 t).2.1
  unfold iblk1
  rw [View.read_apply]
  refine congrArg (V c main_v6) (Shape.idx_ext₂ ?_ ?_)
  · exact win1_1.rect_emb_val_of_index_zero t 0 hp.1 y
  · rw [show ((((cfg1.win 1).blk t).view.emb y) 1 : ℕ) = win1_1.index t 1 * win1_1.size 1 + y 1 from win1_1.rect_emb_val t y 1, hp.2]
    show _ * 1024 + _ = _
    simp only [ix2]
    omega

/-- The residual's block at point `t`. -/
theorem blk1_2 (c : Dev nD) (t : Fin cfg1.N) (y : S512x1024.Idx) :
    iblk1 V c 2 t y = V c main_arg0 (ix2 (y 0) ⟨1024 * (t.val) + (y 1).val, by have := lt1 t; have := (y 1).isLt; change (y 1).val < 1024 at this; omega⟩) := by
  have hp := (places1 t).2.2.1
  unfold iblk1
  rw [View.read_apply]
  refine congrArg (V c main_arg0) (Shape.idx_ext₂ ?_ ?_)
  · exact win1_2.rect_emb_val_of_index_zero t 0 hp.1 y
  · rw [show ((((cfg1.win 2).blk t).view.emb y) 1 : ℕ) = win1_2.index t 1 * win1_2.size 1 + y 1 from win1_2.rect_emb_val t y 1, hp.2]
    show _ * 1024 + _ = _
    simp only [ix2]
    omega

/-- What point `t` writes back is its block of the product added to the residual. -/
theorem flushed1 (c : Dev nD) (t : Fin cfg1.N) :
    (dat1 V c).flushed 3 t = ((cfg1.win 3).blk t).view.read (Elt Ideal) (resid4096 (V c main_v4) (V c main_v6) (V c main_arg0)) := by
  have hp := (places1 t).2.2.2
  have ht := lt1 t
  show (cfg1.win 3).cut (grid1.coords t) ((dat1 V c).after 3 t) = _
  rw [after1_3]
  unfold out1_3
  rw [View.canon_unit_zero hz, View.ld_unit_zero hz, View.ld_unit_zero hz, View.ld_unit_zero hz]
  funext y
  rw [View.read_apply]
  have h0 : (y 0).val < 512 := (y 0).isLt
  have h1 : (y 1).val < 1024 := (y 1).isLt
  have e : ((cfg1.win 3).blk t).view.emb y = ix2 (y 0) ⟨1024 * (t.val) + (y 1).val, by omega⟩ :=
    Shape.idx_ext₂
      (win1_3.rect_emb_val_of_index_zero t 0 hp.1 y)
      ((win1_3.rect_emb_val t y 1).trans (by rw [hp.2]; show _ * 1024 + _ = _; simp only [ix2]; omega))
  show k1_pay1 (iblk1 V c 2 t) (iblk1 V c 0 t) (iblk1 V c 1 t) y = resid4096 _ _ _ _
  rw [e]
  pointwise [k1_pay1, resid4096]
  simp only [blk1_0, blk1_1, blk1_2]
  rfl

/-- The blocks tile the result array, so it ends as that function of the arrays the launch reads. -/
theorem final1 (c : Dev nD) : (dat1 V c).arrAt 3 cfg1.N = (resid4096 (V c main_v4) (V c main_v6) (V c main_arg0)) :=
  (dat1 V c).arrAt_eq_of_cover 3 _ (fun t _ => flushed1 V c t) fun i => by
    have h0 : (i 0).val < 512 := (i 0).isLt
    have h1 : (i 1).val < 4096 := (i 1).isLt
    let t : Fin cfg1.N := ⟨(i 1).val / 1024, by show _ < 4; omega⟩
    have hp := (places1 t).2.2.2
    refine ⟨t, flush1_3 t, ?_⟩
    show i ∈ ((View.whole main_v7).slice (win1_3.rect t)).set
    rw [View.set_slice_whole, Rect.mem_set_unit]
    intro a
    match a with
    | ⟨0, _⟩ =>
      show win1_3.index t 0 * 512 ≤ (i 0).val ∧ (i 0).val < win1_3.index t 0 * 512 + 512
      rw [hp.1]; omega
    | ⟨1, _⟩ =>
      show win1_3.index t 1 * 1024 ≤ (i 1).val ∧ (i 1).val < win1_3.index t 1 * 1024 + 1024
      rw [hp.2]; dsimp only [t]; omega

/-! The gate and up products. -/

/-- Where each window's block lies at point `t` of the launch. -/
theorem places3 : ∀ t : Fin cfg3.N,
    (win3_0.index t 0 = 0 ∧ win3_0.index t 1 = 0)
    ∧ (win3_1.index t 0 = 0 ∧ win3_1.index t 1 = t.val)
    ∧ (win3_2.index t 0 = 0 ∧ win3_2.index t 1 = t.val)
    ∧ (win3_3.index t 0 = 0 ∧ win3_3.index t 1 = t.val) :=
  (by decide +kernel : ∀ t : Fin grid3.N, _)

/-- The launch has 43 points. -/
theorem lt3 (t : Fin cfg3.N) : t.val < 43 := t.isLt

/-- The left operand is read whole at every point. -/
theorem blk3_0 (c : Dev nD) (t : Fin cfg3.N) (y : S512x4096.Idx) :
    iblk3 V c 0 t y = V c main_v10 y := by
  have hp := (places3 t).1
  unfold iblk3
  rw [View.read_apply]
  refine congrArg (V c main_v10) (Shape.idx_ext₂ ?_ ?_)
  · exact win3_0.rect_emb_val_of_index_zero t 0 hp.1 y
  · exact win3_0.rect_emb_val_of_index_zero t 1 hp.2 y

/-- The gate weight's block at point `t`: 256 columns. -/
theorem blk3_1 (c : Dev nD) (t : Fin cfg3.N) (y : S4096x256.Idx) :
    iblk3 V c 1 t y = V c main_v12 (ix2 (y 0) ⟨256 * (t.val) + (y 1).val, by have := lt3 t; have := (y 1).isLt; change (y 1).val < 256 at this; omega⟩) := by
  have hp := (places3 t).2.1
  unfold iblk3
  rw [View.read_apply]
  refine congrArg (V c main_v12) (Shape.idx_ext₂ ?_ ?_)
  · exact win3_1.rect_emb_val_of_index_zero t 0 hp.1 y
  · rw [show ((((cfg3.win 1).blk t).view.emb y) 1 : ℕ) = win3_1.index t 1 * win3_1.size 1 + y 1 from win3_1.rect_emb_val t y 1, hp.2]
    show _ * 256 + _ = _
    simp only [ix2]
    omega

/-- The up weight's block at point `t`: 256 columns. -/
theorem blk3_2 (c : Dev nD) (t : Fin cfg3.N) (y : S4096x256.Idx) :
    iblk3 V c 2 t y = V c main_v14 (ix2 (y 0) ⟨256 * (t.val) + (y 1).val, by have := lt3 t; have := (y 1).isLt; change (y 1).val < 256 at this; omega⟩) := by
  have hp := (places3 t).2.2.1
  unfold iblk3
  rw [View.read_apply]
  refine congrArg (V c main_v14) (Shape.idx_ext₂ ?_ ?_)
  · exact win3_2.rect_emb_val_of_index_zero t 0 hp.1 y
  · rw [show ((((cfg3.win 2).blk t).view.emb y) 1 : ℕ) = win3_2.index t 1 * win3_2.size 1 + y 1 from win3_2.rect_emb_val t y 1, hp.2]
    show _ * 256 + _ = _
    simp only [ix2]
    omega

/-- What point `t` writes back is its block of the gated activation. -/
theorem flushed3 (c : Dev nD) (t : Fin cfg3.N) :
    (dat3 V c).flushed 3 t = ((cfg3.win 3).blk t).view.read (Elt Ideal) (gated (V c main_v10) (V c main_v12) (V c main_v14)) := by
  have hp := (places3 t).2.2.2
  have ht := lt3 t
  show (cfg3.win 3).cut (grid3.coords t) ((dat3 V c).after 3 t) = _
  rw [after3_3]
  unfold out3_3
  rw [View.canon_unit_zero hz, View.ld_unit_zero hz, View.ld_unit_zero hz, View.ld_unit_zero hz]
  funext y
  rw [View.read_apply]
  have h0 : (y 0).val < 512 := (y 0).isLt
  have h1 : (y 1).val < 256 := (y 1).isLt
  have e : ((cfg3.win 3).blk t).view.emb y = ix2 (y 0) ⟨256 * (t.val) + (y 1).val, by omega⟩ :=
    Shape.idx_ext₂
      (win3_3.rect_emb_val_of_index_zero t 0 hp.1 y)
      ((win3_3.rect_emb_val t y 1).trans (by rw [hp.2]; show _ * 256 + _ = _; simp only [ix2]; omega))
  show k3_pay1 (iblk3 V c 0 t) (iblk3 V c 1 t) (iblk3 V c 2 t) y = gated _ _ _ _
  rw [e]
  pointwise [k3_pay1, gated, prod11008]
  simp only [blk3_0, blk3_1, blk3_2]
  rfl

/-- The blocks tile the result array, so it ends as that function of the arrays the launch reads. -/
theorem final3 (c : Dev nD) : (dat3 V c).arrAt 3 cfg3.N = (gated (V c main_v10) (V c main_v12) (V c main_v14)) :=
  (dat3 V c).arrAt_eq_of_cover 3 _ (fun t _ => flushed3 V c t) fun i => by
    have h0 : (i 0).val < 512 := (i 0).isLt
    have h1 : (i 1).val < 11008 := (i 1).isLt
    let t : Fin cfg3.N := ⟨(i 1).val / 256, by show _ < 43; omega⟩
    have hp := (places3 t).2.2.2
    refine ⟨t, flush3_3 t, ?_⟩
    show i ∈ ((View.whole main_v15).slice (win3_3.rect t)).set
    rw [View.set_slice_whole, Rect.mem_set_unit]
    intro a
    match a with
    | ⟨0, _⟩ =>
      show win3_3.index t 0 * 512 ≤ (i 0).val ∧ (i 0).val < win3_3.index t 0 * 512 + 512
      rw [hp.1]; omega
    | ⟨1, _⟩ =>
      show win3_3.index t 1 * 256 ≤ (i 1).val ∧ (i 1).val < win3_3.index t 1 * 256 + 256
      rw [hp.2]; dsimp only [t]; omega

/-! The down product. -/

/-- Where each window's block lies at point `t` of the launch. -/
theorem places4 : ∀ t : Fin cfg4.N,
    (win4_0.index t 0 = 0 ∧ win4_0.index t 1 = 0)
    ∧ (win4_1.index t 0 = 0 ∧ win4_1.index t 1 = t.val)
    ∧ (win4_2.index t 0 = 0 ∧ win4_2.index t 1 = t.val)
    ∧ (win4_3.index t 0 = 0 ∧ win4_3.index t 1 = t.val) :=
  (by decide +kernel : ∀ t : Fin grid4.N, _)

/-- The launch has 8 points. -/
theorem lt4 (t : Fin cfg4.N) : t.val < 8 := t.isLt

/-- The left operand is read whole at every point. -/
theorem blk4_0 (c : Dev nD) (t : Fin cfg4.N) (y : S512x11008.Idx) :
    iblk4 V c 0 t y = V c main_v15 y := by
  have hp := (places4 t).1
  unfold iblk4
  rw [View.read_apply]
  refine congrArg (V c main_v15) (Shape.idx_ext₂ ?_ ?_)
  · exact win4_0.rect_emb_val_of_index_zero t 0 hp.1 y
  · exact win4_0.rect_emb_val_of_index_zero t 1 hp.2 y

/-- The weight's block at point `t`: 512 columns. -/
theorem blk4_1 (c : Dev nD) (t : Fin cfg4.N) (y : S11008x512.Idx) :
    iblk4 V c 1 t y = V c main_v17 (ix2 (y 0) ⟨512 * (t.val) + (y 1).val, by have := lt4 t; have := (y 1).isLt; change (y 1).val < 512 at this; omega⟩) := by
  have hp := (places4 t).2.1
  unfold iblk4
  rw [View.read_apply]
  refine congrArg (V c main_v17) (Shape.idx_ext₂ ?_ ?_)
  · exact win4_1.rect_emb_val_of_index_zero t 0 hp.1 y
  · rw [show ((((cfg4.win 1).blk t).view.emb y) 1 : ℕ) = win4_1.index t 1 * win4_1.size 1 + y 1 from win4_1.rect_emb_val t y 1, hp.2]
    show _ * 512 + _ = _
    simp only [ix2]
    omega

/-- The residual's block at point `t`. -/
theorem blk4_2 (c : Dev nD) (t : Fin cfg4.N) (y : S512x512.Idx) :
    iblk4 V c 2 t y = V c main_v7 (ix2 (y 0) ⟨512 * (t.val) + (y 1).val, by have := lt4 t; have := (y 1).isLt; change (y 1).val < 512 at this; omega⟩) := by
  have hp := (places4 t).2.2.1
  unfold iblk4
  rw [View.read_apply]
  refine congrArg (V c main_v7) (Shape.idx_ext₂ ?_ ?_)
  · exact win4_2.rect_emb_val_of_index_zero t 0 hp.1 y
  · rw [show ((((cfg4.win 2).blk t).view.emb y) 1 : ℕ) = win4_2.index t 1 * win4_2.size 1 + y 1 from win4_2.rect_emb_val t y 1, hp.2]
    show _ * 512 + _ = _
    simp only [ix2]
    omega

/-- What point `t` writes back is its block of the product added to the residual. -/
theorem flushed4 (c : Dev nD) (t : Fin cfg4.N) :
    (dat4 V c).flushed 3 t = ((cfg4.win 3).blk t).view.read (Elt Ideal) (resid11008 (V c main_v15) (V c main_v17) (V c main_v7)) := by
  have hp := (places4 t).2.2.2
  have ht := lt4 t
  show (cfg4.win 3).cut (grid4.coords t) ((dat4 V c).after 3 t) = _
  rw [after4_3]
  unfold out4_3
  rw [View.canon_unit_zero hz, View.ld_unit_zero hz, View.ld_unit_zero hz, View.ld_unit_zero hz]
  funext y
  rw [View.read_apply]
  have h0 : (y 0).val < 512 := (y 0).isLt
  have h1 : (y 1).val < 512 := (y 1).isLt
  have e : ((cfg4.win 3).blk t).view.emb y = ix2 (y 0) ⟨512 * (t.val) + (y 1).val, by omega⟩ :=
    Shape.idx_ext₂
      (win4_3.rect_emb_val_of_index_zero t 0 hp.1 y)
      ((win4_3.rect_emb_val t y 1).trans (by rw [hp.2]; show _ * 512 + _ = _; simp only [ix2]; omega))
  show k4_pay1 (iblk4 V c 2 t) (iblk4 V c 0 t) (iblk4 V c 1 t) y = resid11008 _ _ _ _
  rw [e]
  pointwise [k4_pay1, resid11008]
  simp only [blk4_0, blk4_1, blk4_2]
  rfl

/-- The blocks tile the result array, so it ends as that function of the arrays the launch reads. -/
theorem final4 (c : Dev nD) : (dat4 V c).arrAt 3 cfg4.N = (resid11008 (V c main_v15) (V c main_v17) (V c main_v7)) :=
  (dat4 V c).arrAt_eq_of_cover 3 _ (fun t _ => flushed4 V c t) fun i => by
    have h0 : (i 0).val < 512 := (i 0).isLt
    have h1 : (i 1).val < 4096 := (i 1).isLt
    let t : Fin cfg4.N := ⟨(i 1).val / 512, by show _ < 8; omega⟩
    have hp := (places4 t).2.2.2
    refine ⟨t, flush4_3 t, ?_⟩
    show i ∈ ((View.whole main_v18).slice (win4_3.rect t)).set
    rw [View.set_slice_whole, Rect.mem_set_unit]
    intro a
    match a with
    | ⟨0, _⟩ =>
      show win4_3.index t 0 * 512 ≤ (i 0).val ∧ (i 0).val < win4_3.index t 0 * 512 + 512
      rw [hp.1]; omega
    | ⟨1, _⟩ =>
      show win4_3.index t 1 * 512 ≤ (i 1).val ∧ (i 1).val < win4_3.index t 1 * 512 + 512
      rw [hp.2]; dsimp only [t]; omega

end Cert.TailS

end
-- ==== Proof.TailS.Merge.lean ====
/-
  The launch that merges the two head groups, at 512 rows: it normalises each group with its own gain and puts them side by
  side. It is shown, for whatever arrays it finds, to leave one function of them.
-/
module

public import proofs.«01_k».proof.Defs
public import proofs.«01_k».proof.Proof.Gen.Kernel8Ideal.Frame
public import proofs.«01_k».proof.Proof.TailS.Norms
public import Idealize.ShloMosaic.Lib.Pipeline.Value
public import Idealize.ShloMosaic.Lib.Pointwise
public import Idealize.ShloMosaic.Lib.StableHlo.ReadAt

@[expose] public section

set_option maxRecDepth 16384

noncomputable section

namespace Cert.TailS

open Idealize.ShloMosaic Idealize.ShloMosaic.TcCoe Idealize.SL.Sem Cert.Kernel8Ideal Cert.Kernel8Ideal.Gen
open Idealize.ShloMosaic.Pipeline (Dat Cfg Window)

variable (V : (c : Dev nD) → (b : Ref sig .tc) → Buf (Elt Ideal) ((c : Thread nD τ).loc b))

/-- Root-mean-square normalisation of the rows of a `512 × 2048` array, with a gain per column, at row `r` and column `q`. -/
def norm2048 (x : S512x2048.Idx → EReal) (g : S1x2048.Idx → EReal) (r : Fin 512) (q : Fin 2048) : EReal :=
  x (ix2 r q) * Ideal.rsqrt (Ideal.div (∑ k : Fin 2048, x (ix2 r k) * x (ix2 r k)) (Ideal.ofBits .f32 0x45000000#32) + eps) * g (ix2 0 q)

/-- The two head groups, each normalised, side by side. -/
def merged (a b : S512x2048.Idx → EReal) (ga gb : S1x2048.Idx → EReal) : S512x4096.Idx → EReal := fun i =>
  if h : (i 1).val < 2048 then norm2048 a ga (i 0) ⟨(i 1).val, h⟩
  else norm2048 b gb (i 0) ⟨(i 1).val - 2048, by have h1 : (i 1).val < 4096 := (i 1).isLt; omega⟩

/-- A block of 512 rows, each normalised, at row `r` and column `q`. -/
def rows512 (x : S512x2048.Idx → EReal) (g : S1x2048.Idx → EReal) (r : Fin 512) (q : Fin 2048) : EReal :=
  x (ix2 r q) * Ideal.rsqrt (Ideal.div (∑ k : Fin 2048, x (ix2 r k) * x (ix2 r k)) (Ideal.ofBits .f32 0x45000000#32) + eps) * g (ix2 0 q)

/-- Two such blocks side by side. -/
def pair512 (a b : S512x2048.Idx → EReal) (ga gb : S1x2048.Idx → EReal) : S512x4096.Idx → EReal := fun i =>
  if h : (i 1).val < 2048 then rows512 a ga (i 0) ⟨(i 1).val, h⟩
  else rows512 b gb (i 0) ⟨(i 1).val - 2048, by have h1 : (i 1).val < 4096 := (i 1).isLt; omega⟩

/-- The first store's payload is the first block, normalised; -/
theorem pay1_at (x : S512x2048.Idx → EReal) (g : S1x2048.Idx → EReal) (y : S512x2048.Idx) :
    k0_pay1 (F := Ideal) x g y = rows512 x g (y 0) (y 1) := by
  pointwise [k0_pay1, rows512]

/-- and the second store's is the second. -/
theorem pay2_at (x : S512x2048.Idx → EReal) (g : S1x2048.Idx → EReal) (y : S512x2048.Idx) :
    k0_pay2 (F := Ideal) x g y = rows512 x g (y 0) (y 1) := by
  pointwise [k0_pay2, rows512]

/-- The body's two stores leave the two normalised blocks side by side. -/
theorem out0_at (a b : S512x2048.Idx → EReal) (ga gb : S1x2048.Idx → EReal) (y : S512x4096.Idx) :
    out0_4 (F := Ideal) a b ga gb y = pair512 a b ga gb y := by
  unfold out0_4
  refine View.canon_apply_of_pieces (Val := Elt Ideal) (S := S512x4096) (e := .bf16) (pair512 a b ga gb) _ ?_ y (cover0_4 _ _ y)
  intro pc hpc
  rcases List.mem_cons.1 hpc with rfl | hpc
  · intro x
    have hx1 : (x 1).val < 2048 := (x 1).isLt
    have e0 : (r0_3.emb x 0) = x 0 := Fin.ext (show 0 + 1 * (x 0).val = _ by omega)
    have e1 : (r0_3.emb x 1).val = 2048 + (x 1).val := by show 2048 + 1 * (x 1).val = _; omega
    dsimp only
    rw [View.ld_unit_zero hz, View.ld_unit_zero hz]
    refine (pay2_at b gb x).trans ?_
    unfold pair512
    rw [dif_neg (by omega)]
    exact congrArg₂ (rows512 b gb) e0.symm (Fin.ext (by show _ = (r0_3.emb x 1).val - 2048; omega))
  · rcases List.mem_cons.1 hpc with rfl | hpc
    · intro x
      have hx1 : (x 1).val < 2048 := (x 1).isLt
      have e0 : (r0_2.emb x 0) = x 0 := Fin.ext (show 0 + 1 * (x 0).val = _ by omega)
      have e1 : (r0_2.emb x 1).val = (x 1).val := by show 0 + 1 * (x 1).val = _; omega
      dsimp only
      rw [View.ld_unit_zero hz, View.ld_unit_zero hz]
      refine (pay1_at a ga x).trans ?_
      unfold pair512
      rw [dif_pos (by omega)]
      exact congrArg₂ (rows512 a ga) e0.symm (Fin.ext e1.symm)
    · exact absurd hpc List.not_mem_nil

/-- Where each window's block lies at point `t` of the launch. -/
theorem places0 : ∀ t : Fin cfg0.N,
    (win0_0.index t 0 = 0 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0) :=
  (by decide +kernel : ∀ t : Fin grid0.N, _)

/-- The launch has 1 point. -/
theorem lt0 (t : Fin cfg0.N) : t.val < 1 := t.isLt

/-- The first group is read whole. -/
theorem blk0_0 (c : Dev nD) (t : Fin cfg0.N) (y : S512x2048.Idx) :
    iblk0 V c 0 t y = V c main_arg1 y := by
  have hp := (places0 t).1
  unfold iblk0
  rw [View.read_apply]
  refine congrArg (V c main_arg1) (Shape.idx_ext₂ ?_ ?_)
  · exact win0_0.rect_emb_val_of_index_zero t 0 hp.1 y
  · exact win0_0.rect_emb_val_of_index_zero t 1 hp.2 y

/-- The second group is read whole. -/
theorem blk0_1 (c : Dev nD) (t : Fin cfg0.N) (y : S512x2048.Idx) :
    iblk0 V c 1 t y = V c main_arg2 y := by
  have hp := (places0 t).2.1
  unfold iblk0
  rw [View.read_apply]
  refine congrArg (V c main_arg2) (Shape.idx_ext₂ ?_ ?_)
  · exact win0_1.rect_emb_val_of_index_zero t 0 hp.1 y
  · exact win0_1.rect_emb_val_of_index_zero t 1 hp.2 y

/-- The first gain is read whole at every point. -/
theorem blk0_2 (c : Dev nD) (t : Fin cfg0.N) (y : S1x2048.Idx) :
    iblk0 V c 2 t y = V c main_v2 y := by
  have hp := (places0 t).2.2.1
  unfold iblk0
  rw [View.read_apply]
  refine congrArg (V c main_v2) (Shape.idx_ext₂ ?_ ?_)
  · exact win0_2.rect_emb_val_of_index_zero t 0 hp.1 y
  · exact win0_2.rect_emb_val_of_index_zero t 1 hp.2 y

/-- The second gain is read whole at every point. -/
theorem blk0_3 (c : Dev nD) (t : Fin cfg0.N) (y : S1x2048.Idx) :
    iblk0 V c 3 t y = V c main_v3 y := by
  have hp := (places0 t).2.2.2.1
  unfold iblk0
  rw [View.read_apply]
  refine congrArg (V c main_v3) (Shape.idx_ext₂ ?_ ?_)
  · exact win0_3.rect_emb_val_of_index_zero t 0 hp.1 y
  · exact win0_3.rect_emb_val_of_index_zero t 1 hp.2 y

/-- What point `t` writes back, its two stores side by side, is the merged array. -/
theorem flushed0 (c : Dev nD) (t : Fin cfg0.N) :
    (dat0 V c).flushed 4 t = ((cfg0.win 4).blk t).view.read (Elt Ideal) (merged (V c main_arg1) (V c main_arg2) (V c main_v2) (V c main_v3)) := by
  have hp := (places0 t).2.2.2.2
  have ht := lt0 t
  show (cfg0.win 4).cut (grid0.coords t) ((dat0 V c).after 4 t) = _
  rw [after0_4]
  unfold out0_4
  funext y
  rw [View.read_apply]
  have h0 : (y 0).val < 512 := (y 0).isLt
  have e : ((cfg0.win 4).blk t).view.emb y = y :=
    Shape.idx_ext₂ (win0_4.rect_emb_val_of_index_zero t 0 hp.1 y) (win0_4.rect_emb_val_of_index_zero t 1 hp.2 y)
  rw [e]
  refine (out0_at _ _ _ _ y).trans ?_
  unfold pair512 merged rows512 norm2048
  simp only [blk0_0, blk0_1, blk0_2, blk0_3]
  rfl

/-- The blocks tile the result array, so it ends as that function of the arrays the launch reads. -/
theorem final0 (c : Dev nD) : (dat0 V c).arrAt 4 cfg0.N = (merged (V c main_arg1) (V c main_arg2) (V c main_v2) (V c main_v3)) :=
  (dat0 V c).arrAt_eq_of_cover 4 _ (fun t _ => flushed0 V c t) fun i => by
    have h0 : (i 0).val < 512 := (i 0).isLt
    have h1 : (i 1).val < 4096 := (i 1).isLt
    let t : Fin cfg0.N := ⟨0, by show _ < 1; omega⟩
    have hp := (places0 t).2.2.2.2
    refine ⟨t, flush0_4 t, ?_⟩
    show i ∈ ((View.whole main_v4).slice (win0_4.rect t)).set
    rw [View.set_slice_whole, Rect.mem_set_unit]
    intro a
    match a with
    | ⟨0, _⟩ =>
      show win0_4.index t 0 * 512 ≤ (i 0).val ∧ (i 0).val < win0_4.index t 0 * 512 + 512
      rw [hp.1]; omega
    | ⟨1, _⟩ =>
      show win0_4.index t 1 * 4096 ≤ (i 1).val ∧ (i 1).val < win0_4.index t 1 * 4096 + 4096
      rw [hp.2]; omega

end Cert.TailS

end
-- ==== Proof.TailS.Kernel.lean ====
/-
  The layer after its attentions, run as one value. The program enters six launches: the two attentions' outputs are
  normalised and set side by side, projected and added to the input, normalised, gated through the feed-forward's first two
  weights, projected back and added again, and normalised once more. Between the launches the host only reshapes a gain or
  rounds a weight. Here the contents of every array a launch reads are followed back to the arguments, and the result is
  shown to be one function of them.
-/
module

public import proofs.«01_k».proof.Proof.TailS.Norms
public import proofs.«01_k».proof.Proof.TailS.Products
public import proofs.«01_k».proof.Proof.TailS.Merge
public import Idealize.ShloMosaic.Lib.Quiescent

@[expose] public section

set_option maxRecDepth 16384

noncomputable section

namespace Cert.TailS

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel8Ideal Cert.Kernel8Ideal.Gen

local notation "𝕄" => MT nD τ sig Unit (Elt Ideal) ℕ (UR sig nD τ) ℕ

variable (m : (ℓ : Loc nD τ sig) → Buf (Elt Ideal) ℓ) (ρ : Dev nD → PrngReg)

/-- An argument array at launch. -/
abbrev arg0 (c : Dev nD) : S512x4096.Idx → EReal := m ((c : Thread nD τ).loc main_arg0)
/-- The output of the forgetting attention, its heads side by side. -/
abbrev arg1 (c : Dev nD) : S512x2048.Idx → EReal := m ((c : Thread nD τ).loc main_arg1)
/-- The output of the stick-breaking attention, its heads side by side. -/
abbrev arg2 (c : Dev nD) : S512x2048.Idx → EReal := m ((c : Thread nD τ).loc main_arg2)
/-- The gain of the forgetting heads' normalisation. -/
abbrev arg3 (c : Dev nD) : S1x2048.Idx → EReal := m ((c : Thread nD τ).loc main_arg3)
/-- The gain of the stick-breaking heads' normalisation. -/
abbrev arg4 (c : Dev nD) : S1x2048.Idx → EReal := m ((c : Thread nD τ).loc main_arg4)
/-- The output projection's weight. -/
abbrev arg5 (c : Dev nD) : S1x4096x4096.Idx → EReal := m ((c : Thread nD τ).loc main_arg5)
/-- The gain of the normalisation before the feed-forward part. -/
abbrev arg6 (c : Dev nD) : S1x4096.Idx → EReal := m ((c : Thread nD τ).loc main_arg6)
/-- The gate weight. -/
abbrev arg7 (c : Dev nD) : S1x4096x11008.Idx → EReal := m ((c : Thread nD τ).loc main_arg7)
/-- The up weight. -/
abbrev arg8 (c : Dev nD) : S1x4096x11008.Idx → EReal := m ((c : Thread nD τ).loc main_arg8)
/-- The down weight. -/
abbrev arg9 (c : Dev nD) : S1x11008x4096.Idx → EReal := m ((c : Thread nD τ).loc main_arg9)
/-- The gain of the last normalisation. -/
abbrev arg10 (c : Dev nD) : S4096.Idx → EReal := m ((c : Thread nD τ).loc main_arg10)

/-! What the host stretches leave in the arrays the launches read, from any contents `U` before the stretch: a gain keeps its
    values, and a weight loses its leading axis of size one. -/

variable (U : Valuation τ sig (Elt Ideal))

/-- The gain of the first attention. -/
theorem host_v2 (q : Fin 2048) : StableHlo.after (hostOps0 (F := Ideal)) U (Proc.devRef .tc main_v2) (ix2 (0 : Fin 1) q) = U (Proc.devRef .tc main_arg3) (ix2 (0 : Fin 1) q) := by
  after_reads_at

/-- The gain of the second attention. -/
theorem host_v3 (q : Fin 2048) : StableHlo.after (hostOps0 (F := Ideal)) U (Proc.devRef .tc main_v3) (ix2 (0 : Fin 1) q) = U (Proc.devRef .tc main_arg4) (ix2 (0 : Fin 1) q) := by
  after_reads_at

/-- The output weight. -/
theorem host_v6 (r : Fin 4096) (q : Fin 4096) : StableHlo.after (hostOps1 (F := Ideal)) U (Proc.devRef .tc main_v6) (ix2 r q) = U (Proc.devRef .tc main_arg5) (ix3 (0 : Fin 1) r q) := by
  after_reads_at

/-- The gain before the feed-forward block. -/
theorem host_v9 (q : Fin 4096) : StableHlo.after (hostOps2 (F := Ideal)) U (Proc.devRef .tc main_v9) (ix2 (0 : Fin 1) q) = U (Proc.devRef .tc main_arg6) (ix2 (0 : Fin 1) q) := by
  after_reads_at

/-- The gate weight. -/
theorem host_v12 (r : Fin 4096) (q : Fin 11008) : StableHlo.after (hostOps3 (F := Ideal)) U (Proc.devRef .tc main_v12) (ix2 r q) = U (Proc.devRef .tc main_arg7) (ix3 (0 : Fin 1) r q) := by
  after_reads_at

/-- The up weight. -/
theorem host_v14 (r : Fin 4096) (q : Fin 11008) : StableHlo.after (hostOps3 (F := Ideal)) U (Proc.devRef .tc main_v14) (ix2 r q) = U (Proc.devRef .tc main_arg8) (ix3 (0 : Fin 1) r q) := by
  after_reads_at

/-- The down weight. -/
theorem host_v17 (r : Fin 11008) (q : Fin 4096) : StableHlo.after (hostOps4 (F := Ideal)) U (Proc.devRef .tc main_v17) (ix2 r q) = U (Proc.devRef .tc main_arg9) (ix3 (0 : Fin 1) r q) := by
  after_reads_at

/-- The last gain. -/
theorem host_v19 (q : Fin 4096) : StableHlo.after (hostOps5 (F := Ideal)) U (Proc.devRef .tc main_v19) (ix2 (0 : Fin 1) q) = U (Proc.devRef .tc main_arg10) (ix1 q) := by
  after_reads_at

/-! The values along the way, as functions of the arguments. -/

/-- A stacked weight of one layer, as a matrix. -/
def layer {a b : Nat} (w : (⟨3, ![1, a, b]⟩ : Shape).Idx → EReal) : (⟨2, ![a, b]⟩ : Shape).Idx → EReal := fun i => w (ix3 0 (i 0) (i 1))

/-- The two attentions' outputs, normalised and side by side. -/
def mix (c : Dev nD) : S512x4096.Idx → EReal := merged (arg1 m c) (arg2 m c) (arg3 m c) (arg4 m c)

/-- The stream after the output projection. -/
def stream1 (c : Dev nD) : S512x4096.Idx → EReal := resid4096 (mix m c) (layer (arg5 m c)) (arg0 m c)

/-- The feed-forward block's input. -/
def ffnIn (c : Dev nD) : S512x4096.Idx → EReal := norm4096 (stream1 m c) (arg6 m c)

/-- The feed-forward block's inner activation. -/
def inner (c : Dev nD) : S512x11008.Idx → EReal := gated (ffnIn m c) (layer (arg7 m c)) (layer (arg8 m c))

/-- The stream after the feed-forward block. -/
def stream2 (c : Dev nD) : S512x4096.Idx → EReal := resid11008 (inner m c) (layer (arg9 m c)) (stream1 m c)

/-- The result. -/
def final (c : Dev nD) : S512x4096.Idx → EReal := norm4096 (stream2 m c) (fun i => arg10 m c (ix1 (i 1)))

/-! Each launch's reads and its result. -/

/-- The first gain the merging launch finds is the argument. -/
theorem read_v2 (c : Dev nD) : V1 m ρ c main_v2 = arg3 m c := by
  funext i
  obtain ⟨a, q, rfl⟩ : ∃ (a : Fin 1) (q : Fin 2048), i = ix2 a q := ⟨i 0, i 1, eq_ix2 i⟩
  obtain rfl : a = 0 := Subsingleton.elim _ _
  exact (host_v2 (W0 m ρ c) q).trans (congrFun (W0_args m ρ c main_arg3 (by decide)) (ix2 (0 : Fin 1) q))

/-- The second gain the merging launch finds is the argument. -/
theorem read_v3 (c : Dev nD) : V1 m ρ c main_v3 = arg4 m c := by
  funext i
  obtain ⟨a, q, rfl⟩ : ∃ (a : Fin 1) (q : Fin 2048), i = ix2 a q := ⟨i 0, i 1, eq_ix2 i⟩
  obtain rfl : a = 0 := Subsingleton.elim _ _
  exact (host_v3 (W0 m ρ c) q).trans (congrFun (W0_args m ρ c main_arg4 (by decide)) (ix2 (0 : Fin 1) q))

/-- The weight the output projection finds is the argument without its leading axis. -/
theorem read_v6 (c : Dev nD) : V3 m ρ c main_v6 = layer (arg5 m c) := by
  funext i
  obtain ⟨r, q, rfl⟩ : ∃ (r : Fin 4096) (q : Fin 4096), i = ix2 r q := ⟨i 0, i 1, eq_ix2 i⟩
  exact (host_v6 (W2 m ρ c) r q).trans (congrFun (W2_args m ρ c main_arg5 (by decide)) (ix3 (0 : Fin 1) r q))

/-- The gain the second normalisation finds is the argument. -/
theorem read_v9 (c : Dev nD) : V5 m ρ c main_v9 = arg6 m c := by
  funext i
  obtain ⟨a, q, rfl⟩ : ∃ (a : Fin 1) (q : Fin 4096), i = ix2 a q := ⟨i 0, i 1, eq_ix2 i⟩
  obtain rfl : a = 0 := Subsingleton.elim _ _
  exact (host_v9 (W4 m ρ c) q).trans (congrFun (W4_args m ρ c main_arg6 (by decide)) (ix2 (0 : Fin 1) q))

/-- The gate weight the feed-forward launch finds is the argument without its leading axis. -/
theorem read_v12 (c : Dev nD) : V7 m ρ c main_v12 = layer (arg7 m c) := by
  funext i
  obtain ⟨r, q, rfl⟩ : ∃ (r : Fin 4096) (q : Fin 11008), i = ix2 r q := ⟨i 0, i 1, eq_ix2 i⟩
  exact (host_v12 (W6 m ρ c) r q).trans (congrFun (W6_args m ρ c main_arg7 (by decide)) (ix3 (0 : Fin 1) r q))

/-- The up weight it finds is the argument without its leading axis. -/
theorem read_v14 (c : Dev nD) : V7 m ρ c main_v14 = layer (arg8 m c) := by
  funext i
  obtain ⟨r, q, rfl⟩ : ∃ (r : Fin 4096) (q : Fin 11008), i = ix2 r q := ⟨i 0, i 1, eq_ix2 i⟩
  exact (host_v14 (W6 m ρ c) r q).trans (congrFun (W6_args m ρ c main_arg8 (by decide)) (ix3 (0 : Fin 1) r q))

/-- The down weight its second half finds is the argument without its leading axis. -/
theorem read_v17 (c : Dev nD) : V9 m ρ c main_v17 = layer (arg9 m c) := by
  funext i
  obtain ⟨r, q, rfl⟩ : ∃ (r : Fin 11008) (q : Fin 4096), i = ix2 r q := ⟨i 0, i 1, eq_ix2 i⟩
  exact (host_v17 (W8 m ρ c) r q).trans (congrFun (W8_args m ρ c main_arg9 (by decide)) (ix3 (0 : Fin 1) r q))

/-- The gain the last normalisation finds is the argument as one row. -/
theorem read_v19 (c : Dev nD) : V11 m ρ c main_v19 = fun i : S1x4096.Idx => arg10 m c (ix1 (i 1)) := by
  funext i
  obtain ⟨a, q, rfl⟩ : ∃ (a : Fin 1) (q : Fin 4096), i = ix2 a q := ⟨i 0, i 1, eq_ix2 i⟩
  obtain rfl : a = 0 := Subsingleton.elim _ _
  exact (host_v19 (W10 m ρ c) q).trans (congrFun (W10_args m ρ c main_arg10 (by decide)) (ix1 q))

/-- The merge leaves `mix`, -/
theorem at_v4 (c : Dev nD) : V3 m ρ c main_v4 = mix m c := by
  refine (W3_of m ρ c main_v4 (by decide)).trans ((W2_arr m ρ c 4).trans ((final0 (V1 m ρ) c).trans ?_))
  unfold mix
  rw [read_v2, read_v3]
  rw [show V1 m ρ c main_arg1 = arg1 m c from W1_args m ρ c main_arg1 (by decide), show V1 m ρ c main_arg2 = arg2 m c from W1_args m ρ c main_arg2 (by decide)]

/-- the output projection `stream1`, where it is still when the next launch and -/
theorem at_v7 (c : Dev nD) : V5 m ρ c main_v7 = stream1 m c := by
  refine (W5_of m ρ c main_v7 (by decide)).trans ((W4_arr m ρ c 3).trans ((final1 (V3 m ρ) c).trans ?_))
  unfold stream1
  rw [read_v6, at_v4]
  rw [show V3 m ρ c main_arg0 = arg0 m c from W3_args m ρ c main_arg0 (by decide)]

/-- the last product read it, -/
theorem still_v7 (c : Dev nD) : V9 m ρ c main_v7 = stream1 m c :=
  (W9_of m ρ c main_v7 (by decide)).trans ((W8_of m ρ c main_v7 (by decide)).trans
    ((W7_of m ρ c main_v7 (by decide)).trans ((W6_of m ρ c main_v7 (by decide)).trans (at_v7 m ρ c))))

/-- the normalisation `ffnIn`, -/
theorem at_v10 (c : Dev nD) : V7 m ρ c main_v10 = ffnIn m c := by
  refine (W7_of m ρ c main_v10 (by decide)).trans ((W6_arr m ρ c 2).trans ((final2 (V5 m ρ) c).trans ?_))
  unfold ffnIn
  rw [read_v9, at_v7]

/-- the gated product `inner`, -/
theorem at_v15 (c : Dev nD) : V9 m ρ c main_v15 = inner m c := by
  refine (W9_of m ρ c main_v15 (by decide)).trans ((W8_arr m ρ c 3).trans ((final3 (V7 m ρ) c).trans ?_))
  unfold inner
  rw [read_v12, read_v14, at_v10]

/-- the down product `stream2`, -/
theorem at_v18 (c : Dev nD) : V11 m ρ c main_v18 = stream2 m c := by
  refine (W11_of m ρ c main_v18 (by decide)).trans ((W10_arr m ρ c 3).trans ((final4 (V9 m ρ) c).trans ?_))
  unfold stream2
  rw [read_v17, at_v15, still_v7]

/-- and the last normalisation `final`. -/
theorem at_v20 (c : Dev nD) : W12 m ρ c (Proc.devRef .tc main_v20) = final m c := by
  refine (W12_arr m ρ c 2).trans ((final5 (V11 m ρ) c).trans ?_)
  unfold final
  rw [read_v19, at_v18]

-- the launch theorem's implicit arguments are found by unifying its conclusion with this one, which takes unfolding plain
-- definitions in a metavariable's type
set_option backward.isDefEq.respectTransparency.types false in
/-- Every buffer that the launch can reach ends at the last boundary's contents, so the result is `final` and the arguments are as
    launched. -/
theorem run : θ_run (defs (F := Ideal)) (onTc (τ := τ) (main (F := Ideal))) ⟨m, fun _ => 0, ρ⟩ (fun r => ∀ c : Dev nD,
    r.2.mem ((c.tc : Thread nD τ).loc main_v20) = final m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h _ c =>
      ⟨(h c _ (mem_uc main_v20 (by decide))).trans (at_v20 m ρ c),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.TailS

end
-- ==== Proof.TailS.Ref.lean ====
/-
  The reference of the layer after its attentions, read stage by stage: each normalisation, product and gate is the function the
  kernel's launch was shown to compute, so the two results are one function of the arguments.
-/
module

public import proofs.«01_k».proof.Proof.TailS.Kernel
public import proofs.«01_k».proof.Proof.Gen.Reference8Ideal.Read

@[expose] public section

set_option maxRecDepth 16384

noncomputable section

namespace Cert.TailS

open Idealize.ShloMosaic Idealize.ShloMosaic.TcCoe Idealize.SL.Sem
open Cert.Reference8Ideal.Read
open Cert.Kernel8Ideal (S512x4096 S512x2048 S1x2048 S1x4096x4096 S1x4096 S1x4096x11008 S1x11008x4096 S4096 S512x11008)

variable (x0 : S512x4096.Idx → EReal) (x1 x2 : S512x2048.Idx → EReal) (x3 x4 : S1x2048.Idx → EReal)
  (x5 : S1x4096x4096.Idx → EReal) (x6 : S1x4096.Idx → EReal) (x7 x8 : S1x4096x11008.Idx → EReal)
  (x9 : S1x11008x4096.Idx → EReal) (x10 : S4096.Idx → EReal)

/-- A normalised row of the first attention's output. -/
theorem ref_fox (r : Fin 512) (q : Fin 2048) : val_main_v13 (F := Ideal) x1 x3 (ix2 r q) = norm2048 x1 x3 r q := by
  unfold val_main_v13 val_main_v12 val_main_v11 val_main_v10 val_main_v9 val_main_v8 val_main_v7 val_main_v6 val_main_v5 val_main_v4 val_main_v3 val_main_v2 val_main_v1 val_main_v0 val_main_cst val_main_cst_0 val_main_cst_1
  pointwise [norm2048]

/-- A normalised row of the second attention's output. -/
theorem ref_sb (r : Fin 512) (q : Fin 2048) : val_main_v27 (F := Ideal) x2 x4 (ix2 r q) = norm2048 x2 x4 r q := by
  unfold val_main_v27 val_main_v26 val_main_v25 val_main_v24 val_main_v23 val_main_v22 val_main_v21 val_main_v20 val_main_v19 val_main_v18 val_main_v17 val_main_v16 val_main_v15 val_main_v14 val_main_cst_2 val_main_cst_3 val_main_cst_4
  pointwise [norm2048]

/-- The two side by side. -/
theorem ref_mix : val_main_v28 (F := Ideal) x1 x2 x3 x4 = merged x1 x2 x3 x4 := by
  funext i
  obtain ⟨r, q, rfl⟩ : ∃ (r : Fin 512) (q : Fin 4096), i = ix2 r q := ⟨i 0, i 1, eq_ix2 i⟩
  unfold val_main_v28 merged
  refine (concatenate_pair_apply 1 (val_main_v13 (F := Ideal) x1 x3) (val_main_v27 (F := Ideal) x2 x4) _ (ix2 r q)).trans ?_
  by_cases h : q.val < 2048
  · rw [dif_pos (show ((ix2 r q : S512x4096.Idx) 1).val < 2048 from h)]
    refine (dif_pos (show q.val < 2048 from h)).trans ?_
    refine Eq.trans ?_ (ref_fox x1 x3 r ⟨q.val, h⟩)
    exact congrArg (val_main_v13 (F := Ideal) x1 x3) (Shape.idx_ext₂ rfl rfl)
  · rw [dif_neg (show ¬ ((ix2 r q : S512x4096.Idx) 1).val < 2048 from h)]
    refine (dif_neg (show ¬ q.val < 2048 from h)).trans ?_
    refine Eq.trans ?_ (ref_sb x2 x4 r ⟨q.val - 2048, by omega⟩)
    exact congrArg (val_main_v27 (F := Ideal) x2 x4) (Shape.idx_ext₂ rfl rfl)

/-- The output projection with its residual. -/
theorem ref_stream1 : val_main_v31 (F := Ideal) x0 x1 x2 x3 x4 x5 = resid4096 (val_main_v28 (F := Ideal) x1 x2 x3 x4) (layer x5) x0 := by
  funext i
  unfold val_main_v31 val_main_v30 val_main_v29
  generalize val_main_v28 (F := Ideal) x1 x2 x3 x4 = a
  pointwise [resid4096, layer]

/-- The normalisation before the feed-forward block. -/
theorem ref_ffnIn : val_main_v45 (F := Ideal) x0 x1 x2 x3 x4 x5 x6 = norm4096 (val_main_v31 (F := Ideal) x0 x1 x2 x3 x4 x5) x6 := by
  funext i
  obtain ⟨r, q, rfl⟩ : ∃ (r : Fin 512) (q : Fin 4096), i = ix2 r q := ⟨i 0, i 1, eq_ix2 i⟩
  unfold val_main_v45 val_main_v44 val_main_v43 val_main_v42 val_main_v41 val_main_v40 val_main_v39 val_main_v38 val_main_v37 val_main_v36 val_main_v35 val_main_v34 val_main_v33 val_main_v32 val_main_cst_5 val_main_cst_6 val_main_cst_7
  generalize val_main_v31 (F := Ideal) x0 x1 x2 x3 x4 x5 = a
  pointwise [norm4096]

/-- The gated activation. -/
theorem ref_inner : val_main_v51 (F := Ideal) x0 x1 x2 x3 x4 x5 x6 x7 x8
    = gated (val_main_v45 (F := Ideal) x0 x1 x2 x3 x4 x5 x6) (layer x7) (layer x8) := by
  funext i
  unfold val_main_v51 val_main_v50 val_main_v49 val_main_v48 val_main_call0_v5 val_main_call0_v4 val_main_call0_v3 val_main_call0_v2 val_main_call0_v1 val_main_call0_v0 val_main_v47 val_main_v46 val_main_call0_cst val_main_call0_cst_0
  generalize val_main_v45 (F := Ideal) x0 x1 x2 x3 x4 x5 x6 = a
  pointwise [gated, prod11008, layer, Ideal.logistic]

/-- The down product with its residual. -/
theorem ref_stream2 : val_main_v54 (F := Ideal) x0 x1 x2 x3 x4 x5 x6 x7 x8 x9
    = resid11008 (val_main_v51 (F := Ideal) x0 x1 x2 x3 x4 x5 x6 x7 x8) (layer x9) (val_main_v31 (F := Ideal) x0 x1 x2 x3 x4 x5) := by
  funext i
  unfold val_main_v54 val_main_v53 val_main_v52
  generalize val_main_v51 (F := Ideal) x0 x1 x2 x3 x4 x5 x6 x7 x8 = a
  generalize val_main_v31 (F := Ideal) x0 x1 x2 x3 x4 x5 = b
  pointwise [resid11008, layer]

/-- The last normalisation. -/
theorem ref_final : val_main_v67 (F := Ideal) x0 x1 x2 x3 x4 x5 x6 x7 x8 x9 x10
    = norm4096 (val_main_v54 (F := Ideal) x0 x1 x2 x3 x4 x5 x6 x7 x8 x9) (fun i => x10 (ix1 (i 1))) := by
  funext i
  obtain ⟨r, q, rfl⟩ : ∃ (r : Fin 512) (q : Fin 4096), i = ix2 r q := ⟨i 0, i 1, eq_ix2 i⟩
  unfold val_main_v67 val_main_v66 val_main_v65 val_main_v64 val_main_v63 val_main_v62 val_main_v61 val_main_v60 val_main_v59 val_main_v58 val_main_v57 val_main_v56 val_main_v55 val_main_cst_8 val_main_cst_9 val_main_cst_10
  generalize val_main_v54 (F := Ideal) x0 x1 x2 x3 x4 x5 x6 x7 x8 x9 = a
  pointwise [norm4096]

/-- The reference's result is the kernel's. -/
theorem ref_eq (m : (ℓ : Loc Cert.Kernel8Ideal.nD Cert.Kernel8Ideal.τ Cert.Kernel8Ideal.sig) → Buf (Elt Ideal) ℓ) (c : Dev Cert.Kernel8Ideal.nD) :
    val_main_v67 (F := Ideal) (arg0 m c) (arg1 m c) (arg2 m c) (arg3 m c) (arg4 m c) (arg5 m c) (arg6 m c) (arg7 m c) (arg8 m c) (arg9 m c) (arg10 m c)
      = final m c := by
  rw [ref_final, ref_stream2, ref_inner, ref_ffnIn, ref_stream1, ref_mix]
  rfl

/-- The kernel and the reference, started on equal arguments, end with equal results. -/
theorem algebraic : Cert.algebraic_Kernel8Ideal_Reference8Ideal (hKernel8Ideal := Cert.Kernel8Ideal.Gen.facts) (hReference8Ideal := Cert.Reference8Ideal.Gen.facts) := by
  intro m ρ m' ρ' _ hm
  refine ⟨final m, run m ρ, ?_⟩
  refine (θ_run _ _ _).mono (fun r h c => ⟨?_, (h c).2⟩) (Cert.Reference8Ideal.Value.run (F := Ideal) m' ρ')
  obtain ⟨e0, e1, e2, e3, e4, e5, e6, e7, e8, e9, e10⟩ := hm c
  refine (h c).1.trans ((val_main_v67_eq m' c).trans ?_)
  rw [e0, e1, e2, e3, e4, e5, e6, e7, e8, e9, e10]
  exact ref_eq m c

end Cert.TailS

end
-- ==== Proof.FoxSample.Head.lean ====
/-
  One head of forgetting attention over the 32 new rows of a sequence, as the kernel computes it on its blocks: base-2 scores against the
  1024 cached keys and the 32 new keys, a mask over the new ones, and the mixture of the values. Here the sixteen heads' stores are shown
  to be one function of the blocks.
-/
module

public import proofs.«01_k».proof.Defs
public import proofs.«01_k».proof.Proof.Gen.Kernel9Ideal.Frame
public import proofs.«01_k».proof.Proof.Gen.Kernel9Ideal.Skeleton
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.FoxSample

open Idealize.ShloMosaic Idealize.ShloMosaic.TcCoe Idealize.ShloMosaic.Tactic Idealize.SL.Sem Cert.Kernel9Ideal Cert.Kernel9Ideal.Gen
open Idealize.ShloMosaic.Pipeline (Dat Cfg Window)

/-- Two indices into three axes agree when their coordinates do. -/
theorem idx_ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

/-- Two indices into four axes agree when their coordinates do. -/
theorem idx_ext4 {n : Fin 4 → ℕ} {x y : (a : Fin 4) → Fin (n a)} (h0 : (x 0 : ℕ) = y 0) (h1 : (x 1 : ℕ) = y 1) (h2 : (x 2 : ℕ) = y 2)
    (h3 : (x 3 : ℕ) = y 3) : x = y :=
  funext fun a => Fin.ext (match a with | ⟨0, _⟩ => h0 | ⟨1, _⟩ => h1 | ⟨2, _⟩ => h2 | ⟨3, _⟩ => h3)

/-- The reciprocal of the natural logarithm of two. -/
abbrev perLog2 : EReal := (((Real.log 2)⁻¹ : ℝ) : EReal)

/-- The kernel's rounded log2 e stands for that reciprocal. -/
theorem log2e_eq : (Named.named κ "log2e" 0x3FB8AA3B#32 : Ideal .f32) = perLog2 :=
  IdealRules.named_const.ideal_named_scalar _ _ _ _ rfl

/-- The kernel's mask value stands for minus infinity. -/
theorem mask_eq : (Named.named κ "mask" 0xF149F2CA#32 : Ideal .f32) = (⊥ : EReal) :=
  IdealRules.named_const.ideal_named_scalar _ _ _ _ rfl

/-- The word of the running maximum's start is minus infinity. -/
theorem bot_word : Ideal.ofBits .f32 0xFF800000#32 = ⊥ := by
  simp [Ideal.ofBits, Ideal.ieee]

/-- The larger of the two parts' maxima: the kernel's shift. -/
def shift (s₁ : Fin 1024 → EReal) (s₂ : Fin 32 → EReal) : EReal :=
  max (Finset.univ.fold max ⊥ s₁) (Finset.univ.fold max ⊥ s₂)

/-- A row's mixture of the values from its two parts' scores. -/
def mixed (s₁ : Fin 1024 → EReal) (s₂ : Fin 32 → EReal) (v₁ : Fin 1024 → EReal) (v₂ : Fin 32 → EReal) : EReal :=
  Ideal.div ((∑ k, Ideal.exp2 (s₁ k - shift s₁ s₂) * v₁ k) + ∑ k, Ideal.exp2 (s₂ k - shift s₁ s₂) * v₂ k)
    ((∑ k, Ideal.exp2 (s₁ k - shift s₁ s₂)) + ∑ k, Ideal.exp2 (s₂ k - shift s₁ s₂))

variable (q : Vec Ideal S32x128 .bf16) (kc : Vec Ideal S1x1024x128 .f32) (cc : Vec Ideal S1x1x1024 .f32)
  (kn : Vec Ideal S32x128 .bf16) (cn : Vec Ideal S1x1x32 .f32) (vc : Vec Ideal S1x1024x128 .f32) (vn : Vec Ideal S32x128 .bf16)

/-- A head's score of row `r` against cached key `k`. -/
def cached (r : Fin 32) (k : Fin 1024) : EReal :=
  (∑ d : Fin 128, q (ix2 r d) * kc (ix3 (0 : Fin 1) k d)) - cc (ix3 (0 : Fin 1) (0 : Fin 1) k) * perLog2

/-- A head's score of row `r` against new key `k`, hidden when the key comes later than the row. -/
def fresh (r k : Fin 32) : EReal :=
  if k.val ≤ r.val then (∑ d : Fin 128, q (ix2 r d) * kn (ix2 k d)) - cn (ix3 (0 : Fin 1) (0 : Fin 1) k) * perLog2 else ⊥

/-- The scores against the cache. -/
theorem pay2_apply (r : Fin 32) (k : Fin 1024) : k0_pay2 (F := Ideal) q kc cc (ix2 r k) = cached q kc cc r k := by
  unfold k0_pay2 cached
  pointwise [log2e_eq]

/-- The scores against the new keys. -/
theorem pay3_apply (r k : Fin 32) : k0_pay3 (F := Ideal) q kn cn (ix2 r k) = fresh q kn cn r k := by
  unfold k0_pay3 fresh
  pointwise [log2e_eq, mask_eq]
  unfold Scalar.select
  have hk := k.isLt
  have hr := r.isLt
  exact if_congr (WordCmp.cmpi_sle_ofNat_eq_one_iff (by omega) (by omega)) rfl rfl

/-- The shift. -/
theorem pay4_apply (r : Fin 32) : k0_pay4 (F := Ideal) q kc cc kn cn (ix2 r (0 : Fin 1)) = shift (cached q kc cc r) (fresh q kn cn r) := by
  unfold k0_pay4 shift
  pointwise [pay2_apply, pay3_apply, multiReduction_maximumf_eq_fold, bot_word]

/-- The weights of the cached values, not yet divided. -/
theorem pay5_apply (r : Fin 32) (k : Fin 1024) :
    k0_pay5 (F := Ideal) q kc cc kn cn (ix2 r k) = Ideal.exp2 (cached q kc cc r k - shift (cached q kc cc r) (fresh q kn cn r)) := by
  unfold k0_pay5
  pointwise [pay2_apply, pay4_apply]
  rfl

/-- The weights of the new values, not yet divided. -/
theorem pay6_apply (r k : Fin 32) :
    k0_pay6 (F := Ideal) q kc cc kn cn (ix2 r k) = Ideal.exp2 (fresh q kn cn r k - shift (cached q kc cc r) (fresh q kn cn r)) := by
  unfold k0_pay6
  pointwise [pay3_apply, pay4_apply]
  rfl

/-- The cached weights' total. -/
theorem pay7_apply (r : Fin 32) :
    k0_pay7 (F := Ideal) q kc cc kn cn (ix2 r (0 : Fin 1)) = ∑ k : Fin 1024, Ideal.exp2 (cached q kc cc r k - shift (cached q kc cc r) (fresh q kn cn r)) := by
  unfold k0_pay7
  pointwise [pay5_apply]

/-- One head's result, as the body computes it from its loads. -/
def headOut : FVec Ideal S32x128 .f32 :=
  k0_pay8 (k0_pay5 q kc cc kn cn) (k0_pay6 q kc cc kn cn) (k0_pay7 q kc cc kn cn) vc vn

/-- One head's result at a row and a column. -/
theorem headOut_apply (r : Fin 32) (e : Fin 128) :
    headOut q kc cc kn cn vc vn (ix2 r e)
      = mixed (cached q kc cc r) (fresh q kn cn r) (fun k => vc (ix3 (0 : Fin 1) k e)) (fun k => vn (ix2 k e)) := by
  unfold headOut k0_pay8 mixed
  pointwise [pay5_apply, pay6_apply, pay7_apply]

/-! The heads of a block. -/

variable (x0 : Vec Ideal S32x2048 .bf16) (x1 x2 : Vec Ideal S1x16384x128 .f32) (x3 x4 : Vec Ideal S32x2048 .bf16)
  (x5 : Vec Ideal S1x16x1024 .f32) (x6 : Vec Ideal S1x16x32 .f32)

/-- Column `d` of head `h` of a row of 2048. -/
abbrev hcol (h : Fin 16) (d : Fin 128) : Fin 2048 := ⟨128 * h.val + d.val, by omega⟩

/-- The row of a cache that holds head `h` of position `k`. -/
abbrev hrow (h : Fin 16) (k : Fin 1024) : Fin 16384 := ⟨16 * k.val + h.val, by omega⟩

/-- Head `h`'s score of row `r` against cached key `k`, read off the blocks. -/
def cachedAt (h : Fin 16) (r : Fin 32) (k : Fin 1024) : EReal :=
  (∑ d : Fin 128, x0 (ix2 r (hcol h d)) * x1 (ix3 (0 : Fin 1) (hrow h k) d)) - x5 (ix3 (0 : Fin 1) h k) * perLog2

/-- Head `h`'s score of row `r` against new key `k`, read off the blocks. -/
def freshAt (h : Fin 16) (r k : Fin 32) : EReal :=
  if k.val ≤ r.val then (∑ d : Fin 128, x0 (ix2 r (hcol h d)) * x3 (ix2 k (hcol h d))) - x6 (ix3 (0 : Fin 1) h k) * perLog2 else ⊥

/-- What the body leaves at row `r`, head `h`, column `e` of its output block. -/
def headAt (h : Fin 16) (r : Fin 32) (e : Fin 128) : EReal :=
  mixed (cachedAt x0 x1 x5 h r) (freshAt x0 x3 x6 h r) (fun k => x2 (ix3 (0 : Fin 1) (hrow h k) e)) (fun k => x4 (ix2 k (hcol h e)))

/-- The output block. -/
def blockOut : S32x2048.Idx → EReal := fun y =>
  headAt x0 x1 x2 x3 x4 x5 x6 ⟨(y 1).val / 128, by have := (y 1).isLt; change (y 1).val < 2048 at this; omega⟩ (y 0)
    ⟨(y 1).val % 128, Nat.mod_lt _ (by decide)⟩

/-- Head `h`'s loads give head `h`'s columns of the output block. -/
theorem head_piece (h o : ℕ) (hh : h < 16) (ho : o = 128 * h)
    (ib : ∀ a, (![0, o] : Fin 2 → ℕ) a + S32x128.size a ≤ S32x2048.size a)
    (ik : ∀ a, S1x1024x128.size a = 0 ∨ (![0, h, 0] : Fin 3 → ℕ) a + (![1, 16, 1] : Fin 3 → ℕ) a * (S1x1024x128.size a - 1) < S1x16384x128.size a)
    (ic : ∀ a, (![0, h, 0] : Fin 3 → ℕ) a + S1x1x1024.size a ≤ S1x16x1024.size a)
    (il : ∀ a, (![0, h, 0] : Fin 3 → ℕ) a + S1x1x32.size a ≤ S1x16x32.size a) (x : S32x128.Idx) :
    headOut (View.ld x0 (Rect.unit (s := S32x2048) ![0, o] S32x128.size ib))
        (fun y => x1 ((⟨![0, h, 0], S1x1024x128.size, ![1, 16, 1], ik⟩ : LoadRect S1x16384x128).idx y))
        (View.ld x5 (Rect.unit (s := S1x16x1024) ![0, h, 0] S1x1x1024.size ic))
        (View.ld x3 (Rect.unit (s := S32x2048) ![0, o] S32x128.size ib))
        (View.ld x6 (Rect.unit (s := S1x16x32) ![0, h, 0] S1x1x32.size il))
        (fun y => x2 ((⟨![0, h, 0], S1x1024x128.size, ![1, 16, 1], ik⟩ : LoadRect S1x16384x128).idx y))
        (View.ld x4 (Rect.unit (s := S32x2048) ![0, o] S32x128.size ib)) x
      = blockOut x0 x1 x2 x3 x4 x5 x6 ((Rect.unit (s := S32x2048) ![0, o] S32x128.size ib).emb x) := by
  obtain ⟨r, e, rfl⟩ : ∃ (r : Fin 32) (e : Fin 128), x = ix2 r e := ⟨x 0, x 1, Shape.idx_ext₂ rfl rfl⟩
  have hcolumns : ∀ (z : Vec Ideal S32x2048 .bf16) (i : Fin 32) (d : Fin 128),
      View.ld z (Rect.unit (s := S32x2048) ![0, o] S32x128.size ib) (ix2 i d) = z (ix2 i (hcol ⟨h, hh⟩ d)) := fun z i d =>
    congrArg z (Shape.idx_ext₂ (by show 0 + 1 * i.val = i.val; omega) (by show o + 1 * d.val = 128 * h + d.val; omega))
  have hrows : ∀ (z : Vec Ideal S1x16384x128 .f32) (k : Fin 1024) (d : Fin 128),
      z ((⟨![0, h, 0], S1x1024x128.size, ![1, 16, 1], ik⟩ : LoadRect S1x16384x128).idx (ix3 (0 : Fin 1) k d))
        = z (ix3 (0 : Fin 1) (hrow ⟨h, hh⟩ k) d) := fun z k d =>
    congrArg z (idx_ext3 (by rfl) (by show h + 16 * k.val = 16 * k.val + h; omega) (by show 0 + 1 * d.val = d.val; omega))
  have hdecay : ∀ k : Fin 1024, View.ld x5 (Rect.unit (s := S1x16x1024) ![0, h, 0] S1x1x1024.size ic) (ix3 (0 : Fin 1) (0 : Fin 1) k)
      = x5 (ix3 (0 : Fin 1) (⟨h, hh⟩ : Fin 16) k) := fun k =>
    congrArg x5 (idx_ext3 (by rfl) (by rfl) (by show 0 + 1 * k.val = k.val; omega))
  have hdecayNew : ∀ k : Fin 32, View.ld x6 (Rect.unit (s := S1x16x32) ![0, h, 0] S1x1x32.size il) (ix3 (0 : Fin 1) (0 : Fin 1) k)
      = x6 (ix3 (0 : Fin 1) (⟨h, hh⟩ : Fin 16) k) := fun k =>
    congrArg x6 (idx_ext3 (by rfl) (by rfl) (by show 0 + 1 * k.val = k.val; omega))
  rw [headOut_apply]
  unfold blockOut
  have e0 : ((Rect.unit (s := S32x2048) ![0, o] S32x128.size ib).emb (ix2 r e)) 0 = r := Fin.ext (by show 0 + 1 * r.val = r.val; omega)
  have e1 : (((Rect.unit (s := S32x2048) ![0, o] S32x128.size ib).emb (ix2 r e)) 1).val = o + 1 * e.val := rfl
  have f1 : (⟨(((Rect.unit (s := S32x2048) ![0, o] S32x128.size ib).emb (ix2 r e)) 1).val / 128, by rw [e1]; omega⟩ : Fin 16) = ⟨h, hh⟩ :=
    Fin.ext (by show _ / 128 = h; rw [e1]; omega)
  have f2 : (⟨(((Rect.unit (s := S32x2048) ![0, o] S32x128.size ib).emb (ix2 r e)) 1).val % 128, Nat.mod_lt _ (by decide)⟩ : Fin 128) = e :=
    Fin.ext (by show _ % 128 = e.val; rw [e1]; omega)
  rw [e0, f1, f2]
  unfold headAt
  congr 1
  · funext k
    exact congrArg₂ (fun a b : EReal => a - b * perLog2) (Finset.sum_congr rfl fun d _ => congrArg₂ (fun a b : EReal => a * b) (hcolumns x0 r d) (hrows x1 k d))
      (hdecay k)
  · funext k
    exact congrArg (fun a : EReal => if k.val ≤ r.val then a else ⊥) (congrArg₂ (fun a b : EReal => a - b * perLog2)
      (Finset.sum_congr rfl fun d _ => congrArg₂ (fun a b : EReal => a * b) (hcolumns x0 r d) (hcolumns x3 k d)) (hdecayNew k))
  · funext k
    exact hrows x2 k e
  · funext k
    exact hcolumns x4 k e

variable (m : (ℓ : Loc nD τ sig) → Buf (Elt Ideal) ℓ)

/-- The blocks of a point, by the argument they come from. -/
abbrev outOf (c : Dev nD) (t : Fin cfg0.N) : S32x2048.Idx → EReal :=
  blockOut (iblk m c 0 t) (iblk m c 1 t) (iblk m c 2 t) (iblk m c 3 t) (iblk m c 4 t) (iblk m c 5 t) (iblk m c 6 t)

/-- A load of every sixteenth row, off a buffer holding a block. -/
theorem loaded (M : Memref sig .tc .vmem S1x16384x128 .f32) (hM : M.IsWhole) (X : Vec Ideal S1x16384x128 .f32) (R : LoadRect S1x16384x128) :
    View.readAt (Elt Ideal) M.view R (hM.unread X) = fun y => X (R.idx y) := by
  funext y
  rw [View.readAt_apply, hM.read_unread]

/-- What the sixteen stores leave in the output block. -/
theorem outsAt_eq (c : Dev nD) (t : Fin cfg0.N) : outsAt0 m c t = outOf m c t := by
  unfold outsAt0 out0_A_7
  funext y
  refine View.read_writes_apply_of_pieces (Val := Elt Ideal) _ _ (outOf m c t) _ ?_ y (cover0_A_7 _ _ _ _ _ _ _ _ _ _ _ _ _ _ _ _ _ _ _ _ _ _ _ _ _ y)
  have opened := head_piece (iblk m c 0 t) (iblk m c 1 t) (iblk m c 2 t) (iblk m c 3 t) (iblk m c 4 t) (iblk m c 5 t) (iblk m c 6 t)
  intro p hp x
  unfold kernelRun0_A at hp
  simp only [List.mem_cons, List.not_mem_nil, _root_.or_false] at hp
  rcases hp with rfl | rfl | rfl | rfl | rfl | rfl | rfl | rfl | rfl | rfl | rfl | rfl | rfl | rfl | rfl | rfl
  all_goals
    sl_unfold_run_names
    simp only [View.readAt_eq_ld, Memref.IsWhole.read_unread, loaded]
  · exact opened 15 1920 (by decide) (by decide) inb_S32x2048_S32x128_0_1920 inb_S1x16384x128_S1x1024x128_0_15_0_s_1_16_1 inb_S1x16x1024_S1x1x1024_0_15_0 inb_S1x16x32_S1x1x32_0_15_0 x
  · exact opened 14 1792 (by decide) (by decide) inb_S32x2048_S32x128_0_1792 inb_S1x16384x128_S1x1024x128_0_14_0_s_1_16_1 inb_S1x16x1024_S1x1x1024_0_14_0 inb_S1x16x32_S1x1x32_0_14_0 x
  · exact opened 13 1664 (by decide) (by decide) inb_S32x2048_S32x128_0_1664 inb_S1x16384x128_S1x1024x128_0_13_0_s_1_16_1 inb_S1x16x1024_S1x1x1024_0_13_0 inb_S1x16x32_S1x1x32_0_13_0 x
  · exact opened 12 1536 (by decide) (by decide) inb_S32x2048_S32x128_0_1536 inb_S1x16384x128_S1x1024x128_0_12_0_s_1_16_1 inb_S1x16x1024_S1x1x1024_0_12_0 inb_S1x16x32_S1x1x32_0_12_0 x
  · exact opened 11 1408 (by decide) (by decide) inb_S32x2048_S32x128_0_1408 inb_S1x16384x128_S1x1024x128_0_11_0_s_1_16_1 inb_S1x16x1024_S1x1x1024_0_11_0 inb_S1x16x32_S1x1x32_0_11_0 x
  · exact opened 10 1280 (by decide) (by decide) inb_S32x2048_S32x128_0_1280 inb_S1x16384x128_S1x1024x128_0_10_0_s_1_16_1 inb_S1x16x1024_S1x1x1024_0_10_0 inb_S1x16x32_S1x1x32_0_10_0 x
  · exact opened 9 1152 (by decide) (by decide) inb_S32x2048_S32x128_0_1152 inb_S1x16384x128_S1x1024x128_0_9_0_s_1_16_1 inb_S1x16x1024_S1x1x1024_0_9_0 inb_S1x16x32_S1x1x32_0_9_0 x
  · exact opened 8 1024 (by decide) (by decide) inb_S32x2048_S32x128_0_1024 inb_S1x16384x128_S1x1024x128_0_8_0_s_1_16_1 inb_S1x16x1024_S1x1x1024_0_8_0 inb_S1x16x32_S1x1x32_0_8_0 x
  · exact opened 7 896 (by decide) (by decide) inb_S32x2048_S32x128_0_896 inb_S1x16384x128_S1x1024x128_0_7_0_s_1_16_1 inb_S1x16x1024_S1x1x1024_0_7_0 inb_S1x16x32_S1x1x32_0_7_0 x
  · exact opened 6 768 (by decide) (by decide) inb_S32x2048_S32x128_0_768 inb_S1x16384x128_S1x1024x128_0_6_0_s_1_16_1 inb_S1x16x1024_S1x1x1024_0_6_0 inb_S1x16x32_S1x1x32_0_6_0 x
  · exact opened 5 640 (by decide) (by decide) inb_S32x2048_S32x128_0_640 inb_S1x16384x128_S1x1024x128_0_5_0_s_1_16_1 inb_S1x16x1024_S1x1x1024_0_5_0 inb_S1x16x32_S1x1x32_0_5_0 x
  · exact opened 4 512 (by decide) (by decide) inb_S32x2048_S32x128_0_512 inb_S1x16384x128_S1x1024x128_0_4_0_s_1_16_1 inb_S1x16x1024_S1x1x1024_0_4_0 inb_S1x16x32_S1x1x32_0_4_0 x
  · exact opened 3 384 (by decide) (by decide) inb_S32x2048_S32x128_0_384 inb_S1x16384x128_S1x1024x128_0_3_0_s_1_16_1 inb_S1x16x1024_S1x1x1024_0_3_0 inb_S1x16x32_S1x1x32_0_3_0 x
  · exact opened 2 256 (by decide) (by decide) inb_S32x2048_S32x128_0_256 inb_S1x16384x128_S1x1024x128_0_2_0_s_1_16_1 inb_S1x16x1024_S1x1x1024_0_2_0 inb_S1x16x32_S1x1x32_0_2_0 x
  · exact opened 1 128 (by decide) (by decide) inb_S32x2048_S32x128_0_128 inb_S1x16384x128_S1x1024x128_0_1_0_s_1_16_1 inb_S1x16x1024_S1x1x1024_0_1_0 inb_S1x16x32_S1x1x32_0_1_0 x
  · exact opened 0 0 (by decide) (by decide) inb_S32x2048_S32x128_0_0 inb_S1x16384x128_S1x1024x128_0_0_0_s_1_16_1 inb_S1x16x1024_S1x1x1024_0_0_0 inb_S1x16x32_S1x1x32_0_0_0 x

end Cert.FoxSample

end
end
-- ==== Proof.FoxSample.Kernel.lean ====
/-
  Forgetting attention over the new rows, read as a value. The launch walks 16 points, one sequence each; a point attends with the 32 new
  rows of its sequence to the 1024 cached positions and to the new rows themselves, for each of the 16 heads. Here the result array is
  shown to be one function of the arguments.
-/
module

public import proofs.«01_k».proof.Proof.FoxSample.Head
public import Idealize.ShloMosaic.Lib.StableHlo.ReadAt

@[expose] public section

set_option maxRecDepth 16384

noncomputable section

namespace Cert.FoxSample

open Idealize.ShloMosaic Idealize.ShloMosaic.TcCoe Idealize.SL.Sem Cert.Kernel9Ideal Cert.Kernel9Ideal.Gen
open Idealize.ShloMosaic.Pipeline (Dat Cfg Window)

variable (m : (ℓ : Loc nD τ sig) → Buf (Elt Ideal) ℓ) (ρ : Dev nD → PrngReg)

/-- The scaled queries of the new rows. -/
abbrev queries (c : Dev nD) : S512x2048.Idx → EReal := m ((c : Thread nD τ).loc main_arg0)

/-- The cached keys. -/
abbrev keyCache (c : Dev nD) : S16x1024x16x128.Idx → EReal := m ((c : Thread nD τ).loc main_arg1)

/-- The cached values. -/
abbrev valueCache (c : Dev nD) : S16x1024x16x128.Idx → EReal := m ((c : Thread nD τ).loc main_arg2)

/-- The keys of the new rows. -/
abbrev newKeys (c : Dev nD) : S512x2048.Idx → EReal := m ((c : Thread nD τ).loc main_arg3)

/-- The values of the new rows. -/
abbrev newValues (c : Dev nD) : S512x2048.Idx → EReal := m ((c : Thread nD τ).loc main_arg4)

/-- The cumulated log gates of the cached positions. -/
abbrev decayCache (c : Dev nD) : S16x16x1024.Idx → EReal := m ((c : Thread nD τ).loc main_arg5)

/-- The cumulated log gates of the new rows. -/
abbrev newDecay (c : Dev nD) : S16x16x32.Idx → EReal := m ((c : Thread nD τ).loc main_arg6)

/-- New row `r` of sequence `b`. -/
abbrev arow (b : Fin 16) (r : Fin 32) : Fin 512 := ⟨32 * b.val + r.val, by omega⟩

/-- Head `h`'s base-2 score of row `r` of sequence `b` against cached position `k`. -/
def oldScore (c : Dev nD) (b : Fin 16) (r : Fin 32) (h : Fin 16) (k : Fin 1024) : EReal :=
  (∑ d : Fin 128, queries m c (ix2 (arow b r) (hcol h d)) * keyCache m c (ix4 b k h d)) - decayCache m c (ix3 b h k) * perLog2

/-- Head `h`'s base-2 score of row `r` of sequence `b` against its new row `k`. -/
def newScore (c : Dev nD) (b : Fin 16) (r : Fin 32) (h : Fin 16) (k : Fin 32) : EReal :=
  if k.val ≤ r.val then
    (∑ d : Fin 128, queries m c (ix2 (arow b r) (hcol h d)) * newKeys m c (ix2 (arow b k) (hcol h d))) - newDecay m c (ix3 b h k) * perLog2
  else ⊥

/-- Head `h`'s result for row `r` of sequence `b`, at column `e`. -/
def attend (c : Dev nD) (b : Fin 16) (r : Fin 32) (h : Fin 16) (e : Fin 128) : EReal :=
  mixed (oldScore m c b r h) (newScore m c b r h) (fun k => valueCache m c (ix4 b k h e)) (fun k => newValues m c (ix2 (arow b k) (hcol h e)))

/-- The result array. -/
def attended (c : Dev nD) : S512x2048.Idx → EReal := fun i =>
  attend m c ⟨(i 0).val / 32, by have := (i 0).isLt; change (i 0).val < 512 at this; omega⟩ ⟨(i 0).val % 32, Nat.mod_lt _ (by decide)⟩
    ⟨(i 1).val / 128, by have := (i 1).isLt; change (i 1).val < 2048 at this; omega⟩ ⟨(i 1).val % 128, Nat.mod_lt _ (by decide)⟩

/-! What the launch finds in the arrays prepared for it. -/

/-- The key cache with its heads and positions on one axis. -/
theorem found_keys (c : Dev nD) (b : Fin 16) (h : Fin 16) (k : Fin 1024) (d : Fin 128) :
    V m c main_v0 (ix3 b (hrow h k) d) = keyCache m c (ix4 b k h d) := by
  unfold V
  after_reads_at
  have hh : h.val < 16 := h.isLt
  exact congrArg (keyCache m c) (idx_ext4 rfl (by show (16 * k.val + h.val) / 16 = k.val; omega) (by show (16 * k.val + h.val) % 16 = h.val; omega) rfl)

/-- The value cache with its heads and positions on one axis. -/
theorem found_values (c : Dev nD) (b : Fin 16) (h : Fin 16) (k : Fin 1024) (d : Fin 128) :
    V m c main_v1 (ix3 b (hrow h k) d) = valueCache m c (ix4 b k h d) := by
  unfold V
  after_reads_at
  have hh : h.val < 16 := h.isLt
  exact congrArg (valueCache m c) (idx_ext4 rfl (by show (16 * k.val + h.val) / 16 = k.val; omega) (by show (16 * k.val + h.val) % 16 = h.val; omega) rfl)

/-- Where each window's block lies at point `t`. -/
theorem places : ∀ t : Fin cfg0.N,
    (win0_0.index t 0 = t.val ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0)
    ∧ (win0_4.index t 0 = t.val ∧ win0_4.index t 1 = 0)
    ∧ (win0_5.index t 0 = t.val ∧ win0_5.index t 1 = 0 ∧ win0_5.index t 2 = 0)
    ∧ (win0_6.index t 0 = t.val ∧ win0_6.index t 1 = 0 ∧ win0_6.index t 2 = 0)
    ∧ (win0_7.index t 0 = t.val ∧ win0_7.index t 1 = 0) :=
  (by decide +kernel : ∀ t : Fin grid0.N, _)

/-- The number of points. -/
theorem lt_points (t : Fin cfg0.N) : t.val < 16 := t.isLt

/-- The sequence of a point. -/
abbrev seq (t : Fin cfg0.N) : Fin 16 := ⟨t.val, lt_points t⟩

/-- The queries' block at point `t`: the rows of sequence `t`. -/
theorem blk_queries (c : Dev nD) (t : Fin cfg0.N) (r : Fin 32) (k : Fin 2048) : iblk m c 0 t (ix2 r k) = queries m c (ix2 (arow (seq t) r) k) := by
  have hp := (places t).1
  unfold iblk
  rw [View.read_apply]
  show V m c main_arg0 _ = _
  rw [V_main_arg0]
  refine congrArg (queries m c) (Shape.idx_ext₂ ?_ ?_)
  · refine (win0_0.rect_emb_val t (ix2 r k) 0).trans ?_
    rw [hp.1]
    show t.val * 32 + r.val = 32 * t.val + r.val
    omega
  · exact win0_0.rect_emb_val_of_index_zero t 1 hp.2 (ix2 r k)

/-- The new keys' block. -/
theorem blk_newKeys (c : Dev nD) (t : Fin cfg0.N) (r : Fin 32) (k : Fin 2048) : iblk m c 3 t (ix2 r k) = newKeys m c (ix2 (arow (seq t) r) k) := by
  have hp := (places t).2.2.2.1
  unfold iblk
  rw [View.read_apply]
  show V m c main_arg3 _ = _
  rw [V_main_arg3]
  refine congrArg (newKeys m c) (Shape.idx_ext₂ ?_ ?_)
  · refine (win0_3.rect_emb_val t (ix2 r k) 0).trans ?_
    rw [hp.1]
    show t.val * 32 + r.val = 32 * t.val + r.val
    omega
  · exact win0_3.rect_emb_val_of_index_zero t 1 hp.2 (ix2 r k)

/-- The new values' block. -/
theorem blk_newValues (c : Dev nD) (t : Fin cfg0.N) (r : Fin 32) (k : Fin 2048) : iblk m c 4 t (ix2 r k) = newValues m c (ix2 (arow (seq t) r) k) := by
  have hp := (places t).2.2.2.2.1
  unfold iblk
  rw [View.read_apply]
  show V m c main_arg4 _ = _
  rw [V_main_arg4]
  refine congrArg (newValues m c) (Shape.idx_ext₂ ?_ ?_)
  · refine (win0_4.rect_emb_val t (ix2 r k) 0).trans ?_
    rw [hp.1]
    show t.val * 32 + r.val = 32 * t.val + r.val
    omega
  · exact win0_4.rect_emb_val_of_index_zero t 1 hp.2 (ix2 r k)

/-- The key cache's block: the whole cache of sequence `t`. -/
theorem blk_keys (c : Dev nD) (t : Fin cfg0.N) (p : Fin 16384) (d : Fin 128) : iblk m c 1 t (ix3 (0 : Fin 1) p d) = V m c main_v0 (ix3 (seq t) p d) := by
  have hp := (places t).2.1
  unfold iblk
  rw [View.read_apply]
  show V m c main_v0 _ = _
  refine congrArg (V m c main_v0) (idx_ext3 ?_ ?_ ?_)
  · refine (win0_1.rect_emb_val t (ix3 (0 : Fin 1) p d) 0).trans ?_
    rw [hp.1]
    show t.val * 1 + 0 = t.val
    omega
  · exact win0_1.rect_emb_val_of_index_zero t 1 hp.2.1 (ix3 (0 : Fin 1) p d)
  · exact win0_1.rect_emb_val_of_index_zero t 2 hp.2.2 (ix3 (0 : Fin 1) p d)

/-- The value cache's block. -/
theorem blk_values (c : Dev nD) (t : Fin cfg0.N) (p : Fin 16384) (d : Fin 128) : iblk m c 2 t (ix3 (0 : Fin 1) p d) = V m c main_v1 (ix3 (seq t) p d) := by
  have hp := (places t).2.2.1
  unfold iblk
  rw [View.read_apply]
  show V m c main_v1 _ = _
  refine congrArg (V m c main_v1) (idx_ext3 ?_ ?_ ?_)
  · refine (win0_2.rect_emb_val t (ix3 (0 : Fin 1) p d) 0).trans ?_
    rw [hp.1]
    show t.val * 1 + 0 = t.val
    omega
  · exact win0_2.rect_emb_val_of_index_zero t 1 hp.2.1 (ix3 (0 : Fin 1) p d)
  · exact win0_2.rect_emb_val_of_index_zero t 2 hp.2.2 (ix3 (0 : Fin 1) p d)

/-- The cached gates' block. -/
theorem blk_decay (c : Dev nD) (t : Fin cfg0.N) (p : Fin 16) (d : Fin 1024) : iblk m c 5 t (ix3 (0 : Fin 1) p d) = decayCache m c (ix3 (seq t) p d) := by
  have hp := (places t).2.2.2.2.2.1
  unfold iblk
  rw [View.read_apply]
  show V m c main_arg5 _ = _
  rw [V_main_arg5]
  refine congrArg (decayCache m c) (idx_ext3 ?_ ?_ ?_)
  · refine (win0_5.rect_emb_val t (ix3 (0 : Fin 1) p d) 0).trans ?_
    rw [hp.1]
    show t.val * 1 + 0 = t.val
    omega
  · exact win0_5.rect_emb_val_of_index_zero t 1 hp.2.1 (ix3 (0 : Fin 1) p d)
  · exact win0_5.rect_emb_val_of_index_zero t 2 hp.2.2 (ix3 (0 : Fin 1) p d)

/-- The new gates' block. -/
theorem blk_newDecay (c : Dev nD) (t : Fin cfg0.N) (p : Fin 16) (d : Fin 32) : iblk m c 6 t (ix3 (0 : Fin 1) p d) = newDecay m c (ix3 (seq t) p d) := by
  have hp := (places t).2.2.2.2.2.2.1
  unfold iblk
  rw [View.read_apply]
  show V m c main_arg6 _ = _
  rw [V_main_arg6]
  refine congrArg (newDecay m c) (idx_ext3 ?_ ?_ ?_)
  · refine (win0_6.rect_emb_val t (ix3 (0 : Fin 1) p d) 0).trans ?_
    rw [hp.1]
    show t.val * 1 + 0 = t.val
    omega
  · exact win0_6.rect_emb_val_of_index_zero t 1 hp.2.1 (ix3 (0 : Fin 1) p d)
  · exact win0_6.rect_emb_val_of_index_zero t 2 hp.2.2 (ix3 (0 : Fin 1) p d)

/-- What point `t` leaves in its block is its block of the result. -/
theorem head_value (c : Dev nD) (t : Fin cfg0.N) (h : Fin 16) (r : Fin 32) (e : Fin 128) :
    headAt (iblk m c 0 t) (iblk m c 1 t) (iblk m c 2 t) (iblk m c 3 t) (iblk m c 4 t) (iblk m c 5 t) (iblk m c 6 t) h r e
      = attend m c (seq t) r h e := by
  unfold headAt attend
  congr 1
  · funext k
    unfold cachedAt oldScore
    rw [blk_decay]
    exact congrArg (fun a : EReal => a - _) (Finset.sum_congr rfl fun d _ =>
      congrArg₂ (fun a b : EReal => a * b) (blk_queries m c t r (hcol h d)) ((blk_keys m c t (hrow h k) d).trans (found_keys m c (seq t) h k d)))
  · funext k
    unfold freshAt newScore
    rw [blk_newDecay]
    exact congrArg (fun a : EReal => if k.val ≤ r.val then a - _ else ⊥) (Finset.sum_congr rfl fun d _ =>
      congrArg₂ (fun a b : EReal => a * b) (blk_queries m c t r (hcol h d)) (blk_newKeys m c t k (hcol h d)))
  · funext k
    exact (blk_values m c t (hrow h k) e).trans (found_values m c (seq t) h k e)
  · funext k
    exact blk_newValues m c t k (hcol h e)

/-- What point `t` writes back is its block of the result. -/
theorem flushed_attended (c : Dev nD) (t : Fin cfg0.N) :
    (dats m 0 c).flushed 7 t = ((cfg0.win 7).blk t).view.read (Elt Ideal) (attended m c) := by
  have hp := (places t).2.2.2.2.2.2.2
  have ht := lt_points t
  show (cfg0.win 7).cut (grid0.coords t) ((dats m 0 c).after 7 t) = _
  rw [after0_7, outsAt_eq]
  funext y
  rw [View.read_apply]
  have h0 : (y 0).val < 32 := (y 0).isLt
  have h1 : (y 1).val < 2048 := (y 1).isLt
  have e : ((cfg0.win 7).blk t).view.emb y = ix2 (arow (seq t) (y 0)) (y 1) :=
    Shape.idx_ext₂
      ((win0_7.rect_emb_val t y 0).trans (by rw [hp.1]; show t.val * 32 + (y 0).val = 32 * t.val + (y 0).val; omega))
      (win0_7.rect_emb_val_of_index_zero t 1 hp.2 y)
  show outOf m c t y = attended m c _
  rw [e]
  refine (head_value m c t _ _ _).trans ?_
  unfold attended
  congr 1
  · exact Fin.ext (by show t.val = (32 * t.val + (y 0).val) / 32; omega)
  · exact Fin.ext (by show (y 0).val = (32 * t.val + (y 0).val) % 32; omega)

/-- Its blocks tile the array, so it ends at the result. -/
theorem final_attended (c : Dev nD) : (dats m 0 c).arrAt 7 cfg0.N = attended m c :=
  (dats m 0 c).arrAt_eq_of_cover 7 (attended m c) (fun t _ => flushed_attended m c t) fun i => by
    have h0 : (i 0).val < 512 := (i 0).isLt
    have h1 : (i 1).val < 2048 := (i 1).isLt
    let t : Fin cfg0.N := ⟨(i 0).val / 32, by show _ < 16; omega⟩
    have hp := (places t).2.2.2.2.2.2.2
    refine ⟨t, flush0_7 t, ?_⟩
    show i ∈ ((View.whole main_v2).slice (win0_7.rect t)).set
    rw [View.set_slice_whole, Rect.mem_set_unit]
    intro a
    match a with
    | ⟨0, _⟩ =>
      show win0_7.index t 0 * 32 ≤ (i 0).val ∧ (i 0).val < win0_7.index t 0 * 32 + 32
      rw [hp.1]; dsimp only [t]; omega
    | ⟨1, _⟩ =>
      show win0_7.index t 1 * 2048 ≤ (i 1).val ∧ (i 1).val < win0_7.index t 1 * 2048 + 2048
      rw [hp.2]; omega

/-- The run: the result is the function above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v2) = attended m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)) :=
  (θ_run defs _ _).mono (fun r h c => by
    obtain ⟨⟨ha, -⟩, h1⟩ := h
    exact ⟨((h1 c).1 7).trans (final_attended m c), ha c⟩)
    (θ_run_and (Gen.frame m ρ) (run_main m ρ))

end Cert.FoxSample

end
-- ==== Proof.FoxSample.Finite.lean ====
/-
  What the precondition says: the queries, the keys and the cumulated log gates are real numbers. The result is the same without the
  gates only when they are finite: the kernel leaves out the gate of the row, which the reference adds to every score of the row.
-/
module

public import proofs.«01_k».proof.Proof.FoxSample.Kernel
public import Idealize.ShloMosaic.Lib.ReduceAll
public import Idealize.ShloMosaic.Lib.Affine

@[expose] public section

set_option maxRecDepth 16384

noncomputable section

namespace Cert.FoxSample

open Idealize.ShloMosaic Idealize.ShloMosaic.TcCoe Idealize.SL.Sem

/-- An extended real whose size is below plus infinity is a real. -/
theorem real_of_size_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable (m : (ℓ : Loc Cert.Kernel9Ideal.nD Cert.Kernel9Ideal.τ Cert.Kernel9Ideal.sig) → Buf (Elt Ideal) ℓ)

/-- The arguments that enter a score are real. -/
def Real9 (c : Dev Cert.Kernel9Ideal.nD) : Prop :=
  (∀ i, ∃ r : ℝ, queries m c i = (r : EReal)) ∧ (∀ i, ∃ r : ℝ, keyCache m c i = (r : EReal)) ∧ (∀ i, ∃ r : ℝ, newKeys m c i = (r : EReal))
    ∧ (∀ i, ∃ r : ℝ, decayCache m c i = (r : EReal)) ∧ (∀ i, ∃ r : ℝ, newDecay m c i = (r : EReal))

/-- The scalar has one index. -/
instance : Subsingleton Cert.Pre_finite.S_.Idx := ⟨fun a b => funext fun i => i.elim0⟩

/-- The precondition makes them so. -/
theorem real_of_finite (hPre_finite : Cert.Pre_finite.Facts) (h : Cert.Pre_Kernel9Ideal_finite m) (c : Dev Cert.Kernel9Ideal.nD) : Real9 m c := by
  have h0 := congrFun (h c) (fun a => a.elim0)
  unfold Cert.Pre_finite.fn Cert.Pre_finite.fn_part1 at h0
  obtain ⟨h1, e5⟩ := IntOp.andi_eq_one.mp h0
  obtain ⟨h2, e4⟩ := IntOp.andi_eq_one.mp h1
  obtain ⟨h3, e3⟩ := IntOp.andi_eq_one.mp h2
  obtain ⟨e1, e2⟩ := IntOp.andi_eq_one.mp h3
  exact ⟨fun i => real_of_size_lt _ (Host.reduce_andi_all _ _ _ _ _ e1 i), fun i => real_of_size_lt _ (Host.reduce_andi_all _ _ _ _ _ e2 i),
    fun i => real_of_size_lt _ (Host.reduce_andi_all _ _ _ _ _ e3 i), fun i => real_of_size_lt _ (Host.reduce_andi_all _ _ _ _ _ e4 i),
    fun i => real_of_size_lt _ (Host.reduce_andi_all _ _ _ _ _ e5 i)⟩

end Cert.FoxSample

end
-- ==== Proof.FoxSample.Softmax.lean ====
/-
  The mathematics of a row of forgetting attention. The kernel raises two to its scores less a real shift, in two parts, and divides the
  mixture of the values by the total at the end; the reference raises e to the scores less another real shift over the joined axis and
  divides each weight before mixing. A score here is a real number, or minus infinity where the mask hides it; the values may be anything.
-/
module

public import Idealize.ShloMosaic.PureOps.Ideal.Laws
public import Idealize.ShloMosaic.Lib.Pointwise
public import Mathlib.Analysis.SpecialFunctions.Pow.Real

@[expose] public section

noncomputable section

namespace Cert.FoxSample

open Idealize.ShloMosaic

/-- A nonnegative real factor goes into a finite sum of extended reals. -/
theorem sum_mul_real {n : ℕ} (f : Fin n → EReal) (r : ℝ) (hr : 0 ≤ r) : (∑ j, f j) * (r : EReal) = ∑ j, f j * (r : EReal) := by
  have key : ∀ s : Finset (Fin n), (∑ j ∈ s, f j) * (r : EReal) = ∑ j ∈ s, f j * (r : EReal) := by
    intro s
    induction s using Finset.induction_on with
    | empty => simp
    | insert a s ha ih =>
      rw [Finset.sum_insert ha, Finset.sum_insert ha,
        EReal.right_distrib_of_nonneg_of_ne_top (EReal.coe_nonneg.mpr hr) (EReal.coe_ne_top r), ih]
  exact key Finset.univ

/-- The real sum and the extended sum of real terms agree. -/
theorem coe_sum {n : ℕ} (f : Fin n → ℝ) : (∑ j, (f j : EReal)) = ((∑ j, f j : ℝ) : EReal) := by
  have key : ∀ s : Finset (Fin n), (∑ j ∈ s, (f j : EReal)) = ((∑ j ∈ s, f j : ℝ) : EReal) := by
    intro s
    induction s using Finset.induction_on with
    | empty => simp
    | insert a s ha ih => rw [Finset.sum_insert ha, Finset.sum_insert ha, ih, EReal.coe_add]
  exact key Finset.univ

/-- Mixing values by weights and dividing by the weights' total is mixing them by the divided weights, and only the proportions of the
weights matter. -/
theorem mix_eq {n : ℕ} (w w' : Fin n → ℝ) (c : ℝ) (v : Fin n → EReal) (hw : ∀ j, 0 ≤ w j) (hW : 0 < ∑ j, w j) (hc : 0 < c)
    (h : ∀ j, w' j = c * w j) :
    Ideal.div (∑ j, (w j : EReal) * v j) (∑ j, (w j : EReal)) = ∑ j, v j * Ideal.div (w' j : EReal) (0 + ∑ j, (w' j : EReal)) := by
  have hW' : ∑ j, w' j = c * ∑ j, w j := by rw [Finset.mul_sum]; exact Finset.sum_congr rfl fun j _ => h j
  have hp : 0 < ∑ j, w' j := hW' ▸ mul_pos hc hW
  rw [zero_add, coe_sum, coe_sum, Ideal.div_coe hW.ne', sum_mul_real _ _ (by positivity)]
  refine Finset.sum_congr rfl fun j _ => ?_
  rw [Ideal.div_coe hp.ne', mul_comm (w j : EReal), mul_assoc, ← EReal.coe_mul, ← EReal.coe_mul, hW', h j]
  congr 2
  field_simp

/-- The two softmaxes mix the same values to the same result, whatever the two real shifts. -/
theorem softmax_mix {n : ℕ} (s x v : Fin n → EReal) (μ M d : ℝ)
    (hs : ∀ j, (s j = ⊥ ∧ x j = ⊥) ∨ ∃ a : ℝ, s j = (a : EReal) ∧ x j = ((a * Real.log 2 + d : ℝ) : EReal)) (h0 : ∃ j, s j ≠ ⊥) :
    Ideal.div (∑ j, Ideal.exp2 (s j - (μ : EReal)) * v j) (∑ j, Ideal.exp2 (s j - (μ : EReal)))
      = ∑ j, v j * Ideal.div (Ideal.exp (x j - (M : EReal))) (0 + ∑ j, Ideal.exp (x j - (M : EReal))) := by
  have key : ∀ j, ∃ w : ℝ, 0 ≤ w ∧ (s j ≠ ⊥ → 0 < w) ∧ Ideal.exp2 (s j - (μ : EReal)) = (w : EReal)
      ∧ Ideal.exp (x j - (M : EReal)) = ((Real.exp (μ * Real.log 2 + d - M) * w : ℝ) : EReal) := by
    intro j
    rcases hs j with ⟨h1, h2⟩ | ⟨a, h1, h2⟩
    · refine ⟨0, le_refl _, fun h => absurd h1 h, ?_, ?_⟩
      · rw [h1, EReal.bot_sub, Ideal.exp2_bot, EReal.coe_zero]
      · rw [h2, EReal.bot_sub, Ideal.exp_bot, mul_zero, EReal.coe_zero]
    · refine ⟨(2 : ℝ) ^ (a - μ), by positivity, fun _ => by positivity, ?_, ?_⟩
      · rw [h1, ← EReal.coe_sub, Ideal.exp2_coe]; rfl
      · rw [h2, ← EReal.coe_sub, Ideal.exp_coe, Real.rpow_def_of_pos (by norm_num), ← Real.exp_add]
        congr 2; ring
  choose w hw hpos h1 h2 using key
  simp only [h1, h2]
  refine mix_eq w _ _ v hw ?_ (Real.exp_pos _) fun j => rfl
  obtain ⟨j, hj⟩ := h0
  exact Finset.sum_pos' (fun j _ => hw j) ⟨j, Finset.mem_univ j, hpos j hj⟩

/-- The largest of finitely many scores, none of them plus infinity and one of them real, is real. -/
theorem fold_max_real {n : ℕ} (s : Fin n → EReal) (hn : ∀ j, s j ≠ ⊤) (h0 : ∃ j, s j ≠ ⊥) :
    ∃ r : ℝ, Finset.univ.fold max (⊥ : EReal) s = (r : EReal) := by
  have ht : ∀ S : Finset (Fin n), S.fold max (⊥ : EReal) s ≠ ⊤ := by
    intro S
    induction S using Finset.induction_on with
    | empty => simp
    | insert a S ha ih =>
      rw [Finset.fold_insert ha]
      rcases max_choice (s a) (S.fold max ⊥ s) with h | h <;> rw [h]
      · exact hn a
      · exact ih
  have hb : Finset.univ.fold max (⊥ : EReal) s ≠ ⊥ := by
    obtain ⟨j, hj⟩ := h0
    have hle : s j ≤ Finset.univ.fold max (⊥ : EReal) s := (Finset.le_fold_max (s j)).mpr (Or.inr ⟨j, Finset.mem_univ j, le_refl _⟩)
    intro h
    rw [h, le_bot_iff] at hle
    exact hj hle
  exact ⟨_, (EReal.coe_toReal (ht _) hb).symm⟩

/-- A largest score below plus infinity, whatever the scores. -/
theorem fold_max_ne_top {n : ℕ} (s : Fin n → EReal) (hn : ∀ j, s j ≠ ⊤) : Finset.univ.fold max (⊥ : EReal) s ≠ ⊤ := by
  have ht : ∀ S : Finset (Fin n), S.fold max (⊥ : EReal) s ≠ ⊤ := by
    intro S
    induction S using Finset.induction_on with
    | empty => simp
    | insert a S ha ih =>
      rw [Finset.fold_insert ha]
      rcases max_choice (s a) (S.fold max ⊥ s) with h | h <;> rw [h]
      · exact hn a
      · exact ih
  exact ht _

/-- The larger of a real and something below plus infinity is real. -/
theorem max_real (a : ℝ) (b : EReal) (hb : b ≠ ⊤) : ∃ r : ℝ, max (a : EReal) b = (r : EReal) := by
  rcases max_choice (a : EReal) b with h | h
  · exact ⟨a, h⟩
  · refine ⟨_, h.trans (EReal.coe_toReal hb ?_).symm⟩
    intro hbot
    rw [hbot, max_eq_left bot_le] at h
    exact EReal.coe_ne_bot a h

/-- A finite sum of products of reals is real. -/
theorem dot_real {n : ℕ} (f g : Fin n → EReal) (hf : ∀ j, ∃ r : ℝ, f j = (r : EReal)) (hg : ∀ j, ∃ r : ℝ, g j = (r : EReal)) :
    ∃ r : ℝ, ∑ j, f j * g j = (r : EReal) := by
  choose a ha using hf
  choose b hb using hg
  refine ⟨∑ j, a j * b j, ?_⟩
  rw [← coe_sum]
  exact Finset.sum_congr rfl fun j _ => by rw [ha, hb, EReal.coe_mul]

end Cert.FoxSample

end
end
-- ==== Proof.FoxSample.Ref.lean ====
/-
  The reference of forgetting attention read at an index, and the value claim. The reference joins the cache and the new rows, scores a row
  against all 1056 positions, hides the later ones, takes the softmax and mixes the values. On real queries, keys and gates its softmax is
  the kernel's: the two differ by the base of the power, by the row's own gate and by the shift, none of which changes the proportions.
-/
module

public import proofs.«01_k».proof.Proof.FoxSample.Finite
public import proofs.«01_k».proof.Proof.FoxSample.Softmax
public import proofs.«01_k».proof.Proof.Gen.Reference9Ideal.Read
public import Idealize.ShloMosaic.Lib.Pointwise
public import Idealize.ShloMosaic.Lib.Quiescent

@[expose] public section

set_option maxRecDepth 16384

noncomputable section

namespace Cert.FoxSample

open Idealize.ShloMosaic Idealize.ShloMosaic.TcCoe Idealize.SL.Sem
open Cert.Reference9Ideal.Read

variable (m : (ℓ : Loc Cert.Kernel9Ideal.nD Cert.Kernel9Ideal.τ Cert.Kernel9Ideal.sig) → Buf (Elt Ideal) ℓ) (c : Dev Cert.Kernel9Ideal.nD)

/-- A cached position among the joined ones. -/
abbrev old (k : Fin 1024) : Fin 1056 := Fin.castAdd 32 k

/-- A new position among the joined ones. -/
abbrev new (k : Fin 32) : Fin 1056 := Fin.natAdd 1024 k

/-- The reference's queries by head. -/
theorem ref_queries (b : Fin 16) (r : Fin 32) (h : Fin 16) (d : Fin 128) :
    val_main_v1 (F := Ideal) (queries m c) (ix4 b r h d) = queries m c (ix2 (arow b r) (hcol h d)) := by
  rw [val_main_v1_apply, val_main_v0_apply]
  refine congrArg (queries m c) (Shape.idx_ext₂ ?_ ?_)
  · show (((b.val * 32 + r.val) * 16 + h.val) * 128 + d.val) / 2048 = 32 * b.val + r.val
    omega
  · show (((b.val * 32 + r.val) * 16 + h.val) * 128 + d.val) % 2048 = 128 * h.val + d.val
    omega

/-- The reference's new keys by head. -/
theorem ref_newKeys (b : Fin 16) (r : Fin 32) (h : Fin 16) (d : Fin 128) :
    val_main_v3 (F := Ideal) (newKeys m c) (ix4 b r h d) = newKeys m c (ix2 (arow b r) (hcol h d)) := by
  rw [val_main_v3_apply, val_main_v2_apply]
  refine congrArg (newKeys m c) (Shape.idx_ext₂ ?_ ?_)
  · show (((b.val * 32 + r.val) * 16 + h.val) * 128 + d.val) / 2048 = 32 * b.val + r.val
    omega
  · show (((b.val * 32 + r.val) * 16 + h.val) * 128 + d.val) % 2048 = 128 * h.val + d.val
    omega

/-- The reference's new values by head. -/
theorem ref_newValues (b : Fin 16) (r : Fin 32) (h : Fin 16) (d : Fin 128) :
    val_main_v5 (F := Ideal) (newValues m c) (ix4 b r h d) = newValues m c (ix2 (arow b r) (hcol h d)) := by
  rw [val_main_v5_apply, val_main_v4_apply]
  refine congrArg (newValues m c) (Shape.idx_ext₂ ?_ ?_)
  · show (((b.val * 32 + r.val) * 16 + h.val) * 128 + d.val) / 2048 = 32 * b.val + r.val
    omega
  · show (((b.val * 32 + r.val) * 16 + h.val) * 128 + d.val) % 2048 = 128 * h.val + d.val
    omega

/-- The joined keys at a cached position. -/
theorem keys_old (b : Fin 16) (k : Fin 1024) (h : Fin 16) (d : Fin 128) :
    val_main_v6 (F := Ideal) (keyCache m c) (newKeys m c) (ix4 b (old k) h d) = keyCache m c (ix4 b k h d) := by
  unfold val_main_v6
  exact concatenate_pair_apply_left (t := Cert.Reference9Ideal.S16x1056x16x128) (s₁ := Cert.Reference9Ideal.S16x1024x16x128) (s₂ := Cert.Reference9Ideal.S16x32x16x128) 1 _ _ _ _ rfl (ix4 b k h d) (fun a => match a with | ⟨0, _⟩ => rfl | ⟨1, _⟩ => rfl | ⟨2, _⟩ => rfl | ⟨3, _⟩ => rfl)

/-- The joined keys at a new position. -/
theorem keys_new (b : Fin 16) (k : Fin 32) (h : Fin 16) (d : Fin 128) :
    val_main_v6 (F := Ideal) (keyCache m c) (newKeys m c) (ix4 b (new k) h d) = newKeys m c (ix2 (arow b k) (hcol h d)) := by
  unfold val_main_v6
  refine (concatenate_pair_apply_right (t := Cert.Reference9Ideal.S16x1056x16x128) (s₁ := Cert.Reference9Ideal.S16x1024x16x128) (s₂ := Cert.Reference9Ideal.S16x32x16x128) 1 _ _ _ _ rfl rfl (ix4 b k h d) ?_ ?_).trans (ref_newKeys m c b k h d)
  · exact (fun a ha => match a with | ⟨0, _⟩ => rfl | ⟨1, _⟩ => absurd rfl ha | ⟨2, _⟩ => rfl | ⟨3, _⟩ => rfl)
  · show k.val + 1024 = 1024 + k.val
    omega

/-- The joined values at a cached position. -/
theorem values_old (b : Fin 16) (k : Fin 1024) (h : Fin 16) (d : Fin 128) :
    val_main_v7 (F := Ideal) (valueCache m c) (newValues m c) (ix4 b (old k) h d) = valueCache m c (ix4 b k h d) := by
  unfold val_main_v7
  exact concatenate_pair_apply_left (t := Cert.Reference9Ideal.S16x1056x16x128) (s₁ := Cert.Reference9Ideal.S16x1024x16x128) (s₂ := Cert.Reference9Ideal.S16x32x16x128) 1 _ _ _ _ rfl (ix4 b k h d) (fun a => match a with | ⟨0, _⟩ => rfl | ⟨1, _⟩ => rfl | ⟨2, _⟩ => rfl | ⟨3, _⟩ => rfl)

/-- The joined values at a new position. -/
theorem values_new (b : Fin 16) (k : Fin 32) (h : Fin 16) (d : Fin 128) :
    val_main_v7 (F := Ideal) (valueCache m c) (newValues m c) (ix4 b (new k) h d) = newValues m c (ix2 (arow b k) (hcol h d)) := by
  unfold val_main_v7
  refine (concatenate_pair_apply_right (t := Cert.Reference9Ideal.S16x1056x16x128) (s₁ := Cert.Reference9Ideal.S16x1024x16x128) (s₂ := Cert.Reference9Ideal.S16x32x16x128) 1 _ _ _ _ rfl rfl (ix4 b k h d) ?_ ?_).trans (ref_newValues m c b k h d)
  · exact (fun a ha => match a with | ⟨0, _⟩ => rfl | ⟨1, _⟩ => absurd rfl ha | ⟨2, _⟩ => rfl | ⟨3, _⟩ => rfl)
  · show k.val + 1024 = 1024 + k.val
    omega

/-- The joined gates at a cached position. -/
theorem decay_old (b h : Fin 16) (k : Fin 1024) :
    val_main_v8 (F := Ideal) (decayCache m c) (newDecay m c) (ix3 b h (old k)) = decayCache m c (ix3 b h k) := by
  unfold val_main_v8
  exact concatenate_pair_apply_left (t := Cert.Reference9Ideal.S16x16x1056) (s₁ := Cert.Reference9Ideal.S16x16x1024) (s₂ := Cert.Reference9Ideal.S16x16x32) 2 _ _ _ _ rfl (ix3 b h k) (fun a => match a with | ⟨0, _⟩ => rfl | ⟨1, _⟩ => rfl | ⟨2, _⟩ => rfl)

/-- The joined gates at a new position. -/
theorem decay_new (b h : Fin 16) (k : Fin 32) :
    val_main_v8 (F := Ideal) (decayCache m c) (newDecay m c) (ix3 b h (new k)) = newDecay m c (ix3 b h k) := by
  unfold val_main_v8
  refine concatenate_pair_apply_right (t := Cert.Reference9Ideal.S16x16x1056) (s₁ := Cert.Reference9Ideal.S16x16x1024) (s₂ := Cert.Reference9Ideal.S16x16x32) 2 _ _ _ _ rfl rfl (ix3 b h k) ?_ ?_
  · exact (fun a ha => match a with | ⟨0, _⟩ => rfl | ⟨1, _⟩ => rfl | ⟨2, _⟩ => absurd rfl ha)
  · show k.val + 1024 = 1024 + k.val
    omega

/-- The reference's factor on the scaled queries' products: the natural logarithm of two. -/
theorem log_two (i : Cert.Reference9Ideal.S16x16x32x1056.Idx) : val_main_v11 (F := Ideal) i = ((Real.log 2 : ℝ) : EReal) := by
  rw [val_main_v11_apply, val_main_v10_apply, val_main_cst_apply]
  show Ideal.log (Ideal.ofBits .f32 0x40000000#32) = _
  have h : Ideal.ofBits .f32 0x40000000#32 = ((2 : ℝ) : EReal) := by
    simp [Ideal.ofBits, Ideal.ieee]
    rw [← EReal.coe_mul]
    norm_num
  rw [h, Ideal.log_coe]
  norm_num

/-- The reference's scores. -/
abbrev refScore : Cert.Reference9Ideal.S16x16x32x1056.Idx → EReal :=
  val_main_v28 (F := Ideal) (queries m c) (keyCache m c) (newKeys m c) (decayCache m c) (newDecay m c)

/-- A score before the mask. -/
theorem ref_unmasked (b h : Fin 16) (r : Fin 32) (j : Fin 1056) :
    val_main_v18 (F := Ideal) (queries m c) (keyCache m c) (newKeys m c) (decayCache m c) (newDecay m c) (ix4 b h r j)
      = (∑ d : Fin 128, queries m c (ix2 (arow b r) (hcol h d)) * val_main_v6 (F := Ideal) (keyCache m c) (newKeys m c) (ix4 b j h d))
          * ((Real.log 2 : ℝ) : EReal)
        + (newDecay m c (ix3 b h r) - val_main_v8 (F := Ideal) (decayCache m c) (newDecay m c) (ix3 b h j)) := by
  rw [val_main_v18_apply, val_main_v12_apply, val_main_v17_apply, val_main_v15_apply, val_main_v16_apply, val_main_v13_apply, val_main_v14_apply,
    val_main_v9_apply, log_two]
  refine congrArg₂ (fun a b : EReal => a * ((Real.log 2 : ℝ) : EReal) + b) (Finset.sum_congr rfl fun d _ => ?_) ?_
  · refine congrArg₂ (fun a b : EReal => a * b) ((congrArg _ ?_).trans (ref_queries m c b r h d)) (congrArg _ ?_)
    · exact idx_ext4 rfl rfl rfl rfl
    · exact idx_ext4 rfl rfl rfl rfl
  · exact congrArg₂ (fun a b : EReal => a - b) (congrArg _ (idx_ext3 rfl rfl rfl)) (congrArg _ (idx_ext3 rfl rfl rfl))

/-- The mask: a position is seen when it is not after the row's own. -/
theorem ref_masked (b h : Fin 16) (r : Fin 32) (j : Fin 1056) :
    refScore m c (ix4 b h r j) = if j.val ≤ 1024 + r.val then
      val_main_v18 (F := Ideal) (queries m c) (keyCache m c) (newKeys m c) (decayCache m c) (newDecay m c) (ix4 b h r j) else ⊥ := by
  have hr := r.isLt
  have hj := j.isLt
  rw [refScore, val_main_v28_apply, val_main_call0_v1_apply, val_main_call0_v2_apply, val_main_call0_v0_apply, val_main_cst_0_apply, val_main_v27_apply,
    val_main_v25_apply, val_main_v26_apply, val_main_v23_apply, val_main_v24_apply, val_main_v22_apply, val_main_v21_apply, val_main_v20_apply,
    val_main_v19_apply, val_main_c_apply]
  have hb : (FloatOps.ofBits .f32 0xFF800000#32 : Ideal .f32) = (⊥ : EReal) := bot_word
  rw [hb]
  have hsum : IntOp.addi (1024#32) (BitVec.ofNat 32 r.val) = BitVec.ofNat 32 (1024 + r.val) := (BitVec.ofNat_add 1024 r.val).symm
  unfold Scalar.select
  refine if_congr ?_ rfl rfl
  show IntOp.cmpi .sle (BitVec.ofNat 32 j.val) (IntOp.addi (1024#32) (BitVec.ofNat 32 r.val)) = 1#1 ↔ _
  rw [hsum]
  exact WordCmp.cmpi_sle_ofNat_eq_one_iff (by omega) (by omega)

/-- The reference's shift: the row's largest score. -/
theorem ref_shift (b h : Fin 16) (r : Fin 32) :
    val_main_v29 (F := Ideal) (queries m c) (keyCache m c) (newKeys m c) (decayCache m c) (newDecay m c) (ix3 b h r)
      = Finset.univ.fold max (⊥ : EReal) (fun j : Fin 1056 => refScore m c (ix4 b h r j)) := by
  unfold val_main_v29 refScore
  generalize val_main_v28 (F := Ideal) (queries m c) (keyCache m c) (newKeys m c) (decayCache m c) (newDecay m c) = x
  pointwise [Host.reduce_eq_fold, val_main_cst_1_apply, bot_word]

/-- The reference's weight of a position before it is divided. -/
theorem ref_weight (b h : Fin 16) (r : Fin 32) (j : Fin 1056) :
    val_main_v35 (F := Ideal) (queries m c) (keyCache m c) (newKeys m c) (decayCache m c) (newDecay m c) (ix4 b h r j)
      = Ideal.exp (refScore m c (ix4 b h r j) - Finset.univ.fold max (⊥ : EReal) (fun j : Fin 1056 => refScore m c (ix4 b h r j))) := by
  rw [val_main_v35_apply, val_main_v34_apply, val_main_v33_apply, val_main_v32_apply, val_main_v31_apply, val_main_v30_apply, val_main_cst_2_apply]
  have hi : idx_main_v32 (idx_main_v33 (ix4 b h r j)) = ix3 b h r := idx_ext3 rfl rfl rfl
  rw [hi, ref_shift]
  have hb : (FloatOps.ofBits .f32 0xFF800000#32 : Ideal .f32) = (⊥ : EReal) := bot_word
  rw [hb]
  refine congrArg (fun a : EReal => Ideal.exp (refScore m c (ix4 b h r j) - a)) ?_
  exact bot_sup_eq _

/-- The reference's divisor of a row. -/
theorem ref_total (b h : Fin 16) (r : Fin 32) (j : Fin 1056) :
    val_main_v38 (F := Ideal) (queries m c) (keyCache m c) (newKeys m c) (decayCache m c) (newDecay m c) (ix4 b h r j)
      = 0 + ∑ j : Fin 1056, Ideal.exp (refScore m c (ix4 b h r j) - Finset.univ.fold max (⊥ : EReal) (fun j : Fin 1056 => refScore m c (ix4 b h r j))) := by
  have hi : ∀ k : Fin 1056, idx_main_v36 (idx_main_v37 (idx_main_v38 (ix4 b h r j))) k = ix4 b h r k := fun k => idx_ext4 rfl rfl rfl rfl
  rw [val_main_v38_apply, val_main_v37_apply, val_main_v36_apply, val_main_cst_3_apply]
  simp only [hi, ref_weight]
  rw [show (FloatOps.ofBits .f32 0x00000000#32 : Ideal .f32) = (0 : EReal) from Ideal.ofBits_zero_f32]

/-- The reference's result is the weighted mean of the joined values. -/
theorem ref_mean (b h : Fin 16) (r : Fin 32) (e : Fin 128) :
    val_main_v40 (F := Ideal) (queries m c) (keyCache m c) (valueCache m c) (newKeys m c) (newValues m c) (decayCache m c) (newDecay m c) (ix4 b h e r)
      = ∑ j : Fin 1056, val_main_v7 (F := Ideal) (valueCache m c) (newValues m c) (ix4 b j h e)
          * Ideal.div (Ideal.exp (refScore m c (ix4 b h r j) - Finset.univ.fold max (⊥ : EReal) (fun j : Fin 1056 => refScore m c (ix4 b h r j))))
              (0 + ∑ j : Fin 1056, Ideal.exp (refScore m c (ix4 b h r j) - Finset.univ.fold max (⊥ : EReal) (fun j : Fin 1056 => refScore m c (ix4 b h r j)))) := by
  have hl : ∀ k : Fin 1056, lidx_main_v40 (ix4 b h e r) k = ix4 b k h e := fun k => idx_ext4 rfl rfl rfl rfl
  have hr : ∀ k : Fin 1056, ridx_main_v40 (ix4 b h e r) k = ix4 b h r k := fun k => idx_ext4 rfl rfl rfl rfl
  rw [val_main_v40_apply]
  simp only [hl, hr, val_main_v39_apply, ref_weight, ref_total]
  rfl

/-- One row's joined scores as the kernel has them. -/
def score (b : Fin 16) (r : Fin 32) (h : Fin 16) : Fin (1024 + 32) → EReal := Fin.addCases (oldScore m c b r h) (newScore m c b r h)

variable {m c}

/-- The gate's term folded into a score of base two and brought back to the natural base. -/
theorem rebase (u ck cq : ℝ) :
    ((u : ℝ) : EReal) * ((Real.log 2 : ℝ) : EReal) + ((cq : EReal) - (ck : EReal)) = (((u - ck * (Real.log 2)⁻¹) * Real.log 2 + cq : ℝ) : EReal) := by
  have h2 : Real.log 2 ≠ 0 := (Real.log_pos one_lt_two).ne'
  rw [← EReal.coe_mul, ← EReal.coe_sub, ← EReal.coe_add]
  congr 1
  field_simp
  ring

/-- The kernel's score of a cached position is real. -/
theorem oldScore_real (hr : Real9 m c) (b : Fin 16) (r : Fin 32) (h : Fin 16) (k : Fin 1024) (cq : ℝ) (hcq : newDecay m c (ix3 b h r) = cq) :
    ∃ a : ℝ, oldScore m c b r h k = a ∧ refScore m c (ix4 b h r (old k)) = ((a * Real.log 2 + cq : ℝ) : EReal) := by
  obtain ⟨hq, hk, hn, hd, hg⟩ := hr
  obtain ⟨u, hu⟩ := dot_real (fun d => queries m c (ix2 (arow b r) (hcol h d))) (fun d => keyCache m c (ix4 b k h d)) (fun d => hq _) (fun d => hk _)
  obtain ⟨ck, hck⟩ := hd (ix3 b h k)
  refine ⟨u - ck * (Real.log 2)⁻¹, ?_, ?_⟩
  · rw [oldScore, hu, hck, perLog2, ← EReal.coe_mul, ← EReal.coe_sub]
  · have hj : (old k).val ≤ 1024 + r.val := by
      show k.val ≤ 1024 + r.val
      omega
    rw [ref_masked, if_pos hj, ref_unmasked, decay_old, hck, hcq, ← rebase]
    simp only [keys_old]
    rw [hu]

/-- The kernel's score of a new position is real when the position is seen, and below everything in both programs when it is hidden. -/
theorem newScore_real (hr : Real9 m c) (b : Fin 16) (r : Fin 32) (h : Fin 16) (k : Fin 32) (cq : ℝ) (hcq : newDecay m c (ix3 b h r) = cq) :
    (newScore m c b r h k = ⊥ ∧ refScore m c (ix4 b h r (new k)) = ⊥)
      ∨ ∃ a : ℝ, newScore m c b r h k = a ∧ refScore m c (ix4 b h r (new k)) = ((a * Real.log 2 + cq : ℝ) : EReal) := by
  obtain ⟨hq, hk, hn, hd, hg⟩ := hr
  have hv : (new k).val = 1024 + k.val := rfl
  rcases Nat.lt_or_ge r.val k.val with hlt | hle
  · refine .inl ⟨?_, ?_⟩
    · rw [newScore, if_neg (by omega)]
    · rw [ref_masked, if_neg (by omega)]
  · obtain ⟨u, hu⟩ := dot_real (fun d => queries m c (ix2 (arow b r) (hcol h d))) (fun d => newKeys m c (ix2 (arow b k) (hcol h d))) (fun d => hq _) (fun d => hn _)
    obtain ⟨ck, hck⟩ := hg (ix3 b h k)
    refine .inr ⟨u - ck * (Real.log 2)⁻¹, ?_, ?_⟩
    · rw [newScore, if_pos hle, hu, hck, perLog2, ← EReal.coe_mul, ← EReal.coe_sub]
    · rw [ref_masked, if_pos (by omega), ref_unmasked, decay_new, hck, hcq, ← rebase]
      simp only [keys_new]
      rw [hu]

/-- Mixing the two parts apart is mixing them joined. -/
theorem mixed_joined (s₁ : Fin 1024 → EReal) (s₂ : Fin 32 → EReal) (v : Fin (1024 + 32) → EReal) :
    mixed s₁ s₂ (fun k => v (Fin.castAdd 32 k)) (fun k => v (Fin.natAdd 1024 k))
      = Ideal.div (∑ j, Ideal.exp2 ((Fin.addCases s₁ s₂ : Fin (1024 + 32) → EReal) j - shift s₁ s₂) * v j)
          (∑ j, Ideal.exp2 ((Fin.addCases s₁ s₂ : Fin (1024 + 32) → EReal) j - shift s₁ s₂)) := by
  rw [Fin.sum_univ_add, Fin.sum_univ_add]
  simp only [Fin.addCases_left, Fin.addCases_right]
  rfl

/-- On real queries, keys and gates the reference's mean is the kernel's. -/
theorem ref_attend (hr : Real9 m c) (b h : Fin 16) (r : Fin 32) (e : Fin 128) :
    val_main_v40 (F := Ideal) (queries m c) (keyCache m c) (valueCache m c) (newKeys m c) (newValues m c) (decayCache m c) (newDecay m c) (ix4 b h e r)
      = attend m c b r h e := by
  obtain ⟨cq, hcq⟩ := hr.2.2.2.2 (ix3 b h r)
  have hs : ∀ j : Fin (1024 + 32), (score m c b r h j = ⊥ ∧ refScore m c (ix4 b h r j) = ⊥)
      ∨ ∃ a : ℝ, score m c b r h j = a ∧ refScore m c (ix4 b h r j) = ((a * Real.log 2 + cq : ℝ) : EReal) := by
    intro j
    refine Fin.addCases (fun k => ?_) (fun k => ?_) j
    · rw [score, Fin.addCases_left]
      exact .inr (oldScore_real hr b r h k cq hcq)
    · rw [score, Fin.addCases_right]
      exact newScore_real hr b r h k cq hcq
  obtain ⟨a₀, ha₀, hx₀⟩ := oldScore_real hr b r h 0 cq hcq
  have h0 : ∃ j, score m c b r h j ≠ ⊥ :=
    ⟨Fin.castAdd 32 0, by rw [score, Fin.addCases_left, ha₀]; exact EReal.coe_ne_bot a₀⟩
  have hμ : ∃ μ : ℝ, shift (oldScore m c b r h) (newScore m c b r h) = μ := by
    obtain ⟨a, ha⟩ := fold_max_real (oldScore m c b r h)
      (fun k => by obtain ⟨a, ha, -⟩ := oldScore_real hr b r h k cq hcq; rw [ha]; exact EReal.coe_ne_top a)
      ⟨0, by rw [ha₀]; exact EReal.coe_ne_bot a₀⟩
    have hn := fold_max_ne_top (newScore m c b r h) (fun k => by
      rcases newScore_real hr b r h k cq hcq with ⟨hb, -⟩ | ⟨a, ha, -⟩
      · rw [hb]; exact bot_ne_top
      · rw [ha]; exact EReal.coe_ne_top a)
    rw [shift, ha]
    exact max_real a _ hn
  have hM : ∃ M : ℝ, Finset.univ.fold max (⊥ : EReal) (fun j : Fin 1056 => refScore m c (ix4 b h r j)) = M := by
    refine fold_max_real _ (fun j => ?_) ⟨old 0, by rw [hx₀]; exact EReal.coe_ne_bot _⟩
    rcases hs j with ⟨-, hb⟩ | ⟨a, -, ha⟩
    · rw [hb]; exact bot_ne_top
    · rw [ha]; exact EReal.coe_ne_top _
  obtain ⟨μ, hμ⟩ := hμ
  obtain ⟨M, hM⟩ := hM
  rw [ref_mean, hM]
  refine (softmax_mix (score m c b r h) (fun j => refScore m c (ix4 b h r j))
    (fun j => val_main_v7 (F := Ideal) (valueCache m c) (newValues m c) (ix4 b j h e)) μ M cq hs h0).symm.trans ?_
  rw [← hμ]
  refine (mixed_joined (oldScore m c b r h) (newScore m c b r h) _).symm.trans ?_
  rw [attend]
  refine congrArg₂ (mixed (oldScore m c b r h) (newScore m c b r h)) (funext fun k => ?_) (funext fun k => ?_)
  · exact values_old m c b k h e
  · exact values_new m c b k h e

/-- On real queries, keys and gates the reference's result is the kernel's. -/
theorem ref_attended (hr : Real9 m c) :
    val_main_v42 (F := Ideal) (queries m c) (keyCache m c) (valueCache m c) (newKeys m c) (newValues m c) (decayCache m c) (newDecay m c) = attended m c := by
  funext i
  have h0 : (i 0).val < 512 := (i 0).isLt
  have h1 : (i 1).val < 2048 := (i 1).isLt
  rw [val_main_v42_apply, val_main_v41_apply, attended]
  refine (congrArg _ ?_).trans (ref_attend hr _ _ _ _)
  refine idx_ext4 ?_ ?_ ?_ ?_
  · show ((i 0).val * 2048 + (i 1).val) / 65536 = (i 0).val / 32
    omega
  · show ((i 0).val * 2048 + (i 1).val) / 128 % 16 = (i 1).val / 128
    omega
  · show ((i 0).val * 2048 + (i 1).val) % 128 = (i 1).val % 128
    omega
  · show ((i 0).val * 2048 + (i 1).val) / 2048 % 32 = (i 0).val % 32
    omega

/-- On real queries, keys and gates the attention call ends with the reference's result. -/
theorem algebraic (hPre_finite : Cert.Pre_finite.Facts) :
    Cert.algebraic_Kernel9Ideal_Reference9Ideal_pre_finite (hKernel9Ideal := Cert.Kernel9Ideal.Gen.facts)
      (hReference9Ideal := Cert.Reference9Ideal.Gen.facts) (hPre_finite := hPre_finite) := by
  intro m ρ m' ρ' hpre hm
  refine ⟨attended m, run m ρ, ?_⟩
  refine (θ_run _ _ _).mono (fun r h c => ?_) (Cert.Reference9Ideal.Value.run (F := Ideal) m' ρ')
  obtain ⟨h0, ha⟩ := h c
  obtain ⟨e0, e1, e2, e3, e4, e5, e6⟩ := hm c
  rw [val_main_v42_eq, e0, e1, e2, e3, e4, e5, e6] at h0
  exact ⟨h0.trans (ref_attended (real_of_finite m hPre_finite hpre c)), ha⟩

end Cert.FoxSample

end
-- ==== Proof.Cumsum.Tile.lean ====
/-
  One tile of the cumulative sum of the log gates, as the kernel computes it: the gates split in three bf16 parts, each part's running
  sum as a product with a triangular matrix of ones, the three added, and what the tiles before left added to every row.
-/
module

public import proofs.«01_k».proof.Defs
public import proofs.«01_k».proof.Proof.Gen.Kernel10Ideal.Frame
public import proofs.«01_k».proof.Proof.Gen.Kernel10Ideal.Skeleton
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.Cumsum

open Idealize.ShloMosaic Idealize.ShloMosaic.TcCoe Idealize.ShloMosaic.Tactic Idealize.SL.Sem Cert.Kernel10Ideal Cert.Kernel10Ideal.Gen
open Idealize.ShloMosaic.Pipeline (Dat Cfg Window)

/-- The three parts of a gate added up: the gate rounded, what the rounding left, and what the second rounding left. -/
def parts (x : EReal) : EReal := x + (x - x) + ((x - x) - (x - x))

/-- Below plus infinity the parts add up to the gate. -/
theorem parts_eq {x : EReal} (h : x ≠ ⊤) : parts x = x := by
  unfold parts
  induction x with
  | bot => simp
  | top => exact absurd rfl h
  | coe r =>
    rw [← EReal.coe_sub, ← EReal.coe_sub, ← EReal.coe_add, ← EReal.coe_add]
    congr 1
    ring

/-- A row of a triangle of ones picks the entries up to the row. -/
theorem triangle_mul (r k : Fin 512) (a : EReal) : (if k.val ≤ r.val then (1 : EReal) else 0) * a = if k.val ≤ r.val then a else 0 := by
  split <;> simp

/-- The entries up to a row, added as a range. -/
theorem sum_upto (f : ℕ → EReal) (r : Fin 512) : (∑ k : Fin 512, if k.val ≤ r.val then f k.val else 0) = ∑ k ∈ Finset.range (r.val + 1), f k := by
  have hr := r.isLt
  rw [Fin.sum_univ_eq_sum_range (fun k => if k ≤ r.val then f k else 0) 512, ← Finset.sum_filter]
  refine Finset.sum_congr (Finset.ext fun n => ?_) fun _ _ => rfl
  rw [Finset.mem_filter, Finset.mem_range, Finset.mem_range]
  omega

variable (x : Vec Ideal S1x512x128 .f32) (tri : Vec Ideal S512x512 .bf16) (carry : Vec Ideal S1x128 .f32)

/-- A tile's cumulated gates, as the body computes them. -/
theorem pay2_apply (r : Fin 512) (l : Fin 128) :
    k0_pay2 (F := Ideal) x tri carry (ix2 r l)
      = (∑ k : Fin 512, tri (ix2 r k) * x (ix3 (0 : Fin 1) k l)) + (∑ k : Fin 512, tri (ix2 r k) * (x (ix3 (0 : Fin 1) k l) - x (ix3 (0 : Fin 1) k l)))
        + (∑ k : Fin 512, tri (ix2 r k) * ((x (ix3 (0 : Fin 1) k l) - x (ix3 (0 : Fin 1) k l)) - (x (ix3 (0 : Fin 1) k l) - x (ix3 (0 : Fin 1) k l))))
        + carry (ix2 (0 : Fin 1) l) := by
  unfold k0_pay2
  pointwise []
  have e : ∀ h, (⟨256 + l.val - 128 - 128, h⟩ : Fin 128) = l := fun h => Fin.ext (by show 256 + l.val - 128 - 128 = l.val; omega)
  refine congrArg (fun a : EReal => a + _) (congrArg₂ (fun a b : EReal => a + b) rfl (Finset.sum_congr rfl fun k _ => ?_))
  rw [dif_neg (by omega), dif_neg (by omega), e]

/-- With a triangle of ones, the sum of the parts up to the row, and the carry. -/
theorem pay2_sum (htri : ∀ r k : Fin 512, tri (ix2 r k) = if k.val ≤ r.val then (1 : EReal) else 0) (f : ℕ → EReal) (l : Fin 128)
    (hf : ∀ k : Fin 512, parts (x (ix3 (0 : Fin 1) k l)) = f k.val) (r : Fin 512) :
    k0_pay2 (F := Ideal) x tri carry (ix2 r l) = (∑ k ∈ Finset.range (r.val + 1), f k) + carry (ix2 (0 : Fin 1) l) := by
  rw [pay2_apply, ← Finset.sum_add_distrib, ← Finset.sum_add_distrib, ← sum_upto]
  refine congrArg (· + _) (Finset.sum_congr rfl fun k _ => ?_)
  rw [htri, triangle_mul, triangle_mul, triangle_mul, ← hf]
  unfold parts
  split <;> simp

/-- What a tile leaves for the next: its last row. -/
theorem pay3_apply (l : Fin 128) : k0_pay3 (F := Ideal) x tri carry (ix2 (0 : Fin 1) l) = k0_pay2 (F := Ideal) x tri carry (ix2 (511 : Fin 512) l) := by
  unfold k0_pay3
  pointwise []

/-- What a tile leaves in its block: its rows as columns. -/
theorem pay4_apply (l : Fin 128) (r : Fin 512) :
    k0_pay4 (F := Ideal) x tri carry (ix3 (0 : Fin 1) l r) = k0_pay2 (F := Ideal) x tri carry (ix2 r l) := by
  unfold k0_pay4
  pointwise []

/-- The carry a sequence starts from. -/
theorem pay1_apply (i : Vec Ideal S1x1x128 .f32) (l : Fin 128) : k0_pay1 (F := Ideal) i (ix2 (0 : Fin 1) l) = i (ix3 (0 : Fin 1) (0 : Fin 1) l) := by
  unfold k0_pay1
  pointwise []

variable (m : (ℓ : Loc nD τ sig) → Buf (Elt Ideal) ℓ)

/-- The carry a tile starts from: the initial one at a sequence's first tile, else what the tile before left. -/
def carryIn (c : Dev nD) (t : Fin cfg0.N) : Vec Ideal S1x128 .f32 :=
  if t.val % 4 = 0 then k0_pay1 (iblk m c 1 t) else (outsAt0 m c (t.val - 1) (Nat.lt_of_le_of_lt (Nat.sub_le _ _) t.isLt)).2.2

/-- What the body leaves at point `t`: the tile's block, and the carry. -/
theorem outsAt_eq (c : Dev nD) (t : Fin cfg0.N) :
    (outsAt0 m c t.val t.isLt).1 = k0_pay4 (iblk m c 0 t) (iblk m c 2 t) (carryIn m c t)
      ∧ (outsAt0 m c t.val t.isLt).2.2 = k0_pay3 (iblk m c 0 t) (iblk m c 2 t) (carryIn m c t) := by
  unfold carryIn
  by_cases h0 : t.val % 4 = 0
  · rw [outsAt0_A m c t h0, if_pos h0]
    constructor
    · frame_out
    · frame_out
  · rw [outsAt0_B m c t h0, if_neg h0]
    constructor
    · frame_out
      exact congrArg (k0_pay4 _ _) (Memref.IsWhole.read_unread (Memref.isWhole_whole cc0_scratch0) _)
    · frame_out
      exact congrArg (k0_pay3 _ _) (Memref.IsWhole.read_unread (Memref.isWhole_whole cc0_scratch0) _)

end Cert.Cumsum

end
-- ==== Proof.Cumsum.Kernel.lean ====
/-
  The cumulative sum of the log gates, read as a value. The launch walks 8 sequences by 4 tiles of 512 positions; a point adds its tile's
  gates up and adds what the tiles before left. Here the result array is shown to be one function of the argument.
-/
module

public import proofs.«01_k».proof.Proof.Cumsum.Tile
public import Idealize.ShloMosaic.Lib.StableHlo.ReadAt

@[expose] public section

set_option maxRecDepth 16384

noncomputable section

namespace Cert.Cumsum

open Idealize.ShloMosaic Idealize.ShloMosaic.TcCoe Idealize.SL.Sem Cert.Kernel10Ideal Cert.Kernel10Ideal.Gen
open Idealize.ShloMosaic.Pipeline (Dat Cfg Window)

variable (m : (ℓ : Loc nD τ sig) → Buf (Elt Ideal) ℓ) (ρ : Dev nD → PrngReg)

/-- Two indices into three axes agree when their coordinates do. -/
theorem idx_ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

/-- The log gates, one row per token, padded to 128 lanes. -/
abbrev logGates (c : Dev nD) : S16384x128.Idx → EReal := m ((c : Thread nD τ).loc main_arg0)

/-- The parts of the log gates of sequence `b` at lane `l`, by position. -/
def gate (c : Dev nD) (b : Fin 8) (l : Fin 128) (n : ℕ) : EReal :=
  if h : n < 2048 then parts (logGates m c (ix2 ⟨2048 * b.val + n, by omega⟩ l)) else 0

/-- The cumulated gates on the padded lanes. -/
def summed (c : Dev nD) : S8x128x2048.Idx → EReal := fun i => ∑ n ∈ Finset.range ((i 2).val + 1), gate m c (i 0) (i 1) n

/-- The cumulated gates of the 16 heads. -/
def cumulated (c : Dev nD) : S8x16x2048.Idx → EReal := fun i =>
  ∑ n ∈ Finset.range ((i 2).val + 1), gate m c (i 0) ⟨(i 1).val, by have := (i 1).isLt; change (i 1).val < 16 at this; omega⟩ n

/-! What the launch finds in the arrays prepared for it. -/

/-- The gates by sequence and position. -/
theorem found_gates (c : Dev nD) (b : Fin 8) (n : Fin 2048) (l : Fin 128) :
    V m c main_v0 (ix3 b n l) = logGates m c (ix2 ⟨2048 * b.val + n.val, by omega⟩ l) := by
  unfold V
  after_reads_at
  exact congrArg (fun z => logGates m c (ix2 z l)) (Fin.ext (by show b.val * 2048 + n.val = 2048 * b.val + n.val; omega))

/-- The carry a sequence starts from is zero. -/
theorem found_start (c : Dev nD) (b : Fin 8) (l : Fin 128) : V m c main_v1 (ix3 b (0 : Fin 1) l) = (0 : EReal) := by
  unfold V
  after_reads_at

/-- The triangle of ones. -/
theorem found_triangle (c : Dev nD) (r k : Fin 512) : V m c main_v8 (ix2 r k) = if k.val ≤ r.val then (1 : EReal) else 0 := by
  unfold V
  after_reads_at
  rw [Idealize.ShloMosaic.WordCmp.cmpi_sge_ofNat (by omega) (by omega)]
  show (((BitVec.ofBool (decide (k.val ≤ r.val))).toNat : ℝ) : EReal) = _
  by_cases h : k.val ≤ r.val <;> simp [h]

/-- Where each window's block lies at point `t`. -/
theorem places : ∀ t : Fin cfg0.N,
    (win0_0.index t 0 = t.val / 4 ∧ win0_0.index t 1 = t.val % 4 ∧ win0_0.index t 2 = 0)
    ∧ (win0_1.index t 0 = t.val / 4 ∧ win0_1.index t 1 = 0 ∧ win0_1.index t 2 = 0)
    ∧ (win0_2.index t 0 = 0 ∧ win0_2.index t 1 = 0)
    ∧ (win0_3.index t 0 = t.val / 4 ∧ win0_3.index t 1 = 0 ∧ win0_3.index t 2 = t.val % 4) :=
  (by decide +kernel : ∀ t : Fin grid0.N, _)

/-- The number of points. -/
theorem lt_points (t : Fin cfg0.N) : t.val < 32 := t.isLt

/-- The sequence of a point. -/
abbrev seq (t : Fin cfg0.N) : Fin 8 := ⟨t.val / 4, by have := lt_points t; omega⟩

/-- The gates' block at point `t`: tile `t % 4` of sequence `t / 4`. -/
theorem blk_gates (c : Dev nD) (t : Fin cfg0.N) (k : Fin 512) (l : Fin 128) :
    parts (iblk m c 0 t (ix3 (0 : Fin 1) k l)) = gate m c (seq t) l (512 * (t.val % 4) + k.val) := by
  have hp := (places t).1
  have hk : 512 * (t.val % 4) + k.val < 2048 := by omega
  unfold gate
  rw [dif_pos hk]
  refine congrArg parts (Eq.trans ?_ (found_gates m c (seq t) ⟨512 * (t.val % 4) + k.val, hk⟩ l))
  unfold iblk
  rw [View.read_apply]
  show V m c main_v0 _ = _
  refine congrArg (V m c main_v0) (idx_ext3 ?_ ?_ ?_)
  · refine (win0_0.rect_emb_val t (ix3 (0 : Fin 1) k l) 0).trans ?_
    rw [hp.1]
    show t.val / 4 * 1 + 0 = t.val / 4
    omega
  · refine (win0_0.rect_emb_val t (ix3 (0 : Fin 1) k l) 1).trans ?_
    rw [hp.2.1]
    show t.val % 4 * 512 + k.val = 512 * (t.val % 4) + k.val
    omega
  · exact win0_0.rect_emb_val_of_index_zero t 2 hp.2.2 (ix3 (0 : Fin 1) k l)

/-- The initial carry's block is zero. -/
theorem blk_start (c : Dev nD) (t : Fin cfg0.N) (l : Fin 128) : iblk m c 1 t (ix3 (0 : Fin 1) (0 : Fin 1) l) = (0 : EReal) := by
  have hp := (places t).2.1
  refine Eq.trans ?_ (found_start m c (seq t) l)
  unfold iblk
  rw [View.read_apply]
  show V m c main_v1 _ = _
  refine congrArg (V m c main_v1) (idx_ext3 ?_ ?_ ?_)
  · refine (win0_1.rect_emb_val t (ix3 (0 : Fin 1) (0 : Fin 1) l) 0).trans ?_
    rw [hp.1]
    show t.val / 4 * 1 + 0 = t.val / 4
    omega
  · exact win0_1.rect_emb_val_of_index_zero t 1 hp.2.1 (ix3 (0 : Fin 1) (0 : Fin 1) l)
  · exact win0_1.rect_emb_val_of_index_zero t 2 hp.2.2 (ix3 (0 : Fin 1) (0 : Fin 1) l)

/-- The triangle is read whole at every point. -/
theorem blk_triangle (c : Dev nD) (t : Fin cfg0.N) (r k : Fin 512) : iblk m c 2 t (ix2 r k) = if k.val ≤ r.val then (1 : EReal) else 0 := by
  have hp := (places t).2.2.1
  refine Eq.trans ?_ (found_triangle m c r k)
  unfold iblk
  rw [View.read_apply]
  show V m c main_v8 _ = _
  refine congrArg (V m c main_v8) (Shape.idx_ext₂ ?_ ?_)
  · exact win0_2.rect_emb_val_of_index_zero t 0 hp.1 (ix2 r k)
  · exact win0_2.rect_emb_val_of_index_zero t 1 hp.2 (ix2 r k)

/-- A tile's sums, when the carry is the sum of the tiles before. -/
theorem tile_sum (c : Dev nD) (t : Fin cfg0.N) (l : Fin 128)
    (h : carryIn m c t (ix2 (0 : Fin 1) l) = ∑ n ∈ Finset.range (512 * (t.val % 4)), gate m c (seq t) l n) (r : Fin 512) :
    k0_pay2 (F := Ideal) (iblk m c 0 t) (iblk m c 2 t) (carryIn m c t) (ix2 r l)
      = ∑ n ∈ Finset.range (512 * (t.val % 4) + r.val + 1), gate m c (seq t) l n := by
  refine (pay2_sum (iblk m c 0 t) (iblk m c 2 t) (carryIn m c t) (blk_triangle m c t) (fun k => gate m c (seq t) l (512 * (t.val % 4) + k)) l
    (fun k => blk_gates m c t k l) r).trans ?_
  rw [h, Nat.add_assoc, Finset.sum_range_add (gate m c (seq t) l) (512 * (t.val % 4)) (r.val + 1), add_comm]

/-- The carry a tile starts from is the sum of the sequence's tiles before it. -/
theorem carry_sum (c : Dev nD) (l : Fin 128) : ∀ (n : ℕ) (hn : n < cfg0.N),
    carryIn m c ⟨n, hn⟩ (ix2 (0 : Fin 1) l) = ∑ i ∈ Finset.range (512 * (n % 4)), gate m c (seq ⟨n, hn⟩) l i := by
  intro n
  induction n with
  | zero =>
    intro hn
    unfold carryIn
    rw [if_pos (Nat.zero_mod 4), pay1_apply, blk_start]
    rfl
  | succ n ih =>
    intro hn
    have hN : n + 1 < 32 := hn
    have hn' : n < cfg0.N := Nat.lt_of_succ_lt hn
    unfold carryIn
    by_cases h0 : (n + 1) % 4 = 0
    · rw [if_pos h0, pay1_apply, blk_start, h0]
      rfl
    · rw [if_neg h0]
      show (outsAt0 m c n _).2.2 (ix2 (0 : Fin 1) l) = _
      rw [(outsAt_eq m c ⟨n, hn'⟩).2, pay3_apply, tile_sum m c ⟨n, hn'⟩ l (ih hn')]
      have e1 : 512 * (n % 4) + 511 + 1 = 512 * ((n + 1) % 4) := by omega
      have e2 : seq ⟨n, hn'⟩ = seq ⟨n + 1, hn⟩ := Fin.ext (by show n / 4 = (n + 1) / 4; omega)
      show ∑ i ∈ Finset.range (512 * (n % 4) + 511 + 1), _ = _
      rw [e1, e2]

/-- What point `t` leaves in its block at an index. -/
theorem block_value (c : Dev nD) (t : Fin cfg0.N) (l : Fin 128) (r : Fin 512) :
    (outsAt0 m c t.val t.isLt).1 (ix3 (0 : Fin 1) l r) = ∑ n ∈ Finset.range (512 * (t.val % 4) + r.val + 1), gate m c (seq t) l n := by
  rw [(outsAt_eq m c t).1, pay4_apply]
  exact tile_sum m c t l (carry_sum m c l t.val t.isLt) r

/-- What point `t` writes back is its block of the sums. -/
theorem flushed_summed (c : Dev nD) (t : Fin cfg0.N) :
    (dats m 0 c).flushed 3 t = ((cfg0.win 3).blk t).view.read (Elt Ideal) (summed m c) := by
  have hp := (places t).2.2.2
  have ht := lt_points t
  show (cfg0.win 3).cut (grid0.coords t) ((dats m 0 c).after 3 t) = _
  rw [after0_3]
  funext y
  rw [View.read_apply]
  have h0 : (y 0).val < 1 := (y 0).isLt
  have h1 : (y 1).val < 128 := (y 1).isLt
  have h2 : (y 2).val < 512 := (y 2).isLt
  have e : ((cfg0.win 3).blk t).view.emb y = ix3 (seq t) (y 1) (⟨512 * (t.val % 4) + (y 2).val, by omega⟩ : Fin 2048) :=
    idx_ext3
      ((win0_3.rect_emb_val t y 0).trans (by rw [hp.1]; show t.val / 4 * 1 + (y 0).val = t.val / 4; omega))
      (win0_3.rect_emb_val_of_index_zero t 1 hp.2.1 y)
      ((win0_3.rect_emb_val t y 2).trans (by rw [hp.2.2]; show t.val % 4 * 512 + (y 2).val = 512 * (t.val % 4) + (y 2).val; omega))
  have ey : y = ix3 (0 : Fin 1) (y 1) (y 2) := idx_ext3 (by show (y 0).val = 0; omega) rfl rfl
  show (outsAt0 m c t.val t.isLt).1 y = summed m c _
  rw [e]
  exact (congrArg (outsAt0 m c t.val t.isLt).1 ey).trans (block_value m c t (y 1) (y 2))

/-- Its blocks tile the array, so it ends at the sums. -/
theorem final_summed (c : Dev nD) : (dats m 0 c).arrAt 3 cfg0.N = summed m c :=
  (dats m 0 c).arrAt_eq_of_cover 3 (summed m c) (fun t _ => flushed_summed m c t) fun i => by
    have h0 : (i 0).val < 8 := (i 0).isLt
    have h1 : (i 1).val < 128 := (i 1).isLt
    have h2 : (i 2).val < 2048 := (i 2).isLt
    let t : Fin cfg0.N := ⟨4 * (i 0).val + (i 2).val / 512, by show _ < 32; omega⟩
    have hp := (places t).2.2.2
    refine ⟨t, flush0_3 t, ?_⟩
    show i ∈ ((View.whole main_v9_0).slice (win0_3.rect t)).set
    rw [View.set_slice_whole, Rect.mem_set_unit]
    intro a
    match a with
    | ⟨0, _⟩ =>
      show win0_3.index t 0 * 1 ≤ (i 0).val ∧ (i 0).val < win0_3.index t 0 * 1 + 1
      rw [hp.1]; dsimp only [t]; omega
    | ⟨1, _⟩ =>
      show win0_3.index t 1 * 128 ≤ (i 1).val ∧ (i 1).val < win0_3.index t 1 * 128 + 128
      rw [hp.2.1]; omega
    | ⟨2, _⟩ =>
      show win0_3.index t 2 * 512 ≤ (i 2).val ∧ (i 2).val < win0_3.index t 2 * 512 + 512
      rw [hp.2.2]; dsimp only [t]; omega

/-- The slice after the launch keeps the 16 heads' lanes. -/
theorem tail_cumulated (c : Dev nD) : Pipeline.afterTail₀ cfgs (dats m) 0 (V0 m) [hostOps1] c main_v10 = cumulated m c := by
  funext i
  obtain ⟨b, h, r, rfl⟩ : ∃ (b : Fin 8) (h : Fin 16) (r : Fin 2048), i = ix3 b h r := ⟨i 0, i 1, i 2, eq_ix3 i⟩
  have e : ∀ U : Valuation τ sig (Elt Ideal), StableHlo.after (hostOps1 (F := Ideal)) U (Proc.devRef .tc main_v10) (ix3 b h r)
      = U (Proc.devRef .tc main_v9_0) (ix3 b (⟨h.val, by omega⟩ : Fin 128) r) := fun U => by after_reads_at
  unfold Pipeline.afterTail₀
  refine (e _).trans ?_
  refine (congrFun (Pipeline.withArrays_arr spec0 (by decide) c (V0 m c) (fun w => (dats m 0 c).arrAt w cfg0.N) 3) _).trans ?_
  rw [final_summed]
  rfl

/-- The run: the result is the function above, and the argument ends unchanged. -/
theorem run : θ_run (defs (F := Ideal)) (onTc (τ := τ) (main (F := Ideal))) ⟨m, fun _ => 0, ρ⟩ (fun r => ∀ c : Dev nD,
    r.2.mem ((c.tc : Thread nD τ).loc main_v10) = cumulated m c
    ∧ r.2.mem ((c.tc : Thread nD τ).loc main_arg0) = m ((c.tc : Thread nD τ).loc main_arg0)) :=
  (θ_run defs _ _).mono (fun r h c => by
    obtain ⟨⟨ha, -⟩, h1⟩ := h
    exact ⟨((h1 c).2 main_v10 (Pipeline.mem_restRefs_of main_v10 (by decide) (by decide))).trans (tail_cumulated m c), ha c⟩)
    (θ_run_and (Gen.frame m ρ) (run_main m ρ))

end Cert.Cumsum

end
-- ==== Proof.Cumsum.Ref.lean ====
/-
  The reference's cumulative sum is the kernel's, where no gate is plus infinity: the reference's window sum at a position adds the
  gates up to it, and below plus infinity a gate's three parts add up to it.
-/
module

public import proofs.«01_k».proof.Proof.Cumsum.Kernel
public import proofs.«01_k».proof.Proof.Gen.Reference10Ideal.Read
public import proofs.«01_k».proof.Proof.Gen.Pre_below_infinity
public import Idealize.ShloMosaic.Lib.ReduceAll

@[expose] public section

set_option maxRecDepth 16384

noncomputable section

namespace Cert.Cumsum

open Idealize.ShloMosaic Idealize.ShloMosaic.TcCoe Idealize.SL.Sem Cert.Reference10Ideal Cert.Reference10Ideal.Gen Cert.Reference10Ideal.Read

/-- Adding one element at a time is adding the sum. -/
theorem foldl_add {α : Type} (g : α → EReal) (l : List α) : ∀ v : EReal, l.foldl (fun r n => r + g n) v = v + (l.map g).sum := by
  induction l with
  | nil => intro v; simp
  | cons a l ih => intro v; rw [List.foldl_cons, ih, List.map_cons, List.sum_cons, add_assoc]

/-- A window of 2048 that ends at position `p`, its places before the start empty, holds the entries up to `p`. -/
theorem window_sum (f : ℕ → EReal) (p : ℕ) (hp : p < 2048) :
    (∑ k : Fin 2048, if 2047 ≤ p + k.val then f (p + k.val - 2047) else 0) = ∑ n ∈ Finset.range (p + 1), f n := by
  rw [Fin.sum_univ_eq_sum_range (fun k => if 2047 ≤ p + k then f (p + k - 2047) else 0) 2048,
    show 2048 = (2047 - p) + (p + 1) by omega, Finset.sum_range_add, Finset.sum_eq_zero, zero_add]
  · refine Finset.sum_congr rfl fun n hn => ?_
    rw [if_pos (by omega)]
    congr 1
    omega
  · intro n hn
    rw [Finset.mem_range] at hn
    exact if_neg (by omega)

/-- The window's index at a position in row-major order. -/
abbrev inWindow (n : Fin (⟨3, ![1, 2048, 1]⟩ : Shape).numel) : (⟨3, ![1, 2048, 1]⟩ : Shape).Idx := (⟨3, ![1, 2048, 1]⟩ : Shape).rowMajor.symm n

/-- The places of a window. -/
abbrev place (k : Fin 2048) : (⟨3, ![1, 2048, 1]⟩ : Shape).Idx := ix3 (0 : Fin 1) k (0 : Fin 1)

/-- They are all its indices. -/
theorem place_bijective : Function.Bijective place :=
  ⟨fun a b h => congrFun h 1, fun y => ⟨y 1, idx_ext3
    (by have h : (y 0).val < 1 := (y 0).isLt; show 0 = (y 0).val; omega) rfl
    (by have h : (y 2).val < 1 := (y 2).isLt; show 0 = (y 2).val; omega)⟩⟩

variable (x : S8x2048x16.Idx → EReal)

/-- The reference's window sum at a position adds the entries up to it. -/
theorem cumsum_apply (init : S_.Idx → EReal) (hinit : ∀ i, init i = 0)
    (hw : S8x2048x16.ReduceWindows (![1, 2048, 1] : Fin 3 → Nat) ![1, 1, 1] ![0, 2047, 0] ![0, 0, 0] S8x2048x16) (hu : 0 < S_.numel)
    (b : Fin 8) (p : Fin 2048) (h : Fin 16) :
    Host.reduceWindowAdd (F := Ideal) (φ := .f32) ![1, 2048, 1] ![1, 1, 1] ![0, 2047, 0] ![0, 0, 0] x init hw hu (ix3 b p h)
      = ∑ n ∈ Finset.range (p.val + 1), if hn : n < 2048 then x (ix3 b ⟨n, hn⟩ h) else 0 := by
  have hp := p.isLt
  rw [← window_sum _ p.val p.isLt]
  unfold Host.reduceWindowAdd
  rw [Ideal.hostReduceWindowAdd_def]
  unfold Ideal.hostReduceWindowAdd Host.reduceWindow
  dsimp only
  refine (foldl_add _ _ _).trans ?_
  rw [hinit, zero_add, ← Fin.sum_univ_def]
  refine Eq.trans (Finset.sum_congr rfl fun n _ => ?_)
    ((Equiv.sum_comp (⟨3, ![1, 2048, 1]⟩ : Shape).rowMajor.symm (fun w : (⟨3, ![1, 2048, 1]⟩ : Shape).Idx =>
      if 2047 ≤ p.val + (w 1).val then (if hn : p.val + (w 1).val - 2047 < 2048 then x (ix3 b ⟨p.val + (w 1).val - 2047, hn⟩ h) else 0) else 0)).trans
      (place_bijective.sum_comp _).symm)
  have w0 : (inWindow n 0).val < 1 := (inWindow n 0).isLt
  have w1 : (inWindow n 1).val < 2048 := (inWindow n 1).isLt
  have w2 : (inWindow n 2).val < 1 := (inWindow n 2).isLt
  have hb := b.isLt
  have hh := h.isLt
  by_cases h0 : 2047 ≤ p.val + (inWindow n 1).val
  · rw [if_pos h0, dif_pos (show p.val + (inWindow n 1).val - 2047 < 2048 by omega), dif_pos]
    · refine congrArg x (idx_ext3 ?_ ?_ ?_)
      · show b.val * 1 + (inWindow n 0).val - 0 = b.val
        omega
      · show p.val * 1 + (inWindow n 1).val - 2047 = p.val + (inWindow n 1).val - 2047
        omega
      · show h.val * 1 + (inWindow n 2).val - 0 = h.val
        omega
    · intro a
      match a with
      | ⟨0, _⟩ =>
        show 0 ≤ b.val * 1 + (inWindow n 0).val ∧ b.val * 1 + (inWindow n 0).val - 0 < 8
        omega
      | ⟨1, _⟩ =>
        show 2047 ≤ p.val * 1 + (inWindow n 1).val ∧ p.val * 1 + (inWindow n 1).val - 2047 < 2048
        omega
      | ⟨2, _⟩ =>
        show 0 ≤ h.val * 1 + (inWindow n 2).val ∧ h.val * 1 + (inWindow n 2).val - 0 < 16
        omega
  · rw [if_neg h0, dif_neg]
    intro hin
    have h1 : 2047 ≤ p.val * 1 + (inWindow n 1).val := (hin 1).1
    omega

variable (m : (ℓ : Loc Cert.Kernel10Ideal.nD Cert.Kernel10Ideal.τ Cert.Kernel10Ideal.sig) → Buf (Elt Ideal) ℓ)

/-- The scalar has one index. -/
instance : Subsingleton Cert.Pre_below_infinity.S_.Idx := ⟨fun a b => funext fun i => i.elim0⟩

/-- What is compared below plus infinity is not plus infinity. -/
theorem ne_top_of_lt (x : EReal) (h : Ideal.cmp .olt x (Ideal.ofBits .f32 0x7F800000#32) = 1#1) : x ≠ ⊤ := by
  have ht : Ideal.ofBits .f32 0x7F800000#32 = ⊤ := by simp [Ideal.ofBits, Ideal.ieee]
  rw [ht] at h
  rintro rfl
  simp [Ideal.cmp] at h

/-- The precondition: on the heads' lanes no gate is plus infinity. -/
theorem ne_top_of_pre (hPre : Cert.Pre_below_infinity.Facts) (h : Cert.Pre_Kernel10Ideal_below_infinity m) (c : Dev Cert.Kernel10Ideal.nD)
    (r : Fin 16384) (l : Fin 16) : logGates m c (ix2 r (⟨l.val, by omega⟩ : Fin 128)) ≠ ⊤ := by
  have h0 := congrFun (h c) (fun a => a.elim0)
  unfold Cert.Pre_below_infinity.fn at h0
  have h1 := ne_top_of_lt _ (Host.reduce_andi_all _ _ _ _ _ h0 (ix2 r l))
  refine fun e => h1 (Eq.trans ?_ e)
  exact extractStridedSlice_apply ![0, 0] _ _ (ix2 r l) (ix2 r (⟨l.val, by omega⟩ : Fin 128)) (fun a => match a with
    | ⟨0, _⟩ => by show r.val = 0 + r.val; omega
    | ⟨1, _⟩ => by show l.val = 0 + l.val; omega)

/-- Where no gate is plus infinity, the reference's result is the kernel's. -/
theorem ref_cumulated (c : Dev Cert.Kernel10Ideal.nD) (hr : ∀ (r : Fin 16384) (l : Fin 16), logGates m c (ix2 r (⟨l.val, by omega⟩ : Fin 128)) ≠ ⊤) :
    val_main_v3 (F := Ideal) (logGates m c) = cumulated m c := by
  funext i
  obtain ⟨b, h, p, rfl⟩ : ∃ (b : Fin 8) (h : Fin 16) (p : Fin 2048), i = ix3 b h p := ⟨i 0, i 1, i 2, eq_ix3 i⟩
  have hb := b.isLt
  have hh := h.isLt
  rw [val_main_v3_apply]
  have e : idx_main_v3 (ix3 b h p) = ix3 b p h := idx_ext3 rfl rfl rfl
  rw [e]
  unfold val_main_v2
  rw [cumsum_apply _ _ (fun i => by
    rw [val_main_call0_call0_v0_apply, val_main_call0_call0_cst_apply]
    exact Ideal.ofBits_zero .f32)]
  unfold cumulated gate
  refine Finset.sum_congr rfl fun n _ => ?_
  by_cases hn : n < 2048
  · rw [dif_pos hn, dif_pos hn, val_main_v1_apply, val_main_v0_apply]
    refine Eq.trans ?_ (parts_eq (hr ⟨2048 * b.val + n, by omega⟩ h)).symm
    refine congrArg (logGates m c) (Shape.idx_ext₂ ?_ ?_)
    · show ((b.val * 2048 + n) * 16 + h.val) / 16 = 2048 * b.val + n
      omega
    · show ((b.val * 2048 + n) * 16 + h.val) % 16 = h.val
      omega
  · rw [dif_neg hn, dif_neg hn]

/-- Where no gate is plus infinity, the cumulative sum's call ends with the reference's result. -/
theorem algebraic (hPre : Cert.Pre_below_infinity.Facts) :
    Cert.algebraic_Kernel10Ideal_Reference10Ideal_pre_below_infinity (hKernel10Ideal := Cert.Kernel10Ideal.Gen.facts)
      (hReference10Ideal := Cert.Reference10Ideal.Gen.facts) (hPre_below_infinity := hPre) := by
  intro m ρ m' ρ' hpre hm
  refine ⟨cumulated m, run m ρ, ?_⟩
  refine (θ_run _ _ _).mono (fun r h c => ?_) (Cert.Reference10Ideal.Value.run (F := Ideal) m' ρ')
  obtain ⟨h0, ha⟩ := h c
  have e0 := hm c
  rw [val_main_v3_eq, e0] at h0
  exact ⟨h0.trans (ref_cumulated m c (ne_top_of_pre m hPre hpre c)), ha⟩

end Cert.Cumsum

end
-- ==== Proof.SbSample.Head.lean ====
/-
  One head of stick-breaking attention over the 32 new rows of a sequence, as the kernel computes it on its blocks: base-2 scores against
  the 1024 cached keys and the 32 new keys, the softplus of each, its sums from a position to the end of its tile by a product with a
  triangle of ones, and the weights these give the values, tile by tile from the last to the first. Here the sixteen heads' stores are
  shown to be one function of the blocks.
-/
module

public import proofs.«01_k».proof.Defs
public import proofs.«01_k».proof.Proof.Gen.Kernel11Ideal.Frame
public import proofs.«01_k».proof.Proof.Gen.Kernel11Ideal.Skeleton
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.SbSample

open Idealize.ShloMosaic Idealize.ShloMosaic.TcCoe Idealize.ShloMosaic.Tactic Idealize.SL.Sem Cert.Kernel11Ideal Cert.Kernel11Ideal.Gen
open Idealize.ShloMosaic.Pipeline (Dat Cfg Window)

/-- Two indices into three axes agree when their coordinates do. -/
theorem idx_ext3 {n : Fin 3 → ℕ} {x y : (a : Fin 3) → Fin (n a)} (h0 : (x 0 : ℕ) = y 0) (h1 : (x 1 : ℕ) = y 1) (h2 : (x 2 : ℕ) = y 2) : x = y :=
  funext fun a => Fin.ext (match a with | ⟨0, _⟩ => h0 | ⟨1, _⟩ => h1 | ⟨2, _⟩ => h2)

/-- Two indices into four axes agree when their coordinates do. -/
theorem idx_ext4 {n : Fin 4 → ℕ} {x y : (a : Fin 4) → Fin (n a)} (h0 : (x 0 : ℕ) = y 0) (h1 : (x 1 : ℕ) = y 1) (h2 : (x 2 : ℕ) = y 2)
    (h3 : (x 3 : ℕ) = y 3) : x = y :=
  funext fun a => Fin.ext (match a with | ⟨0, _⟩ => h0 | ⟨1, _⟩ => h1 | ⟨2, _⟩ => h2 | ⟨3, _⟩ => h3)

/-- The reciprocal of the natural logarithm of two. -/
abbrev perLog2 : EReal := (((Real.log 2)⁻¹ : ℝ) : EReal)

/-- The kernel's rounded log2 e stands for that reciprocal. -/
theorem log2e_eq : (Named.named κ "log2e" 0x3FB8AA3B#32 : Ideal .f32) = perLog2 :=
  IdealRules.named_const.ideal_named_scalar _ _ _ _ rfl

/-- The kernel's softplus in base two: the base-2 logarithm of one plus two to the score. -/
def softplus2 (z : EReal) : EReal := max z 0 + Ideal.log (1 + Ideal.exp2 (0 - max z (-z))) * perLog2

/-- The sum of a tile's entries from a position on, as the product with the triangle gives it: the rounded entries' and what the rounding
left. -/
def onward {n : ℕ} (f : Fin n → EReal) (s : Fin n) : EReal :=
  (∑ k, if s.val ≤ k.val then f k else 0) + ∑ k, if s.val ≤ k.val then f k - f k else 0

/-- The softplus of a whole array of scores. -/
def softplusAll {s : Shape} (z : FVec Ideal s .f32) : FVec Ideal s .f32 :=
  addf (maximumf z (broadcast s (Scalar.ofBits .f32 0x00000000#32)))
    (mulf (log (addf (broadcast s (Scalar.ofBits .f32 0x3F800000#32)) (exp2 (subf (broadcast s (Scalar.ofBits .f32 0x00000000#32)) (absf z)))))
      (broadcast s (Named.named κ "log2e" 0x3FB8AA3B#32)))

/-- It is the softplus of each. -/
theorem softplusAll_apply {s : Shape} (z : FVec Ideal s .f32) (i : s.Idx) : softplusAll z i = softplus2 (z i) := by
  unfold softplusAll softplus2
  pointwise [log2e_eq]
  rfl

variable (q : Vec Ideal S32x128 .bf16) (kc : Vec Ideal S1x1024x128 .f32) (kn : Vec Ideal S32x128 .bf16)
  (vc : Vec Ideal S1x1024x128 .f32) (vn : Vec Ideal S32x128 .bf16) (tc : Vec Ideal S512x256 .bf16) (tn : Vec Ideal S64x32 .bf16)

/-- A head's score of row `r` against new key `k`. -/
def fresh (r k : Fin 32) : EReal := ∑ d : Fin 128, q (ix2 r d) * kn (ix2 k d)

/-- A head's score of row `r` against cached key `k`. -/
def cached (r : Fin 32) (k : Fin 1024) : EReal := ∑ d : Fin 128, q (ix2 r d) * kc (ix3 (0 : Fin 1) k d)

/-- The scores against the new keys. -/
theorem pay5_apply (r k : Fin 32) : k0_pay5 (F := Ideal) q kn (ix2 r k) = fresh q kn r k := by
  unfold k0_pay5 fresh
  pointwise []

/-- The scores against the cache. -/
theorem pay9_apply (r : Fin 32) (k : Fin 1024) : k0_pay9 (F := Ideal) q kc (ix2 r k) = cached q kc r k := by
  unfold k0_pay9 cached
  pointwise []

/-- The mask: a new key is seen when it comes before the row. -/
theorem pay1_apply (r k : Fin 32) {α : Type} (a b : α) : Scalar.select (k0_pay1 (ix2 r k)) a b = if k.val < r.val then a else b := by
  unfold k0_pay1
  pointwise []
  unfold Scalar.select
  have hk := k.isLt
  have hr := r.isLt
  exact if_congr (WordCmp.cmpi_slt_ofNat_eq_one_iff (by omega) (by omega)) rfl rfl

/-! The rest of one head, from its scores. -/

/-- The softplus of the new keys' scores, zero where a key is hidden from row `r`. -/
def hidden (z : Fin 32 → EReal) (r k : Fin 32) : EReal := if k.val < r.val then softplus2 (z k) else 0

/-- The cached key at place `k` of tile `c`. -/
abbrev place (c : Fin 4) (k : Fin 256) : Fin 1024 := ⟨256 * c.val + k.val, by omega⟩

/-- The softplus sums within tile `c`, from place `k` on. -/
def within (z : Fin 1024 → EReal) (c : Fin 4) (k : Fin 256) : EReal := onward (fun j : Fin 256 => softplus2 (z (place c j))) k

/-- The softplus sum of everything after the last tile. -/
def behind3 (z₂ : Fin 32 → EReal) (r : Fin 32) : EReal := onward (hidden z₂ r) 0

/-- The softplus sum of everything after tile 2. -/
def behind2 (z₁ : Fin 1024 → EReal) (z₂ : Fin 32 → EReal) (r : Fin 32) : EReal := behind3 z₂ r + within z₁ 3 0

/-- The softplus sum of everything after tile 1. -/
def behind1 (z₁ : Fin 1024 → EReal) (z₂ : Fin 32 → EReal) (r : Fin 32) : EReal := behind2 z₁ z₂ r + within z₁ 2 0

/-- The softplus sum of everything after tile 0. -/
def behind0 (z₁ : Fin 1024 → EReal) (z₂ : Fin 32 → EReal) (r : Fin 32) : EReal := behind1 z₁ z₂ r + within z₁ 1 0

/-- The weight of a new key. -/
def freshWeight (z₂ : Fin 32 → EReal) (r k : Fin 32) : EReal := if k.val < r.val then Ideal.exp2 (z₂ k - onward (hidden z₂ r) k) else 0

/-- The weight of a cached key, given the sum of what comes after its tile. -/
def tileWeight (z₁ : Fin 1024 → EReal) (c : Fin 4) (x : EReal) (k : Fin 256) : EReal := Ideal.exp2 (z₁ (place c k) - within z₁ c k - x)

/-- What the new values give. -/
def freshPart (z₂ : Fin 32 → EReal) (r : Fin 32) (v₂ : Fin 32 → EReal) : EReal := ∑ k, freshWeight z₂ r k * v₂ k

/-- What a tile of cached values gives. -/
def tilePart (z₁ : Fin 1024 → EReal) (c : Fin 4) (x : EReal) (v₁ : Fin 1024 → EReal) : EReal := ∑ k, tileWeight z₁ c x k * v₁ (place c k)

/-- A row's result from its scores: the new values' part, then the tiles' from the last to the first. -/
def gathered (z₁ : Fin 1024 → EReal) (z₂ : Fin 32 → EReal) (r : Fin 32) (v₁ : Fin 1024 → EReal) (v₂ : Fin 32 → EReal) : EReal :=
  freshPart z₂ r v₂ + tilePart z₁ 3 (behind3 z₂ r) v₁ + tilePart z₁ 2 (behind2 z₁ z₂ r) v₁ + tilePart z₁ 1 (behind1 z₁ z₂ r) v₁
    + tilePart z₁ 0 (behind0 z₁ z₂ r) v₁

/-- The masked softplus of the new scores, as the body computes it. -/
def hiddenAll : FVec Ideal S32x32 .f32 := select k0_pay1 (softplusAll (k0_pay5 q kn)) (broadcast S32x32 (Scalar.ofBits .f32 0x00000000#32))

theorem hiddenAll_apply (r k : Fin 32) : hiddenAll q kn (ix2 r k) = hidden (fresh q kn r) r k := by
  unfold hiddenAll hidden
  show Scalar.select (k0_pay1 (ix2 r k)) (softplusAll (k0_pay5 q kn) (ix2 r k)) (Ideal.ofBits .f32 0x00000000#32) = _
  rw [pay1_apply, softplusAll_apply, pay5_apply, Ideal.ofBits_zero_f32]

/-- The sums over the new keys, as the body computes them. -/
theorem pay6_eq : k0_pay6 (F := Ideal) tn q kn
    = matmul (F := Ideal) dot_S32x64_S64x32_S32x32_1_0_0_1_n_n none
        (concatenate S32x64 1 [⟨S32x32, (truncf .bf16 (hiddenAll q kn) bitsLt_bf16_f32 : FVec Ideal S32x32 .bf16)⟩,
          ⟨S32x32, (truncf .bf16 (subf (hiddenAll q kn) (hiddenAll q kn)) bitsLt_bf16_f32 : FVec Ideal S32x32 .bf16)⟩] concatenates_S32x32_S32x32_S32x64_d1)
        (k0_pay3 tn) (constant S32x32 .f32 0x00000000#32) := rfl

/-- The sums over the new keys. -/
theorem pay6_apply (htn : ∀ (k : Fin 64) (s : Fin 32), tn (ix2 k s) = if s.val ≤ k.val % 32 then (1 : EReal) else 0) (r s : Fin 32) :
    k0_pay6 (F := Ideal) tn q kn (ix2 r s) = onward (hidden (fresh q kn r) r) s := by
  rw [pay6_eq]
  unfold k0_pay3 onward
  pointwise [hiddenAll_apply]
  refine congrArg₂ (fun a b : EReal => a + b) (Finset.sum_congr rfl fun k _ => ?_) (Finset.sum_congr rfl fun k _ => ?_)
  · rw [htn, show (⟨k.val, by omega⟩ : Fin 64).val % 32 = k.val from Nat.mod_eq_of_lt k.isLt, mul_ite, mul_one, mul_zero]
  · rw [htn, show (⟨32 + k.val, by omega⟩ : Fin 64).val % 32 = k.val from (Nat.add_mod_left _ _).trans (Nat.mod_eq_of_lt k.isLt), mul_ite, mul_one, mul_zero]

/-- The new keys' weights. -/
theorem pay7_apply (htn : ∀ (k : Fin 64) (s : Fin 32), tn (ix2 k s) = if s.val ≤ k.val % 32 then (1 : EReal) else 0) (r k : Fin 32) :
    k0_pay7 (F := Ideal) tn q kn (ix2 r k) = freshWeight (fresh q kn r) r k := by
  show Scalar.select (k0_pay1 (ix2 r k)) (Ideal.exp2 (k0_pay5 (F := Ideal) q kn (ix2 r k) - k0_pay6 (F := Ideal) tn q kn (ix2 r k))) (Ideal.ofBits .f32 0x00000000#32) = _
  rw [pay1_apply, pay5_apply, pay6_apply q kn tn htn, Ideal.ofBits_zero_f32]
  rfl

/-- The four tiles of an array, one above the other. -/
def stacked (x : FVec Ideal S32x1024 .f32) : FVec Ideal S128x256 .f32 :=
  concatenate S128x256 0 [⟨S32x256, extractStridedSlice S32x256 ![0, 0] x slices_S32x1024_o0_0_S32x256⟩,
    ⟨S32x256, extractStridedSlice S32x256 ![0, 256] x slices_S32x1024_o0_256_S32x256⟩,
    ⟨S32x256, extractStridedSlice S32x256 ![0, 512] x slices_S32x1024_o0_512_S32x256⟩,
    ⟨S32x256, extractStridedSlice S32x256 ![0, 768] x slices_S32x1024_o0_768_S32x256⟩] concatenates_S32x256_S32x256_S32x256_S32x256_S128x256_d0

/-- Row `r` of tile `c` in the stack. -/
abbrev srow (c : Fin 4) (r : Fin 32) : Fin 128 := ⟨32 * c.val + r.val, by omega⟩

theorem stacked_apply (x : FVec Ideal S32x1024 .f32) (c : Fin 4) (r : Fin 32) (k : Fin 256) : stacked x (ix2 (srow c r) k) = x (ix2 r (place c k)) := by
  have hb : ∀ b : Fin S32x256.rank, b.cast rfl ≠ (0 : Fin S128x256.rank) → ((ix2 r k : S32x256.Idx) b).val = ((ix2 (srow c r) k : S128x256.Idx) (b.cast rfl)).val :=
    fun b hb => match b, hb with | ⟨0, _⟩, hb => absurd rfl hb | ⟨1, _⟩, _ => rfl
  unfold stacked
  match c with
  | 0 =>
    refine (concatenate_apply_piece 0 _ _ (ix2 (srow 0 r) k) 0 (by show 0 < 4; decide) S32x256 _ rfl rfl 0 (by rfl) (ix2 r k) hb (by show 0 + r.val = 32 * 0 + r.val; omega)).trans ?_
    exact extractStridedSlice_apply _ _ _ (ix2 r k) (ix2 r (place 0 k)) (fun a => match a with
      | ⟨0, _⟩ => by show r.val = 0 + r.val; omega | ⟨1, _⟩ => by show 256 * 0 + k.val = 0 + k.val; omega)
  | 1 =>
    refine (concatenate_apply_piece 0 _ _ (ix2 (srow 1 r) k) 1 (by show 1 < 4; decide) S32x256 _ rfl rfl 32 (by rfl) (ix2 r k) hb (by show 32 + r.val = 32 * 1 + r.val; omega)).trans ?_
    exact extractStridedSlice_apply _ _ _ (ix2 r k) (ix2 r (place 1 k)) (fun a => match a with
      | ⟨0, _⟩ => by show r.val = 0 + r.val; omega | ⟨1, _⟩ => by show 256 * 1 + k.val = 256 + k.val; omega)
  | 2 =>
    refine (concatenate_apply_piece 0 _ _ (ix2 (srow 2 r) k) 2 (by show 2 < 4; decide) S32x256 _ rfl rfl 64 (by rfl) (ix2 r k) hb (by show 64 + r.val = 32 * 2 + r.val; omega)).trans ?_
    exact extractStridedSlice_apply _ _ _ (ix2 r k) (ix2 r (place 2 k)) (fun a => match a with
      | ⟨0, _⟩ => by show r.val = 0 + r.val; omega | ⟨1, _⟩ => by show 256 * 2 + k.val = 512 + k.val; omega)
  | 3 =>
    refine (concatenate_apply_piece 0 _ _ (ix2 (srow 3 r) k) 3 (by show 3 < 4; decide) S32x256 _ rfl rfl 96 (by rfl) (ix2 r k) hb (by show 96 + r.val = 32 * 3 + r.val; omega)).trans ?_
    exact extractStridedSlice_apply _ _ _ (ix2 r k) (ix2 r (place 3 k)) (fun a => match a with
      | ⟨0, _⟩ => by show r.val = 0 + r.val; omega | ⟨1, _⟩ => by show 256 * 3 + k.val = 768 + k.val; omega)

/-- The sums within the tiles, as the body computes them. -/
theorem pay10_eq : k0_pay10 (F := Ideal) (k0_pay2 tc) q kc
    = matmul (F := Ideal) dot_S128x512_S512x256_S128x256_1_0_0_1_n_n none
        (concatenate S128x512 1 [⟨S128x256, (truncf .bf16 (stacked (softplusAll (k0_pay9 q kc))) bitsLt_bf16_f32 : FVec Ideal S128x256 .bf16)⟩,
          ⟨S128x256, (truncf .bf16 (subf (stacked (softplusAll (k0_pay9 q kc))) (stacked (softplusAll (k0_pay9 q kc)))) bitsLt_bf16_f32 : FVec Ideal S128x256 .bf16)⟩] concatenates_S128x256_S128x256_S128x512_d1)
        (k0_pay2 tc) (constant S128x256 .f32 0x00000000#32) := rfl

/-- The sums within tile `c`. -/
theorem pay10_apply (htc : ∀ (k : Fin 512) (s : Fin 256), tc (ix2 k s) = if s.val ≤ k.val % 256 then (1 : EReal) else 0) (c : Fin 4) (r : Fin 32) (s : Fin 256) :
    k0_pay10 (F := Ideal) (k0_pay2 tc) q kc (ix2 (srow c r) s) = within (cached q kc r) c s := by
  rw [pay10_eq]
  unfold k0_pay2 within onward
  pointwise [stacked_apply, softplusAll_apply, pay9_apply]
  refine congrArg₂ (fun a b : EReal => a + b) (Finset.sum_congr rfl fun k _ => ?_) (Finset.sum_congr rfl fun k _ => ?_)
  · rw [htc, show (⟨k.val, by omega⟩ : Fin 512).val % 256 = k.val from Nat.mod_eq_of_lt k.isLt, mul_ite, mul_one, mul_zero]
  · rw [htc, show (⟨256 + k.val, by omega⟩ : Fin 512).val % 256 = k.val from (Nat.add_mod_left _ _).trans (Nat.mod_eq_of_lt k.isLt), mul_ite, mul_one, mul_zero]

/-- One head's result, as the body computes it from its loads. -/
def headOut : FVec Ideal S32x128 .f32 :=
  k0_pay16 (k0_pay4 vc) (k0_pay9 q kc) (k0_pay10 (k0_pay2 tc) q kc) (k0_pay12 (k0_pay2 tc) q (k0_pay4 vc) (k0_pay6 tn q kn) (k0_pay7 tn q kn) vn kc)
    (k0_pay13 (k0_pay2 tc) q (k0_pay6 tn q kn) kc) (k0_pay14 (k0_pay2 tc) q kc) (k0_pay15 (k0_pay2 tc) q (k0_pay6 tn q kn) kc)

/-- One head's result at a row and a column. -/
theorem headOut_apply (htc : ∀ (k : Fin 512) (s : Fin 256), tc (ix2 k s) = if s.val ≤ k.val % 256 then (1 : EReal) else 0)
    (htn : ∀ (k : Fin 64) (s : Fin 32), tn (ix2 k s) = if s.val ≤ k.val % 32 then (1 : EReal) else 0) (r : Fin 32) (e : Fin 128) :
    headOut q kc kn vc vn tc tn (ix2 r e)
      = gathered (cached q kc r) (fresh q kn r) r (fun k => vc (ix3 (0 : Fin 1) k e)) (fun k => vn (ix2 k e)) := by
  have h10 := pay10_apply q kc tc htc
  have h6 := pay6_apply q kn tn htn
  have h7 := pay7_apply q kn tn htn
  have h9 := pay9_apply q kc
  unfold headOut k0_pay16 k0_pay12 k0_pay13 k0_pay14 k0_pay15 k0_pay13 k0_pay14 k0_pay11 k0_pay8 k0_pay4
  generalize k0_pay10 (F := Ideal) (k0_pay2 tc) q kc = p10 at *
  generalize k0_pay6 (F := Ideal) tn q kn = p6 at *
  generalize k0_pay7 (F := Ideal) tn q kn = p7 at *
  generalize k0_pay9 (F := Ideal) q kc = p9 at *
  have e3 : ∀ s : Fin 256, p10 (ix2 (⟨96 + r.val, by omega⟩ : Fin 128) s) = within (cached q kc r) 3 s := fun s => h10 3 r s
  have e2 : ∀ s : Fin 256, p10 (ix2 (⟨64 + r.val, by omega⟩ : Fin 128) s) = within (cached q kc r) 2 s := fun s => h10 2 r s
  have e1 : ∀ s : Fin 256, p10 (ix2 (⟨32 + r.val, by omega⟩ : Fin 128) s) = within (cached q kc r) 1 s := fun s => h10 1 r s
  have e0 : ∀ s : Fin 256, p10 (ix2 (⟨r.val, by omega⟩ : Fin 128) s) = within (cached q kc r) 0 s := fun s =>
    (congrArg (fun a : Fin 128 => p10 (ix2 a s)) (Fin.ext (by show r.val = 32 * 0 + r.val; omega))).trans (h10 0 r s)
  pointwise [h7, h9]
  simp only [e3, e2, e1, e0, h6]
  unfold gathered
  refine congrArg₂ (fun a b : EReal => a + b) rfl (Finset.sum_congr rfl fun x _ => ?_)
  have hx : (⟨x.val, by omega⟩ : Fin 1024) = place 0 x := Fin.ext (by show x.val = 256 * 0 + x.val; omega)
  rw [hx]
  rfl

/-! The heads of a block. -/

variable (x0 : Vec Ideal S32x2048 .bf16) (x1 x2 : Vec Ideal S1x16384x128 .f32) (x3 x4 : Vec Ideal S32x2048 .bf16)
  (x5 : Vec Ideal S512x256 .bf16) (x6 : Vec Ideal S64x32 .bf16)

/-- Column `d` of head `h` of a row of 2048. -/
abbrev hcol (h : Fin 16) (d : Fin 128) : Fin 2048 := ⟨128 * h.val + d.val, by omega⟩

/-- The row of a cache that holds head `h` of position `k`. -/
abbrev hrow (h : Fin 16) (k : Fin 1024) : Fin 16384 := ⟨16 * k.val + h.val, by omega⟩

/-- Head `h`'s score of row `r` against cached key `k`, read off the blocks. -/
def cachedAt (h : Fin 16) (r : Fin 32) (k : Fin 1024) : EReal := ∑ d : Fin 128, x0 (ix2 r (hcol h d)) * x1 (ix3 (0 : Fin 1) (hrow h k) d)

/-- Head `h`'s score of row `r` against new key `k`, read off the blocks. -/
def freshAt (h : Fin 16) (r k : Fin 32) : EReal := ∑ d : Fin 128, x0 (ix2 r (hcol h d)) * x3 (ix2 k (hcol h d))

/-- What the body leaves at row `r`, head `h`, column `e` of its output block. -/
def headAt (h : Fin 16) (r : Fin 32) (e : Fin 128) : EReal :=
  gathered (cachedAt x0 x1 h r) (freshAt x0 x3 h r) r (fun k => x2 (ix3 (0 : Fin 1) (hrow h k) e)) (fun k => x4 (ix2 k (hcol h e)))

/-- The output block. -/
def blockOut : S32x2048.Idx → EReal := fun y =>
  headAt x0 x1 x2 x3 x4 ⟨(y 1).val / 128, by have := (y 1).isLt; change (y 1).val < 2048 at this; omega⟩ (y 0)
    ⟨(y 1).val % 128, Nat.mod_lt _ (by decide)⟩

/-- Head `h`'s loads give head `h`'s columns of the output block. -/
theorem head_piece (h5 : ∀ (k : Fin 512) (s : Fin 256), x5 (ix2 k s) = if s.val ≤ k.val % 256 then (1 : EReal) else 0)
    (h6 : ∀ (k : Fin 64) (s : Fin 32), x6 (ix2 k s) = if s.val ≤ k.val % 32 then (1 : EReal) else 0) (h o : ℕ) (hh : h < 16) (ho : o = 128 * h)
    (ib : ∀ a, (![0, o] : Fin 2 → ℕ) a + S32x128.size a ≤ S32x2048.size a)
    (ik : ∀ a, S1x1024x128.size a = 0 ∨ (![0, h, 0] : Fin 3 → ℕ) a + (![1, 16, 1] : Fin 3 → ℕ) a * (S1x1024x128.size a - 1) < S1x16384x128.size a)
    (ic : ∀ a, (![0, 0] : Fin 2 → ℕ) a + S512x256.size a ≤ S512x256.size a)
    (il : ∀ a, (![0, 0] : Fin 2 → ℕ) a + S64x32.size a ≤ S64x32.size a) (x : S32x128.Idx) :
    headOut (View.ld x0 (Rect.unit (s := S32x2048) ![0, o] S32x128.size ib))
        (fun y => x1 ((⟨![0, h, 0], S1x1024x128.size, ![1, 16, 1], ik⟩ : LoadRect S1x16384x128).idx y))
        (View.ld x3 (Rect.unit (s := S32x2048) ![0, o] S32x128.size ib))
        (fun y => x2 ((⟨![0, h, 0], S1x1024x128.size, ![1, 16, 1], ik⟩ : LoadRect S1x16384x128).idx y))
        (View.ld x4 (Rect.unit (s := S32x2048) ![0, o] S32x128.size ib))
        (View.ld x5 (Rect.unit (s := S512x256) ![0, 0] S512x256.size ic)) (View.ld x6 (Rect.unit (s := S64x32) ![0, 0] S64x32.size il)) x
      = blockOut x0 x1 x2 x3 x4 ((Rect.unit (s := S32x2048) ![0, o] S32x128.size ib).emb x) := by
  obtain ⟨r, e, rfl⟩ : ∃ (r : Fin 32) (e : Fin 128), x = ix2 r e := ⟨x 0, x 1, Shape.idx_ext₂ rfl rfl⟩
  have hcolumns : ∀ (z : Vec Ideal S32x2048 .bf16) (i : Fin 32) (d : Fin 128),
      View.ld z (Rect.unit (s := S32x2048) ![0, o] S32x128.size ib) (ix2 i d) = z (ix2 i (hcol ⟨h, hh⟩ d)) := fun z i d =>
    congrArg z (Shape.idx_ext₂ (by show 0 + 1 * i.val = i.val; omega) (by show o + 1 * d.val = 128 * h + d.val; omega))
  have hrows : ∀ (z : Vec Ideal S1x16384x128 .f32) (k : Fin 1024) (d : Fin 128),
      z ((⟨![0, h, 0], S1x1024x128.size, ![1, 16, 1], ik⟩ : LoadRect S1x16384x128).idx (ix3 (0 : Fin 1) k d))
        = z (ix3 (0 : Fin 1) (hrow ⟨h, hh⟩ k) d) := fun z k d =>
    congrArg z (idx_ext3 (by rfl) (by show h + 16 * k.val = 16 * k.val + h; omega) (by show 0 + 1 * d.val = d.val; omega))
  have hbig : ∀ (k : Fin 512) (s : Fin 256), View.ld x5 (Rect.unit (s := S512x256) ![0, 0] S512x256.size ic) (ix2 k s)
      = if s.val ≤ k.val % 256 then (1 : EReal) else 0 := fun k s =>
    (congrArg x5 (Shape.idx_ext₂ (by show 0 + 1 * k.val = k.val; omega) (by show 0 + 1 * s.val = s.val; omega))).trans (h5 k s)
  have hsmall : ∀ (k : Fin 64) (s : Fin 32), View.ld x6 (Rect.unit (s := S64x32) ![0, 0] S64x32.size il) (ix2 k s)
      = if s.val ≤ k.val % 32 then (1 : EReal) else 0 := fun k s =>
    (congrArg x6 (Shape.idx_ext₂ (by show 0 + 1 * k.val = k.val; omega) (by show 0 + 1 * s.val = s.val; omega))).trans (h6 k s)
  rw [headOut_apply _ _ _ _ _ _ _ hbig hsmall]
  unfold blockOut
  have e0 : ((Rect.unit (s := S32x2048) ![0, o] S32x128.size ib).emb (ix2 r e)) 0 = r := Fin.ext (by show 0 + 1 * r.val = r.val; omega)
  have e1 : (((Rect.unit (s := S32x2048) ![0, o] S32x128.size ib).emb (ix2 r e)) 1).val = o + 1 * e.val := rfl
  have f1 : (⟨(((Rect.unit (s := S32x2048) ![0, o] S32x128.size ib).emb (ix2 r e)) 1).val / 128, by rw [e1]; omega⟩ : Fin 16) = ⟨h, hh⟩ :=
    Fin.ext (by show _ / 128 = h; rw [e1]; omega)
  have f2 : (⟨(((Rect.unit (s := S32x2048) ![0, o] S32x128.size ib).emb (ix2 r e)) 1).val % 128, Nat.mod_lt _ (by decide)⟩ : Fin 128) = e :=
    Fin.ext (by show _ % 128 = e.val; rw [e1]; omega)
  rw [e0, f1, f2]
  unfold headAt
  congr 1
  · funext k
    exact Finset.sum_congr rfl fun d _ => congrArg₂ (fun a b : EReal => a * b) (hcolumns x0 r d) (hrows x1 k d)
  · funext k
    exact Finset.sum_congr rfl fun d _ => congrArg₂ (fun a b : EReal => a * b) (hcolumns x0 r d) (hcolumns x3 k d)
  · funext k
    exact hrows x2 k e
  · funext k
    exact hcolumns x4 k e

variable (m : (ℓ : Loc nD τ sig) → Buf (Elt Ideal) ℓ)

/-- The blocks of a point, by the argument they come from. -/
abbrev outOf (c : Dev nD) (t : Fin cfg0.N) : S32x2048.Idx → EReal :=
  blockOut (iblk m c 0 t) (iblk m c 1 t) (iblk m c 2 t) (iblk m c 3 t) (iblk m c 4 t)

/-- A load of every sixteenth row, off a buffer holding a block. -/
theorem loaded (M : Memref sig .tc .vmem S1x16384x128 .f32) (hM : M.IsWhole) (X : Vec Ideal S1x16384x128 .f32) (R : LoadRect S1x16384x128) :
    View.readAt (Elt Ideal) M.view R (hM.unread X) = fun y => X (R.idx y) := by
  funext y
  rw [View.readAt_apply, hM.read_unread]

/-- What the sixteen stores leave in the output block. -/
theorem outsAt_eq (c : Dev nD) (t : Fin cfg0.N) (h5 : ∀ (k : Fin 512) (s : Fin 256), iblk m c 5 t (ix2 k s) = if s.val ≤ k.val % 256 then (1 : EReal) else 0)
    (h6 : ∀ (k : Fin 64) (s : Fin 32), iblk m c 6 t (ix2 k s) = if s.val ≤ k.val % 32 then (1 : EReal) else 0) : outsAt0 m c t = outOf m c t := by
  unfold outsAt0 out0_A_7
  funext y
  refine View.read_writes_apply_of_pieces (Val := Elt Ideal) _ _ (outOf m c t) _ ?_ y (cover0_A_7 _ _ _ _ _ _ _ _ _ _ _ _ _ _ _ _ _ _ _ _ _ _ _ _ _ y)
  have opened := head_piece (iblk m c 0 t) (iblk m c 1 t) (iblk m c 2 t) (iblk m c 3 t) (iblk m c 4 t) (iblk m c 5 t) (iblk m c 6 t) h5 h6
  intro p hp x
  unfold kernelRun0_A at hp
  simp only [List.mem_cons, List.not_mem_nil, _root_.or_false] at hp
  rcases hp with rfl | rfl | rfl | rfl | rfl | rfl | rfl | rfl | rfl | rfl | rfl | rfl | rfl | rfl | rfl | rfl
  all_goals
    sl_unfold_run_names
    simp only [View.readAt_eq_ld, Memref.IsWhole.read_unread, loaded]
  · exact opened 15 1920 (by decide) (by decide) inb_S32x2048_S32x128_0_1920 inb_S1x16384x128_S1x1024x128_0_15_0_s_1_16_1 inb_S512x256_S512x256_0_0 inb_S64x32_S64x32_0_0 x
  · exact opened 14 1792 (by decide) (by decide) inb_S32x2048_S32x128_0_1792 inb_S1x16384x128_S1x1024x128_0_14_0_s_1_16_1 inb_S512x256_S512x256_0_0 inb_S64x32_S64x32_0_0 x
  · exact opened 13 1664 (by decide) (by decide) inb_S32x2048_S32x128_0_1664 inb_S1x16384x128_S1x1024x128_0_13_0_s_1_16_1 inb_S512x256_S512x256_0_0 inb_S64x32_S64x32_0_0 x
  · exact opened 12 1536 (by decide) (by decide) inb_S32x2048_S32x128_0_1536 inb_S1x16384x128_S1x1024x128_0_12_0_s_1_16_1 inb_S512x256_S512x256_0_0 inb_S64x32_S64x32_0_0 x
  · exact opened 11 1408 (by decide) (by decide) inb_S32x2048_S32x128_0_1408 inb_S1x16384x128_S1x1024x128_0_11_0_s_1_16_1 inb_S512x256_S512x256_0_0 inb_S64x32_S64x32_0_0 x
  · exact opened 10 1280 (by decide) (by decide) inb_S32x2048_S32x128_0_1280 inb_S1x16384x128_S1x1024x128_0_10_0_s_1_16_1 inb_S512x256_S512x256_0_0 inb_S64x32_S64x32_0_0 x
  · exact opened 9 1152 (by decide) (by decide) inb_S32x2048_S32x128_0_1152 inb_S1x16384x128_S1x1024x128_0_9_0_s_1_16_1 inb_S512x256_S512x256_0_0 inb_S64x32_S64x32_0_0 x
  · exact opened 8 1024 (by decide) (by decide) inb_S32x2048_S32x128_0_1024 inb_S1x16384x128_S1x1024x128_0_8_0_s_1_16_1 inb_S512x256_S512x256_0_0 inb_S64x32_S64x32_0_0 x
  · exact opened 7 896 (by decide) (by decide) inb_S32x2048_S32x128_0_896 inb_S1x16384x128_S1x1024x128_0_7_0_s_1_16_1 inb_S512x256_S512x256_0_0 inb_S64x32_S64x32_0_0 x
  · exact opened 6 768 (by decide) (by decide) inb_S32x2048_S32x128_0_768 inb_S1x16384x128_S1x1024x128_0_6_0_s_1_16_1 inb_S512x256_S512x256_0_0 inb_S64x32_S64x32_0_0 x
  · exact opened 5 640 (by decide) (by decide) inb_S32x2048_S32x128_0_640 inb_S1x16384x128_S1x1024x128_0_5_0_s_1_16_1 inb_S512x256_S512x256_0_0 inb_S64x32_S64x32_0_0 x
  · exact opened 4 512 (by decide) (by decide) inb_S32x2048_S32x128_0_512 inb_S1x16384x128_S1x1024x128_0_4_0_s_1_16_1 inb_S512x256_S512x256_0_0 inb_S64x32_S64x32_0_0 x
  · exact opened 3 384 (by decide) (by decide) inb_S32x2048_S32x128_0_384 inb_S1x16384x128_S1x1024x128_0_3_0_s_1_16_1 inb_S512x256_S512x256_0_0 inb_S64x32_S64x32_0_0 x
  · exact opened 2 256 (by decide) (by decide) inb_S32x2048_S32x128_0_256 inb_S1x16384x128_S1x1024x128_0_2_0_s_1_16_1 inb_S512x256_S512x256_0_0 inb_S64x32_S64x32_0_0 x
  · exact opened 1 128 (by decide) (by decide) inb_S32x2048_S32x128_0_128 inb_S1x16384x128_S1x1024x128_0_1_0_s_1_16_1 inb_S512x256_S512x256_0_0 inb_S64x32_S64x32_0_0 x
  · exact opened 0 0 (by decide) (by decide) inb_S32x2048_S32x128_0_0 inb_S1x16384x128_S1x1024x128_0_0_0_s_1_16_1 inb_S512x256_S512x256_0_0 inb_S64x32_S64x32_0_0 x

end Cert.SbSample

end
end
-- ==== Proof.SbSample.Kernel.lean ====
/-
  Stick-breaking attention over the new rows, read as a value. The launch walks 16 points, one sequence each; a point attends with the 32 new
  rows of its sequence to the 1024 cached positions and to the new rows themselves, for each of the 16 heads. Here the result array is
  shown to be one function of the arguments.
-/
module

public import proofs.«01_k».proof.Proof.SbSample.Head
public import Idealize.ShloMosaic.Lib.StableHlo.ReadAt

@[expose] public section

set_option maxRecDepth 16384

noncomputable section

namespace Cert.SbSample

open Idealize.ShloMosaic Idealize.ShloMosaic.TcCoe Idealize.SL.Sem Cert.Kernel11Ideal Cert.Kernel11Ideal.Gen
open Idealize.ShloMosaic.Pipeline (Dat Cfg Window)

variable (m : (ℓ : Loc nD τ sig) → Buf (Elt Ideal) ℓ) (ρ : Dev nD → PrngReg)

/-- The scaled queries of the new rows. -/
abbrev queries (c : Dev nD) : S512x2048.Idx → EReal := m ((c : Thread nD τ).loc main_arg0)

/-- The cached keys. -/
abbrev keyCache (c : Dev nD) : S16x1024x16x128.Idx → EReal := m ((c : Thread nD τ).loc main_arg1)

/-- The cached values. -/
abbrev valueCache (c : Dev nD) : S16x1024x16x128.Idx → EReal := m ((c : Thread nD τ).loc main_arg2)

/-- The keys of the new rows. -/
abbrev newKeys (c : Dev nD) : S512x2048.Idx → EReal := m ((c : Thread nD τ).loc main_arg3)

/-- The values of the new rows. -/
abbrev newValues (c : Dev nD) : S512x2048.Idx → EReal := m ((c : Thread nD τ).loc main_arg4)

/-- New row `r` of sequence `b`. -/
abbrev arow (b : Fin 16) (r : Fin 32) : Fin 512 := ⟨32 * b.val + r.val, by omega⟩

/-- Head `h`'s base-2 score of row `r` of sequence `b` against cached position `k`. -/
def oldScore (c : Dev nD) (b : Fin 16) (r : Fin 32) (h : Fin 16) (k : Fin 1024) : EReal :=
  ∑ d : Fin 128, queries m c (ix2 (arow b r) (hcol h d)) * keyCache m c (ix4 b k h d)

/-- Head `h`'s base-2 score of row `r` of sequence `b` against its new row `k`. -/
def newScore (c : Dev nD) (b : Fin 16) (r : Fin 32) (h : Fin 16) (k : Fin 32) : EReal :=
  ∑ d : Fin 128, queries m c (ix2 (arow b r) (hcol h d)) * newKeys m c (ix2 (arow b k) (hcol h d))

/-- Head `h`'s result for row `r` of sequence `b`, at column `e`. -/
def attend (c : Dev nD) (b : Fin 16) (r : Fin 32) (h : Fin 16) (e : Fin 128) : EReal :=
  gathered (oldScore m c b r h) (newScore m c b r h) r (fun k => valueCache m c (ix4 b k h e)) (fun k => newValues m c (ix2 (arow b k) (hcol h e)))

/-- The result array. -/
def attended (c : Dev nD) : S512x2048.Idx → EReal := fun i =>
  attend m c ⟨(i 0).val / 32, by have := (i 0).isLt; change (i 0).val < 512 at this; omega⟩ ⟨(i 0).val % 32, Nat.mod_lt _ (by decide)⟩
    ⟨(i 1).val / 128, by have := (i 1).isLt; change (i 1).val < 2048 at this; omega⟩ ⟨(i 1).val % 128, Nat.mod_lt _ (by decide)⟩

/-! What the launch finds in the arrays prepared for it. -/

/-- The key cache with its heads and positions on one axis. -/
theorem found_keys (c : Dev nD) (b : Fin 16) (h : Fin 16) (k : Fin 1024) (d : Fin 128) :
    V m c main_v0 (ix3 b (hrow h k) d) = keyCache m c (ix4 b k h d) := by
  unfold V
  after_reads_at
  have hh : h.val < 16 := h.isLt
  exact congrArg (keyCache m c) (idx_ext4 rfl (by show (16 * k.val + h.val) / 16 = k.val; omega) (by show (16 * k.val + h.val) % 16 = h.val; omega) rfl)

/-- The value cache with its heads and positions on one axis. -/
theorem found_values (c : Dev nD) (b : Fin 16) (h : Fin 16) (k : Fin 1024) (d : Fin 128) :
    V m c main_v1 (ix3 b (hrow h k) d) = valueCache m c (ix4 b k h d) := by
  unfold V
  after_reads_at
  have hh : h.val < 16 := h.isLt
  exact congrArg (valueCache m c) (idx_ext4 rfl (by show (16 * k.val + h.val) / 16 = k.val; omega) (by show (16 * k.val + h.val) % 16 = h.val; omega) rfl)

/-- The triangle for a tile of 256, twice. -/
theorem found_tiles (c : Dev nD) (k : Fin 512) (s : Fin 256) : V m c main_v9 (ix2 k s) = if s.val ≤ k.val % 256 then (1 : EReal) else 0 := by
  unfold V
  after_reads_at
  by_cases hk : k.val < 256
  · rw [dif_pos hk, Nat.mod_eq_of_lt hk]
    rw [WordCmp.cmpi_sge_ofNat (by omega) (by omega)]
    show (((BitVec.ofBool (decide (s.val ≤ k.val))).toNat : ℝ) : EReal) = _
    by_cases h : s.val ≤ k.val <;> simp [h]
  · rw [dif_neg hk, show k.val % 256 = k.val - 256 by omega]
    rw [WordCmp.cmpi_sge_ofNat (by omega) (by omega)]
    show (((BitVec.ofBool (decide (s.val ≤ k.val - 256))).toNat : ℝ) : EReal) = _
    by_cases h : s.val ≤ k.val - 256 <;> simp [h]

/-- The triangle for the new keys, twice. -/
theorem found_fresh (c : Dev nD) (k : Fin 64) (s : Fin 32) : V m c main_v17 (ix2 k s) = if s.val ≤ k.val % 32 then (1 : EReal) else 0 := by
  unfold V
  after_reads_at
  by_cases hk : k.val < 32
  · rw [dif_pos hk, Nat.mod_eq_of_lt hk]
    rw [WordCmp.cmpi_sge_ofNat (by omega) (by omega)]
    show (((BitVec.ofBool (decide (s.val ≤ k.val))).toNat : ℝ) : EReal) = _
    by_cases h : s.val ≤ k.val <;> simp [h]
  · rw [dif_neg hk, show k.val % 32 = k.val - 32 by omega]
    rw [WordCmp.cmpi_sge_ofNat (by omega) (by omega)]
    show (((BitVec.ofBool (decide (s.val ≤ k.val - 32))).toNat : ℝ) : EReal) = _
    by_cases h : s.val ≤ k.val - 32 <;> simp [h]

/-- Where each window's block lies at point `t`. -/
theorem places : ∀ t : Fin cfg0.N,
    (win0_0.index t 0 = t.val ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0)
    ∧ (win0_7.index t 0 = t.val ∧ win0_7.index t 1 = 0) :=
  (by decide +kernel : ∀ t : Fin grid0.N, _)

/-- The number of points. -/
theorem lt_points (t : Fin cfg0.N) : t.val < 16 := t.isLt

/-- The sequence of a point. -/
abbrev seq (t : Fin cfg0.N) : Fin 16 := ⟨t.val, lt_points t⟩

/-- The queries' block at point `t`: the rows of sequence `t`. -/
theorem blk_queries (c : Dev nD) (t : Fin cfg0.N) (r : Fin 32) (k : Fin 2048) : iblk m c 0 t (ix2 r k) = queries m c (ix2 (arow (seq t) r) k) := by
  have hp := (places t).1
  unfold iblk
  rw [View.read_apply]
  show V m c main_arg0 _ = _
  rw [V_main_arg0]
  refine congrArg (queries m c) (Shape.idx_ext₂ ?_ ?_)
  · refine (win0_0.rect_emb_val t (ix2 r k) 0).trans ?_
    rw [hp.1]
    show t.val * 32 + r.val = 32 * t.val + r.val
    omega
  · exact win0_0.rect_emb_val_of_index_zero t 1 hp.2 (ix2 r k)

/-- The new keys' block. -/
theorem blk_newKeys (c : Dev nD) (t : Fin cfg0.N) (r : Fin 32) (k : Fin 2048) : iblk m c 3 t (ix2 r k) = newKeys m c (ix2 (arow (seq t) r) k) := by
  have hp := (places t).2.2.2.1
  unfold iblk
  rw [View.read_apply]
  show V m c main_arg3 _ = _
  rw [V_main_arg3]
  refine congrArg (newKeys m c) (Shape.idx_ext₂ ?_ ?_)
  · refine (win0_3.rect_emb_val t (ix2 r k) 0).trans ?_
    rw [hp.1]
    show t.val * 32 + r.val = 32 * t.val + r.val
    omega
  · exact win0_3.rect_emb_val_of_index_zero t 1 hp.2 (ix2 r k)

/-- The new values' block. -/
theorem blk_newValues (c : Dev nD) (t : Fin cfg0.N) (r : Fin 32) (k : Fin 2048) : iblk m c 4 t (ix2 r k) = newValues m c (ix2 (arow (seq t) r) k) := by
  have hp := (places t).2.2.2.2.1
  unfold iblk
  rw [View.read_apply]
  show V m c main_arg4 _ = _
  rw [V_main_arg4]
  refine congrArg (newValues m c) (Shape.idx_ext₂ ?_ ?_)
  · refine (win0_4.rect_emb_val t (ix2 r k) 0).trans ?_
    rw [hp.1]
    show t.val * 32 + r.val = 32 * t.val + r.val
    omega
  · exact win0_4.rect_emb_val_of_index_zero t 1 hp.2 (ix2 r k)

/-- The key cache's block: the whole cache of sequence `t`. -/
theorem blk_keys (c : Dev nD) (t : Fin cfg0.N) (p : Fin 16384) (d : Fin 128) : iblk m c 1 t (ix3 (0 : Fin 1) p d) = V m c main_v0 (ix3 (seq t) p d) := by
  have hp := (places t).2.1
  unfold iblk
  rw [View.read_apply]
  show V m c main_v0 _ = _
  refine congrArg (V m c main_v0) (idx_ext3 ?_ ?_ ?_)
  · refine (win0_1.rect_emb_val t (ix3 (0 : Fin 1) p d) 0).trans ?_
    rw [hp.1]
    show t.val * 1 + 0 = t.val
    omega
  · exact win0_1.rect_emb_val_of_index_zero t 1 hp.2.1 (ix3 (0 : Fin 1) p d)
  · exact win0_1.rect_emb_val_of_index_zero t 2 hp.2.2 (ix3 (0 : Fin 1) p d)

/-- The value cache's block. -/
theorem blk_values (c : Dev nD) (t : Fin cfg0.N) (p : Fin 16384) (d : Fin 128) : iblk m c 2 t (ix3 (0 : Fin 1) p d) = V m c main_v1 (ix3 (seq t) p d) := by
  have hp := (places t).2.2.1
  unfold iblk
  rw [View.read_apply]
  show V m c main_v1 _ = _
  refine congrArg (V m c main_v1) (idx_ext3 ?_ ?_ ?_)
  · refine (win0_2.rect_emb_val t (ix3 (0 : Fin 1) p d) 0).trans ?_
    rw [hp.1]
    show t.val * 1 + 0 = t.val
    omega
  · exact win0_2.rect_emb_val_of_index_zero t 1 hp.2.1 (ix3 (0 : Fin 1) p d)
  · exact win0_2.rect_emb_val_of_index_zero t 2 hp.2.2 (ix3 (0 : Fin 1) p d)

/-- The tiles' triangles are read whole at every point. -/
theorem blk_tiles (c : Dev nD) (t : Fin cfg0.N) (k : Fin 512) (s : Fin 256) : iblk m c 5 t (ix2 k s) = if s.val ≤ k.val % 256 then (1 : EReal) else 0 := by
  have hp := (places t).2.2.2.2.2.1
  refine Eq.trans ?_ (found_tiles m c k s)
  unfold iblk
  rw [View.read_apply]
  show V m c main_v9 _ = _
  refine congrArg (V m c main_v9) (Shape.idx_ext₂ ?_ ?_)
  · exact win0_5.rect_emb_val_of_index_zero t 0 hp.1 (ix2 k s)
  · exact win0_5.rect_emb_val_of_index_zero t 1 hp.2 (ix2 k s)

/-- And the new keys' triangles. -/
theorem blk_fresh (c : Dev nD) (t : Fin cfg0.N) (k : Fin 64) (s : Fin 32) : iblk m c 6 t (ix2 k s) = if s.val ≤ k.val % 32 then (1 : EReal) else 0 := by
  have hp := (places t).2.2.2.2.2.2.1
  refine Eq.trans ?_ (found_fresh m c k s)
  unfold iblk
  rw [View.read_apply]
  show V m c main_v17 _ = _
  refine congrArg (V m c main_v17) (Shape.idx_ext₂ ?_ ?_)
  · exact win0_6.rect_emb_val_of_index_zero t 0 hp.1 (ix2 k s)
  · exact win0_6.rect_emb_val_of_index_zero t 1 hp.2 (ix2 k s)

/-- What point `t` leaves in its block is its block of the result. -/
theorem head_value (c : Dev nD) (t : Fin cfg0.N) (h : Fin 16) (r : Fin 32) (e : Fin 128) :
    headAt (iblk m c 0 t) (iblk m c 1 t) (iblk m c 2 t) (iblk m c 3 t) (iblk m c 4 t) h r e
      = attend m c (seq t) r h e := by
  unfold headAt attend
  congr 1
  · funext k
    unfold cachedAt oldScore
    exact Finset.sum_congr rfl fun d _ =>
      congrArg₂ (fun a b : EReal => a * b) (blk_queries m c t r (hcol h d)) ((blk_keys m c t (hrow h k) d).trans (found_keys m c (seq t) h k d))
  · funext k
    unfold freshAt newScore
    exact Finset.sum_congr rfl fun d _ =>
      congrArg₂ (fun a b : EReal => a * b) (blk_queries m c t r (hcol h d)) (blk_newKeys m c t k (hcol h d))
  · funext k
    exact (blk_values m c t (hrow h k) e).trans (found_values m c (seq t) h k e)
  · funext k
    exact blk_newValues m c t k (hcol h e)

/-- What point `t` writes back is its block of the result. -/
theorem flushed_attended (c : Dev nD) (t : Fin cfg0.N) :
    (dats m 0 c).flushed 7 t = ((cfg0.win 7).blk t).view.read (Elt Ideal) (attended m c) := by
  have hp := (places t).2.2.2.2.2.2.2
  have ht := lt_points t
  show (cfg0.win 7).cut (grid0.coords t) ((dats m 0 c).after 7 t) = _
  rw [after0_7, outsAt_eq m c t (blk_tiles m c t) (blk_fresh m c t)]
  funext y
  rw [View.read_apply]
  have h0 : (y 0).val < 32 := (y 0).isLt
  have h1 : (y 1).val < 2048 := (y 1).isLt
  have e : ((cfg0.win 7).blk t).view.emb y = ix2 (arow (seq t) (y 0)) (y 1) :=
    Shape.idx_ext₂
      ((win0_7.rect_emb_val t y 0).trans (by rw [hp.1]; show t.val * 32 + (y 0).val = 32 * t.val + (y 0).val; omega))
      (win0_7.rect_emb_val_of_index_zero t 1 hp.2 y)
  show outOf m c t y = attended m c _
  rw [e]
  refine (head_value m c t _ _ _).trans ?_
  unfold attended
  congr 1
  · exact Fin.ext (by show t.val = (32 * t.val + (y 0).val) / 32; omega)
  · exact Fin.ext (by show (y 0).val = (32 * t.val + (y 0).val) % 32; omega)

/-- Its blocks tile the array, so it ends at the result. -/
theorem final_attended (c : Dev nD) : (dats m 0 c).arrAt 7 cfg0.N = attended m c :=
  (dats m 0 c).arrAt_eq_of_cover 7 (attended m c) (fun t _ => flushed_attended m c t) fun i => by
    have h0 : (i 0).val < 512 := (i 0).isLt
    have h1 : (i 1).val < 2048 := (i 1).isLt
    let t : Fin cfg0.N := ⟨(i 0).val / 32, by show _ < 16; omega⟩
    have hp := (places t).2.2.2.2.2.2.2
    refine ⟨t, flush0_7 t, ?_⟩
    show i ∈ ((View.whole main_v18).slice (win0_7.rect t)).set
    rw [View.set_slice_whole, Rect.mem_set_unit]
    intro a
    match a with
    | ⟨0, _⟩ =>
      show win0_7.index t 0 * 32 ≤ (i 0).val ∧ (i 0).val < win0_7.index t 0 * 32 + 32
      rw [hp.1]; dsimp only [t]; omega
    | ⟨1, _⟩ =>
      show win0_7.index t 1 * 2048 ≤ (i 1).val ∧ (i 1).val < win0_7.index t 1 * 2048 + 2048
      rw [hp.2]; omega

/-- The run: the result is the function above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v18) = attended m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => by
    obtain ⟨⟨ha, -⟩, h1⟩ := h
    exact ⟨((h1 c).1 7).trans (final_attended m c), ha c⟩)
    (θ_run_and (Gen.frame m ρ) (run_main m ρ))

end Cert.SbSample

end
-- ==== Proof.SbSample.Finite.lean ====
/-
  What the precondition says: the queries and the keys are real numbers. Then every score is real. At a score of plus infinity
  the kernel's split of the softplus leaves minus infinity and its weight is plus infinity; the reference's weight there is zero.
-/
module

public import proofs.«01_k».proof.Proof.SbSample.Kernel
public import Idealize.ShloMosaic.Lib.ReduceAll
public import Idealize.ShloMosaic.Lib.Affine

@[expose] public section

set_option maxRecDepth 16384

noncomputable section

namespace Cert.SbSample

open Idealize.ShloMosaic Idealize.ShloMosaic.TcCoe Idealize.SL.Sem

/-- An extended real whose size is below plus infinity is a real. -/
theorem real_of_size_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

variable (m : (ℓ : Loc Cert.Kernel11Ideal.nD Cert.Kernel11Ideal.τ Cert.Kernel11Ideal.sig) → Buf (Elt Ideal) ℓ)

/-- The arguments that enter a score are real. -/
def RealScores (c : Dev Cert.Kernel11Ideal.nD) : Prop :=
  (∀ i, ∃ r : ℝ, queries m c i = (r : EReal)) ∧ (∀ i, ∃ r : ℝ, keyCache m c i = (r : EReal)) ∧ (∀ i, ∃ r : ℝ, newKeys m c i = (r : EReal))

/-- The scalar has one index. -/
instance : Subsingleton Cert.Pre_finite_scores.S_.Idx := ⟨fun a b => funext fun i => i.elim0⟩

/-- The precondition makes them so. -/
theorem real_of_finite (hPre_finite_scores : Cert.Pre_finite_scores.Facts) (h : Cert.Pre_Kernel11Ideal_finite_scores m) (c : Dev Cert.Kernel11Ideal.nD) : RealScores m c := by
  have h0 := congrFun (h c) (fun a => a.elim0)
  unfold Cert.Pre_finite_scores.fn at h0
  obtain ⟨h3, e3⟩ := IntOp.andi_eq_one.mp h0
  obtain ⟨e1, e2⟩ := IntOp.andi_eq_one.mp h3
  exact ⟨fun i => real_of_size_lt _ (Host.reduce_andi_all _ _ _ _ _ e1 i), fun i => real_of_size_lt _ (Host.reduce_andi_all _ _ _ _ _ e2 i),
    fun i => real_of_size_lt _ (Host.reduce_andi_all _ _ _ _ _ e3 i)⟩

end Cert.SbSample

end
end
-- ==== Proof.SbSample.Weights.lean ====
/-
  The mathematics of a row of stick-breaking attention on real scores. With `U` the base-2 scores of a row and `rest j` the sum of the
  softpluses of the seen positions from `j` on, position `j` has the weight two to the `U j - rest j`. The kernel gathers the sums tile by
  tile from the end; its tiles' parts are the parts of one sum over all positions.
-/
module

public import proofs.«01_k».proof.Proof.SbSample.Head
public import proofs.«01_k».proof.Proof.FoxSample.Softmax
public import Mathlib.Analysis.SpecialFunctions.Pow.Real

@[expose] public section

set_option maxRecDepth 16384

noncomputable section

namespace Cert.SbSample

open Idealize.ShloMosaic

/-- The softplus in base two of a real. -/
def plus (u : ℝ) : ℝ := max u 0 + Real.log (1 + (2 : ℝ) ^ (-|u|)) * (Real.log 2)⁻¹

/-- The larger of two reals, as extended reals. -/
theorem max_coe (a b : ℝ) : max (a : EReal) (b : EReal) = ((max a b : ℝ) : EReal) := (EReal.coe_strictMono.monotone.map_max).symm

/-- The kernel's softplus of a real score is real. -/
theorem softplus2_coe (u : ℝ) : softplus2 (u : EReal) = (plus u : EReal) := by
  have hp : (0 : ℝ) < (2 : ℝ) ^ (-|u|) := by positivity
  have habs : max (u : EReal) (-(u : EReal)) = ((|u| : ℝ) : EReal) := by
    rw [← EReal.coe_neg, max_coe]
    rfl
  have hz : (0 : EReal) = ((0 : ℝ) : EReal) := rfl
  have ho : (1 : EReal) = ((1 : ℝ) : EReal) := rfl
  unfold softplus2 plus perLog2
  rw [habs, hz, ho, max_coe, ← EReal.coe_sub, zero_sub, Ideal.exp2_coe]
  show _ + Ideal.log (((1 : ℝ) : EReal) + (((2 : ℝ) ^ (-|u|) : ℝ) : EReal)) * _ = _
  rw [← EReal.coe_add, Ideal.log_coe, if_neg (by linarith), ← EReal.coe_mul, ← EReal.coe_add]

/-- The sum of the entries of a stretch from a place on. -/
theorem tail_sum (g : ℕ → ℝ) (o n s : ℕ) (hs : s ≤ n) :
    (∑ k : Fin n, if s ≤ k.val then g (o + k.val) else 0) = ∑ i ∈ Finset.Ico (o + s) (o + n), g i := by
  rw [Fin.sum_univ_eq_sum_range (fun k => if s ≤ k then g (o + k) else 0) n, Finset.range_eq_Ico,
    ← Finset.sum_Ico_consecutive _ (Nat.zero_le s) hs, Finset.sum_eq_zero, zero_add, add_comm o s, add_comm o n, ← Finset.sum_Ico_add]
  · refine Finset.sum_congr rfl fun k hk => ?_
    rw [Finset.mem_Ico] at hk
    rw [if_pos hk.1]
  · intro k hk
    rw [Finset.mem_Ico] at hk
    exact if_neg (by omega)

/-- The kernel's sum onward of real entries. -/
theorem onward_real {n : ℕ} (f : Fin n → EReal) (g : ℕ → ℝ) (o : ℕ) (hf : ∀ k, f k = (g (o + k.val) : EReal)) (s : Fin n) :
    onward f s = ((∑ i ∈ Finset.Ico (o + s.val) (o + n), g i : ℝ) : EReal) := by
  have h1 : ∀ k : Fin n, (if s.val ≤ k.val then f k else 0) = (((if s.val ≤ k.val then g (o + k.val) else 0 : ℝ)) : EReal) := fun k => by
    rw [hf]
    split_ifs <;> rfl
  have h2 : ∀ k : Fin n, (if s.val ≤ k.val then f k - f k else 0) = 0 := fun k => by
    rw [hf, ← EReal.coe_sub, sub_self]
    split_ifs <;> rfl
  unfold onward
  simp only [h1, h2]
  rw [Finset.sum_const_zero, add_zero, FoxSample.coe_sum, tail_sum g o n s.val s.isLt.le]

section
variable (U : ℕ → ℝ) (r : Fin 32)

/-- The softplus of a position that row `r` sees, zero of the others. -/
def seen (j : ℕ) : ℝ := if j < 1024 + r.val then plus (U j) else 0

/-- The softplus sum from a position on. -/
def rest (j : ℕ) : ℝ := ∑ i ∈ Finset.Ico j 1056, seen U r i

/-- The weight of a position. -/
def weight (j : ℕ) : ℝ := if j < 1024 + r.val then (2 : ℝ) ^ (U j - rest U r j) else 0

/-- A stretch's sum and what comes after it. -/
theorem rest_split (a b : ℕ) (hab : a ≤ b) (hb : b ≤ 1056) : rest U r b + ∑ i ∈ Finset.Ico a b, seen U r i = rest U r a := by
  unfold rest
  rw [add_comm, Finset.sum_Ico_consecutive _ hab hb]

variable {U r} {z₁ : Fin 1024 → EReal} {z₂ : Fin 32 → EReal} (h₁ : ∀ k, z₁ k = (U k.val : EReal)) (h₂ : ∀ k, z₂ k = (U (1024 + k.val) : EReal))

include h₂ in
theorem hidden_real (k : Fin 32) : hidden z₂ r k = (seen U r (1024 + k.val) : EReal) := by
  unfold hidden seen
  rw [h₂, softplus2_coe]
  by_cases h : k.val < r.val
  · rw [if_pos h, if_pos (by omega)]
  · rw [if_neg h, if_neg (by omega)]
    rfl

include h₂ in
theorem fresh_sum (k : Fin 32) : onward (hidden z₂ r) k = (rest U r (1024 + k.val) : EReal) :=
  onward_real _ (seen U r) 1024 (hidden_real h₂) k

include h₁ in
theorem within_real (c : Fin 4) (k : Fin 256) : within z₁ c k = ((∑ i ∈ Finset.Ico (256 * c.val + k.val) (256 * c.val + 256), seen U r i : ℝ) : EReal) :=
  onward_real _ (seen U r) (256 * c.val) (fun j => by
    rw [h₁, softplus2_coe, seen, if_pos (show 256 * c.val + j.val < 1024 + r.val by omega)]) k

include h₂ in
theorem behind3_real : behind3 z₂ r = (rest U r 1024 : EReal) := fresh_sum h₂ 0

include h₁ h₂ in
theorem behind2_real : behind2 z₁ z₂ r = (rest U r 768 : EReal) := by
  unfold behind2
  rw [behind3_real h₂, within_real (r := r) h₁, ← EReal.coe_add]
  exact congrArg _ (rest_split U r 768 1024 (by omega) (by omega))

include h₁ h₂ in
theorem behind1_real : behind1 z₁ z₂ r = (rest U r 512 : EReal) := by
  unfold behind1
  rw [behind2_real h₁ h₂, within_real (r := r) h₁, ← EReal.coe_add]
  exact congrArg _ (rest_split U r 512 768 (by omega) (by omega))

include h₁ h₂ in
theorem behind0_real : behind0 z₁ z₂ r = (rest U r 256 : EReal) := by
  unfold behind0
  rw [behind1_real h₁ h₂, within_real (r := r) h₁, ← EReal.coe_add]
  exact congrArg _ (rest_split U r 256 512 (by omega) (by omega))

include h₂ in
/-- A new key's weight. -/
theorem freshWeight_real (k : Fin 32) : freshWeight z₂ r k = (weight U r (1024 + k.val) : EReal) := by
  unfold freshWeight weight
  rw [fresh_sum h₂, h₂, ← EReal.coe_sub, Ideal.exp2_coe]
  by_cases h : k.val < r.val
  · rw [if_pos h, if_pos (by omega)]
    rfl
  · rw [if_neg h, if_neg (by omega)]
    rfl

include h₁ in
/-- A cached key's weight. -/
theorem tileWeight_real (c : Fin 4) (k : Fin 256) : tileWeight z₁ c (rest U r (256 * c.val + 256)) k = (weight U r (256 * c.val + k.val) : EReal) := by
  unfold tileWeight weight
  rw [within_real (r := r) h₁, h₁, ← EReal.coe_sub, ← EReal.coe_sub, Ideal.exp2_coe, if_pos (by omega),
    ← rest_split U r (256 * c.val + k.val) (256 * c.val + 256) (by omega) (by omega)]
  refine congrArg (fun x : ℝ => (((2 : ℝ) ^ x : ℝ) : EReal)) ?_
  show U (256 * c.val + k.val) - _ - _ = _
  ring

/-- A sum over the cached positions, tile by tile. -/
theorem sum_tiles (f : Fin 1024 → EReal) : ∑ k, f k = ∑ c : Fin 4, ∑ k : Fin 256, f (place c k) := by
  rw [← Fintype.sum_prod_type (fun p : Fin 4 × Fin 256 => f (place p.1 p.2))]
  refine ((finProdFinEquiv (m := 4) (n := 256)).sum_comp f).symm.trans (Finset.sum_congr rfl fun p _ => congrArg f (Fin.ext ?_))
  show p.2.val + 256 * p.1.val = 256 * p.1.val + p.2.val
  omega

/-- Five parts in either order. -/
theorem reorder (n a b c d : EReal) : n + a + b + c + d = d + c + b + a + n := by abel

include h₁ h₂ in
/-- The kernel's row is the sum over all positions of the values by the weights. -/
theorem gathered_real (v : Fin (1024 + 32) → EReal) :
    gathered z₁ z₂ r (fun k => v (Fin.castAdd 32 k)) (fun k => v (Fin.natAdd 1024 k)) = ∑ j : Fin (1024 + 32), v j * (weight U r j.val : EReal) := by
  have ht : ∀ (c : Fin 4) (x : EReal), x = (rest U r (256 * c.val + 256) : EReal) →
      tilePart z₁ c x (fun k => v (Fin.castAdd 32 k)) = ∑ k : Fin 256, v (Fin.castAdd 32 (place c k)) * (weight U r (place c k).val : EReal) := fun c x hx => by
    unfold tilePart
    rw [hx]
    exact Finset.sum_congr rfl fun k _ => by rw [tileWeight_real h₁, mul_comm]
  have hf : freshPart z₂ r (fun k => v (Fin.natAdd 1024 k)) = ∑ k : Fin 32, v (Fin.natAdd 1024 k) * (weight U r (1024 + k.val) : EReal) := by
    unfold freshPart
    exact Finset.sum_congr rfl fun k _ => by rw [freshWeight_real h₂, mul_comm]
  unfold gathered
  rw [hf, ht 3 _ (behind3_real h₂), ht 2 _ (behind2_real h₁ h₂), ht 1 _ (behind1_real h₁ h₂), ht 0 _ (behind0_real h₁ h₂), Fin.sum_univ_add,
    sum_tiles (fun k => v (Fin.castAdd 32 k) * (weight U r (Fin.castAdd 32 k).val : EReal)), Fin.sum_univ_four]
  exact reorder _ _ _ _ _

end

/-! The reference's side. -/

/-- The log-sigmoid of a real. -/
def logSigmoid (x : ℝ) : ℝ := -(max (-x) 0 + Real.log (1 + Real.exp (-|x|)))

/-- The reference's log-sigmoid of a real score; its guard for what is not a number never fires. -/
theorem log_sigmoid_real (x : ℝ) :
    -(Scalar.select (Ideal.cmp .une (-(x : EReal) - 0) (-(x : EReal) - 0)) (-(x : EReal) + 0)
      (max (-(x : EReal)) 0 + Ideal.log1p (Ideal.exp (-(max (-(x : EReal) - 0) (-(-(x : EReal) - 0))))))) = (logSigmoid x : EReal) := by
  have hs : -(x : EReal) - 0 = -(x : EReal) := sub_zero _
  have hc : Ideal.cmp .une (-(x : EReal)) (-(x : EReal)) = 0#1 := by simp [Ideal.cmp]
  have hp := Real.exp_pos (-|x|)
  have habs : max (-(x : EReal)) (-(-(x : EReal))) = ((|x| : ℝ) : EReal) := by
    rw [neg_neg, ← EReal.coe_neg, max_coe, max_comm]
    rfl
  have hz : (0 : EReal) = ((0 : ℝ) : EReal) := rfl
  rw [hs, hc, habs]
  show -(max (-(x : EReal)) 0 + Ideal.log1p (Ideal.exp (-((|x| : ℝ) : EReal)))) = _
  unfold logSigmoid Ideal.log1p
  rw [hz, ← EReal.coe_neg, ← EReal.coe_neg, max_coe, Ideal.exp_coe]
  show -(_ + Ideal.log (((1 : ℝ) : EReal) + _)) = _
  rw [← EReal.coe_add, Ideal.log_coe, if_neg (by linarith), ← EReal.coe_add, ← EReal.coe_neg]

/-- The two bases' softplus terms. -/
theorem exp_rebase (u : ℝ) : Real.exp (-|u * Real.log 2|) = (2 : ℝ) ^ (-|u|) := by
  rw [Real.rpow_def_of_pos (by norm_num), abs_mul, abs_of_pos (Real.log_pos one_lt_two)]
  congr 1
  ring

/-- The log-sigmoid of minus a score is minus its softplus. -/
theorem logSigmoid_neg (u : ℝ) : logSigmoid (-(u * Real.log 2)) = -(plus u * Real.log 2) := by
  have h2 : Real.log 2 ≠ 0 := (Real.log_pos one_lt_two).ne'
  have hm : max (u * Real.log 2) 0 = max u 0 * Real.log 2 := by
    rw [max_mul_of_nonneg _ _ (Real.log_pos one_lt_two).le, zero_mul]
  unfold logSigmoid plus
  rw [neg_neg, abs_neg, exp_rebase, hm]
  field_simp

/-- The log-sigmoid of a score is the score less its softplus. -/
theorem logSigmoid_pos (u : ℝ) : logSigmoid (u * Real.log 2) = (u - plus u) * Real.log 2 := by
  have h2 : Real.log 2 ≠ 0 := (Real.log_pos one_lt_two).ne'
  have hm : max (-(u * Real.log 2)) 0 = (max u 0 - u) * Real.log 2 := by
    rw [← neg_mul, ← zero_mul (Real.log 2), ← max_mul_of_nonneg _ _ (Real.log_pos one_lt_two).le, zero_mul]
    congr 1
    rcases le_total u 0 with h | h
    · rw [max_eq_left (by linarith), max_eq_right h]
      ring
    · rw [max_eq_right (by linarith), max_eq_left h]
      ring
  unfold logSigmoid plus
  rw [exp_rebase, hm]
  field_simp
  ring

/-- The reference's weight of a seen position is the kernel's. -/
theorem weight_rebase (U : ℕ → ℝ) (r : Fin 32) (j : ℕ) (hj : j < 1024 + r.val) :
    Real.exp (logSigmoid (U j * Real.log 2) + (-(rest U r j * Real.log 2) - -(seen U r j * Real.log 2))) = weight U r j := by
  rw [logSigmoid_pos, weight, if_pos hj, seen, if_pos hj, Real.rpow_def_of_pos (by norm_num)]
  congr 1
  ring

end Cert.SbSample

end
end
-- ==== Proof.SbSample.Ref.lean ====
/-
  The reference of stick-breaking attention read at an index, and the value claim. The reference joins the cache and the new rows, scores a
  row against all 1056 positions, sums the log-sigmoids of the negated scores behind each seen position, and mixes the values. On real
  queries and keys its weights are the kernel's: e to a score in the natural base is two to the score in base two.
-/
module

public import proofs.«01_k».proof.Proof.SbSample.Finite
public import proofs.«01_k».proof.Proof.SbSample.Weights
public import proofs.«01_k».proof.Proof.Gen.Reference11Ideal.Read
public import Idealize.ShloMosaic.Lib.Pointwise
public import Idealize.ShloMosaic.Lib.Quiescent

@[expose] public section

set_option maxRecDepth 16384

noncomputable section

namespace Cert.SbSample

open Idealize.ShloMosaic Idealize.ShloMosaic.TcCoe Idealize.SL.Sem
open Cert.Reference11Ideal.Read

variable (m : (ℓ : Loc Cert.Kernel11Ideal.nD Cert.Kernel11Ideal.τ Cert.Kernel11Ideal.sig) → Buf (Elt Ideal) ℓ) (c : Dev Cert.Kernel11Ideal.nD)

/-- A cached position among the joined ones. -/
abbrev old (k : Fin 1024) : Fin 1056 := Fin.castAdd 32 k

/-- A new position among the joined ones. -/
abbrev new (k : Fin 32) : Fin 1056 := Fin.natAdd 1024 k

/-- The reference's queries by head. -/
theorem ref_queries (b : Fin 16) (r : Fin 32) (h : Fin 16) (d : Fin 128) :
    val_main_v1 (F := Ideal) (queries m c) (ix4 b r h d) = queries m c (ix2 (arow b r) (hcol h d)) := by
  rw [val_main_v1_apply, val_main_v0_apply]
  refine congrArg (queries m c) (Shape.idx_ext₂ ?_ ?_)
  · show (((b.val * 32 + r.val) * 16 + h.val) * 128 + d.val) / 2048 = 32 * b.val + r.val
    omega
  · show (((b.val * 32 + r.val) * 16 + h.val) * 128 + d.val) % 2048 = 128 * h.val + d.val
    omega

/-- The reference's new keys by head. -/
theorem ref_newKeys (b : Fin 16) (r : Fin 32) (h : Fin 16) (d : Fin 128) :
    val_main_v3 (F := Ideal) (newKeys m c) (ix4 b r h d) = newKeys m c (ix2 (arow b r) (hcol h d)) := by
  rw [val_main_v3_apply, val_main_v2_apply]
  refine congrArg (newKeys m c) (Shape.idx_ext₂ ?_ ?_)
  · show (((b.val * 32 + r.val) * 16 + h.val) * 128 + d.val) / 2048 = 32 * b.val + r.val
    omega
  · show (((b.val * 32 + r.val) * 16 + h.val) * 128 + d.val) % 2048 = 128 * h.val + d.val
    omega

/-- The reference's new values by head. -/
theorem ref_newValues (b : Fin 16) (r : Fin 32) (h : Fin 16) (d : Fin 128) :
    val_main_v5 (F := Ideal) (newValues m c) (ix4 b r h d) = newValues m c (ix2 (arow b r) (hcol h d)) := by
  rw [val_main_v5_apply, val_main_v4_apply]
  refine congrArg (newValues m c) (Shape.idx_ext₂ ?_ ?_)
  · show (((b.val * 32 + r.val) * 16 + h.val) * 128 + d.val) / 2048 = 32 * b.val + r.val
    omega
  · show (((b.val * 32 + r.val) * 16 + h.val) * 128 + d.val) % 2048 = 128 * h.val + d.val
    omega

/-- The joined keys at a cached position. -/
theorem keys_old (b : Fin 16) (k : Fin 1024) (h : Fin 16) (d : Fin 128) :
    val_main_v6 (F := Ideal) (keyCache m c) (newKeys m c) (ix4 b (old k) h d) = keyCache m c (ix4 b k h d) := by
  unfold val_main_v6
  exact concatenate_pair_apply_left (t := Cert.Reference11Ideal.S16x1056x16x128) (s₁ := Cert.Reference11Ideal.S16x1024x16x128) (s₂ := Cert.Reference11Ideal.S16x32x16x128) 1 _ _ _ _ rfl (ix4 b k h d) (fun a => match a with | ⟨0, _⟩ => rfl | ⟨1, _⟩ => rfl | ⟨2, _⟩ => rfl | ⟨3, _⟩ => rfl)

/-- The joined keys at a new position. -/
theorem keys_new (b : Fin 16) (k : Fin 32) (h : Fin 16) (d : Fin 128) :
    val_main_v6 (F := Ideal) (keyCache m c) (newKeys m c) (ix4 b (new k) h d) = newKeys m c (ix2 (arow b k) (hcol h d)) := by
  unfold val_main_v6
  refine (concatenate_pair_apply_right (t := Cert.Reference11Ideal.S16x1056x16x128) (s₁ := Cert.Reference11Ideal.S16x1024x16x128) (s₂ := Cert.Reference11Ideal.S16x32x16x128) 1 _ _ _ _ rfl rfl (ix4 b k h d) ?_ ?_).trans (ref_newKeys m c b k h d)
  · exact (fun a ha => match a with | ⟨0, _⟩ => rfl | ⟨1, _⟩ => absurd rfl ha | ⟨2, _⟩ => rfl | ⟨3, _⟩ => rfl)
  · show k.val + 1024 = 1024 + k.val
    omega

/-- The joined values at a cached position. -/
theorem values_old (b : Fin 16) (k : Fin 1024) (h : Fin 16) (d : Fin 128) :
    val_main_v7 (F := Ideal) (valueCache m c) (newValues m c) (ix4 b (old k) h d) = valueCache m c (ix4 b k h d) := by
  unfold val_main_v7
  exact concatenate_pair_apply_left (t := Cert.Reference11Ideal.S16x1056x16x128) (s₁ := Cert.Reference11Ideal.S16x1024x16x128) (s₂ := Cert.Reference11Ideal.S16x32x16x128) 1 _ _ _ _ rfl (ix4 b k h d) (fun a => match a with | ⟨0, _⟩ => rfl | ⟨1, _⟩ => rfl | ⟨2, _⟩ => rfl | ⟨3, _⟩ => rfl)

/-- The joined values at a new position. -/
theorem values_new (b : Fin 16) (k : Fin 32) (h : Fin 16) (d : Fin 128) :
    val_main_v7 (F := Ideal) (valueCache m c) (newValues m c) (ix4 b (new k) h d) = newValues m c (ix2 (arow b k) (hcol h d)) := by
  unfold val_main_v7
  refine (concatenate_pair_apply_right (t := Cert.Reference11Ideal.S16x1056x16x128) (s₁ := Cert.Reference11Ideal.S16x1024x16x128) (s₂ := Cert.Reference11Ideal.S16x32x16x128) 1 _ _ _ _ rfl rfl (ix4 b k h d) ?_ ?_).trans (ref_newValues m c b k h d)
  · exact (fun a ha => match a with | ⟨0, _⟩ => rfl | ⟨1, _⟩ => absurd rfl ha | ⟨2, _⟩ => rfl | ⟨3, _⟩ => rfl)
  · show k.val + 1024 = 1024 + k.val
    omega

/-- The reference's factor on the scaled queries' products: the natural logarithm of two. -/
theorem log_two (i : Cert.Reference11Ideal.S16x16x32x1056.Idx) : val_main_v10 (F := Ideal) i = ((Real.log 2 : ℝ) : EReal) := by
  rw [val_main_v10_apply, val_main_v9_apply, val_main_cst_apply]
  show Ideal.log (Ideal.ofBits .f32 0x40000000#32) = _
  have h : Ideal.ofBits .f32 0x40000000#32 = ((2 : ℝ) : EReal) := by
    simp [Ideal.ofBits, Ideal.ieee]
    rw [← EReal.coe_mul]
    norm_num
  rw [h, Ideal.log_coe]
  norm_num

/-- The reference's score of a position. -/
theorem ref_score (b h : Fin 16) (r : Fin 32) (j : Fin 1056) :
    val_main_v11 (F := Ideal) (queries m c) (keyCache m c) (newKeys m c) (ix4 b h r j)
      = (∑ d : Fin 128, queries m c (ix2 (arow b r) (hcol h d)) * val_main_v6 (F := Ideal) (keyCache m c) (newKeys m c) (ix4 b j h d))
          * ((Real.log 2 : ℝ) : EReal) := by
  rw [val_main_v11_apply, val_main_v8_apply, log_two]
  refine congrArg (fun a : EReal => a * ((Real.log 2 : ℝ) : EReal)) (Finset.sum_congr rfl fun d _ => ?_)
  refine congrArg₂ (fun a b : EReal => a * b) ((congrArg _ ?_).trans (ref_queries m c b r h d)) (congrArg _ ?_)
  · exact idx_ext4 rfl rfl rfl rfl
  · exact idx_ext4 rfl rfl rfl rfl

/-- The mask: a position is seen when it is before the row's own. -/
theorem ref_seen {α : Type} (x y : α) (i : Cert.Reference11Ideal.S32x1056.Idx) :
    Scalar.select (val_main_v20 (F := Ideal) i) x y = if (i 1).val < 1024 + (i 0).val then x else y := by
  have hr : (i 0).val < 32 := (i 0).isLt
  have hj : (i 1).val < 1056 := (i 1).isLt
  rw [val_main_v20_apply, val_main_v18_apply, val_main_v19_apply, val_main_v16_apply, val_main_v17_apply, val_main_v15_apply, val_main_v14_apply,
    val_main_v13_apply, val_main_v12_apply, val_main_c_apply]
  have hsum : IntOp.addi (1024#32) (BitVec.ofNat 32 (i 0).val) = BitVec.ofNat 32 (1024 + (i 0).val) := (BitVec.ofNat_add 1024 (i 0).val).symm
  unfold Scalar.select
  refine if_congr ?_ rfl rfl
  show IntOp.cmpi .slt (BitVec.ofNat 32 (i 1).val) (IntOp.addi (1024#32) (BitVec.ofNat 32 (i 0).val)) = 1#1 ↔ _
  rw [hsum]
  exact WordCmp.cmpi_slt_ofNat_eq_one_iff (by omega) (by omega)

/-- The zero the reference masks with. -/
theorem zero_word : (FloatOps.ofBits .f32 0x00000000#32 : Ideal .f32) = (0 : EReal) := Ideal.ofBits_zero_f32

/-- The real sum and the extended sum of real terms agree, over a set of positions. -/
theorem coe_sum_set (f : ℕ → ℝ) (s : Finset ℕ) : ((∑ n ∈ s, f n : ℝ) : EReal) = ∑ n ∈ s, (f n : EReal) := by
  induction s using Finset.induction_on with
  | empty => simp
  | insert a s ha ih => rw [Finset.sum_insert ha, Finset.sum_insert ha, ← ih, EReal.coe_add]

/-- Adding one element at a time is adding the sum. -/
theorem foldl_add {α : Type} (g : α → EReal) (l : List α) : ∀ v : EReal, l.foldl (fun r n => r + g n) v = v + (l.map g).sum := by
  induction l with
  | nil => intro v; simp
  | cons a l ih => intro v; rw [List.foldl_cons, ih, List.map_cons, List.sum_cons, add_assoc]

/-- A window of 1056 that starts at position `p`, its places after the end empty, holds the entries from `p` on. -/
theorem window_sum (f : ℕ → EReal) (p : ℕ) (hp : p < 1056) :
    (∑ k : Fin 1056, if p + k.val < 1056 then f (p + k.val) else 0) = ∑ n ∈ Finset.Ico p 1056, f n := by
  rw [Fin.sum_univ_eq_sum_range (fun k => if p + k < 1056 then f (p + k) else 0) 1056, Finset.sum_Ico_eq_sum_range,
    Finset.range_eq_Ico, ← Finset.sum_Ico_consecutive _ (Nat.zero_le (1056 - p)) (Nat.sub_le 1056 p), Finset.range_eq_Ico]
  refine Eq.trans (congrArg₂ (fun a b : EReal => a + b) (Finset.sum_congr rfl fun k hk => ?_) (Finset.sum_eq_zero fun k hk => ?_)) (add_zero _)
  · rw [Finset.mem_Ico] at hk
    exact if_pos (by omega)
  · rw [Finset.mem_Ico] at hk
    exact if_neg (by omega)

/-- The window's index at a position in row-major order. -/
abbrev inWindow (n : Fin (⟨4, ![1, 1, 1, 1056]⟩ : Shape).numel) : (⟨4, ![1, 1, 1, 1056]⟩ : Shape).Idx := (⟨4, ![1, 1, 1, 1056]⟩ : Shape).rowMajor.symm n

/-- The places of a window. -/
abbrev wplace (k : Fin 1056) : (⟨4, ![1, 1, 1, 1056]⟩ : Shape).Idx := ix4 (0 : Fin 1) (0 : Fin 1) (0 : Fin 1) k

/-- They are all its indices. -/
theorem wplace_bijective : Function.Bijective wplace :=
  ⟨fun a b h => congrFun h 3, fun y => ⟨y 3, idx_ext4
    (by have h : (y 0).val < 1 := (y 0).isLt; show 0 = (y 0).val; omega)
    (by have h : (y 1).val < 1 := (y 1).isLt; show 0 = (y 1).val; omega)
    (by have h : (y 2).val < 1 := (y 2).isLt; show 0 = (y 2).val; omega) rfl⟩⟩

/-- The reference's window sum at a position adds the entries from it on. -/
theorem onward_apply (x : Cert.Reference11Ideal.S16x16x32x1056.Idx → EReal) (init : Cert.Reference11Ideal.S_.Idx → EReal) (hinit : ∀ i, init i = 0)
    (hw : Cert.Reference11Ideal.S16x16x32x1056.ReduceWindows (![1, 1, 1, 1056] : Fin 4 → Nat) ![1, 1, 1, 1] ![0, 0, 0, 0] ![0, 0, 0, 1055] Cert.Reference11Ideal.S16x16x32x1056)
    (hu : 0 < Cert.Reference11Ideal.S_.numel) (b h : Fin 16) (r : Fin 32) (p : Fin 1056) :
    Host.reduceWindowAdd (F := Ideal) (φ := .f32) ![1, 1, 1, 1056] ![1, 1, 1, 1] ![0, 0, 0, 0] ![0, 0, 0, 1055] x init hw hu (ix4 b h r p)
      = ∑ n ∈ Finset.Ico p.val 1056, if hn : n < 1056 then x (ix4 b h r ⟨n, hn⟩) else 0 := by
  have hp := p.isLt
  rw [← window_sum _ p.val p.isLt]
  unfold Host.reduceWindowAdd
  rw [Ideal.hostReduceWindowAdd_def]
  unfold Ideal.hostReduceWindowAdd Host.reduceWindow
  dsimp only
  refine (foldl_add _ _ _).trans ?_
  rw [hinit, zero_add, ← Fin.sum_univ_def]
  refine Eq.trans (Finset.sum_congr rfl fun n _ => ?_)
    ((Equiv.sum_comp (⟨4, ![1, 1, 1, 1056]⟩ : Shape).rowMajor.symm (fun w : (⟨4, ![1, 1, 1, 1056]⟩ : Shape).Idx =>
      if p.val + (w 3).val < 1056 then (if hn : p.val + (w 3).val < 1056 then x (ix4 b h r ⟨p.val + (w 3).val, hn⟩) else 0) else 0)).trans
      (wplace_bijective.sum_comp _).symm)
  have w0 : (inWindow n 0).val < 1 := (inWindow n 0).isLt
  have w1 : (inWindow n 1).val < 1 := (inWindow n 1).isLt
  have w2 : (inWindow n 2).val < 1 := (inWindow n 2).isLt
  have w3 : (inWindow n 3).val < 1056 := (inWindow n 3).isLt
  have hb := b.isLt
  have hh := h.isLt
  have hr := r.isLt
  by_cases h0 : p.val + (inWindow n 3).val < 1056
  · rw [if_pos h0, dif_pos h0, dif_pos]
    · refine congrArg x (idx_ext4 ?_ ?_ ?_ ?_)
      · show b.val * 1 + (inWindow n 0).val - 0 = b.val
        omega
      · show h.val * 1 + (inWindow n 1).val - 0 = h.val
        omega
      · show r.val * 1 + (inWindow n 2).val - 0 = r.val
        omega
      · show p.val * 1 + (inWindow n 3).val - 0 = p.val + (inWindow n 3).val
        omega
    · intro a
      match a with
      | ⟨0, _⟩ =>
        show 0 ≤ b.val * 1 + (inWindow n 0).val ∧ b.val * 1 + (inWindow n 0).val - 0 < 16
        omega
      | ⟨1, _⟩ =>
        show 0 ≤ h.val * 1 + (inWindow n 1).val ∧ h.val * 1 + (inWindow n 1).val - 0 < 16
        omega
      | ⟨2, _⟩ =>
        show 0 ≤ r.val * 1 + (inWindow n 2).val ∧ r.val * 1 + (inWindow n 2).val - 0 < 32
        omega
      | ⟨3, _⟩ =>
        show 0 ≤ p.val * 1 + (inWindow n 3).val ∧ p.val * 1 + (inWindow n 3).val - 0 < 1056
        omega
  · rw [if_neg h0, dif_neg]
    intro hin
    have h1 : p.val * 1 + (inWindow n 3).val - 0 < 1056 := (hin 3).2
    omega

section
variable (U : ℕ → ℝ) (b h : Fin 16) (r : Fin 32)
  (hU : ∀ j : Fin 1056, val_main_v11 (F := Ideal) (queries m c) (keyCache m c) (newKeys m c) (ix4 b h r j) = ((U j.val * Real.log 2 : ℝ) : EReal))

include hU in
/-- The log-sigmoid of minus a score. -/
theorem ref_stay (j : Fin 1056) :
    val_main_v22 (F := Ideal) (queries m c) (keyCache m c) (newKeys m c) (ix4 b h r j) = ((logSigmoid (-(U j.val * Real.log 2)) : ℝ) : EReal) := by
  rw [val_main_v22_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_v0_apply, val_main_v21_apply, hU]
  simp only [val_main_call0_call0_cst_apply]
  rw [zero_word]
  exact log_sigmoid_real (-(U j.val * Real.log 2))

include hU in
/-- The log-sigmoid of a score. -/
theorem ref_take (j : Fin 1056) :
    val_main_v26 (F := Ideal) (queries m c) (keyCache m c) (newKeys m c) (ix4 b h r j) = ((logSigmoid (U j.val * Real.log 2) : ℝ) : EReal) := by
  rw [val_main_v26_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_v0_apply, hU]
  simp only [val_main_call3_call0_cst_apply]
  rw [zero_word]
  exact log_sigmoid_real (U j.val * Real.log 2)

include hU in
/-- The masked log-sigmoid of minus a score. -/
theorem ref_stay_seen (j : Fin 1056) :
    val_main_v23 (F := Ideal) (queries m c) (keyCache m c) (newKeys m c) (ix4 b h r j) = ((-(seen U r j.val * Real.log 2) : ℝ) : EReal) := by
  rw [val_main_v23_apply, val_main_call1_v1_apply, val_main_call1_v2_apply, val_main_call1_v0_apply, ref_stay m c U b h r hU, ref_seen, logSigmoid_neg]
  show (if j.val < 1024 + r.val then ((-(plus (U j.val) * Real.log 2) : ℝ) : EReal) else (FloatOps.ofBits .f32 0x00000000#32 : Ideal .f32)) = _
  unfold seen
  by_cases hj : j.val < 1024 + r.val
  · rw [if_pos hj, if_pos hj]
  · rw [if_neg hj, if_neg hj, zero_word, zero_mul, neg_zero]
    rfl

include hU in
/-- The reference's sum from a position on. -/
theorem ref_rest (j : Fin 1056) :
    val_main_v24 (F := Ideal) (queries m c) (keyCache m c) (newKeys m c) (ix4 b h r j) = ((-(rest U r j.val * Real.log 2) : ℝ) : EReal) := by
  unfold val_main_v24
  rw [onward_apply _ _ (fun i => by
    rw [val_main_call2_v0_apply, val_main_call2_cst_apply]
    exact zero_word)]
  rw [rest, Finset.sum_mul, ← Finset.sum_neg_distrib, coe_sum_set]
  refine Finset.sum_congr rfl fun n hn => ?_
  rw [Finset.mem_Ico] at hn
  rw [dif_pos hn.2]
  exact ref_stay_seen m c U b h r hU ⟨n, hn.2⟩

include hU in
/-- The reference's weight of a position. -/
theorem ref_weight (j : Fin 1056) :
    val_main_v29 (F := Ideal) (queries m c) (keyCache m c) (newKeys m c) (ix4 b h r j) = (weight U r j.val : EReal) := by
  rw [val_main_v29_apply, val_main_call4_v1_apply, val_main_call4_v2_apply, val_main_call4_v0_apply, ref_seen]
  show (if j.val < 1024 + r.val then _ else (FloatOps.ofBits .f32 0x00000000#32 : Ideal .f32)) = _
  by_cases hj : j.val < 1024 + r.val
  · rw [if_pos hj, ← weight_rebase U r j.val hj, val_main_v28_apply, val_main_v27_apply, val_main_v25_apply, ref_take m c U b h r hU,
      ref_rest m c U b h r hU, ref_stay_seen m c U b h r hU]
    show Ideal.exp (((_ : ℝ) : EReal) + (((_ : ℝ) : EReal) - ((_ : ℝ) : EReal))) = _
    rw [← EReal.coe_sub, ← EReal.coe_add, Ideal.exp_coe]
  · rw [if_neg hj, weight, if_neg hj, zero_word]
    rfl

/-- The reference's result is the sum of the joined values by the weights. -/
theorem ref_mix (e : Fin 128) :
    val_main_v30 (F := Ideal) (queries m c) (keyCache m c) (valueCache m c) (newKeys m c) (newValues m c) (ix4 b h e r)
      = ∑ j : Fin 1056, val_main_v7 (F := Ideal) (valueCache m c) (newValues m c) (ix4 b j h e)
          * val_main_v29 (F := Ideal) (queries m c) (keyCache m c) (newKeys m c) (ix4 b h r j) := by
  have hl : ∀ k : Fin 1056, lidx_main_v30 (ix4 b h e r) k = ix4 b k h e := fun k => idx_ext4 rfl rfl rfl rfl
  have hr : ∀ k : Fin 1056, ridx_main_v30 (ix4 b h e r) k = ix4 b h r k := fun k => idx_ext4 rfl rfl rfl rfl
  rw [val_main_v30_apply]
  simp only [hl, hr]

end

variable {m c}

/-- On real queries and keys a row's scores are real, the same in both programs but for the base. -/
theorem scores_real (hr : RealScores m c) (b h : Fin 16) (r : Fin 32) : ∃ U : ℕ → ℝ,
    (∀ k : Fin 1024, oldScore m c b r h k = (U k.val : EReal)) ∧ (∀ k : Fin 32, newScore m c b r h k = (U (1024 + k.val) : EReal))
      ∧ ∀ j : Fin 1056, val_main_v11 (F := Ideal) (queries m c) (keyCache m c) (newKeys m c) (ix4 b h r j) = ((U j.val * Real.log 2 : ℝ) : EReal) := by
  obtain ⟨hq, hk, hn⟩ := hr
  have ho : ∀ k : Fin 1024, ∃ u : ℝ, oldScore m c b r h k = (u : EReal) := fun k =>
    FoxSample.dot_real (fun d => queries m c (ix2 (arow b r) (hcol h d))) (fun d => keyCache m c (ix4 b k h d)) (fun d => hq _) (fun d => hk _)
  have hf : ∀ k : Fin 32, ∃ u : ℝ, newScore m c b r h k = (u : EReal) := fun k =>
    FoxSample.dot_real (fun d => queries m c (ix2 (arow b r) (hcol h d))) (fun d => newKeys m c (ix2 (arow b k) (hcol h d))) (fun d => hq _) (fun d => hn _)
  choose uo huo using ho
  choose uf huf using hf
  let U : ℕ → ℝ := fun j => if h : j < 1024 then uo ⟨j, h⟩ else if h' : j - 1024 < 32 then uf ⟨j - 1024, h'⟩ else 0
  have hU₁ : ∀ k : Fin 1024, oldScore m c b r h k = (U k.val : EReal) := fun k => by
    have e : U k.val = uo k := dif_pos k.isLt
    rw [e, huo]
  have hU₂ : ∀ k : Fin 32, newScore m c b r h k = (U (1024 + k.val) : EReal) := fun k => by
    have e : U (1024 + k.val) = uf k := by
      have hk : 1024 + k.val - 1024 = k.val := by omega
      dsimp only [U]
      rw [dif_neg (by omega), dif_pos (by omega)]
      exact congrArg uf (Fin.ext hk)
    rw [e, huf]
  refine ⟨U, hU₁, hU₂, fun j => ?_⟩
  refine Fin.addCases (m := 1024) (n := 32) (motive := fun j => val_main_v11 (F := Ideal) (queries m c) (keyCache m c) (newKeys m c) (ix4 b h r j) = ((U j.val * Real.log 2 : ℝ) : EReal))
    (fun k => ?_) (fun k => ?_) j
  · refine (ref_score m c b h r (old k)).trans ?_
    simp only [keys_old]
    rw [EReal.coe_mul]
    exact congrArg (fun a : EReal => a * ((Real.log 2 : ℝ) : EReal)) (hU₁ k)
  · refine (ref_score m c b h r (new k)).trans ?_
    simp only [keys_new]
    rw [EReal.coe_mul]
    exact congrArg (fun a : EReal => a * ((Real.log 2 : ℝ) : EReal)) (hU₂ k)

/-- On real queries and keys the reference's row is the kernel's. -/
theorem ref_attend (hr : RealScores m c) (b h : Fin 16) (r : Fin 32) (e : Fin 128) :
    val_main_v30 (F := Ideal) (queries m c) (keyCache m c) (valueCache m c) (newKeys m c) (newValues m c) (ix4 b h e r) = attend m c b r h e := by
  obtain ⟨U, h₁, h₂, hU⟩ := scores_real hr b h r
  rw [ref_mix]
  simp only [ref_weight m c U b h r hU]
  refine (gathered_real h₁ h₂ (fun j => val_main_v7 (F := Ideal) (valueCache m c) (newValues m c) (ix4 b j h e))).symm.trans ?_
  rw [attend]
  refine congrArg₂ (gathered (oldScore m c b r h) (newScore m c b r h) r) (funext fun k => ?_) (funext fun k => ?_)
  · exact values_old m c b k h e
  · exact values_new m c b k h e

/-- On real queries and keys the reference's result is the kernel's. -/
theorem ref_attended (hr : RealScores m c) :
    val_main_v32 (F := Ideal) (queries m c) (keyCache m c) (valueCache m c) (newKeys m c) (newValues m c) = attended m c := by
  funext i
  have h0 : (i 0).val < 512 := (i 0).isLt
  have h1 : (i 1).val < 2048 := (i 1).isLt
  rw [val_main_v32_apply, val_main_v31_apply, attended]
  refine (congrArg _ ?_).trans (ref_attend hr _ _ _ _)
  refine idx_ext4 ?_ ?_ ?_ ?_
  · show ((i 0).val * 2048 + (i 1).val) / 65536 = (i 0).val / 32
    omega
  · show ((i 0).val * 2048 + (i 1).val) / 128 % 16 = (i 1).val / 128
    omega
  · show ((i 0).val * 2048 + (i 1).val) % 128 = (i 1).val % 128
    omega
  · show ((i 0).val * 2048 + (i 1).val) / 2048 % 32 = (i 0).val % 32
    omega

/-- On real queries and keys the attention call ends with the reference's result. -/
theorem algebraic (hPre_finite_scores : Cert.Pre_finite_scores.Facts) :
    Cert.algebraic_Kernel11Ideal_Reference11Ideal_pre_finite_scores (hKernel11Ideal := Cert.Kernel11Ideal.Gen.facts)
      (hReference11Ideal := Cert.Reference11Ideal.Gen.facts) (hPre_finite_scores := hPre_finite_scores) := by
  intro m ρ m' ρ' hpre hm
  refine ⟨attended m, run m ρ, ?_⟩
  refine (θ_run _ _ _).mono (fun r h c => ?_) (Cert.Reference11Ideal.Value.run (F := Ideal) m' ρ')
  obtain ⟨h0, ha⟩ := h c
  obtain ⟨e0, e1, e2, e3, e4⟩ := hm c
  rw [val_main_v32_eq, e0, e1, e2, e3, e4] at h0
  exact ⟨h0.trans (ref_attended (real_of_finite m hPre_finite_scores hpre c)), ha⟩

end Cert.SbSample

end
-- ==== Proof.CumsumPast.Tile.lean ====
/-
  One tile of the cumulative sum of the cached log gates, as the kernel computes it; it is the body of `Cumsum/Tile.lean`, of which here
  the last row that a sequence leaves is a result too.
-/
module

public import proofs.«01_k».proof.Defs
public import proofs.«01_k».proof.Proof.Cumsum.Ref
public import proofs.«01_k».proof.Proof.Gen.Kernel12Ideal.Frame
public import proofs.«01_k».proof.Proof.Gen.Kernel12Ideal.Skeleton
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.CumsumPast

open Idealize.ShloMosaic Idealize.ShloMosaic.TcCoe Idealize.ShloMosaic.Tactic Idealize.SL.Sem Cert.Cumsum Cert.Kernel12Ideal Cert.Kernel12Ideal.Gen
open Idealize.ShloMosaic.Pipeline (Dat Cfg Window)

variable (x : Vec Ideal S1x512x128 .f32) (tri : Vec Ideal S512x512 .bf16) (carry : Vec Ideal S1x128 .f32)

/-- A tile's cumulated gates, as the body computes them. -/
theorem pay2_apply (r : Fin 512) (l : Fin 128) :
    k0_pay2 (F := Ideal) x tri carry (ix2 r l)
      = (∑ k : Fin 512, tri (ix2 r k) * x (ix3 (0 : Fin 1) k l)) + (∑ k : Fin 512, tri (ix2 r k) * (x (ix3 (0 : Fin 1) k l) - x (ix3 (0 : Fin 1) k l)))
        + (∑ k : Fin 512, tri (ix2 r k) * ((x (ix3 (0 : Fin 1) k l) - x (ix3 (0 : Fin 1) k l)) - (x (ix3 (0 : Fin 1) k l) - x (ix3 (0 : Fin 1) k l))))
        + carry (ix2 (0 : Fin 1) l) := by
  unfold k0_pay2
  pointwise []
  have e : ∀ h, (⟨256 + l.val - 128 - 128, h⟩ : Fin 128) = l := fun h => Fin.ext (by show 256 + l.val - 128 - 128 = l.val; omega)
  refine congrArg (fun a : EReal => a + _) (congrArg₂ (fun a b : EReal => a + b) rfl (Finset.sum_congr rfl fun k _ => ?_))
  rw [dif_neg (by omega), dif_neg (by omega), e]

/-- With a triangle of ones, the sum of the parts up to the row, and the carry. -/
theorem pay2_sum (htri : ∀ r k : Fin 512, tri (ix2 r k) = if k.val ≤ r.val then (1 : EReal) else 0) (f : ℕ → EReal) (l : Fin 128)
    (hf : ∀ k : Fin 512, parts (x (ix3 (0 : Fin 1) k l)) = f k.val) (r : Fin 512) :
    k0_pay2 (F := Ideal) x tri carry (ix2 r l) = (∑ k ∈ Finset.range (r.val + 1), f k) + carry (ix2 (0 : Fin 1) l) := by
  rw [pay2_apply, ← Finset.sum_add_distrib, ← Finset.sum_add_distrib, ← sum_upto]
  refine congrArg (· + _) (Finset.sum_congr rfl fun k _ => ?_)
  rw [htri, triangle_mul, triangle_mul, triangle_mul, ← hf]
  unfold parts
  split <;> simp

/-- What a tile leaves for the next: its last row. -/
theorem pay3_apply (l : Fin 128) : k0_pay3 (F := Ideal) x tri carry (ix2 (0 : Fin 1) l) = k0_pay2 (F := Ideal) x tri carry (ix2 (511 : Fin 512) l) := by
  unfold k0_pay3
  pointwise []

/-- What a tile leaves in its block: its rows as columns. -/
theorem pay4_apply (l : Fin 128) (r : Fin 512) :
    k0_pay4 (F := Ideal) x tri carry (ix3 (0 : Fin 1) l r) = k0_pay2 (F := Ideal) x tri carry (ix2 r l) := by
  unfold k0_pay4
  pointwise []

/-- What a tile leaves as the sequence's last sums so far: its last row. -/
theorem pay5_apply (l : Fin 128) :
    k0_pay5 (F := Ideal) x tri carry (ix3 (0 : Fin 1) (0 : Fin 1) l) = k0_pay2 (F := Ideal) x tri carry (ix2 (511 : Fin 512) l) := by
  unfold k0_pay5
  pointwise []

/-- The carry a sequence starts from. -/
theorem pay1_apply (i : Vec Ideal S1x1x128 .f32) (l : Fin 128) : k0_pay1 (F := Ideal) i (ix2 (0 : Fin 1) l) = i (ix3 (0 : Fin 1) (0 : Fin 1) l) := by
  unfold k0_pay1
  pointwise []

variable (m : (ℓ : Loc nD τ sig) → Buf (Elt Ideal) ℓ)

/-- The carry a tile starts from: the initial one at a sequence's first tile, else what the tile before left. -/
def carryIn (c : Dev nD) (t : Fin cfg0.N) : Vec Ideal S1x128 .f32 :=
  if t.val % 2 = 0 then k0_pay1 (iblk m c 1 t) else (outsAt0 m c (t.val - 1) (Nat.lt_of_le_of_lt (Nat.sub_le _ _) t.isLt)).2.2

/-- What the body leaves at point `t`: the tile's block, the last sums, and the carry. -/
theorem outsAt_eq (c : Dev nD) (t : Fin cfg0.N) :
    (outsAt0 m c t.val t.isLt).1 = k0_pay4 (iblk m c 0 t) (iblk m c 2 t) (carryIn m c t)
      ∧ (outsAt0 m c t.val t.isLt).2.1 = k0_pay5 (iblk m c 0 t) (iblk m c 2 t) (carryIn m c t)
      ∧ (outsAt0 m c t.val t.isLt).2.2 = k0_pay3 (iblk m c 0 t) (iblk m c 2 t) (carryIn m c t) := by
  unfold carryIn
  by_cases h0 : t.val % 2 = 0
  · rw [outsAt0_A m c t h0, if_pos h0]
    refine ⟨?_, ?_, ?_⟩
    · frame_out
    · frame_out
    · frame_out
  · rw [outsAt0_B m c t h0, if_neg h0]
    refine ⟨?_, ?_, ?_⟩
    · frame_out
      exact congrArg (k0_pay4 _ _) (Memref.IsWhole.read_unread (Memref.isWhole_whole cc0_scratch0) _)
    · frame_out
      exact congrArg (k0_pay5 _ _) (Memref.IsWhole.read_unread (Memref.isWhole_whole cc0_scratch0) _)
    · frame_out
      exact congrArg (k0_pay3 _ _) (Memref.IsWhole.read_unread (Memref.isWhole_whole cc0_scratch0) _)

end Cert.CumsumPast

end
-- ==== Proof.CumsumPast.Kernel.lean ====
/-
  The cumulative sum of the cached log gates, read as a value. The launch walks 16 sequences by 2 tiles of 512 positions; a point adds
  its tile's gates up and adds what the tile before left. Here both result arrays are shown to be functions of the argument.
-/
module

public import proofs.«01_k».proof.Proof.CumsumPast.Tile
public import Idealize.ShloMosaic.Lib.StableHlo.ReadAt

@[expose] public section

set_option maxRecDepth 16384

noncomputable section

namespace Cert.CumsumPast

open Idealize.ShloMosaic Idealize.ShloMosaic.TcCoe Idealize.SL.Sem Cert.Cumsum Cert.Kernel12Ideal Cert.Kernel12Ideal.Gen
open Idealize.ShloMosaic.Pipeline (Dat Cfg Window)

variable (m : (ℓ : Loc nD τ sig) → Buf (Elt Ideal) ℓ) (ρ : Dev nD → PrngReg)

/-- The cached log gates, by sequence, position and head. -/
abbrev cached (c : Dev nD) : S16x1024x16.Idx → EReal := m ((c : Thread nD τ).loc main_arg0)

/-- The parts of the cached gates of sequence `b` at lane `l`, by position; the lanes past the heads hold zeros. -/
def gate (c : Dev nD) (b : Fin 16) (l : Fin 128) (n : ℕ) : EReal :=
  if h : n < 1024 then (if hl : l.val < 16 then parts (cached m c (ix3 b ⟨n, h⟩ ⟨l.val, hl⟩)) else 0) else 0

/-- The cumulated gates on the padded lanes. -/
def summed (c : Dev nD) : S16x128x1024.Idx → EReal := fun i => ∑ n ∈ Finset.range ((i 2).val + 1), gate m c (i 0) (i 1) n

/-- The sums over the whole of each sequence, on the padded lanes. -/
def total (c : Dev nD) : S16x1x128.Idx → EReal := fun i => ∑ n ∈ Finset.range 1024, gate m c (i 0) (i 2) n

/-- The cumulated gates of the 16 heads. -/
def cumulated (c : Dev nD) : S16x16x1024.Idx → EReal := fun i =>
  ∑ n ∈ Finset.range ((i 2).val + 1), gate m c (i 0) ⟨(i 1).val, by have := (i 1).isLt; change (i 1).val < 16 at this; omega⟩ n

/-! What the launch finds in the arrays prepared for it. -/

/-- The heads' lanes of the padded gates are the cached gates. -/
theorem found_heads (c : Dev nD) (b : Fin 16) (n : Fin 1024) (h : Fin 16) :
    V m c main_v0 (ix3 b n (⟨h.val, by omega⟩ : Fin 128)) = cached m c (ix3 b n h) := by
  unfold V
  after_reads_at

/-- The other lanes are zero. -/
theorem found_padding (c : Dev nD) (b : Fin 16) (n : Fin 1024) (l : Fin 128) (hl : ¬ l.val < 16) : V m c main_v0 (ix3 b n l) = (0 : EReal) := by
  unfold V
  after_reads_at
  rw [dif_neg hl]
  show (((0#32 : BitVec 32).toInt : ℝ) : EReal) = 0
  simp

/-- The parts of the padded gates. -/
theorem found_gates (c : Dev nD) (b : Fin 16) (n : Fin 1024) (l : Fin 128) : parts (V m c main_v0 (ix3 b n l)) = gate m c b l n.val := by
  unfold gate
  rw [dif_pos n.isLt]
  by_cases hl : l.val < 16
  · rw [dif_pos hl]
    exact congrArg parts (found_heads m c b n ⟨l.val, hl⟩)
  · rw [dif_neg hl, found_padding m c b n l hl]
    unfold parts
    simp

/-- The carry a sequence starts from is zero. -/
theorem found_start (c : Dev nD) (b : Fin 16) (l : Fin 128) : V m c main_v1 (ix3 b (0 : Fin 1) l) = (0 : EReal) := by
  unfold V
  after_reads_at

/-- The triangle of ones. -/
theorem found_triangle (c : Dev nD) (r k : Fin 512) : V m c main_v8 (ix2 r k) = if k.val ≤ r.val then (1 : EReal) else 0 := by
  unfold V
  after_reads_at
  rw [Idealize.ShloMosaic.WordCmp.cmpi_sge_ofNat (by omega) (by omega)]
  show (((BitVec.ofBool (decide (k.val ≤ r.val))).toNat : ℝ) : EReal) = _
  by_cases h : k.val ≤ r.val <;> simp [h]

/-- Where each window's block lies at point `t`. -/
theorem places : ∀ t : Fin cfg0.N,
    (win0_0.index t 0 = t.val / 2 ∧ win0_0.index t 1 = t.val % 2 ∧ win0_0.index t 2 = 0)
    ∧ (win0_1.index t 0 = t.val / 2 ∧ win0_1.index t 1 = 0 ∧ win0_1.index t 2 = 0)
    ∧ (win0_2.index t 0 = 0 ∧ win0_2.index t 1 = 0)
    ∧ (win0_3.index t 0 = t.val / 2 ∧ win0_3.index t 1 = 0 ∧ win0_3.index t 2 = t.val % 2)
    ∧ (win0_4.index t 0 = t.val / 2 ∧ win0_4.index t 1 = 0 ∧ win0_4.index t 2 = 0) :=
  (by decide +kernel : ∀ t : Fin grid0.N, _)

/-- The number of points. -/
theorem lt_points (t : Fin cfg0.N) : t.val < 32 := t.isLt

/-- The sequence of a point. -/
abbrev seq (t : Fin cfg0.N) : Fin 16 := ⟨t.val / 2, by have := lt_points t; omega⟩

/-- The gates' block at point `t`: tile `t % 2` of sequence `t / 2`. -/
theorem blk_gates (c : Dev nD) (t : Fin cfg0.N) (k : Fin 512) (l : Fin 128) :
    parts (iblk m c 0 t (ix3 (0 : Fin 1) k l)) = gate m c (seq t) l (512 * (t.val % 2) + k.val) := by
  have hp := (places t).1
  have hk : 512 * (t.val % 2) + k.val < 1024 := by omega
  refine Eq.trans (congrArg parts ?_) (found_gates m c (seq t) ⟨512 * (t.val % 2) + k.val, hk⟩ l)
  unfold iblk
  rw [View.read_apply]
  show V m c main_v0 _ = _
  refine congrArg (V m c main_v0) (idx_ext3 ?_ ?_ ?_)
  · refine (win0_0.rect_emb_val t (ix3 (0 : Fin 1) k l) 0).trans ?_
    rw [hp.1]
    show t.val / 2 * 1 + 0 = t.val / 2
    omega
  · refine (win0_0.rect_emb_val t (ix3 (0 : Fin 1) k l) 1).trans ?_
    rw [hp.2.1]
    show t.val % 2 * 512 + k.val = 512 * (t.val % 2) + k.val
    omega
  · exact win0_0.rect_emb_val_of_index_zero t 2 hp.2.2 (ix3 (0 : Fin 1) k l)

/-- The initial carry's block is zero. -/
theorem blk_start (c : Dev nD) (t : Fin cfg0.N) (l : Fin 128) : iblk m c 1 t (ix3 (0 : Fin 1) (0 : Fin 1) l) = (0 : EReal) := by
  have hp := (places t).2.1
  refine Eq.trans ?_ (found_start m c (seq t) l)
  unfold iblk
  rw [View.read_apply]
  show V m c main_v1 _ = _
  refine congrArg (V m c main_v1) (idx_ext3 ?_ ?_ ?_)
  · refine (win0_1.rect_emb_val t (ix3 (0 : Fin 1) (0 : Fin 1) l) 0).trans ?_
    rw [hp.1]
    show t.val / 2 * 1 + 0 = t.val / 2
    omega
  · exact win0_1.rect_emb_val_of_index_zero t 1 hp.2.1 (ix3 (0 : Fin 1) (0 : Fin 1) l)
  · exact win0_1.rect_emb_val_of_index_zero t 2 hp.2.2 (ix3 (0 : Fin 1) (0 : Fin 1) l)

/-- The triangle is read whole at every point. -/
theorem blk_triangle (c : Dev nD) (t : Fin cfg0.N) (r k : Fin 512) : iblk m c 2 t (ix2 r k) = if k.val ≤ r.val then (1 : EReal) else 0 := by
  have hp := (places t).2.2.1
  refine Eq.trans ?_ (found_triangle m c r k)
  unfold iblk
  rw [View.read_apply]
  show V m c main_v8 _ = _
  refine congrArg (V m c main_v8) (Shape.idx_ext₂ ?_ ?_)
  · exact win0_2.rect_emb_val_of_index_zero t 0 hp.1 (ix2 r k)
  · exact win0_2.rect_emb_val_of_index_zero t 1 hp.2 (ix2 r k)

/-- A tile's sums, when the carry is the sum of the tiles before. -/
theorem tile_sum (c : Dev nD) (t : Fin cfg0.N) (l : Fin 128)
    (h : carryIn m c t (ix2 (0 : Fin 1) l) = ∑ n ∈ Finset.range (512 * (t.val % 2)), gate m c (seq t) l n) (r : Fin 512) :
    k0_pay2 (F := Ideal) (iblk m c 0 t) (iblk m c 2 t) (carryIn m c t) (ix2 r l)
      = ∑ n ∈ Finset.range (512 * (t.val % 2) + r.val + 1), gate m c (seq t) l n := by
  refine (pay2_sum (iblk m c 0 t) (iblk m c 2 t) (carryIn m c t) (blk_triangle m c t) (fun k => gate m c (seq t) l (512 * (t.val % 2) + k)) l
    (fun k => blk_gates m c t k l) r).trans ?_
  rw [h, Nat.add_assoc, Finset.sum_range_add (gate m c (seq t) l) (512 * (t.val % 2)) (r.val + 1), add_comm]

/-- The carry a tile starts from is the sum of the sequence's tiles before it. -/
theorem carry_sum (c : Dev nD) (l : Fin 128) : ∀ (n : ℕ) (hn : n < cfg0.N),
    carryIn m c ⟨n, hn⟩ (ix2 (0 : Fin 1) l) = ∑ i ∈ Finset.range (512 * (n % 2)), gate m c (seq ⟨n, hn⟩) l i := by
  intro n
  induction n with
  | zero =>
    intro hn
    unfold carryIn
    rw [if_pos (Nat.zero_mod 2), pay1_apply, blk_start]
    rfl
  | succ n ih =>
    intro hn
    have hN : n + 1 < 32 := hn
    have hn' : n < cfg0.N := Nat.lt_of_succ_lt hn
    unfold carryIn
    by_cases h0 : (n + 1) % 2 = 0
    · rw [if_pos h0, pay1_apply, blk_start, h0]
      rfl
    · rw [if_neg h0]
      show (outsAt0 m c n _).2.2 (ix2 (0 : Fin 1) l) = _
      rw [(outsAt_eq m c ⟨n, hn'⟩).2.2, pay3_apply, tile_sum m c ⟨n, hn'⟩ l (ih hn')]
      have e1 : 512 * (n % 2) + 511 + 1 = 512 * ((n + 1) % 2) := by omega
      have e2 : seq ⟨n, hn'⟩ = seq ⟨n + 1, hn⟩ := Fin.ext (by show n / 2 = (n + 1) / 2; omega)
      show ∑ i ∈ Finset.range (512 * (n % 2) + 511 + 1), _ = _
      rw [e1, e2]

/-- What point `t` leaves in its block at an index. -/
theorem block_value (c : Dev nD) (t : Fin cfg0.N) (l : Fin 128) (r : Fin 512) :
    (outsAt0 m c t.val t.isLt).1 (ix3 (0 : Fin 1) l r) = ∑ n ∈ Finset.range (512 * (t.val % 2) + r.val + 1), gate m c (seq t) l n := by
  rw [(outsAt_eq m c t).1, pay4_apply]
  exact tile_sum m c t l (carry_sum m c l t.val t.isLt) r

/-- A sequence's second tile leaves the sums over the whole of it. -/
theorem last_value (c : Dev nD) (t : Fin cfg0.N) (ht : t.val % 2 = 1) (l : Fin 128) :
    (outsAt0 m c t.val t.isLt).2.1 (ix3 (0 : Fin 1) (0 : Fin 1) l) = ∑ n ∈ Finset.range 1024, gate m c (seq t) l n := by
  rw [(outsAt_eq m c t).2.1, pay5_apply, tile_sum m c t l (carry_sum m c l t.val t.isLt), ht]
  rfl

/-- What point `t` writes back is its block of the sums. -/
theorem flushed_summed (c : Dev nD) (t : Fin cfg0.N) :
    (dats m 0 c).flushed 3 t = ((cfg0.win 3).blk t).view.read (Elt Ideal) (summed m c) := by
  have hp := (places t).2.2.2.1
  have ht := lt_points t
  show (cfg0.win 3).cut (grid0.coords t) ((dats m 0 c).after 3 t) = _
  rw [after0_3]
  funext y
  rw [View.read_apply]
  have h0 : (y 0).val < 1 := (y 0).isLt
  have h1 : (y 1).val < 128 := (y 1).isLt
  have h2 : (y 2).val < 512 := (y 2).isLt
  have e : ((cfg0.win 3).blk t).view.emb y = ix3 (seq t) (y 1) (⟨512 * (t.val % 2) + (y 2).val, by omega⟩ : Fin 1024) :=
    idx_ext3
      ((win0_3.rect_emb_val t y 0).trans (by rw [hp.1]; show t.val / 2 * 1 + (y 0).val = t.val / 2; omega))
      (win0_3.rect_emb_val_of_index_zero t 1 hp.2.1 y)
      ((win0_3.rect_emb_val t y 2).trans (by rw [hp.2.2]; show t.val % 2 * 512 + (y 2).val = 512 * (t.val % 2) + (y 2).val; omega))
  have ey : y = ix3 (0 : Fin 1) (y 1) (y 2) := idx_ext3 (by show (y 0).val = 0; omega) rfl rfl
  show (outsAt0 m c t.val t.isLt).1 y = summed m c _
  rw [e]
  exact (congrArg (outsAt0 m c t.val t.isLt).1 ey).trans (block_value m c t (y 1) (y 2))

/-- Its blocks tile the array, so it ends at the sums. -/
theorem final_summed (c : Dev nD) : (dats m 0 c).arrAt 3 cfg0.N = summed m c :=
  (dats m 0 c).arrAt_eq_of_cover 3 (summed m c) (fun t _ => flushed_summed m c t) fun i => by
    have h0 : (i 0).val < 16 := (i 0).isLt
    have h1 : (i 1).val < 128 := (i 1).isLt
    have h2 : (i 2).val < 1024 := (i 2).isLt
    let t : Fin cfg0.N := ⟨2 * (i 0).val + (i 2).val / 512, by show _ < 32; omega⟩
    have hp := (places t).2.2.2.1
    refine ⟨t, flush0_3 t, ?_⟩
    show i ∈ ((View.whole main_v9_0).slice (win0_3.rect t)).set
    rw [View.set_slice_whole, Rect.mem_set_unit]
    intro a
    match a with
    | ⟨0, _⟩ =>
      show win0_3.index t 0 * 1 ≤ (i 0).val ∧ (i 0).val < win0_3.index t 0 * 1 + 1
      rw [hp.1]; dsimp only [t]; omega
    | ⟨1, _⟩ =>
      show win0_3.index t 1 * 128 ≤ (i 1).val ∧ (i 1).val < win0_3.index t 1 * 128 + 128
      rw [hp.2.1]; omega
    | ⟨2, _⟩ =>
      show win0_3.index t 2 * 512 ≤ (i 2).val ∧ (i 2).val < win0_3.index t 2 * 512 + 512
      rw [hp.2.2]; dsimp only [t]; omega

/-- What a sequence's second tile writes back of the last sums is its block of them. -/
theorem flushed_total (c : Dev nD) (t : Fin cfg0.N) (ht : t.val % 2 = 1) :
    (dats m 0 c).flushed 4 t = ((cfg0.win 4).blk t).view.read (Elt Ideal) (total m c) := by
  have hp := (places t).2.2.2.2
  show (cfg0.win 4).cut (grid0.coords t) ((dats m 0 c).after 4 t) = _
  rw [after0_4]
  funext y
  rw [View.read_apply]
  have h0 : (y 0).val < 1 := (y 0).isLt
  have h1 : (y 1).val < 1 := (y 1).isLt
  have e : ((cfg0.win 4).blk t).view.emb y = ix3 (seq t) (0 : Fin 1) (y 2) :=
    idx_ext3
      ((win0_4.rect_emb_val t y 0).trans (by rw [hp.1]; show t.val / 2 * 1 + (y 0).val = t.val / 2; omega))
      ((win0_4.rect_emb_val_of_index_zero t 1 hp.2.1 y).trans (by show (y 1).val = 0; omega))
      (win0_4.rect_emb_val_of_index_zero t 2 hp.2.2 y)
  have ey : y = ix3 (0 : Fin 1) (0 : Fin 1) (y 2) := idx_ext3 (by show (y 0).val = 0; omega) (by show (y 1).val = 0; omega) rfl
  show (outsAt0 m c t.val t.isLt).2.1 y = total m c _
  rw [e]
  exact (congrArg (outsAt0 m c t.val t.isLt).2.1 ey).trans (last_value m c t ht (y 2))

/-- The second tiles' blocks tile the array, so it ends at the sums over whole sequences. -/
theorem final_total (c : Dev nD) : (dats m 0 c).arrAt 4 cfg0.N = total m c :=
  (dats m 0 c).arrAt_eq_of_cover 4 (total m c) (fun t ht => flushed_total m c t ((flush0_4 t).mp ht)) fun i => by
    have h0 : (i 0).val < 16 := (i 0).isLt
    have h1 : (i 1).val < 1 := (i 1).isLt
    have h2 : (i 2).val < 128 := (i 2).isLt
    let t : Fin cfg0.N := ⟨2 * (i 0).val + 1, by show _ < 32; omega⟩
    have hp := (places t).2.2.2.2
    refine ⟨t, (flush0_4 t).mpr (by dsimp only [t]; omega), ?_⟩
    show i ∈ ((View.whole main_v9_1).slice (win0_4.rect t)).set
    rw [View.set_slice_whole, Rect.mem_set_unit]
    intro a
    match a with
    | ⟨0, _⟩ =>
      show win0_4.index t 0 * 1 ≤ (i 0).val ∧ (i 0).val < win0_4.index t 0 * 1 + 1
      rw [hp.1]; dsimp only [t]; omega
    | ⟨1, _⟩ =>
      show win0_4.index t 1 * 1 ≤ (i 1).val ∧ (i 1).val < win0_4.index t 1 * 1 + 1
      rw [hp.2.1]; omega
    | ⟨2, _⟩ =>
      show win0_4.index t 2 * 128 ≤ (i 2).val ∧ (i 2).val < win0_4.index t 2 * 128 + 128
      rw [hp.2.2]; omega

/-- The slice after the launch keeps the 16 heads' lanes. -/
theorem tail_cumulated (c : Dev nD) : Pipeline.afterTail₀ cfgs (dats m) 0 (V0 m) [hostOps1] c main_v10 = cumulated m c := by
  funext i
  obtain ⟨b, h, r, rfl⟩ : ∃ (b : Fin 16) (h : Fin 16) (r : Fin 1024), i = ix3 b h r := ⟨i 0, i 1, i 2, eq_ix3 i⟩
  have e : ∀ U : Valuation τ sig (Elt Ideal), StableHlo.after (hostOps1 (F := Ideal)) U (Proc.devRef .tc main_v10) (ix3 b h r)
      = U (Proc.devRef .tc main_v9_0) (ix3 b (⟨h.val, by omega⟩ : Fin 128) r) := fun U => by after_reads_at
  unfold Pipeline.afterTail₀
  refine (e _).trans ?_
  refine (congrFun (Pipeline.withArrays_arr spec0 (by decide) c (V0 m c) (fun w => (dats m 0 c).arrAt w cfg0.N) 3) _).trans ?_
  rw [final_summed]
  rfl

/-- The slice leaves the last sums as they are. -/
theorem tail_total (c : Dev nD) : Pipeline.afterTail₀ cfgs (dats m) 0 (V0 m) [hostOps1] c main_v9_1 = total m c := by
  funext i
  have e : ∀ U : Valuation τ sig (Elt Ideal), StableHlo.after (hostOps1 (F := Ideal)) U (Proc.devRef .tc main_v9_1) i
      = U (Proc.devRef .tc main_v9_1) i := fun U => by after_reads_at
  unfold Pipeline.afterTail₀
  refine (e _).trans ?_
  refine (congrFun (Pipeline.withArrays_arr spec0 (by decide) c (V0 m c) (fun w => (dats m 0 c).arrAt w cfg0.N) 4) _).trans ?_
  rw [final_total]

/-- The run: the results are the functions above, and the argument ends unchanged. -/
theorem run : θ_run (defs (F := Ideal)) (onTc (τ := τ) (main (F := Ideal))) ⟨m, fun _ => 0, ρ⟩ (fun r => ∀ c : Dev nD,
    r.2.mem ((c.tc : Thread nD τ).loc main_v10) = cumulated m c
    ∧ r.2.mem ((c.tc : Thread nD τ).loc main_v9_1) = total m c
    ∧ r.2.mem ((c.tc : Thread nD τ).loc main_arg0) = m ((c.tc : Thread nD τ).loc main_arg0)) :=
  (θ_run defs _ _).mono (fun r h c => by
    obtain ⟨⟨ha, -⟩, h1⟩ := h
    exact ⟨((h1 c).2 main_v10 (Pipeline.mem_restRefs_of main_v10 (by decide) (by decide))).trans (tail_cumulated m c),
      ((h1 c).1 4).trans (final_total m c), ha c⟩)
    (θ_run_and (Gen.frame m ρ) (run_main m ρ))

end Cert.CumsumPast

end
-- ==== Proof.CumsumPast.Ref.lean ====
/-
  The reference's cumulative sums of the cached gates are the kernel's, where no gate is plus infinity, and so are the sums over whole
  sequences.
-/
module

public import proofs.«01_k».proof.Proof.CumsumPast.Kernel
public import proofs.«01_k».proof.Proof.Gen.Reference12Ideal.Read
public import proofs.«01_k».proof.Proof.Gen.Pre_cached_below_infinity
public import Idealize.ShloMosaic.Lib.ReduceAll

@[expose] public section

set_option maxRecDepth 16384

noncomputable section

namespace Cert.CumsumPast

open Idealize.ShloMosaic Idealize.ShloMosaic.TcCoe Idealize.SL.Sem Cert.Cumsum Cert.Reference12Ideal Cert.Reference12Ideal.Gen Cert.Reference12Ideal.Read

/-- A window of 1024 that ends at position `p`, its places before the start empty, holds the entries up to `p`. -/
theorem window_sum (f : ℕ → EReal) (p : ℕ) (hp : p < 1024) :
    (∑ k : Fin 1024, if 1023 ≤ p + k.val then f (p + k.val - 1023) else 0) = ∑ n ∈ Finset.range (p + 1), f n := by
  rw [Fin.sum_univ_eq_sum_range (fun k => if 1023 ≤ p + k then f (p + k - 1023) else 0) 1024,
    show 1024 = (1023 - p) + (p + 1) by omega, Finset.sum_range_add, Finset.sum_eq_zero, zero_add]
  · refine Finset.sum_congr rfl fun n hn => ?_
    rw [if_pos (by omega)]
    congr 1
    omega
  · intro n hn
    rw [Finset.mem_range] at hn
    exact if_neg (by omega)

/-- The window's index at a position in row-major order. -/
abbrev inWindow (n : Fin (⟨3, ![1, 1024, 1]⟩ : Shape).numel) : (⟨3, ![1, 1024, 1]⟩ : Shape).Idx := (⟨3, ![1, 1024, 1]⟩ : Shape).rowMajor.symm n

/-- The places of a window. -/
abbrev place (k : Fin 1024) : (⟨3, ![1, 1024, 1]⟩ : Shape).Idx := ix3 (0 : Fin 1) k (0 : Fin 1)

/-- They are all its indices. -/
theorem place_bijective : Function.Bijective place :=
  ⟨fun a b h => congrFun h 1, fun y => ⟨y 1, idx_ext3
    (by have h : (y 0).val < 1 := (y 0).isLt; show 0 = (y 0).val; omega) rfl
    (by have h : (y 2).val < 1 := (y 2).isLt; show 0 = (y 2).val; omega)⟩⟩

variable (x : S16x1024x16.Idx → EReal)

/-- The reference's window sum at a position adds the entries up to it. -/
theorem cumsum_apply (init : S_.Idx → EReal) (hinit : ∀ i, init i = 0)
    (hw : S16x1024x16.ReduceWindows (![1, 1024, 1] : Fin 3 → Nat) ![1, 1, 1] ![0, 1023, 0] ![0, 0, 0] S16x1024x16) (hu : 0 < S_.numel)
    (b : Fin 16) (p : Fin 1024) (h : Fin 16) :
    Host.reduceWindowAdd (F := Ideal) (φ := .f32) ![1, 1024, 1] ![1, 1, 1] ![0, 1023, 0] ![0, 0, 0] x init hw hu (ix3 b p h)
      = ∑ n ∈ Finset.range (p.val + 1), if hn : n < 1024 then x (ix3 b ⟨n, hn⟩ h) else 0 := by
  have hp := p.isLt
  rw [← window_sum _ p.val p.isLt]
  unfold Host.reduceWindowAdd
  rw [Ideal.hostReduceWindowAdd_def]
  unfold Ideal.hostReduceWindowAdd Host.reduceWindow
  dsimp only
  refine (foldl_add _ _ _).trans ?_
  rw [hinit, zero_add, ← Fin.sum_univ_def]
  refine Eq.trans (Finset.sum_congr rfl fun n _ => ?_)
    ((Equiv.sum_comp (⟨3, ![1, 1024, 1]⟩ : Shape).rowMajor.symm (fun w : (⟨3, ![1, 1024, 1]⟩ : Shape).Idx =>
      if 1023 ≤ p.val + (w 1).val then (if hn : p.val + (w 1).val - 1023 < 1024 then x (ix3 b ⟨p.val + (w 1).val - 1023, hn⟩ h) else 0) else 0)).trans
      (place_bijective.sum_comp _).symm)
  have w0 : (inWindow n 0).val < 1 := (inWindow n 0).isLt
  have w1 : (inWindow n 1).val < 1024 := (inWindow n 1).isLt
  have w2 : (inWindow n 2).val < 1 := (inWindow n 2).isLt
  have hb := b.isLt
  have hh := h.isLt
  by_cases h0 : 1023 ≤ p.val + (inWindow n 1).val
  · rw [if_pos h0, dif_pos (show p.val + (inWindow n 1).val - 1023 < 1024 by omega), dif_pos]
    · refine congrArg x (idx_ext3 ?_ ?_ ?_)
      · show b.val * 1 + (inWindow n 0).val - 0 = b.val
        omega
      · show p.val * 1 + (inWindow n 1).val - 1023 = p.val + (inWindow n 1).val - 1023
        omega
      · show h.val * 1 + (inWindow n 2).val - 0 = h.val
        omega
    · intro a
      match a with
      | ⟨0, _⟩ =>
        show 0 ≤ b.val * 1 + (inWindow n 0).val ∧ b.val * 1 + (inWindow n 0).val - 0 < 16
        omega
      | ⟨1, _⟩ =>
        show 1023 ≤ p.val * 1 + (inWindow n 1).val ∧ p.val * 1 + (inWindow n 1).val - 1023 < 1024
        omega
      | ⟨2, _⟩ =>
        show 0 ≤ h.val * 1 + (inWindow n 2).val ∧ h.val * 1 + (inWindow n 2).val - 0 < 16
        omega
  · rw [if_neg h0, dif_neg]
    intro hin
    have h1 : 1023 ≤ p.val * 1 + (inWindow n 1).val := (hin 1).1
    omega

variable (m : (ℓ : Loc Cert.Kernel12Ideal.nD Cert.Kernel12Ideal.τ Cert.Kernel12Ideal.sig) → Buf (Elt Ideal) ℓ)

/-- The scalar has one index. -/
instance : Subsingleton Cert.Pre_cached_below_infinity.S_.Idx := ⟨fun a b => funext fun i => i.elim0⟩

/-- The precondition: no cached gate is plus infinity. -/
theorem ne_top_of_pre (hPre : Cert.Pre_cached_below_infinity.Facts) (h : Cert.Pre_Kernel12Ideal_cached_below_infinity m)
    (c : Dev Cert.Kernel12Ideal.nD) (i : S16x1024x16.Idx) : cached m c i ≠ ⊤ := by
  have h0 := congrFun (h c) (fun a => a.elim0)
  unfold Cert.Pre_cached_below_infinity.fn at h0
  exact ne_top_of_lt _ (Host.reduce_andi_all _ _ _ _ _ h0 i)

/-- The reference's sum up to a position. -/
theorem ref_upto (c : Dev Cert.Kernel12Ideal.nD) (hr : ∀ i, cached m c i ≠ ⊤) (b : Fin 16) (p : Fin 1024) (h : Fin 16) :
    val_main_v0 (F := Ideal) (cached m c) (ix3 b p h) = ∑ n ∈ Finset.range (p.val + 1), gate m c b ⟨h.val, by omega⟩ n := by
  unfold val_main_v0
  rw [cumsum_apply _ _ (fun i => by
    rw [val_main_call0_call0_v0_apply, val_main_call0_call0_cst_apply]
    exact Ideal.ofBits_zero .f32)]
  unfold gate
  refine Finset.sum_congr rfl fun n _ => ?_
  by_cases hn : n < 1024
  · rw [dif_pos hn, dif_pos hn, dif_pos h.isLt]
    exact (parts_eq (hr _)).symm
  · rw [dif_neg hn, dif_neg hn]

/-- Where no gate is plus infinity, the reference's first result is the kernel's. -/
theorem ref_cumulated (c : Dev Cert.Kernel12Ideal.nD) (hr : ∀ i, cached m c i ≠ ⊤) :
    val_main_v1 (F := Ideal) (cached m c) = cumulated m c := by
  funext i
  obtain ⟨b, h, p, rfl⟩ : ∃ (b : Fin 16) (h : Fin 16) (p : Fin 1024), i = ix3 b h p := ⟨i 0, i 1, i 2, eq_ix3 i⟩
  rw [val_main_v1_apply]
  have e : idx_main_v1 (ix3 b h p) = ix3 b p h := idx_ext3 rfl rfl rfl
  rw [e]
  exact ref_upto m c hr b p h

/-- The reference's padded last sums, at a lane. -/
theorem padded_apply (x : S16x1024x16.Idx → EReal) (b : Fin 16) (l : Fin 128) :
    val_main_v3 (F := Ideal) x (ix3 b (0 : Fin 1) l)
      = if hl : l.val < 16 then val_main_v2 (F := Ideal) x (ix3 b (0 : Fin 1) (⟨l.val, hl⟩ : Fin 16)) else 0 := by
  unfold val_main_v3
  generalize val_main_v2 (F := Ideal) x = y
  pointwise []
  have e : val_main_call1_v0 (F := Ideal) (Shape.Idx.first h_S_) = (0 : EReal) := by
    rw [val_main_call1_v0_apply, val_main_c_apply]
    show (((0#32 : BitVec 32).toInt : ℝ) : EReal) = 0
    simp
  rw [e]

/-- Where no gate is plus infinity, the reference's second result is the kernel's. -/
theorem ref_total (c : Dev Cert.Kernel12Ideal.nD) (hr : ∀ i, cached m c i ≠ ⊤) : val_main_v3 (F := Ideal) (cached m c) = total m c := by
  funext i
  obtain ⟨b, z, l, rfl⟩ : ∃ (b : Fin 16) (z : Fin 1) (l : Fin 128), i = ix3 b z l := ⟨i 0, i 1, i 2, eq_ix3 i⟩
  obtain rfl : z = 0 := Subsingleton.elim _ _
  rw [padded_apply]
  unfold total
  by_cases hl : l.val < 16
  · rw [dif_pos hl, val_main_v2_apply]
    have e : idx_main_v2 (ix3 b (0 : Fin 1) (⟨l.val, hl⟩ : Fin 16)) = ix3 b (1023 : Fin 1024) (⟨l.val, hl⟩ : Fin 16) := idx_ext3 rfl rfl rfl
    rw [e]
    exact ref_upto m c hr b 1023 ⟨l.val, hl⟩
  · rw [dif_neg hl]
    refine (Finset.sum_eq_zero fun n hn => ?_).symm
    show gate m c b l n = 0
    unfold gate
    by_cases h : n < 1024
    · rw [dif_pos h, dif_neg hl]
    · rw [dif_neg h]

/-- Where no gate is plus infinity, the call over the cached gates ends with the reference's results. -/
theorem algebraic (hPre : Cert.Pre_cached_below_infinity.Facts) :
    Cert.algebraic_Kernel12Ideal_Reference12Ideal_pre_cached_below_infinity (hKernel12Ideal := Cert.Kernel12Ideal.Gen.facts)
      (hReference12Ideal := Cert.Reference12Ideal.Gen.facts) (hPre_cached_below_infinity := hPre) := by
  intro m ρ m' ρ' hpre hm
  refine ⟨cumulated m, total m, run m ρ, ?_⟩
  refine (θ_run _ _ _).mono (fun r h c => ?_) (Cert.Reference12Ideal.Value.run (F := Ideal) m' ρ')
  obtain ⟨h0, h1, ha⟩ := h c
  have e0 := hm c
  rw [val_main_v1_eq, e0] at h0
  rw [val_main_v3_eq, e0] at h1
  have hr := ne_top_of_pre m hPre hpre c
  exact ⟨h0.trans (ref_cumulated m c hr), h1.trans (ref_total m c hr), ha⟩

end Cert.CumsumPast

end
-- ==== Proof.CumsumNew.Tile.lean ====
/-
  The cumulative sum of a sequence's 32 new log gates, as the kernel computes it: the body of `Cumsum/Tile.lean` over one tile, to
  which the sums the cached gates left are added.
-/
module

public import proofs.«01_k».proof.Defs
public import proofs.«01_k».proof.Proof.Cumsum.Ref
public import proofs.«01_k».proof.Proof.Gen.Kernel13Ideal.Frame
public import proofs.«01_k».proof.Proof.Gen.Kernel13Ideal.Skeleton
public import Idealize.ShloMosaic.Lib.Pipeline.Value
public import Idealize.ShloMosaic.Lib.Pipeline.ValueKit
public import Idealize.ShloMosaic.Lib.Pointwise
public import Idealize.ShloMosaic.Lib.Claim

@[expose] public section

set_option maxRecDepth 16384

noncomputable section

namespace Cert.CumsumNew

open Idealize.ShloMosaic Idealize.ShloMosaic.TcCoe Idealize.ShloMosaic.Tactic Idealize.SL.Sem Cert.Cumsum Cert.Kernel13Ideal Cert.Kernel13Ideal.Gen
open Idealize.ShloMosaic.Pipeline (Dat Cfg Window)

/-- A row of a triangle of ones picks the entries up to the row. -/
theorem triangle32_mul (r k : Fin 32) (a : EReal) : (if k.val ≤ r.val then (1 : EReal) else 0) * a = if k.val ≤ r.val then a else 0 := by
  split <;> simp

/-- The entries up to a row, added as a range. -/
theorem sum_upto32 (f : ℕ → EReal) (r : Fin 32) : (∑ k : Fin 32, if k.val ≤ r.val then f k.val else 0) = ∑ k ∈ Finset.range (r.val + 1), f k := by
  have hr := r.isLt
  rw [Fin.sum_univ_eq_sum_range (fun k => if k ≤ r.val then f k else 0) 32, ← Finset.sum_filter]
  refine Finset.sum_congr (Finset.ext fun n => ?_) fun _ _ => rfl
  rw [Finset.mem_filter, Finset.mem_range, Finset.mem_range]
  omega

variable (x : Vec Ideal S1x32x128 .f32) (tri : Vec Ideal S32x32 .bf16) (carry : Vec Ideal S1x128 .f32)

/-- A tile's cumulated gates, as the body computes them. -/
theorem pay2_apply (r : Fin 32) (l : Fin 128) :
    k0_pay2 (F := Ideal) x tri carry (ix2 r l)
      = (∑ k : Fin 32, tri (ix2 r k) * x (ix3 (0 : Fin 1) k l)) + (∑ k : Fin 32, tri (ix2 r k) * (x (ix3 (0 : Fin 1) k l) - x (ix3 (0 : Fin 1) k l)))
        + (∑ k : Fin 32, tri (ix2 r k) * ((x (ix3 (0 : Fin 1) k l) - x (ix3 (0 : Fin 1) k l)) - (x (ix3 (0 : Fin 1) k l) - x (ix3 (0 : Fin 1) k l))))
        + carry (ix2 (0 : Fin 1) l) := by
  unfold k0_pay2
  pointwise []
  have e : ∀ h, (⟨256 + l.val - 128 - 128, h⟩ : Fin 128) = l := fun h => Fin.ext (by show 256 + l.val - 128 - 128 = l.val; omega)
  refine congrArg (fun a : EReal => a + _) (congrArg₂ (fun a b : EReal => a + b) rfl (Finset.sum_congr rfl fun k _ => ?_))
  rw [dif_neg (by omega), dif_neg (by omega), e]

/-- With a triangle of ones, the sum of the parts up to the row, and the carry. -/
theorem pay2_sum (htri : ∀ r k : Fin 32, tri (ix2 r k) = if k.val ≤ r.val then (1 : EReal) else 0) (f : ℕ → EReal) (l : Fin 128)
    (hf : ∀ k : Fin 32, parts (x (ix3 (0 : Fin 1) k l)) = f k.val) (r : Fin 32) :
    k0_pay2 (F := Ideal) x tri carry (ix2 r l) = (∑ k ∈ Finset.range (r.val + 1), f k) + carry (ix2 (0 : Fin 1) l) := by
  rw [pay2_apply, ← Finset.sum_add_distrib, ← Finset.sum_add_distrib, ← sum_upto32]
  refine congrArg (· + _) (Finset.sum_congr rfl fun k _ => ?_)
  rw [htri, triangle32_mul, triangle32_mul, triangle32_mul, ← hf]
  unfold parts
  split <;> simp

/-- What a tile leaves in its block: its rows as columns. -/
theorem pay4_apply (l : Fin 128) (r : Fin 32) :
    k0_pay4 (F := Ideal) x tri carry (ix3 (0 : Fin 1) l r) = k0_pay2 (F := Ideal) x tri carry (ix2 r l) := by
  unfold k0_pay4
  pointwise []

/-- The carry a sequence starts from. -/
theorem pay1_apply (i : Vec Ideal S1x1x128 .f32) (l : Fin 128) : k0_pay1 (F := Ideal) i (ix2 (0 : Fin 1) l) = i (ix3 (0 : Fin 1) (0 : Fin 1) l) := by
  unfold k0_pay1
  pointwise []

variable (m : (ℓ : Loc nD τ sig) → Buf (Elt Ideal) ℓ)

/-- What the body leaves at point `t`: the sequence's block, over the sums it starts from. -/
theorem outsAt_eq (c : Dev nD) (t : Fin cfg0.N) :
    (outsAt0 m c t).1 = k0_pay4 (iblk m c 0 t) (iblk m c 2 t) (k0_pay1 (iblk m c 1 t)) := by
  unfold outsAt0
  frame_out

end Cert.CumsumNew

end
-- ==== Proof.CumsumNew.Kernel.lean ====
/-
  The cumulative sum of the new log gates, read as a value. The launch walks 16 sequences of 32 positions, one tile each; a point adds its
  sequence's gates up and adds the sums the cached gates left. Here the result array is shown to be one function of the arguments.
-/
module

public import proofs.«01_k».proof.Proof.CumsumNew.Tile
public import Idealize.ShloMosaic.Lib.StableHlo.ReadAt

@[expose] public section

set_option maxRecDepth 16384

noncomputable section

namespace Cert.CumsumNew

open Idealize.ShloMosaic Idealize.ShloMosaic.TcCoe Idealize.SL.Sem Cert.Cumsum Cert.Kernel13Ideal Cert.Kernel13Ideal.Gen
open Idealize.ShloMosaic.Pipeline (Dat Cfg Window)

variable (m : (ℓ : Loc nD τ sig) → Buf (Elt Ideal) ℓ) (ρ : Dev nD → PrngReg)

/-- The new log gates, one row per token, padded to 128 lanes. -/
abbrev logGates (c : Dev nD) : S512x128.Idx → EReal := m ((c : Thread nD τ).loc main_arg0)

/-- The sums each sequence starts from. -/
abbrev start (c : Dev nD) : S16x1x128.Idx → EReal := m ((c : Thread nD τ).loc main_arg1)

/-- The parts of the new gates of sequence `b` at lane `l`, by position. -/
def gate (c : Dev nD) (b : Fin 16) (l : Fin 128) (n : ℕ) : EReal :=
  if h : n < 32 then parts (logGates m c (ix2 ⟨32 * b.val + n, by omega⟩ l)) else 0

/-- The cumulated gates on the padded lanes. -/
def summed (c : Dev nD) : S16x128x32.Idx → EReal := fun i =>
  (∑ n ∈ Finset.range ((i 2).val + 1), gate m c (i 0) (i 1) n) + start m c (ix3 (i 0) (0 : Fin 1) (i 1))

/-- The lane of a head. -/
abbrev lane (h : Fin 16) : Fin 128 := ⟨h.val, by omega⟩

/-- The cumulated gates of the 16 heads. -/
def cumulated (c : Dev nD) : S16x16x32.Idx → EReal := fun i =>
  (∑ n ∈ Finset.range ((i 2).val + 1), gate m c (i 0) (lane (i 1)) n) + start m c (ix3 (i 0) (0 : Fin 1) (lane (i 1)))

/-! What the launch finds in the arrays prepared for it. -/

/-- The gates by sequence and position. -/
theorem found_gates (c : Dev nD) (b : Fin 16) (n : Fin 32) (l : Fin 128) :
    V m c main_v0 (ix3 b n l) = logGates m c (ix2 ⟨32 * b.val + n.val, by omega⟩ l) := by
  unfold V
  after_reads_at
  exact congrArg (fun z => logGates m c (ix2 z l)) (Fin.ext (by show b.val * 32 + n.val = 32 * b.val + n.val; omega))

/-- The sums a sequence starts from are the argument. -/
theorem found_start (c : Dev nD) (b : Fin 16) (l : Fin 128) : V m c main_arg1 (ix3 b (0 : Fin 1) l) = start m c (ix3 b (0 : Fin 1) l) := by
  unfold V
  after_reads_at

/-- The triangle of ones. -/
theorem found_triangle (c : Dev nD) (r k : Fin 32) : V m c main_v7 (ix2 r k) = if k.val ≤ r.val then (1 : EReal) else 0 := by
  unfold V
  after_reads_at
  rw [Idealize.ShloMosaic.WordCmp.cmpi_sge_ofNat (by omega) (by omega)]
  show (((BitVec.ofBool (decide (k.val ≤ r.val))).toNat : ℝ) : EReal) = _
  by_cases h : k.val ≤ r.val <;> simp [h]

/-- Where each window's block lies at point `t`. -/
theorem places : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0)
    ∧ (win0_3.index t 0 = t.val ∧ win0_3.index t 1 = 0 ∧ win0_3.index t 2 = 0) :=
  (by decide +kernel : ∀ t : Fin grid0.N, _)

/-- The number of points. -/
theorem lt_points (t : Fin cfg0.N) : t.val < 16 := t.isLt

/-- The sequence of a point. -/
abbrev seq (t : Fin cfg0.N) : Fin 16 := ⟨t.val, lt_points t⟩

/-- The gates' block at point `t`: sequence `t`. -/
theorem blk_gates (c : Dev nD) (t : Fin cfg0.N) (k : Fin 32) (l : Fin 128) :
    parts (iblk m c 0 t (ix3 (0 : Fin 1) k l)) = gate m c (seq t) l k.val := by
  have hp := (places t).1
  unfold gate
  rw [dif_pos k.isLt]
  refine congrArg parts (Eq.trans ?_ (found_gates m c (seq t) k l))
  unfold iblk
  rw [View.read_apply]
  show V m c main_v0 _ = _
  refine congrArg (V m c main_v0) (idx_ext3 ?_ ?_ ?_)
  · refine (win0_0.rect_emb_val t (ix3 (0 : Fin 1) k l) 0).trans ?_
    rw [hp.1]
    show t.val * 1 + 0 = t.val
    omega
  · exact win0_0.rect_emb_val_of_index_zero t 1 hp.2.1 (ix3 (0 : Fin 1) k l)
  · exact win0_0.rect_emb_val_of_index_zero t 2 hp.2.2 (ix3 (0 : Fin 1) k l)

/-- The block of the sums point `t` starts from. -/
theorem blk_start (c : Dev nD) (t : Fin cfg0.N) (l : Fin 128) :
    iblk m c 1 t (ix3 (0 : Fin 1) (0 : Fin 1) l) = start m c (ix3 (seq t) (0 : Fin 1) l) := by
  have hp := (places t).2.1
  refine Eq.trans ?_ (found_start m c (seq t) l)
  unfold iblk
  rw [View.read_apply]
  show V m c main_arg1 _ = _
  refine congrArg (V m c main_arg1) (idx_ext3 ?_ ?_ ?_)
  · refine (win0_1.rect_emb_val t (ix3 (0 : Fin 1) (0 : Fin 1) l) 0).trans ?_
    rw [hp.1]
    show t.val * 1 + 0 = t.val
    omega
  · exact win0_1.rect_emb_val_of_index_zero t 1 hp.2.1 (ix3 (0 : Fin 1) (0 : Fin 1) l)
  · exact win0_1.rect_emb_val_of_index_zero t 2 hp.2.2 (ix3 (0 : Fin 1) (0 : Fin 1) l)

/-- The triangle is read whole at every point. -/
theorem blk_triangle (c : Dev nD) (t : Fin cfg0.N) (r k : Fin 32) : iblk m c 2 t (ix2 r k) = if k.val ≤ r.val then (1 : EReal) else 0 := by
  have hp := (places t).2.2.1
  refine Eq.trans ?_ (found_triangle m c r k)
  unfold iblk
  rw [View.read_apply]
  show V m c main_v7 _ = _
  refine congrArg (V m c main_v7) (Shape.idx_ext₂ ?_ ?_)
  · exact win0_2.rect_emb_val_of_index_zero t 0 hp.1 (ix2 r k)
  · exact win0_2.rect_emb_val_of_index_zero t 1 hp.2 (ix2 r k)

/-- What point `t` leaves in its block at an index. -/
theorem block_value (c : Dev nD) (t : Fin cfg0.N) (l : Fin 128) (r : Fin 32) :
    (outsAt0 m c t).1 (ix3 (0 : Fin 1) l r) = (∑ n ∈ Finset.range (r.val + 1), gate m c (seq t) l n) + start m c (ix3 (seq t) (0 : Fin 1) l) := by
  rw [outsAt_eq m c t, pay4_apply]
  refine (pay2_sum (iblk m c 0 t) (iblk m c 2 t) (k0_pay1 (iblk m c 1 t)) (blk_triangle m c t) (gate m c (seq t) l) l
    (fun k => blk_gates m c t k l) r).trans ?_
  rw [pay1_apply, blk_start]

/-- What point `t` writes back is its block of the sums. -/
theorem flushed_summed (c : Dev nD) (t : Fin cfg0.N) :
    (dats m 0 c).flushed 3 t = ((cfg0.win 3).blk t).view.read (Elt Ideal) (summed m c) := by
  have hp := (places t).2.2.2
  show (cfg0.win 3).cut (grid0.coords t) ((dats m 0 c).after 3 t) = _
  rw [after0_3]
  funext y
  rw [View.read_apply]
  have h0 : (y 0).val < 1 := (y 0).isLt
  have e : ((cfg0.win 3).blk t).view.emb y = ix3 (seq t) (y 1) (y 2) :=
    idx_ext3
      ((win0_3.rect_emb_val t y 0).trans (by rw [hp.1]; show t.val * 1 + (y 0).val = t.val; omega))
      (win0_3.rect_emb_val_of_index_zero t 1 hp.2.1 y)
      (win0_3.rect_emb_val_of_index_zero t 2 hp.2.2 y)
  have ey : y = ix3 (0 : Fin 1) (y 1) (y 2) := idx_ext3 (by show (y 0).val = 0; omega) rfl rfl
  show (outsAt0 m c t).1 y = summed m c _
  rw [e]
  exact (congrArg (outsAt0 m c t).1 ey).trans (block_value m c t (y 1) (y 2))

/-- Its blocks tile the array, so it ends at the sums. -/
theorem final_summed (c : Dev nD) : (dats m 0 c).arrAt 3 cfg0.N = summed m c :=
  (dats m 0 c).arrAt_eq_of_cover 3 (summed m c) (fun t _ => flushed_summed m c t) fun i => by
    have h0 : (i 0).val < 16 := (i 0).isLt
    have h1 : (i 1).val < 128 := (i 1).isLt
    have h2 : (i 2).val < 32 := (i 2).isLt
    let t : Fin cfg0.N := ⟨(i 0).val, h0⟩
    have hp := (places t).2.2.2
    refine ⟨t, flush0_3 t, ?_⟩
    show i ∈ ((View.whole main_v8_0).slice (win0_3.rect t)).set
    rw [View.set_slice_whole, Rect.mem_set_unit]
    intro a
    match a with
    | ⟨0, _⟩ =>
      show win0_3.index t 0 * 1 ≤ (i 0).val ∧ (i 0).val < win0_3.index t 0 * 1 + 1
      rw [hp.1]; dsimp only [t]; omega
    | ⟨1, _⟩ =>
      show win0_3.index t 1 * 128 ≤ (i 1).val ∧ (i 1).val < win0_3.index t 1 * 128 + 128
      rw [hp.2.1]; omega
    | ⟨2, _⟩ =>
      show win0_3.index t 2 * 32 ≤ (i 2).val ∧ (i 2).val < win0_3.index t 2 * 32 + 32
      rw [hp.2.2]; omega

/-- The slice after the launch keeps the 16 heads' lanes. -/
theorem tail_cumulated (c : Dev nD) : Pipeline.afterTail₀ cfgs (dats m) 0 (V0 m) [hostOps1] c main_v9 = cumulated m c := by
  funext i
  obtain ⟨b, h, r, rfl⟩ : ∃ (b : Fin 16) (h : Fin 16) (r : Fin 32), i = ix3 b h r := ⟨i 0, i 1, i 2, eq_ix3 i⟩
  have e : ∀ U : Valuation τ sig (Elt Ideal), StableHlo.after (hostOps1 (F := Ideal)) U (Proc.devRef .tc main_v9) (ix3 b h r)
      = U (Proc.devRef .tc main_v8_0) (ix3 b (lane h) r) := fun U => by after_reads_at
  unfold Pipeline.afterTail₀
  refine (e _).trans ?_
  refine (congrFun (Pipeline.withArrays_arr spec0 (by decide) c (V0 m c) (fun w => (dats m 0 c).arrAt w cfg0.N) 3) _).trans ?_
  rw [final_summed]
  rfl

/-- The run: the result is the function above, and the arguments end unchanged. -/
theorem run : θ_run (defs (F := Ideal)) (onTc (τ := τ) (main (F := Ideal))) ⟨m, fun _ => 0, ρ⟩ (fun r => ∀ c : Dev nD,
    r.2.mem ((c.tc : Thread nD τ).loc main_v9) = cumulated m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => by
    obtain ⟨⟨ha, -⟩, h1⟩ := h
    exact ⟨((h1 c).2 main_v9 (Pipeline.mem_restRefs_of main_v9 (by decide) (by decide))).trans (tail_cumulated m c), ha c⟩)
    (θ_run_and (Gen.frame m ρ) (run_main m ρ))

end Cert.CumsumNew

end
-- ==== Proof.CumsumNew.Ref.lean ====
/-
  The reference's cumulative sums of the new gates are the kernel's, where no gate is plus infinity.
-/
module

public import proofs.«01_k».proof.Proof.CumsumNew.Kernel
public import proofs.«01_k».proof.Proof.Gen.Reference13Ideal.Read
public import proofs.«01_k».proof.Proof.Gen.Pre_new_below_infinity
public import Idealize.ShloMosaic.Lib.ReduceAll

@[expose] public section

set_option maxRecDepth 16384

noncomputable section

namespace Cert.CumsumNew

open Idealize.ShloMosaic Idealize.ShloMosaic.TcCoe Idealize.SL.Sem Cert.Cumsum Cert.Reference13Ideal Cert.Reference13Ideal.Gen Cert.Reference13Ideal.Read

/-- A window of 32 that ends at position `p`, its places before the start empty, holds the entries up to `p`. -/
theorem window_sum (f : ℕ → EReal) (p : ℕ) (hp : p < 32) :
    (∑ k : Fin 32, if 31 ≤ p + k.val then f (p + k.val - 31) else 0) = ∑ n ∈ Finset.range (p + 1), f n := by
  rw [Fin.sum_univ_eq_sum_range (fun k => if 31 ≤ p + k then f (p + k - 31) else 0) 32,
    show 32 = (31 - p) + (p + 1) by omega, Finset.sum_range_add, Finset.sum_eq_zero, zero_add]
  · refine Finset.sum_congr rfl fun n hn => ?_
    rw [if_pos (by omega)]
    congr 1
    omega
  · intro n hn
    rw [Finset.mem_range] at hn
    exact if_neg (by omega)

/-- The window's index at a position in row-major order. -/
abbrev inWindow (n : Fin (⟨3, ![1, 32, 1]⟩ : Shape).numel) : (⟨3, ![1, 32, 1]⟩ : Shape).Idx := (⟨3, ![1, 32, 1]⟩ : Shape).rowMajor.symm n

/-- The places of a window. -/
abbrev place (k : Fin 32) : (⟨3, ![1, 32, 1]⟩ : Shape).Idx := ix3 (0 : Fin 1) k (0 : Fin 1)

/-- They are all its indices. -/
theorem place_bijective : Function.Bijective place :=
  ⟨fun a b h => congrFun h 1, fun y => ⟨y 1, idx_ext3
    (by have h : (y 0).val < 1 := (y 0).isLt; show 0 = (y 0).val; omega) rfl
    (by have h : (y 2).val < 1 := (y 2).isLt; show 0 = (y 2).val; omega)⟩⟩

variable (x : S16x32x16.Idx → EReal)

/-- The reference's window sum at a position adds the entries up to it. -/
theorem cumsum_apply (init : S_.Idx → EReal) (hinit : ∀ i, init i = 0)
    (hw : S16x32x16.ReduceWindows (![1, 32, 1] : Fin 3 → Nat) ![1, 1, 1] ![0, 31, 0] ![0, 0, 0] S16x32x16) (hu : 0 < S_.numel)
    (b : Fin 16) (p : Fin 32) (h : Fin 16) :
    Host.reduceWindowAdd (F := Ideal) (φ := .f32) ![1, 32, 1] ![1, 1, 1] ![0, 31, 0] ![0, 0, 0] x init hw hu (ix3 b p h)
      = ∑ n ∈ Finset.range (p.val + 1), if hn : n < 32 then x (ix3 b ⟨n, hn⟩ h) else 0 := by
  have hp := p.isLt
  rw [← window_sum _ p.val p.isLt]
  unfold Host.reduceWindowAdd
  rw [Ideal.hostReduceWindowAdd_def]
  unfold Ideal.hostReduceWindowAdd Host.reduceWindow
  dsimp only
  refine (foldl_add _ _ _).trans ?_
  rw [hinit, zero_add, ← Fin.sum_univ_def]
  refine Eq.trans (Finset.sum_congr rfl fun n _ => ?_)
    ((Equiv.sum_comp (⟨3, ![1, 32, 1]⟩ : Shape).rowMajor.symm (fun w : (⟨3, ![1, 32, 1]⟩ : Shape).Idx =>
      if 31 ≤ p.val + (w 1).val then (if hn : p.val + (w 1).val - 31 < 32 then x (ix3 b ⟨p.val + (w 1).val - 31, hn⟩ h) else 0) else 0)).trans
      (place_bijective.sum_comp _).symm)
  have w0 : (inWindow n 0).val < 1 := (inWindow n 0).isLt
  have w1 : (inWindow n 1).val < 32 := (inWindow n 1).isLt
  have w2 : (inWindow n 2).val < 1 := (inWindow n 2).isLt
  have hb := b.isLt
  have hh := h.isLt
  by_cases h0 : 31 ≤ p.val + (inWindow n 1).val
  · rw [if_pos h0, dif_pos (show p.val + (inWindow n 1).val - 31 < 32 by omega), dif_pos]
    · refine congrArg x (idx_ext3 ?_ ?_ ?_)
      · show b.val * 1 + (inWindow n 0).val - 0 = b.val
        omega
      · show p.val * 1 + (inWindow n 1).val - 31 = p.val + (inWindow n 1).val - 31
        omega
      · show h.val * 1 + (inWindow n 2).val - 0 = h.val
        omega
    · intro a
      match a with
      | ⟨0, _⟩ =>
        show 0 ≤ b.val * 1 + (inWindow n 0).val ∧ b.val * 1 + (inWindow n 0).val - 0 < 16
        omega
      | ⟨1, _⟩ =>
        show 31 ≤ p.val * 1 + (inWindow n 1).val ∧ p.val * 1 + (inWindow n 1).val - 31 < 32
        omega
      | ⟨2, _⟩ =>
        show 0 ≤ h.val * 1 + (inWindow n 2).val ∧ h.val * 1 + (inWindow n 2).val - 0 < 16
        omega
  · rw [if_neg h0, dif_neg]
    intro hin
    have h1 : 31 ≤ p.val * 1 + (inWindow n 1).val := (hin 1).1
    omega

variable (m : (ℓ : Loc Cert.Kernel13Ideal.nD Cert.Kernel13Ideal.τ Cert.Kernel13Ideal.sig) → Buf (Elt Ideal) ℓ)

/-- The scalar has one index. -/
instance : Subsingleton Cert.Pre_new_below_infinity.S_.Idx := ⟨fun a b => funext fun i => i.elim0⟩

/-- The precondition: on the heads' lanes no new gate is plus infinity. -/
theorem ne_top_of_pre (hPre : Cert.Pre_new_below_infinity.Facts) (h : Cert.Pre_Kernel13Ideal_new_below_infinity m) (c : Dev Cert.Kernel13Ideal.nD)
    (r : Fin 512) (l : Fin 16) : logGates m c (ix2 r (⟨l.val, by omega⟩ : Fin 128)) ≠ ⊤ := by
  have h0 := congrFun (h c) (fun a => a.elim0)
  unfold Cert.Pre_new_below_infinity.fn at h0
  have h1 := ne_top_of_lt _ (Host.reduce_andi_all _ _ _ _ _ h0 (ix2 r l))
  refine fun e => h1 (Eq.trans ?_ e)
  exact extractStridedSlice_apply ![0, 0] _ _ (ix2 r l) (ix2 r (⟨l.val, by omega⟩ : Fin 128)) (fun a => match a with
    | ⟨0, _⟩ => by show r.val = 0 + r.val; omega
    | ⟨1, _⟩ => by show l.val = 0 + l.val; omega)

/-- Where no gate is plus infinity, the reference's result is the kernel's. -/
theorem ref_cumulated (c : Dev Cert.Kernel13Ideal.nD) (hr : ∀ (r : Fin 512) (l : Fin 16), logGates m c (ix2 r (⟨l.val, by omega⟩ : Fin 128)) ≠ ⊤) :
    val_main_v6 (F := Ideal) (logGates m c) (start m c) = cumulated m c := by
  funext i
  obtain ⟨b, h, p, rfl⟩ : ∃ (b : Fin 16) (h : Fin 16) (p : Fin 32), i = ix3 b h p := ⟨i 0, i 1, i 2, eq_ix3 i⟩
  have hb := b.isLt
  have hh := h.isLt
  rw [val_main_v6_apply]
  have e : idx_main_v6 (ix3 b h p) = ix3 b p h := idx_ext3 rfl rfl rfl
  rw [e, val_main_v5_apply, val_main_v4_apply, val_main_v0_apply]
  show start m c _ + _ = _
  rw [add_comm]
  unfold cumulated
  refine congrArg₂ (fun a b : EReal => a + b) ?_ (congrArg (start m c) (idx_ext3 rfl rfl rfl))
  unfold val_main_v3
  rw [cumsum_apply _ _ (fun i => by
    rw [val_main_call0_call0_v0_apply, val_main_call0_call0_cst_apply]
    exact Ideal.ofBits_zero .f32)]
  unfold gate
  refine Finset.sum_congr rfl fun n _ => ?_
  by_cases hn : n < 32
  · rw [dif_pos hn, dif_pos hn, val_main_v2_apply, val_main_v1_apply]
    refine Eq.trans ?_ (parts_eq (hr ⟨32 * b.val + n, by omega⟩ h)).symm
    refine congrArg (logGates m c) (Shape.idx_ext₂ ?_ ?_)
    · show ((b.val * 32 + n) * 16 + h.val) / 16 = 32 * b.val + n
      omega
    · show ((b.val * 32 + n) * 16 + h.val) % 16 = h.val
      omega
  · rw [dif_neg hn, dif_neg hn]

/-- Where no gate is plus infinity, the call over the new gates ends with the reference's result. -/
theorem algebraic (hPre : Cert.Pre_new_below_infinity.Facts) :
    Cert.algebraic_Kernel13Ideal_Reference13Ideal_pre_new_below_infinity (hKernel13Ideal := Cert.Kernel13Ideal.Gen.facts)
      (hReference13Ideal := Cert.Reference13Ideal.Gen.facts) (hPre_new_below_infinity := hPre) := by
  intro m ρ m' ρ' hpre hm
  refine ⟨cumulated m, run m ρ, ?_⟩
  refine (θ_run _ _ _).mono (fun r h c => ?_) (Cert.Reference13Ideal.Value.run (F := Ideal) m' ρ')
  obtain ⟨h0, ha⟩ := h c
  obtain ⟨e0, e1⟩ := hm c
  rw [val_main_v6_eq, e0, e1] at h0
  exact ⟨h0.trans (ref_cumulated m c (ne_top_of_pre m hPre hpre c)), ha⟩

end Cert.CumsumNew

end
-- ==== Proof.lean ====
/-
  The claims of this certificate, assembled. Each program's run, and the run of each reference, is generated from its text; what
  a kernel's result arrays hold as functions of its arguments, and that the reference's are the same functions, is in the
  modules imported here.
-/
module

public import proofs.«01_k».proof.Defs
public import proofs.«01_k».proof.Proof.Gen.Kernel.Frame
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel5.Frame
public import proofs.«01_k».proof.Proof.Gen.Kernel5Ideal.Frame
public import proofs.«01_k».proof.Proof.Gen.Kernel5Ideal.Skeleton
public import proofs.«01_k».proof.Proof.Gen.Reference5Ideal.Read
public import proofs.«01_k».proof.Proof.Gen.Reference4Ideal.Read
public import proofs.«01_k».proof.Proof.Gen.Kernel6.Frame
public import proofs.«01_k».proof.Proof.Gen.Kernel6Ideal.Frame
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Reference8Ideal.Read
public import proofs.«01_k».proof.Proof.Gen.Kernel7Ideal.Skeleton
public import proofs.«01_k».proof.Proof.Gen.Kernel9.Frame
public import proofs.«01_k».proof.Proof.Gen.Kernel9Ideal.Frame
public import proofs.«01_k».proof.Proof.Gen.Kernel9Ideal.Skeleton
public import proofs.«01_k».proof.Proof.Gen.Reference9Ideal.Read
public import proofs.«01_k».proof.Proof.Gen.Pre_finite
public import proofs.«01_k».proof.Proof.ProjQ.Ref
public import proofs.«01_k».proof.Proof.ProjQSb.Ref
public import proofs.«01_k».proof.Proof.Tail.Ref
public import proofs.«01_k».proof.Proof.AttnNorm.Ref
public import proofs.«01_k».proof.Proof.ProjKv.Ref
public import proofs.«01_k».proof.Proof.ProjKv.Frame
public import proofs.«01_k».proof.Proof.AttnNormS.Ref
public import proofs.«01_k».proof.Proof.ProjKvS.Ref
public import proofs.«01_k».proof.Proof.ProjKvS.Frame
public import proofs.«01_k».proof.Proof.TailS.Ref
public import proofs.«01_k».proof.Proof.FoxSample.Ref
public import proofs.«01_k».proof.Proof.Gen.Kernel10.Frame
public import proofs.«01_k».proof.Proof.Gen.Kernel10Ideal.Frame
public import proofs.«01_k».proof.Proof.Gen.Kernel10Ideal.Skeleton
public import proofs.«01_k».proof.Proof.Gen.Reference10Ideal.Read
public import proofs.«01_k».proof.Proof.Gen.Pre_below_infinity
public import proofs.«01_k».proof.Proof.Cumsum.Ref
public import proofs.«01_k».proof.Proof.Gen.Kernel11.Frame
public import proofs.«01_k».proof.Proof.Gen.Kernel11Ideal.Frame
public import proofs.«01_k».proof.Proof.Gen.Kernel11Ideal.Skeleton
public import proofs.«01_k».proof.Proof.Gen.Reference11Ideal.Read
public import proofs.«01_k».proof.Proof.Gen.Pre_finite_scores
public import proofs.«01_k».proof.Proof.Gen.Kernel12.Frame
public import proofs.«01_k».proof.Proof.Gen.Kernel12Ideal.Frame
public import proofs.«01_k».proof.Proof.Gen.Kernel12Ideal.Skeleton
public import proofs.«01_k».proof.Proof.Gen.Reference12Ideal.Read
public import proofs.«01_k».proof.Proof.Gen.Pre_cached_below_infinity
public import proofs.«01_k».proof.Proof.Gen.Kernel13.Frame
public import proofs.«01_k».proof.Proof.Gen.Kernel13Ideal.Frame
public import proofs.«01_k».proof.Proof.Gen.Kernel13Ideal.Skeleton
public import proofs.«01_k».proof.Proof.Gen.Reference13Ideal.Read
public import proofs.«01_k».proof.Proof.Gen.Pre_new_below_infinity
public import proofs.«01_k».proof.Proof.SbSample.Ref
public import proofs.«01_k».proof.Proof.CumsumPast.Ref
public import proofs.«01_k».proof.Proof.CumsumNew.Ref
public import Idealize.ShloMosaic.Lib.Quiescent

@[expose] public section

noncomputable section

namespace Cert.Proof

open Idealize.ShloMosaic Idealize.SL.Sem

/-- The reference of `proj_q_fox` runs, keeps its arguments, and declares no semaphore. -/
theorem frame_ref : Cert.quiescent_ReferenceIdeal (hReferenceIdeal := Cert.ReferenceIdeal.Gen.facts) := fun m ρ _ =>
  (θ_run _ _ _).mono (fun r h => ⟨fun c => ⟨(h c).2.2.2.2.1, (h c).2.2.2.2.2⟩, sem_eq_zero_of_no_sems (by decide) r.2⟩)
    (Cert.ReferenceIdeal.Value.run (F := Ideal) m ρ)

/-- The reference of `proj_q_sb` runs, keeps its arguments, and declares no semaphore. -/
theorem frame_ref2 : Cert.quiescent_Reference2Ideal (hReference2Ideal := Cert.Reference2Ideal.Gen.facts) := fun m ρ _ =>
  (θ_run _ _ _).mono (fun r h => ⟨fun c => ⟨(h c).2.2.2.1, (h c).2.2.2.2⟩, sem_eq_zero_of_no_sems (by decide) r.2⟩)
    (Cert.Reference2Ideal.Value.run (F := Ideal) m ρ)

/-- The reference of the layer after its attentions runs, keeps its arguments, and declares no semaphore. -/
theorem frame_ref3 : Cert.quiescent_Reference3Ideal (hReference3Ideal := Cert.Reference3Ideal.Gen.facts) := fun m ρ _ =>
  (θ_run _ _ _).mono (fun r h => ⟨fun c => (h c).2, sem_eq_zero_of_no_sems (by decide) r.2⟩)
    (Cert.Reference3Ideal.Value.run (F := Ideal) m ρ)

/-- The reference of `attn_norm` runs, keeps its arguments, and declares no semaphore. -/
theorem frame_ref4 : Cert.quiescent_Reference4Ideal (hReference4Ideal := Cert.Reference4Ideal.Gen.facts) := fun m ρ _ =>
  (θ_run _ _ _).mono (fun r h => ⟨fun c => (h c).2.2.2, sem_eq_zero_of_no_sems (by decide) r.2⟩)
    (Cert.Reference4Ideal.Value.run (F := Ideal) m ρ)

/-- The reference of the key and value projections runs, keeps its arguments, and declares no semaphore. -/
theorem frame_ref5 : Cert.quiescent_Reference5Ideal (hReference5Ideal := Cert.Reference5Ideal.Gen.facts) := fun m ρ _ =>
  (θ_run _ _ _).mono (fun r h => ⟨fun c => (h c).2.2, sem_eq_zero_of_no_sems (by decide) r.2⟩)
    (Cert.Reference5Ideal.Value.run (F := Ideal) m ρ)

/-- The reference of `attn_norm` at the sample's rows runs, keeps its arguments, and declares no semaphore. -/
theorem frame_ref6 : Cert.quiescent_Reference6Ideal (hReference6Ideal := Cert.Reference6Ideal.Gen.facts) := fun m ρ _ =>
  (θ_run _ _ _).mono (fun r h => ⟨fun c => (h c).2.2, sem_eq_zero_of_no_sems (by decide) r.2⟩)
    (Cert.Reference6Ideal.Value.run (F := Ideal) m ρ)

/-- The reference of the key and value projections at the sample's rows runs, keeps its arguments, and declares no semaphore. -/
theorem frame_ref7 : Cert.quiescent_Reference7Ideal (hReference7Ideal := Cert.Reference7Ideal.Gen.facts) := fun m ρ _ =>
  (θ_run _ _ _).mono (fun r h => ⟨fun c => (h c).2.2, sem_eq_zero_of_no_sems (by decide) r.2⟩)
    (Cert.Reference7Ideal.Value.run (F := Ideal) m ρ)

/-- The reference of the layer after its attentions at the sample's rows runs, keeps its arguments, and declares no semaphore. -/
theorem frame_ref8 : Cert.quiescent_Reference8Ideal (hReference8Ideal := Cert.Reference8Ideal.Gen.facts) := fun m ρ _ =>
  (θ_run _ _ _).mono (fun r h => ⟨fun c => (h c).2, sem_eq_zero_of_no_sems (by decide) r.2⟩)
    (Cert.Reference8Ideal.Value.run (F := Ideal) m ρ)

/-- The reference of the forgetting attention at the sample's rows runs, keeps its arguments, and declares no semaphore. -/
theorem frame_ref9 : Cert.quiescent_Reference9Ideal (hReference9Ideal := Cert.Reference9Ideal.Gen.facts) := fun m ρ _ =>
  (θ_run _ _ _).mono (fun r h => ⟨fun c => (h c).2, sem_eq_zero_of_no_sems (by decide) r.2⟩)
    (Cert.Reference9Ideal.Value.run (F := Ideal) m ρ)

/-- The reference of the cumulated log gates runs, keeps its argument, and declares no semaphore. -/
theorem frame_ref10 : Cert.quiescent_Reference10Ideal (hReference10Ideal := Cert.Reference10Ideal.Gen.facts) := fun m ρ _ =>
  (θ_run _ _ _).mono (fun r h => ⟨fun c => (h c).2, sem_eq_zero_of_no_sems (by decide) r.2⟩)
    (Cert.Reference10Ideal.Value.run (F := Ideal) m ρ)

/-- The reference of the stick-breaking attention at the sample's rows runs, keeps its arguments, and declares no semaphore. -/
theorem frame_ref11 : Cert.quiescent_Reference11Ideal (hReference11Ideal := Cert.Reference11Ideal.Gen.facts) := fun m ρ _ =>
  (θ_run _ _ _).mono (fun r h => ⟨fun c => (h c).2, sem_eq_zero_of_no_sems (by decide) r.2⟩)
    (Cert.Reference11Ideal.Value.run (F := Ideal) m ρ)

/-- The reference of the cached gates' cumulative sums runs, keeps its arguments, and declares no semaphore. -/
theorem frame_ref12 : Cert.quiescent_Reference12Ideal (hReference12Ideal := Cert.Reference12Ideal.Gen.facts) := fun m ρ _ =>
  (θ_run _ _ _).mono (fun r h => ⟨fun c => (h c).2.2, sem_eq_zero_of_no_sems (by decide) r.2⟩)
    (Cert.Reference12Ideal.Value.run (F := Ideal) m ρ)

/-- The reference of the new gates' cumulative sums runs, keeps its arguments, and declares no semaphore. -/
theorem frame_ref13 : Cert.quiescent_Reference13Ideal (hReference13Ideal := Cert.Reference13Ideal.Gen.facts) := fun m ρ _ =>
  (θ_run _ _ _).mono (fun r h => ⟨fun c => (h c).2, sem_eq_zero_of_no_sems (by decide) r.2⟩)
    (Cert.Reference13Ideal.Value.run (F := Ideal) m ρ)

/-- The one literal of `proj_q_fox` read by a name is, at the ideal reading, the real it is named. -/
theorem preserves : Cert.preserves_Kernel_KernelIdeal :=
  IdealRules.named_const.statement Cert.KernelIdeal.κ "q_scale" .f32 0x3E0293EE#32 Cert.ProjQ.scale rfl

/-- The one literal of `proj_q_sb` read by a name is, at the ideal reading, the real it is named. -/
theorem preserves2 : Cert.preserves_Kernel2_Kernel2Ideal :=
  IdealRules.named_const.statement Cert.Kernel2Ideal.κ "q_scale" .f32 0x3E0293EE#32 Cert.ProjQ.scale rfl

/-- The two literals of the forgetting attention read by names are, at the ideal reading, what they are named: the reciprocal of the
logarithm of two, and what is below every score. -/
theorem preserves9 : Cert.preserves_Kernel9_Kernel9Ideal :=
  ⟨IdealRules.named_const.statement Cert.Kernel9Ideal.κ "log2e" .f32 0x3FB8AA3B#32 Cert.FoxSample.perLog2 rfl,
   IdealRules.named_const.statement Cert.Kernel9Ideal.κ "mask" .f32 0xF149F2CA#32 ⊥ rfl⟩

/-- The one literal of the stick-breaking attention read by a name is, at the ideal reading, the reciprocal of the logarithm of two. -/
theorem preserves11 : Cert.preserves_Kernel11_Kernel11Ideal :=
  IdealRules.named_const.statement Cert.Kernel11Ideal.κ "log2e" .f32 0x3FB8AA3B#32 Cert.SbSample.perLog2 rfl

/-- Every claim of the certificate. -/
theorem claim : Cert.Claim :=
  ⟨Cert.Kernel.Gen.facts, Cert.KernelIdeal.Gen.facts, Cert.ReferenceIdeal.Gen.facts,
   Cert.Kernel2.Gen.facts, Cert.Kernel2Ideal.Gen.facts, Cert.Reference2Ideal.Gen.facts,
   Cert.Kernel3.Gen.facts, Cert.Kernel3Ideal.Gen.facts, Cert.Reference3Ideal.Gen.facts,
   Cert.Kernel4.Gen.facts, Cert.Kernel4Ideal.Gen.facts, Cert.Reference4Ideal.Gen.facts,
   Cert.Kernel5.Gen.facts, Cert.Kernel5Ideal.Gen.facts, Cert.Reference5Ideal.Gen.facts,
   Cert.Kernel6.Gen.facts, Cert.Kernel6Ideal.Gen.facts, Cert.Reference6Ideal.Gen.facts,
   Cert.Kernel7.Gen.facts, Cert.Kernel7Ideal.Gen.facts, Cert.Reference7Ideal.Gen.facts,
   Cert.Kernel8.Gen.facts, Cert.Kernel8Ideal.Gen.facts, Cert.Reference8Ideal.Gen.facts,
   Cert.Kernel9.Gen.facts, Cert.Kernel9Ideal.Gen.facts, Cert.Reference9Ideal.Gen.facts,
   Cert.Kernel10.Gen.facts, Cert.Kernel10Ideal.Gen.facts, Cert.Reference10Ideal.Gen.facts,
   Cert.Kernel11.Gen.facts, Cert.Kernel11Ideal.Gen.facts, Cert.Reference11Ideal.Gen.facts,
   Cert.Kernel12.Gen.facts, Cert.Kernel12Ideal.Gen.facts, Cert.Reference12Ideal.Gen.facts,
   Cert.Kernel13.Gen.facts, Cert.Kernel13Ideal.Gen.facts, Cert.Reference13Ideal.Gen.facts,
   Cert.Pre_finite.Gen.facts, Cert.Pre_below_infinity.Gen.facts, Cert.Pre_finite_scores.Gen.facts,
   Cert.Pre_cached_below_infinity.Gen.facts, Cert.Pre_new_below_infinity.Gen.facts,
   fun m ρ _ => Cert.Kernel.Gen.frame m ρ, fun m ρ _ => Cert.KernelIdeal.Gen.frame m ρ, frame_ref,
   fun m ρ _ => Cert.Kernel2.Gen.frame m ρ, fun m ρ _ => Cert.Kernel2Ideal.Gen.frame m ρ, frame_ref2,
   fun m ρ _ => Cert.Kernel3.Gen.frame m ρ, fun m ρ _ => Cert.Kernel3Ideal.Gen.frame m ρ, frame_ref3,
   fun m ρ _ => Cert.Kernel4.Gen.frame m ρ, fun m ρ _ => Cert.Kernel4Ideal.Gen.frame m ρ, frame_ref4,
   Cert.ProjKv.frame_bits, fun m ρ _ => Cert.ProjKv.frame m ρ, frame_ref5,
   fun m ρ _ => Cert.Kernel6.Gen.frame m ρ, fun m ρ _ => Cert.Kernel6Ideal.Gen.frame m ρ, frame_ref6,
   Cert.ProjKvS.frame_bits, fun m ρ _ => Cert.ProjKvS.frame m ρ, frame_ref7,
   fun m ρ _ => Cert.Kernel8.Gen.frame m ρ, fun m ρ _ => Cert.Kernel8Ideal.Gen.frame m ρ, frame_ref8,
   fun m ρ _ => Cert.Kernel9.Gen.frame m ρ, fun m ρ _ => Cert.Kernel9Ideal.Gen.frame m ρ,
   fun m ρ _ => Cert.Kernel9Ideal.Gen.frame m ρ, frame_ref9, fun m ρ _ => frame_ref9 m ρ trivial,
   fun m ρ _ => Cert.Kernel10.Gen.frame m ρ, fun m ρ _ => Cert.Kernel10Ideal.Gen.frame m ρ,
   fun m ρ _ => Cert.Kernel10Ideal.Gen.frame m ρ, frame_ref10, fun m ρ _ => frame_ref10 m ρ trivial,
   fun m ρ _ => Cert.Kernel11.Gen.frame m ρ, fun m ρ _ => Cert.Kernel11Ideal.Gen.frame m ρ,
   fun m ρ _ => Cert.Kernel11Ideal.Gen.frame m ρ, frame_ref11, fun m ρ _ => frame_ref11 m ρ trivial,
   fun m ρ _ => Cert.Kernel12.Gen.frame m ρ, fun m ρ _ => Cert.Kernel12Ideal.Gen.frame m ρ,
   fun m ρ _ => Cert.Kernel12Ideal.Gen.frame m ρ, frame_ref12, fun m ρ _ => frame_ref12 m ρ trivial,
   fun m ρ _ => Cert.Kernel13.Gen.frame m ρ, fun m ρ _ => Cert.Kernel13Ideal.Gen.frame m ρ,
   fun m ρ _ => Cert.Kernel13Ideal.Gen.frame m ρ, frame_ref13, fun m ρ _ => frame_ref13 m ρ trivial,
   preserves, Cert.ProjQ.algebraic, preserves2, Cert.ProjQSb.algebraic, trivial, Cert.Tail.algebraic,
   trivial, Cert.AttnNorm.algebraic, trivial, Cert.ProjKv.algebraic,
   trivial, Cert.AttnNormS.algebraic, trivial, Cert.ProjKvS.algebraic, trivial, Cert.TailS.algebraic,
   preserves9, Cert.FoxSample.algebraic Cert.Pre_finite.Gen.facts,
   trivial, Cert.Cumsum.algebraic Cert.Pre_below_infinity.Gen.facts,
   preserves11, Cert.SbSample.algebraic Cert.Pre_finite_scores.Gen.facts,
   trivial, Cert.CumsumPast.algebraic Cert.Pre_cached_below_infinity.Gen.facts,
   trivial, Cert.CumsumNew.algebraic Cert.Pre_new_below_infinity.Gen.facts⟩

end Cert.Proof

end
